-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v19)) (v1 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_v21) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_v114) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v16)) (v1 : (c : Dev Cert.Kernel3Ideal.nD) → Buf (Elt Ideal) ((c.tc : Thread Cert.Kernel3Ideal.nD Cert.Kernel3Ideal.τ).loc Cert.Kernel3Ideal.main_v17)) (v2 : (c : Dev Cert.Kernel3Ideal.nD) → Buf (Elt Ideal) ((c.tc : Thread Cert.Kernel3Ideal.nD Cert.Kernel3Ideal.τ).loc Cert.Kernel3Ideal.main_v18)) (v3 : (c : Dev Cert.Kernel3Ideal.nD) → Buf (Elt Ideal) ((c.tc : Thread Cert.Kernel3Ideal.nD Cert.Kernel3Ideal.τ).loc Cert.Kernel3Ideal.main_v19)) (v4 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_v18) = v2 c
          ∧ r.2.mem ((c.tc : Thread Cert.Kernel3Ideal.nD Cert.Kernel3Ideal.τ).loc Cert.Kernel3Ideal.main_v19) = v3 c
          ∧ r.2.mem ((c.tc : Thread Cert.Kernel3Ideal.nD Cert.Kernel3Ideal.τ).loc Cert.Kernel3Ideal.main_v20) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_v63) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v20)) (v1 : (c : Dev Cert.Kernel4Ideal.nD) → Buf (Elt Ideal) ((c.tc : Thread Cert.Kernel4Ideal.nD Cert.Kernel4Ideal.τ).loc Cert.Kernel4Ideal.main_v23)) (v2 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_v23) = v1 c
          ∧ r.2.mem ((c.tc : Thread Cert.Kernel4Ideal.nD Cert.Kernel4Ideal.τ).loc Cert.Kernel4Ideal.main_v26) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v24)) (v1 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_v29) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v114) = v0 c
          ∧ r.2.mem ((c.tc : Thread Cert.Reference6Ideal.nD Cert.Reference6Ideal.τ).loc Cert.Reference6Ideal.main_v115) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v40)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v40) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v81)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v81) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S8x2048x1024 : Shape := ⟨3, ![8, 2048, 1024]⟩
abbrev S16 : Shape := ⟨1, ![16]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x1x256 : Shape := ⟨4, ![1, 256, 1, 256]⟩
abbrev S_ : Shape := ⟨0, ![]⟩
abbrev S1x512x128 : Shape := ⟨3, ![1, 512, 128]⟩
abbrev S1x2048x128 : Shape := ⟨3, ![1, 2048, 128]⟩
abbrev S2x512x128 : Shape := ⟨3, ![2, 512, 128]⟩
abbrev S2x512x1 : Shape := ⟨3, ![2, 512, 1]⟩
abbrev S512x128 : Shape := ⟨2, ![512, 128]⟩
abbrev S1x128 : Shape := ⟨2, ![1, 128]⟩
abbrev S1 : Shape := ⟨1, ![1]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩

abbrev nBuf : Space → Nat
  | .hbm => 23
  | .vmem => 12
  | .smem => 1
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S16, .f32⟩
  | .hbm, ⟨4, _⟩ => ⟨S256, .i32⟩
  | .hbm, ⟨5, _⟩ => ⟨S256x1, .i32⟩
  | .hbm, ⟨6, _⟩ => ⟨S256, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .bf16⟩
  | .hbm, ⟨12, _⟩ => ⟨S256x256, .bf16⟩
  | .hbm, ⟨13, _⟩ => ⟨S1x256x1x256, .bf16⟩
  | .hbm, ⟨14, _⟩ => ⟨S1x256x1x256, .bf16⟩
  | .hbm, ⟨15, _⟩ => ⟨S256x256, .bf16⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .bf16⟩
  | .hbm, ⟨20, _⟩ => ⟨S8x2048x1024, .bf16⟩
  | .hbm, ⟨21, _⟩ => ⟨S8x2048x1024, .bf16⟩
  | .hbm, ⟨22, _⟩ => ⟨S8x2048x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S256x256, .bf16⟩
  | .local _ .vmem, ⟨7, _⟩ => ⟨S1x512x128, .bf16⟩
  | .local _ .vmem, ⟨8, _⟩ => ⟨S1x512x128, .bf16⟩
  | .local _ .vmem, ⟨9, _⟩ => ⟨S2x512x128, .bf16⟩
  | .local _ .vmem, ⟨10, _⟩ => ⟨S2x512x128, .f32⟩
  | .local _ .vmem, ⟨11, _⟩ => ⟨S2x512x1, .f32⟩
  | .local _ .smem, ⟨0, _⟩ => ⟨S16, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 4], ![false, false, false]⟩

def k0_off1 (i : grid0.Coords) (c0_i32_9 : BitVec 32) : Fin 1 → Nat :=
  let arg1 : BitVec 32 := BitVec.ofNat 32 (i 1).val
  let c2_i32 : BitVec 32 := 2#32
  let v27 : BitVec 32 := Scalar.muli arg1 c2_i32
  let v28 : BitVec 32 := Scalar.addi v27 c0_i32_9
  let v29 : Index := Scalar.indexCast v28
  ![v29.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x2048x1024 : Shape := ⟨3, ![8, 2048, 1024]⟩
abbrev S16 : Shape := ⟨1, ![16]⟩
abbrev S8x2048x16x64 : Shape := ⟨4, ![8, 2048, 16, 64]⟩
abbrev S2048 : Shape := ⟨1, ![2048]⟩
abbrev S8x16x2048x2048 : Shape := ⟨4, ![8, 16, 2048, 2048]⟩
abbrev S_ : Shape := ⟨0, ![]⟩
abbrev S1x16x1x1 : Shape := ⟨4, ![1, 16, 1, 1]⟩
abbrev S1x2048 : Shape := ⟨2, ![1, 2048]⟩
abbrev S2048x1 : Shape := ⟨2, ![2048, 1]⟩
abbrev S2048x2048 : Shape := ⟨2, ![2048, 2048]⟩
abbrev S8x16x64x2048 : Shape := ⟨4, ![8, 16, 64, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S16, .f32⟩
  | .hbm, ⟨4, _⟩ => ⟨S8x2048x16x64, .f32⟩
  | .hbm, ⟨5, _⟩ => ⟨S8x2048x16x64, .f32⟩
  | .hbm, ⟨6, _⟩ => ⟨S8x2048x16x64, .f32⟩
  | .hbm, ⟨7, _⟩ => ⟨S2048, .i32⟩
  | .hbm, ⟨8, _⟩ => ⟨S2048, .i32⟩
  | .hbm, ⟨9, _⟩ => ⟨S8x16x2048x2048, .f32⟩
  | .hbm, ⟨10, _⟩ => ⟨S_, .f32⟩
  | .hbm, ⟨11, _⟩ => ⟨S8x16x2048x2048, .f32⟩
  | .hbm, ⟨12, _⟩ => ⟨S8x16x2048x2048, .f32⟩
  | .hbm, ⟨13, _⟩ => ⟨S1x16x1x1, .f32⟩
  | .hbm, ⟨14, _⟩ => ⟨S8x16x2048x2048, .f32⟩
  | .hbm, ⟨15, _⟩ => ⟨S8x16x2048x2048, .f32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S8x16x2048x2048, .f32⟩
  | .hbm, ⟨22, _⟩ => ⟨S8x16x2048x2048, .f32⟩
  | .hbm, ⟨23, _⟩ => ⟨S_, .f32⟩
  | .hbm, ⟨24, _⟩ => ⟨S8x16x2048x2048, .f32⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .i1⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S8x16x2048x2048, .f32⟩
  | .hbm, ⟨37, _⟩ => ⟨S8x16x2048x2048, .f32⟩
  | .hbm, ⟨38, _⟩ => ⟨S_, .f32⟩
  | .hbm, ⟨39, _⟩ => ⟨S_, .f32⟩
  | .hbm, ⟨40, _⟩ => ⟨S8x16x2048x2048, .i1⟩
  | .hbm, ⟨41, _⟩ => ⟨S8x16x2048x2048, .f32⟩
  | .hbm, ⟨42, _⟩ => ⟨S8x16x2048x2048, .f32⟩
  | .hbm, ⟨43, _⟩ => ⟨S_, .f32⟩
  | .hbm, ⟨44, _⟩ => ⟨S_, .f32⟩
  | .hbm, ⟨45, _⟩ => ⟨S8x16x2048x2048, .f32⟩
  | .hbm, ⟨46, _⟩ => ⟨S8x16x2048x2048, .f32⟩
  | .hbm, ⟨47, _⟩ => ⟨S8x16x2048x2048, .f32⟩
  | .hbm, ⟨48, _⟩ => ⟨S_, .f32⟩
  | .hbm, ⟨49, _⟩ => ⟨S8x16x2048x2048, .f32⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .i1⟩
  | .hbm, ⟨54, _⟩ => ⟨S8x16x2048x2048, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S8x16x2048x2048, .f32⟩
  | .hbm, ⟨59, _⟩ => ⟨S8x16x2048x2048, .f32⟩
  | .hbm, ⟨60, _⟩ => ⟨S8x16x2048x2048, .f32⟩
  | .hbm, ⟨61, _⟩ => ⟨S8x16x2048x2048, .f32⟩
  | .hbm, ⟨62, _⟩ => ⟨S8x16x2048x2048, .f32⟩
  | .hbm, ⟨63, _⟩ => ⟨S8x16x2048x2048, .f32⟩
  | .hbm, ⟨64, _⟩ => ⟨S8x16x2048x2048, .f32⟩
  | .hbm, ⟨65, _⟩ => ⟨S_, .f32⟩
  | .hbm, ⟨66, _⟩ => ⟨S_, .f32⟩
  | .hbm, ⟨67, _⟩ => ⟨S8x16x2048x2048, .i1⟩
  | .hbm, ⟨68, _⟩ => ⟨S8x16x2048x2048, .f32⟩
  | .hbm, ⟨69, _⟩ => ⟨S8x16x2048x2048, .f32⟩
  | .hbm, ⟨70, _⟩ => ⟨S8x16x64x2048, .f32⟩
  | .hbm, ⟨71, _⟩ => ⟨S8x2048x16x64, .f32⟩
  | .hbm, ⟨72, _⟩ => ⟨S8x2048x1024, .f32⟩
  | .hbm, ⟨73, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Kernel2.lean ====
abbrev S8x2048x1024 : Shape := ⟨3, ![8, 2048, 1024]⟩
abbrev S4x8x2048x256 : Shape := ⟨4, ![4, 8, 2048, 256]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S4x1x2816 : Shape := ⟨3, ![4, 1, 2816]⟩
abbrev S1x1024 : Shape := ⟨2, ![1, 1024]⟩
abbrev S1024 : Shape := ⟨1, ![1024]⟩
abbrev S16384x1024 : Shape := ⟨2, ![16384, 1024]⟩
abbrev S4x16384x256 : Shape := ⟨3, ![4, 16384, 256]⟩
abbrev S256x2816 : Shape := ⟨2, ![256, 2816]⟩
abbrev S512x1024 : Shape := ⟨2, ![512, 1024]⟩
abbrev S1x512x256 : Shape := ⟨3, ![1, 512, 256]⟩
abbrev S1x1024x1408 : Shape := ⟨3, ![1, 1024, 1408]⟩
abbrev S1x3x1408 : Shape := ⟨3, ![1, 3, 1408]⟩
abbrev S1x1x1408 : Shape := ⟨3, ![1, 1, 1408]⟩
abbrev S1x1408x1024 : Shape := ⟨3, ![1, 1408, 1024]⟩
abbrev S1x1024x1024 : Shape := ⟨3, ![1, 1024, 1024]⟩
abbrev S1x256x1024 : Shape := ⟨3, ![1, 256, 1024]⟩
abbrev S8x1408 : Shape := ⟨2, ![8, 1408]⟩
abbrev S2x8x1408 : Shape := ⟨3, ![2, 8, 1408]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x8x1408 : Shape := ⟨3, ![1, 8, 1408]⟩
abbrev S504x1408 : Shape := ⟨2, ![504, 1408]⟩
abbrev S1x1408 : Shape := ⟨2, ![1, 1408]⟩
abbrev S1408x1024 : Shape := ⟨2, ![1408, 1024]⟩
abbrev S512x256 : Shape := ⟨2, ![512, 256]⟩
abbrev S256x1024 : Shape := ⟨2, ![256, 1024]⟩
abbrev S1024x1024 : Shape := ⟨2, ![1024, 1024]⟩
abbrev S8x4x8x2816 : Shape := ⟨4, ![8, 4, 8, 2816]⟩
abbrev S8x1x2x2816 : Shape := ⟨4, ![8, 1, 2, 2816]⟩
abbrev S8x2x2816 : Shape := ⟨3, ![8, 2, 2816]⟩

abbrev nBuf : Space → Nat
  | .hbm => 35
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S4x8x2048x256, .f32⟩
  | .hbm, ⟨2, _⟩ => ⟨S4x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x3x2816, .f32⟩
  | .hbm, ⟨7, _⟩ => ⟨S4x2816, .f32⟩
  | .hbm, ⟨8, _⟩ => ⟨S4x2816x1024, .f32⟩
  | .hbm, ⟨9, _⟩ => ⟨S4x1024x1024, .f32⟩
  | .hbm, ⟨10, _⟩ => ⟨S4x256x1024, .f32⟩
  | .hbm, ⟨11, _⟩ => ⟨S4x1024, .f32⟩
  | .hbm, ⟨12, _⟩ => ⟨S4x1024x2816, .bf16⟩
  | .hbm, ⟨13, _⟩ => ⟨S4x1024x2816, .bf16⟩
  | .hbm, ⟨14, _⟩ => ⟨S4x1x2816, .f32⟩
  | .hbm, ⟨15, _⟩ => ⟨S4x2816x1024, .bf16⟩
  | .hbm, ⟨16, _⟩ => ⟨S4x1024x1024, .bf16⟩
  | .hbm, ⟨17, _⟩ => ⟨S4x256x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S4x16384x256, .f32⟩
  | .hbm, ⟨29, _⟩ => ⟨S16384x1024, .f32⟩
  | .hbm, ⟨30, _⟩ => ⟨S256x2816, .f32⟩
  | .hbm, ⟨31, _⟩ => ⟨S8x4x8x2816, .f32⟩
  | .hbm, ⟨32, _⟩ => ⟨S8x2048x1024, .f32⟩
  | .hbm, ⟨33, _⟩ => ⟨S8x1x2x2816, .f32⟩
  | .hbm, ⟨34, _⟩ => ⟨S8x2x2816, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x3x1408, .f32⟩
  | .local _ .vmem, ⟨12, _⟩ => ⟨S1x3x1408, .f32⟩
  | .local _ .vmem, ⟨13, _⟩ => ⟨S1x1x1408, .f32⟩
  | .local _ .vmem, ⟨14, _⟩ => ⟨S1x1x1408, .f32⟩
  | .local _ .vmem, ⟨15, _⟩ => ⟨S1x1408x1024, .bf16⟩
  | .local _ .vmem, ⟨16, _⟩ => ⟨S1x1408x1024, .bf16⟩
  | .local _ .vmem, ⟨17, _⟩ => ⟨S1x1024x1024, .bf16⟩
  | .local _ .vmem, ⟨18, _⟩ => ⟨S1x256x1024, .bf16⟩
  | .local _ .vmem, ⟨19, _⟩ => ⟨S512x1024, .f32⟩
  | .local _ .vmem, ⟨20, _⟩ => ⟨S512x1024, .f32⟩
  | .local _ .vmem, ⟨21, _⟩ => ⟨S8x1408, .f32⟩
  | .local _ .vmem, ⟨22, _⟩ => ⟨S8x1408, .f32⟩
  | .local _ .vmem, ⟨23, _⟩ => ⟨S512x1024, .bf16⟩
  | .local _ .vmem, ⟨24, _⟩ => ⟨S512x1024, .f32⟩
  | .local _ .vmem, ⟨25, _⟩ => ⟨S2x8x1408, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 2], ![false, false]⟩

def k0_off1 (i : grid0.Coords) : Fin 3 → Nat :=
  let arg1 : BitVec 32 := BitVec.ofNat 32 (i 1).val
  let v22 : Index := Scalar.indexCast arg1
  let c0_14 : Index := 0#32
  let c0_15 : Index := 0#32
  ![v22.toNat, 0, 0]
def k0_cond2 (i : grid0.Coords) : BitVec 1 :=
  let arg1 : BitVec 32 := BitVec.ofNat 32 (i 1).val
  let c1_i32_48 : BitVec 32 := 1#32
  let v90 : BitVec 1 := Scalar.cmpi .eq arg1 c1_i32_48
  let v91 : BitVec 32 := Scalar.extui v90
  let c0_i32_49 : BitVec 32 := 0#32
  let v92 : BitVec 1 := Scalar.cmpi .ne v91 c0_i32_49
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x2048x1024 : Shape := ⟨3, ![8, 2048, 1024]⟩
abbrev S4x8x2048x256 : Shape := ⟨4, ![4, 8, 2048, 256]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x1x2816 : Shape := ⟨3, ![1, 1, 2816]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 143
  | .vmem => 0
  | .smem => 0
  | _ => 0

abbrev hbmTy0_0 (i : Nat) : BufTy := match i % 128 with
  | 0 => ⟨S8x2048x1024, .f32⟩
  | 1 => ⟨S4x8x2048x256, .f32⟩
  | 2 => ⟨S4x1024, .f32⟩
  | 3 => ⟨S4x1024, .f32⟩
  | 4 => ⟨S4x1024x2816, .f32⟩
  | 5 => ⟨S4x1024x2816, .f32⟩
  | 6 => ⟨S4x3x2816, .f32⟩
  | 7 => ⟨S4x2816, .f32⟩
  | 8 => ⟨S4x2816x1024, .f32⟩
  | 9 => ⟨S4x1024x1024, .f32⟩
  | 10 => ⟨S4x256x1024, .f32⟩
  | 11 => ⟨S4x1024, .f32⟩
  | 12 => ⟨S1x1024x2816, .f32⟩
  | 13 => ⟨S1024x2816, .f32⟩
  | 14 => ⟨S1x1024x2816, .f32⟩
  | 15 => ⟨S1024x2816, .f32⟩
  | 16 => ⟨S1x3x2816, .f32⟩
  | 17 => ⟨S3x2816, .f32⟩
  | 18 => ⟨S1x2816, .f32⟩
  | 19 => ⟨S2816, .f32⟩
  | 20 => ⟨S1x2816x1024, .f32⟩
  | 21 => ⟨S2816x1024, .f32⟩
  | 22 => ⟨S1x1024, .f32⟩
  | 23 => ⟨S1024, .f32⟩
  | 24 => ⟨S8x2048x1024, .f32⟩
  | 25 => ⟨S_, .f32⟩
  | 26 => ⟨S8x2048, .f32⟩
  | 27 => ⟨S8x2048x1, .f32⟩
  | 28 => ⟨S_, .f32⟩
  | 29 => ⟨S8x2048x1, .f32⟩
  | 30 => ⟨S8x2048x1, .f32⟩
  | 31 => ⟨S_, .f32⟩
  | 32 => ⟨S8x2048x1, .f32⟩
  | 33 => ⟨S8x2048x1, .f32⟩
  | 34 => ⟨S8x2048x1, .f32⟩
  | 35 => ⟨S8x2048x1024, .f32⟩
  | 36 => ⟨S8x2048x1024, .f32⟩
  | 37 => ⟨S1x1x1024, .f32⟩
  | 38 => ⟨S8x2048x1024, .f32⟩
  | 39 => ⟨S8x2048x1024, .f32⟩
  | 40 => ⟨S8x2048x2816, .f32⟩
  | 41 => ⟨S8x2048x2816, .f32⟩
  | 42 => ⟨S_, .f32⟩
  | 43 => ⟨S8x2x2816, .f32⟩
  | 44 => ⟨S8x2050x2816, .f32⟩
  | 45 => ⟨S1x2816, .f32⟩
  | 46 => ⟨S2816, .f32⟩
  | 47 => ⟨S8x2048x2816, .f32⟩
  | 48 => ⟨S1x1x2816, .f32⟩
  | 49 => ⟨S8x2048x2816, .f32⟩
  | 50 => ⟨S8x2048x2816, .f32⟩
  | 51 => ⟨S1x1x2816, .f32⟩
  | 52 => ⟨S8x2048x2816, .f32⟩
  | 53 => ⟨S8x2048x2816, .f32⟩
  | 54 => ⟨S1x2816, .f32⟩
  | 55 => ⟨S2816, .f32⟩
  | 56 => ⟨S8x2048x2816, .f32⟩
  | 57 => ⟨S1x1x2816, .f32⟩
  | 58 => ⟨S8x2048x2816, .f32⟩
  | 59 => ⟨S8x2048x2816, .f32⟩
  | 60 => ⟨S8x2048x2816, .f32⟩
  | 61 => ⟨S1x2816, .f32⟩
  | 62 => ⟨S2816, .f32⟩
  | 63 => ⟨S8x2048x2816, .f32⟩
  | 64 => ⟨S1x1x2816, .f32⟩
  | 65 => ⟨S8x2048x2816, .f32⟩
  | 66 => ⟨S8x2048x2816, .f32⟩
  | 67 => ⟨S8x2048x2816, .f32⟩
  | 68 => ⟨S8x2048x2816, .f32⟩
  | 69 => ⟨S8x2048x2816, .f32⟩
  | 70 => ⟨S_, .f32⟩
  | 71 => ⟨S8x2048x2816, .f32⟩
  | 72 => ⟨S8x2048x2816, .f32⟩
  | 73 => ⟨S8x2048x2816, .f32⟩
  | 74 => ⟨S_, .f32⟩
  | 75 => ⟨S8x2048x2816, .f32⟩
  | 76 => ⟨S8x2048x2816, .f32⟩
  | 77 => ⟨S8x2048x2816, .f32⟩
  | 78 => ⟨S_, .f32⟩
  | 79 => ⟨S8x2048x2816, .f32⟩
  | 80 => ⟨S8x2048x2816, .f32⟩
  | 81 => ⟨S_, .f32⟩
  | 82 => ⟨S8x2048x2816, .f32⟩
  | 83 => ⟨S8x2048x2816, .f32⟩
  | 84 => ⟨S8x2048x2816, .f32⟩
  | 85 => ⟨S8x2048x2816, .f32⟩
  | 86 => ⟨S8x2048x1024, .f32⟩
  | 87 => ⟨S1x1024, .f32⟩
  | 88 => ⟨S1024, .f32⟩
  | 89 => ⟨S8x2048x1024, .f32⟩
  | 90 => ⟨S_, .f32⟩
  | 91 => ⟨S8x2048, .f32⟩
  | 92 => ⟨S8x2048x1, .f32⟩
  | 93 => ⟨S_, .f32⟩
  | 94 => ⟨S8x2048x1, .f32⟩
  | 95 => ⟨S8x2048x1, .f32⟩
  | 96 => ⟨S_, .f32⟩
  | 97 => ⟨S8x2048x1, .f32⟩
  | 98 => ⟨S8x2048x1, .f32⟩
  | 99 => ⟨S8x2048x1, .f32⟩
  | 100 => ⟨S8x2048x1024, .f32⟩
  | 101 => ⟨S8x2048x1024, .f32⟩
  | 102 => ⟨S1x1x1024, .f32⟩
  | 103 => ⟨S8x2048x1024, .f32⟩
  | 104 => ⟨S8x2048x1024, .f32⟩
  | 105 => ⟨S8x2048x1024, .f32⟩
  | 106 => ⟨S1x8x2048x256, .f32⟩
  | 107 => ⟨S8x2048x256, .f32⟩
  | 108 => ⟨S1x256x1024, .f32⟩
  | 109 => ⟨S256x1024, .f32⟩
  | 110 => ⟨S8x2048x1024, .f32⟩
  | 111 => ⟨S1x1024x1024, .f32⟩
  | 112 => ⟨S1024x1024, .f32⟩
  | 113 => ⟨S8x2048x1024, .f32⟩
  | 114 => ⟨S8x2048x1024, .f32⟩
  | 115 => ⟨S8x2048x1024, .f32⟩
  | 116 => ⟨S_, .f32⟩
  | 117 => ⟨S8x2048x1024, .f32⟩
  | 118 => ⟨S8x2048x1024, .f32⟩
  | 119 => ⟨S_, .f32⟩
  | 120 => ⟨S8x2048x1024, .f32⟩
  | 121 => ⟨S8x2048x1024, .f32⟩
  | 122 => ⟨S8x2048x1024, .f32⟩
  | 123 => ⟨S1x1024, .f32⟩
  | 124 => ⟨S1024, .f32⟩
  | 125 => ⟨S8x2048x1024, .f32⟩
  | 126 => ⟨S_, .f32⟩
  | 127 => ⟨S8x2048, .f32⟩
  | _ => ⟨S8x2048x1024, .f32⟩

abbrev hbmTy0_1 (i : Nat) : BufTy := match i % 128 with
  | 0 => ⟨S8x2048x1, .f32⟩
  | 1 => ⟨S_, .f32⟩
  | 2 => ⟨S8x2048x1, .f32⟩
  | 3 => ⟨S8x2048x1, .f32⟩
  | 4 => ⟨S_, .f32⟩
  | 5 => ⟨S8x2048x1, .f32⟩
  | 6 => ⟨S8x2048x1, .f32⟩
  | 7 => ⟨S8x2048x1, .f32⟩
  | 8 => ⟨S8x2048x1024, .f32⟩
  | 9 => ⟨S8x2048x1024, .f32⟩
  | 10 => ⟨S1x1x1024, .f32⟩
  | 11 => ⟨S8x2048x1024, .f32⟩
  | 12 => ⟨S8x2048x1024, .f32⟩
  | 13 => ⟨S8x2048x1024, .f32⟩
  | 14 => ⟨S8x2x2816, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_3 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_5 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_cst_8 : Ref sig .tc := ⟨.hbm, 93, rfl⟩
abbrev main_v72 : Ref sig .tc := ⟨.hbm, 94, rfl⟩
abbrev main_v73 : Ref sig .tc := ⟨.hbm, 95, rfl⟩
abbrev main_cst_9 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_10 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_12 : Ref sig .tc := ⟨.hbm, 126, rfl⟩
abbrev main_v101 : Ref sig .tc := ⟨.hbm, 127, rfl⟩
abbrev main_v102 : Ref sig .tc := ⟨.hbm, 128, rfl⟩
abbrev main_cst_13 : Ref sig .tc := ⟨.hbm, 129, rfl⟩
abbrev main_v103 : Ref sig .tc := ⟨.hbm, 130, rfl⟩
abbrev main_v104 : Ref sig .tc := ⟨.hbm, 131, rfl⟩
abbrev main_cst_14 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩

abbrev nD : Nat := 1
abbrev τ : Topo := Topo.v7x

variable {F : FTy → Type} [FloatOps F]
-- ==== Kernel3.lean ====
abbrev S8x2048x1024 : Shape := ⟨3, ![8, 2048, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S16384x1024 : Shape := ⟨2, ![16384, 1024]⟩
abbrev S8x2x16x64x2048 : Shape := ⟨5, ![8, 2, 16, 64, 2048]⟩
abbrev S512x1024 : Shape := ⟨2, ![512, 1024]⟩
abbrev S1x2x16x64x512 : Shape := ⟨5, ![1, 2, 16, 64, 512]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S16x64x512 : Shape := ⟨3, ![16, 64, 512]⟩
abbrev S1x1x16x64x512 : Shape := ⟨5, ![1, 1, 16, 64, 512]⟩
abbrev S8x2x2048x16x64 : Shape := ⟨5, ![8, 2, 2048, 16, 64]⟩

abbrev nBuf : Space → Nat
  | .hbm => 33
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4x1024, .f32⟩
  | .hbm, ⟨3, _⟩ => ⟨S2x1024x3072, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024x3072, .f32⟩
  | .hbm, ⟨8, _⟩ => ⟨S1024x3072, .f32⟩
  | .hbm, ⟨9, _⟩ => ⟨S1024x3072, .bf16⟩
  | .hbm, ⟨10, _⟩ => ⟨S16384x1024, .f32⟩
  | .hbm, ⟨11, _⟩ => ⟨S16384x1024, .bf16⟩
  | .hbm, ⟨12, _⟩ => ⟨S8x2x16x64x2048, .f32⟩
  | .hbm, ⟨13, _⟩ => ⟨S8x2x16x64x2048, .f32⟩
  | .hbm, ⟨14, _⟩ => ⟨S16384x1024, .bf16⟩
  | .hbm, ⟨15, _⟩ => ⟨S16384x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x3072, .f32⟩
  | .hbm, ⟨20, _⟩ => ⟨S1024x3072, .f32⟩
  | .hbm, ⟨21, _⟩ => ⟨S1024x3072, .bf16⟩
  | .hbm, ⟨22, _⟩ => ⟨S16384x1024, .f32⟩
  | .hbm, ⟨23, _⟩ => ⟨S16384x1024, .bf16⟩
  | .hbm, ⟨24, _⟩ => ⟨S8x2x16x64x2048, .f32⟩
  | .hbm, ⟨25, _⟩ => ⟨S8x2x16x64x2048, .f32⟩
  | .hbm, ⟨26, _⟩ => ⟨S16384x1024, .bf16⟩
  | .hbm, ⟨27, _⟩ => ⟨S16384x1024, .bf16⟩
  | .hbm, ⟨28, _⟩ => ⟨S8x2048x1024, .bf16⟩
  | .hbm, ⟨29, _⟩ => ⟨S8x2048x1024, .bf16⟩
  | .hbm, ⟨30, _⟩ => ⟨S8x2048x1024, .bf16⟩
  | .hbm, ⟨31, _⟩ => ⟨S8x2x2048x16x64, .f32⟩
  | .hbm, ⟨32, _⟩ => ⟨S8x2x2048x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S1x2x16x64x512, .f32⟩
  | .local _ .vmem, ⟨7, _⟩ => ⟨S1x2x16x64x512, .f32⟩
  | .local _ .vmem, ⟨8, _⟩ => ⟨S1x2x16x64x512, .f32⟩
  | .local _ .vmem, ⟨9, _⟩ => ⟨S1x2x16x64x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1024x3072, .bf16⟩
  | .local _ .vmem, ⟨18, _⟩ => ⟨S512x1024, .bf16⟩
  | .local _ .vmem, ⟨19, _⟩ => ⟨S512x1024, .bf16⟩
  | .local _ .vmem, ⟨20, _⟩ => ⟨S1x1x16x64x512, .f32⟩
  | .local _ .vmem, ⟨21, _⟩ => ⟨S1x1x16x64x512, .f32⟩
  | .local _ .vmem, ⟨22, _⟩ => ⟨S1x1x16x64x512, .f32⟩
  | .local _ .vmem, ⟨23, _⟩ => ⟨S1x1x16x64x512, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, c0_i32_12.toNat, v26.toNat]

def cc0_transform_5 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, c0_i32_12.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x16x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  let c0_i32_13 : BitVec 32 := 0#32
  ![v16.toNat, c1_i32_10.toNat, c0_i32_11.toNat, c0_i32_12.toNat, v26.toNat]

def cc1_transform_7 (i : grid1.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  let c0_i32_13 : BitVec 32 := 0#32
  ![v16.toNat, c1_i32_10.toNat, c0_i32_11.toNat, c0_i32_12.toNat, v26.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x16x64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x16x64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference3Ideal.lean ====
abbrev S8x2048x1024 : Shape := ⟨3, ![8, 2048, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S8x1x2048x16x64 : Shape := ⟨5, ![8, 1, 2048, 16, 64]⟩
abbrev S8x2x2048x16x64 : Shape := ⟨5, ![8, 2, 2048, 16, 64]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4x1024, .f32⟩
  | .hbm, ⟨3, _⟩ => ⟨S2x1024x3072, .f32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1x1024x3072, .f32⟩
  | .hbm, ⟨23, _⟩ => ⟨S1024x3072, .f32⟩
  | .hbm, ⟨24, _⟩ => ⟨S8x2048x3072, .f32⟩
  | .hbm, ⟨25, _⟩ => ⟨S8x2048x3x16x64, .f32⟩
  | .hbm, ⟨26, _⟩ => ⟨S8x2048x1x16x64, .f32⟩
  | .hbm, ⟨27, _⟩ => ⟨S8x2048x16x64, .f32⟩
  | .hbm, ⟨28, _⟩ => ⟨S8x2048x1x16x64, .f32⟩
  | .hbm, ⟨29, _⟩ => ⟨S8x2048x16x64, .f32⟩
  | .hbm, ⟨30, _⟩ => ⟨S8x2048x1x16x64, .f32⟩
  | .hbm, ⟨31, _⟩ => ⟨S8x2048x16x64, .f32⟩
  | .hbm, ⟨32, _⟩ => ⟨S1x1024, .f32⟩
  | .hbm, ⟨33, _⟩ => ⟨S1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S1x1024x3072, .f32⟩
  | .hbm, ⟨51, _⟩ => ⟨S1024x3072, .f32⟩
  | .hbm, ⟨52, _⟩ => ⟨S8x2048x3072, .f32⟩
  | .hbm, ⟨53, _⟩ => ⟨S8x2048x3x16x64, .f32⟩
  | .hbm, ⟨54, _⟩ => ⟨S8x2048x1x16x64, .f32⟩
  | .hbm, ⟨55, _⟩ => ⟨S8x2048x16x64, .f32⟩
  | .hbm, ⟨56, _⟩ => ⟨S8x2048x1x16x64, .f32⟩
  | .hbm, ⟨57, _⟩ => ⟨S8x2048x16x64, .f32⟩
  | .hbm, ⟨58, _⟩ => ⟨S8x2048x1x16x64, .f32⟩
  | .hbm, ⟨59, _⟩ => ⟨S8x2048x16x64, .f32⟩
  | .hbm, ⟨60, _⟩ => ⟨S_, .f32⟩
  | .hbm, ⟨61, _⟩ => ⟨S8x2048x16x64, .f32⟩
  | .hbm, ⟨62, _⟩ => ⟨S8x2048x16x64, .f32⟩
  | .hbm, ⟨63, _⟩ => ⟨S8x2048x1024, .f32⟩
  | .hbm, ⟨64, _⟩ => ⟨S8x2048x1024, .bf16⟩
  | .hbm, ⟨65, _⟩ => ⟨S8x2048x1024, .f32⟩
  | .hbm, ⟨66, _⟩ => ⟨S8x2048x1024, .bf16⟩
  | .hbm, ⟨67, _⟩ => ⟨S8x2048x1024, .f32⟩
  | .hbm, ⟨68, _⟩ => ⟨S8x2048x1024, .bf16⟩
  | .hbm, ⟨69, _⟩ => ⟨S8x1x2048x16x64, .f32⟩
  | .hbm, ⟨70, _⟩ => ⟨S8x1x2048x16x64, .f32⟩
  | .hbm, ⟨71, _⟩ => ⟨S8x2x2048x16x64, .f32⟩
  | .hbm, ⟨72, _⟩ => ⟨S8x1x2048x16x64, .f32⟩
  | .hbm, ⟨73, _⟩ => ⟨S8x1x2048x16x64, .f32⟩
  | .hbm, ⟨74, _⟩ => ⟨S8x2x2048x16x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Kernel4.lean ====
abbrev S128x1x1024 : Shape := ⟨3, ![128, 1, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S128x1024 : Shape := ⟨2, ![128, 1024]⟩
abbrev S128 : Shape := ⟨1, ![128]⟩
abbrev S128x1 : Shape := ⟨2, ![128, 1]⟩
abbrev S1024x1024 : Shape := ⟨2, ![1024, 1024]⟩
abbrev S128x1x16x64 : Shape := ⟨4, ![128, 1, 16, 64]⟩
abbrev S128x1x1x16x64 : Shape := ⟨5, ![128, 1, 1, 16, 64]⟩
abbrev S128x2x1x16x64 : Shape := ⟨5, ![128, 2, 1, 16, 64]⟩

abbrev nBuf : Space → Nat
  | .hbm => 35
  | .vmem => 12
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S4x1024, .f32⟩
  | .hbm, ⟨3, _⟩ => ⟨S2x1024x3072, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024x3072, .f32⟩
  | .hbm, ⟨8, _⟩ => ⟨S1024x3072, .f32⟩
  | .hbm, ⟨9, _⟩ => ⟨S1024x3072, .bf16⟩
  | .hbm, ⟨10, _⟩ => ⟨S128x1024, .f32⟩
  | .hbm, ⟨11, _⟩ => ⟨S128x1024, .bf16⟩
  | .hbm, ⟨12, _⟩ => ⟨S128x1024, .f32⟩
  | .hbm, ⟨13, _⟩ => ⟨S128x1024, .f32⟩
  | .hbm, ⟨14, _⟩ => ⟨S128x1x16x64, .f32⟩
  | .hbm, ⟨15, _⟩ => ⟨S128x1x16x64, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x3072, .f32⟩
  | .hbm, ⟨20, _⟩ => ⟨S1024x3072, .f32⟩
  | .hbm, ⟨21, _⟩ => ⟨S1024x3072, .bf16⟩
  | .hbm, ⟨22, _⟩ => ⟨S128x1024, .f32⟩
  | .hbm, ⟨23, _⟩ => ⟨S128x1024, .bf16⟩
  | .hbm, ⟨24, _⟩ => ⟨S128x1024, .f32⟩
  | .hbm, ⟨25, _⟩ => ⟨S128x1024, .f32⟩
  | .hbm, ⟨26, _⟩ => ⟨S128x1x16x64, .f32⟩
  | .hbm, ⟨27, _⟩ => ⟨S128x1x16x64, .f32⟩
  | .hbm, ⟨28, _⟩ => ⟨S128x1x1024, .bf16⟩
  | .hbm, ⟨29, _⟩ => ⟨S128x1x1x16x64, .f32⟩
  | .hbm, ⟨30, _⟩ => ⟨S128x1x1x16x64, .f32⟩
  | .hbm, ⟨31, _⟩ => ⟨S128x2x1x16x64, .f32⟩
  | .hbm, ⟨32, _⟩ => ⟨S128x1x1x16x64, .f32⟩
  | .hbm, ⟨33, _⟩ => ⟨S128x1x1x16x64, .f32⟩
  | .hbm, ⟨34, _⟩ => ⟨S128x2x1x16x64, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S1x1024, .f32⟩
  | .local _ .vmem, ⟨8, _⟩ => ⟨S1024x3072, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]
-- ==== Reference4Ideal.lean ====
abbrev S128x1x1024 : Shape := ⟨3, ![128, 1, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S128x1x3072 : Shape := ⟨3, ![128, 1, 3072]⟩
abbrev S128x1x3x16x64 : Shape := ⟨5, ![128, 1, 3, 16, 64]⟩
abbrev S128x1x1x16x64 : Shape := ⟨5, ![128, 1, 1, 16, 64]⟩
abbrev S128x1x16x64 : Shape := ⟨4, ![128, 1, 16, 64]⟩
abbrev S128x2x1x16x64 : Shape := ⟨5, ![128, 2, 1, 16, 64]⟩

abbrev nBuf : Space → Nat
  | .hbm => 75
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S4x1024, .f32⟩
  | .hbm, ⟨3, _⟩ => ⟨S2x1024x3072, .f32⟩
  | .hbm, ⟨4, _⟩ => ⟨S1x1024, .f32⟩
  | .hbm, ⟨5, _⟩ => ⟨S1024, .f32⟩
  | .hbm, ⟨6, _⟩ => ⟨S128x1x1024, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x1024, .f32⟩
  | .hbm, ⟨18, _⟩ => ⟨S128x1x1024, .f32⟩
  | .hbm, ⟨19, _⟩ => ⟨S1x1x1024, .f32⟩
  | .hbm, ⟨20, _⟩ => ⟨S128x1x1024, .f32⟩
  | .hbm, ⟨21, _⟩ => ⟨S128x1x1024, .f32⟩
  | .hbm, ⟨22, _⟩ => ⟨S1x1024x3072, .f32⟩
  | .hbm, ⟨23, _⟩ => ⟨S1024x3072, .f32⟩
  | .hbm, ⟨24, _⟩ => ⟨S128x1x3072, .f32⟩
  | .hbm, ⟨25, _⟩ => ⟨S128x1x3x16x64, .f32⟩
  | .hbm, ⟨26, _⟩ => ⟨S128x1x1x16x64, .f32⟩
  | .hbm, ⟨27, _⟩ => ⟨S128x1x16x64, .f32⟩
  | .hbm, ⟨28, _⟩ => ⟨S128x1x1x16x64, .f32⟩
  | .hbm, ⟨29, _⟩ => ⟨S128x1x16x64, .f32⟩
  | .hbm, ⟨30, _⟩ => ⟨S128x1x1x16x64, .f32⟩
  | .hbm, ⟨31, _⟩ => ⟨S128x1x16x64, .f32⟩
  | .hbm, ⟨32, _⟩ => ⟨S1x1024, .f32⟩
  | .hbm, ⟨33, _⟩ => ⟨S1024, .f32⟩
  | .hbm, ⟨34, _⟩ => ⟨S128x1x1024, .f32⟩
  | .hbm, ⟨35, _⟩ => ⟨S_, .f32⟩
  | .hbm, ⟨36, _⟩ => ⟨S128x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S128x1x1, .f32⟩
  | .hbm, ⟨45, _⟩ => ⟨S128x1x1024, .f32⟩
  | .hbm, ⟨46, _⟩ => ⟨S128x1x1024, .f32⟩
  | .hbm, ⟨47, _⟩ => ⟨S1x1x1024, .f32⟩
  | .hbm, ⟨48, _⟩ => ⟨S128x1x1024, .f32⟩
  | .hbm, ⟨49, _⟩ => ⟨S128x1x1024, .f32⟩
  | .hbm, ⟨50, _⟩ => ⟨S1x1024x3072, .f32⟩
  | .hbm, ⟨51, _⟩ => ⟨S1024x3072, .f32⟩
  | .hbm, ⟨52, _⟩ => ⟨S128x1x3072, .f32⟩
  | .hbm, ⟨53, _⟩ => ⟨S128x1x3x16x64, .f32⟩
  | .hbm, ⟨54, _⟩ => ⟨S128x1x1x16x64, .f32⟩
  | .hbm, ⟨55, _⟩ => ⟨S128x1x16x64, .f32⟩
  | .hbm, ⟨56, _⟩ => ⟨S128x1x1x16x64, .f32⟩
  | .hbm, ⟨57, _⟩ => ⟨S128x1x16x64, .f32⟩
  | .hbm, ⟨58, _⟩ => ⟨S128x1x1x16x64, .f32⟩
  | .hbm, ⟨59, _⟩ => ⟨S128x1x16x64, .f32⟩
  | .hbm, ⟨60, _⟩ => ⟨S_, .f32⟩
  | .hbm, ⟨61, _⟩ => ⟨S128x1x16x64, .f32⟩
  | .hbm, ⟨62, _⟩ => ⟨S128x1x16x64, .f32⟩
  | .hbm, ⟨63, _⟩ => ⟨S128x1x1024, .f32⟩
  | .hbm, ⟨64, _⟩ => ⟨S128x1x1024, .bf16⟩
  | .hbm, ⟨65, _⟩ => ⟨S128x1x1024, .f32⟩
  | .hbm, ⟨66, _⟩ => ⟨S128x1x1024, .bf16⟩
  | .hbm, ⟨67, _⟩ => ⟨S128x1x1024, .f32⟩
  | .hbm, ⟨68, _⟩ => ⟨S128x1x1024, .bf16⟩
  | .hbm, ⟨69, _⟩ => ⟨S128x1x1x16x64, .f32⟩
  | .hbm, ⟨70, _⟩ => ⟨S128x1x1x16x64, .f32⟩
  | .hbm, ⟨71, _⟩ => ⟨S128x2x1x16x64, .f32⟩
  | .hbm, ⟨72, _⟩ => ⟨S128x1x1x16x64, .f32⟩
  | .hbm, ⟨73, _⟩ => ⟨S128x1x1x16x64, .f32⟩
  | .hbm, ⟨74, _⟩ => ⟨S128x2x1x16x64, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Kernel5.lean ====
abbrev S8x2048x1024 : Shape := ⟨3, ![8, 2048, 1024]⟩
abbrev S4x1024 : Shape := ⟨2, ![4, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S4x1024, .f32⟩
  | .hbm, ⟨3, _⟩ => ⟨S2x1024x1024, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x2048x1024 : Shape := ⟨3, ![8, 2048, 1024]⟩
abbrev S4x1024 : Shape := ⟨2, ![4, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S4x1024, .f32⟩
  | .hbm, ⟨3, _⟩ => ⟨S2x1024x1024, .f32⟩
  | .hbm, ⟨4, _⟩ => ⟨S8x2048x1024, .f32⟩
  | .hbm, ⟨5, _⟩ => ⟨S1x1024x1024, .f32⟩
  | .hbm, ⟨6, _⟩ => ⟨S1024x1024, .f32⟩
  | .hbm, ⟨7, _⟩ => ⟨S8x2048x1024, .f32⟩
  | .hbm, ⟨8, _⟩ => ⟨S1x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S128x1x1024 : Shape := ⟨3, ![128, 1, 1024]⟩
abbrev S128x4x2x2816 : Shape := ⟨4, ![128, 4, 2, 2816]⟩
abbrev S4x128x1x256 : Shape := ⟨4, ![4, 128, 1, 256]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S4x1x2816 : Shape := ⟨3, ![4, 1, 2816]⟩
abbrev S1x1024 : Shape := ⟨2, ![1, 1024]⟩
abbrev S1024 : Shape := ⟨1, ![1024]⟩
abbrev S128x1x2x2816 : Shape := ⟨4, ![128, 1, 2, 2816]⟩
abbrev S128x2x2816 : Shape := ⟨3, ![128, 2, 2816]⟩
abbrev S128x1024 : Shape := ⟨2, ![128, 1024]⟩
abbrev S4x128x256 : Shape := ⟨3, ![4, 128, 256]⟩
abbrev S128x1x2816 : Shape := ⟨3, ![128, 1, 2816]⟩
abbrev S128x2816 : Shape := ⟨2, ![128, 2816]⟩
abbrev S1x128x256 : Shape := ⟨3, ![1, 128, 256]⟩
abbrev S1x1024x1408 : Shape := ⟨3, ![1, 1024, 1408]⟩
abbrev S1x3x1408 : Shape := ⟨3, ![1, 3, 1408]⟩
abbrev S1x1x1408 : Shape := ⟨3, ![1, 1, 1408]⟩
abbrev S1x1408x1024 : Shape := ⟨3, ![1, 1408, 1024]⟩
abbrev S1x1024x1024 : Shape := ⟨3, ![1, 1024, 1024]⟩
abbrev S1x256x1024 : Shape := ⟨3, ![1, 256, 1024]⟩
abbrev S128x1408 : Shape := ⟨2, ![128, 1408]⟩
abbrev S128 : Shape := ⟨1, ![128]⟩
abbrev S128x1 : Shape := ⟨2, ![128, 1]⟩
abbrev S1024x1408 : Shape := ⟨2, ![1024, 1408]⟩
abbrev S1x1408 : Shape := ⟨2, ![1, 1408]⟩
abbrev S1408x1024 : Shape := ⟨2, ![1408, 1024]⟩
abbrev S128x256 : Shape := ⟨2, ![128, 256]⟩
abbrev S256x1024 : Shape := ⟨2, ![256, 1024]⟩
abbrev S1024x1024 : Shape := ⟨2, ![1024, 1024]⟩

abbrev nBuf : Space → Nat
  | .hbm => 44
  | .vmem => 26
  | .smem => 0
  | _ => 0

abbrev bufTy : (tb : Table) → Fin (tcTables nBuf tb) → BufTy
  | .hbm, ⟨0, _⟩ => ⟨S128x1x1024, .f32⟩
  | .hbm, ⟨1, _⟩ => ⟨S128x4x2x2816, .f32⟩
  | .hbm, ⟨2, _⟩ => ⟨S4x128x1x256, .f32⟩
  | .hbm, ⟨3, _⟩ => ⟨S4x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x3x2816, .f32⟩
  | .hbm, ⟨8, _⟩ => ⟨S4x2816, .f32⟩
  | .hbm, ⟨9, _⟩ => ⟨S4x2816x1024, .f32⟩
  | .hbm, ⟨10, _⟩ => ⟨S4x1024x1024, .f32⟩
  | .hbm, ⟨11, _⟩ => ⟨S4x256x1024, .f32⟩
  | .hbm, ⟨12, _⟩ => ⟨S4x1024, .f32⟩
  | .hbm, ⟨13, _⟩ => ⟨S4x1024x2816, .bf16⟩
  | .hbm, ⟨14, _⟩ => ⟨S4x1024x2816, .bf16⟩
  | .hbm, ⟨15, _⟩ => ⟨S4x1x2816, .f32⟩
  | .hbm, ⟨16, _⟩ => ⟨S4x2816x1024, .bf16⟩
  | .hbm, ⟨17, _⟩ => ⟨S4x1024x1024, .bf16⟩
  | .hbm, ⟨18, _⟩ => ⟨S4x256x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S128x1x2x2816, .f32⟩
  | .hbm, ⟨29, _⟩ => ⟨S128x2x2816, .f32⟩
  | .hbm, ⟨30, _⟩ => ⟨S128x1024, .f32⟩
  | .hbm, ⟨31, _⟩ => ⟨S4x128x256, .f32⟩
  | .hbm, ⟨32, _⟩ => ⟨S128x1x2816, .f32⟩
  | .hbm, ⟨33, _⟩ => ⟨S128x2816, .f32⟩
  | .hbm, ⟨34, _⟩ => ⟨S128x1x2816, .f32⟩
  | .hbm, ⟨35, _⟩ => ⟨S128x2816, .f32⟩
  | .hbm, ⟨36, _⟩ => ⟨S128x1024, .f32⟩
  | .hbm, ⟨37, _⟩ => ⟨S128x2816, .f32⟩
  | .hbm, ⟨38, _⟩ => ⟨S128x1x1024, .f32⟩
  | .hbm, ⟨39, _⟩ => ⟨S128x1x2816, .f32⟩
  | .hbm, ⟨40, _⟩ => ⟨S128x2816, .f32⟩
  | .hbm, ⟨41, _⟩ => ⟨S128x1x2816, .f32⟩
  | .hbm, ⟨42, _⟩ => ⟨S128x1x2816, .f32⟩
  | .hbm, ⟨43, _⟩ => ⟨S128x2x2816, .f32⟩
  | .local _ .vmem, ⟨0, _⟩ => ⟨S128x1024, .f32⟩
  | .local _ .vmem, ⟨1, _⟩ => ⟨S1x128x256, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x3x1408, .f32⟩
  | .local _ .vmem, ⟨10, _⟩ => ⟨S1x3x1408, .f32⟩
  | .local _ .vmem, ⟨11, _⟩ => ⟨S1x1x1408, .f32⟩
  | .local _ .vmem, ⟨12, _⟩ => ⟨S1x1x1408, .f32⟩
  | .local _ .vmem, ⟨13, _⟩ => ⟨S1x1408x1024, .bf16⟩
  | .local _ .vmem, ⟨14, _⟩ => ⟨S1x1408x1024, .bf16⟩
  | .local _ .vmem, ⟨15, _⟩ => ⟨S1x1024x1024, .bf16⟩
  | .local _ .vmem, ⟨16, _⟩ => ⟨S1x256x1024, .bf16⟩
  | .local _ .vmem, ⟨17, _⟩ => ⟨S128x1408, .f32⟩
  | .local _ .vmem, ⟨18, _⟩ => ⟨S128x1408, .f32⟩
  | .local _ .vmem, ⟨19, _⟩ => ⟨S128x1408, .f32⟩
  | .local _ .vmem, ⟨20, _⟩ => ⟨S128x1408, .f32⟩
  | .local _ .vmem, ⟨21, _⟩ => ⟨S128x1024, .f32⟩
  | .local _ .vmem, ⟨22, _⟩ => ⟨S128x1408, .f32⟩
  | .local _ .vmem, ⟨23, _⟩ => ⟨S128x1408, .f32⟩
  | .local _ .vmem, ⟨24, _⟩ => ⟨S128x1024, .bf16⟩
  | .local _ .vmem, ⟨25, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v56 : BitVec 1 := Scalar.cmpi .eq arg1 c1_i32
  let v57 : BitVec 32 := Scalar.extui v56
  let c0_i32_37 : BitVec 32 := 0#32
  let v58 : BitVec 1 := Scalar.cmpi .ne v57 c0_i32_37
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S128x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S128x1x1024 : Shape := ⟨3, ![128, 1, 1024]⟩
abbrev S128x4x2x2816 : Shape := ⟨4, ![128, 4, 2, 2816]⟩
abbrev S4x128x1x256 : Shape := ⟨4, ![4, 128, 1, 256]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2816 : Shape := ⟨3, ![128, 1, 2816]⟩
abbrev S128x1x2x2816 : Shape := ⟨4, ![128, 1, 2, 2816]⟩
abbrev S128x2x2816 : Shape := ⟨3, ![128, 2, 2816]⟩
abbrev S128x3x2816 : Shape := ⟨3, ![128, 3, 2816]⟩
abbrev S1x1x2816 : Shape := ⟨3, ![1, 1, 2816]⟩
abbrev S1x128x1x256 : Shape := ⟨4, ![1, 128, 1, 256]⟩
abbrev S128x1x256 : Shape := ⟨3, ![128, 1, 256]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 144
  | .vmem => 0
  | .smem => 0
  | _ => 0

abbrev hbmTy0_0 (i : Nat) : BufTy := match i % 128 with
  | 0 => ⟨S128x1x1024, .f32⟩
  | 1 => ⟨S128x4x2x2816, .f32⟩
  | 2 => ⟨S4x128x1x256, .f32⟩
  | 3 => ⟨S4x1024, .f32⟩
  | 4 => ⟨S4x1024, .f32⟩
  | 5 => ⟨S4x1024x2816, .f32⟩
  | 6 => ⟨S4x1024x2816, .f32⟩
  | 7 => ⟨S4x3x2816, .f32⟩
  | 8 => ⟨S4x2816, .f32⟩
  | 9 => ⟨S4x2816x1024, .f32⟩
  | 10 => ⟨S4x1024x1024, .f32⟩
  | 11 => ⟨S4x256x1024, .f32⟩
  | 12 => ⟨S4x1024, .f32⟩
  | 13 => ⟨S1x1024x2816, .f32⟩
  | 14 => ⟨S1024x2816, .f32⟩
  | 15 => ⟨S1x1024x2816, .f32⟩
  | 16 => ⟨S1024x2816, .f32⟩
  | 17 => ⟨S1x3x2816, .f32⟩
  | 18 => ⟨S3x2816, .f32⟩
  | 19 => ⟨S1x2816, .f32⟩
  | 20 => ⟨S2816, .f32⟩
  | 21 => ⟨S1x2816x1024, .f32⟩
  | 22 => ⟨S2816x1024, .f32⟩
  | 23 => ⟨S1x1024, .f32⟩
  | 24 => ⟨S1024, .f32⟩
  | 25 => ⟨S128x1x1024, .f32⟩
  | 26 => ⟨S_, .f32⟩
  | 27 => ⟨S128x1, .f32⟩
  | 28 => ⟨S128x1x1, .f32⟩
  | 29 => ⟨S_, .f32⟩
  | 30 => ⟨S128x1x1, .f32⟩
  | 31 => ⟨S128x1x1, .f32⟩
  | 32 => ⟨S_, .f32⟩
  | 33 => ⟨S128x1x1, .f32⟩
  | 34 => ⟨S128x1x1, .f32⟩
  | 35 => ⟨S128x1x1, .f32⟩
  | 36 => ⟨S128x1x1024, .f32⟩
  | 37 => ⟨S128x1x1024, .f32⟩
  | 38 => ⟨S1x1x1024, .f32⟩
  | 39 => ⟨S128x1x1024, .f32⟩
  | 40 => ⟨S128x1x1024, .f32⟩
  | 41 => ⟨S128x1x2816, .f32⟩
  | 42 => ⟨S128x1x2816, .f32⟩
  | 43 => ⟨S128x1x2x2816, .f32⟩
  | 44 => ⟨S128x2x2816, .f32⟩
  | 45 => ⟨S128x3x2816, .f32⟩
  | 46 => ⟨S1x2816, .f32⟩
  | 47 => ⟨S2816, .f32⟩
  | 48 => ⟨S128x1x2816, .f32⟩
  | 49 => ⟨S1x1x2816, .f32⟩
  | 50 => ⟨S128x1x2816, .f32⟩
  | 51 => ⟨S128x1x2816, .f32⟩
  | 52 => ⟨S1x1x2816, .f32⟩
  | 53 => ⟨S128x1x2816, .f32⟩
  | 54 => ⟨S128x1x2816, .f32⟩
  | 55 => ⟨S1x2816, .f32⟩
  | 56 => ⟨S2816, .f32⟩
  | 57 => ⟨S128x1x2816, .f32⟩
  | 58 => ⟨S1x1x2816, .f32⟩
  | 59 => ⟨S128x1x2816, .f32⟩
  | 60 => ⟨S128x1x2816, .f32⟩
  | 61 => ⟨S128x1x2816, .f32⟩
  | 62 => ⟨S1x2816, .f32⟩
  | 63 => ⟨S2816, .f32⟩
  | 64 => ⟨S128x1x2816, .f32⟩
  | 65 => ⟨S1x1x2816, .f32⟩
  | 66 => ⟨S128x1x2816, .f32⟩
  | 67 => ⟨S128x1x2816, .f32⟩
  | 68 => ⟨S128x1x2816, .f32⟩
  | 69 => ⟨S128x1x2816, .f32⟩
  | 70 => ⟨S128x1x2816, .f32⟩
  | 71 => ⟨S_, .f32⟩
  | 72 => ⟨S128x1x2816, .f32⟩
  | 73 => ⟨S128x1x2816, .f32⟩
  | 74 => ⟨S128x1x2816, .f32⟩
  | 75 => ⟨S_, .f32⟩
  | 76 => ⟨S128x1x2816, .f32⟩
  | 77 => ⟨S128x1x2816, .f32⟩
  | 78 => ⟨S128x1x2816, .f32⟩
  | 79 => ⟨S_, .f32⟩
  | 80 => ⟨S128x1x2816, .f32⟩
  | 81 => ⟨S128x1x2816, .f32⟩
  | 82 => ⟨S_, .f32⟩
  | 83 => ⟨S128x1x2816, .f32⟩
  | 84 => ⟨S128x1x2816, .f32⟩
  | 85 => ⟨S128x1x2816, .f32⟩
  | 86 => ⟨S128x1x2816, .f32⟩
  | 87 => ⟨S128x1x1024, .f32⟩
  | 88 => ⟨S1x1024, .f32⟩
  | 89 => ⟨S1024, .f32⟩
  | 90 => ⟨S128x1x1024, .f32⟩
  | 91 => ⟨S_, .f32⟩
  | 92 => ⟨S128x1, .f32⟩
  | 93 => ⟨S128x1x1, .f32⟩
  | 94 => ⟨S_, .f32⟩
  | 95 => ⟨S128x1x1, .f32⟩
  | 96 => ⟨S128x1x1, .f32⟩
  | 97 => ⟨S_, .f32⟩
  | 98 => ⟨S128x1x1, .f32⟩
  | 99 => ⟨S128x1x1, .f32⟩
  | 100 => ⟨S128x1x1, .f32⟩
  | 101 => ⟨S128x1x1024, .f32⟩
  | 102 => ⟨S128x1x1024, .f32⟩
  | 103 => ⟨S1x1x1024, .f32⟩
  | 104 => ⟨S128x1x1024, .f32⟩
  | 105 => ⟨S128x1x1024, .f32⟩
  | 106 => ⟨S128x1x1024, .f32⟩
  | 107 => ⟨S1x128x1x256, .f32⟩
  | 108 => ⟨S128x1x256, .f32⟩
  | 109 => ⟨S1x256x1024, .f32⟩
  | 110 => ⟨S256x1024, .f32⟩
  | 111 => ⟨S128x1x1024, .f32⟩
  | 112 => ⟨S1x1024x1024, .f32⟩
  | 113 => ⟨S1024x1024, .f32⟩
  | 114 => ⟨S128x1x1024, .f32⟩
  | 115 => ⟨S128x1x1024, .f32⟩
  | 116 => ⟨S128x1x1024, .f32⟩
  | 117 => ⟨S_, .f32⟩
  | 118 => ⟨S128x1x1024, .f32⟩
  | 119 => ⟨S128x1x1024, .f32⟩
  | 120 => ⟨S_, .f32⟩
  | 121 => ⟨S128x1x1024, .f32⟩
  | 122 => ⟨S128x1x1024, .f32⟩
  | 123 => ⟨S128x1x1024, .f32⟩
  | 124 => ⟨S1x1024, .f32⟩
  | 125 => ⟨S1024, .f32⟩
  | 126 => ⟨S128x1x1024, .f32⟩
  | 127 => ⟨S_, .f32⟩
  | _ => ⟨S128x1x1024, .f32⟩

abbrev hbmTy0_1 (i : Nat) : BufTy := match i % 128 with
  | 0 => ⟨S128x1, .f32⟩
  | 1 => ⟨S128x1x1, .f32⟩
  | 2 => ⟨S_, .f32⟩
  | 3 => ⟨S128x1x1, .f32⟩
  | 4 => ⟨S128x1x1, .f32⟩
  | 5 => ⟨S_, .f32⟩
  | 6 => ⟨S128x1x1, .f32⟩
  | 7 => ⟨S128x1x1, .f32⟩
  | 8 => ⟨S128x1x1, .f32⟩
  | 9 => ⟨S128x1x1024, .f32⟩
  | 10 => ⟨S128x1x1024, .f32⟩
  | 11 => ⟨S1x1x1024, .f32⟩
  | 12 => ⟨S128x1x1024, .f32⟩
  | 13 => ⟨S128x1x1024, .f32⟩
  | 14 => ⟨S128x1x1024, .f32⟩
  | 15 => ⟨S128x2x2816, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_4 : Ref sig .tc := ⟨.hbm, 79, rfl⟩
abbrev main_v61 : Ref sig .tc := ⟨.hbm, 80, rfl⟩
abbrev main_v62 : Ref sig .tc := ⟨.hbm, 81, rfl⟩
abbrev main_cst_5 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_6 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_cst_8 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_9 : Ref sig .tc := ⟨.hbm, 117, rfl⟩
abbrev main_v94 : Ref sig .tc := ⟨.hbm, 118, rfl⟩
abbrev main_v95 : Ref sig .tc := ⟨.hbm, 119, rfl⟩
abbrev main_cst_10 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_11 : Ref sig .tc := ⟨.hbm, 127, rfl⟩
abbrev main_v102 : Ref sig .tc := ⟨.hbm, 128, rfl⟩
abbrev main_v103 : Ref sig .tc := ⟨.hbm, 129, rfl⟩
abbrev main_cst_12 : Ref sig .tc := ⟨.hbm, 130, rfl⟩
abbrev main_v104 : Ref sig .tc := ⟨.hbm, 131, rfl⟩
abbrev main_v105 : Ref sig .tc := ⟨.hbm, 132, rfl⟩
abbrev main_cst_13 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Kernel7.lean ====
abbrev S128x1x1024 : Shape := ⟨3, ![128, 1, 1024]⟩
abbrev S128x2x15x1024 : Shape := ⟨4, ![128, 2, 15, 1024]⟩
abbrev S2x4x256x256 : Shape := ⟨4, ![2, 4, 256, 256]⟩
abbrev S2x1024 : Shape := ⟨2, ![2, 1024]⟩
abbrev S4x1024 : Shape := ⟨2, ![4, 1024]⟩
abbrev S1x1024 : Shape := ⟨2, ![1, 1024]⟩
abbrev S1024 : Shape := ⟨1, ![1024]⟩
abbrev S1x4x256x256 : Shape := ⟨4, ![1, 4, 256, 256]⟩
abbrev S4x256x256 : Shape := ⟨3, ![4, 256, 256]⟩
abbrev S128x1x15x1024 : Shape := ⟨4, ![128, 1, 15, 1024]⟩
abbrev S128x15x1024 : Shape := ⟨3, ![128, 15, 1024]⟩
abbrev S128x1024 : Shape := ⟨2, ![128, 1024]⟩
abbrev S32x1024 : Shape := ⟨2, ![32, 1024]⟩
abbrev S32x15x1024 : Shape := ⟨3, ![32, 15, 1024]⟩
abbrev S32 : Shape := ⟨1, ![32]⟩
abbrev S32x1 : Shape := ⟨2, ![32, 1]⟩
abbrev S1x15x1 : Shape := ⟨3, ![1, 15, 1]⟩
abbrev S32x15x256 : Shape := ⟨3, ![32, 15, 256]⟩
abbrev S32x256 : Shape := ⟨2, ![32, 256]⟩
abbrev S1x256x256 : Shape := ⟨3, ![1, 256, 256]⟩
abbrev S256x256 : Shape := ⟨2, ![256, 256]⟩
abbrev S128x14x1024 : Shape := ⟨3, ![128, 14, 1024]⟩

abbrev nBuf : Space → Nat
  | .hbm => 50
  | .vmem => 26
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x2x15x1024, .f32⟩
  | .hbm, ⟨3, _⟩ => ⟨S2x4x256x256, .f32⟩
  | .hbm, ⟨4, _⟩ => ⟨S2x1024, .f32⟩
  | .hbm, ⟨5, _⟩ => ⟨S4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x4x256x256, .f32⟩
  | .hbm, ⟨14, _⟩ => ⟨S4x256x256, .f32⟩
  | .hbm, ⟨15, _⟩ => ⟨S4x256x256, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S128x1x15x1024, .f32⟩
  | .hbm, ⟨20, _⟩ => ⟨S128x15x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x14x1024, .f32⟩
  | .hbm, ⟨25, _⟩ => ⟨S128x1x1024, .f32⟩
  | .hbm, ⟨26, _⟩ => ⟨S128x15x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x4x256x256, .f32⟩
  | .hbm, ⟨34, _⟩ => ⟨S4x256x256, .f32⟩
  | .hbm, ⟨35, _⟩ => ⟨S4x256x256, .bf16⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S128x1x15x1024, .f32⟩
  | .hbm, ⟨40, _⟩ => ⟨S128x15x1024, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S128x14x1024, .f32⟩
  | .hbm, ⟨45, _⟩ => ⟨S128x1x1024, .f32⟩
  | .hbm, ⟨46, _⟩ => ⟨S128x15x1024, .f32⟩
  | .hbm, ⟨47, _⟩ => ⟨S128x1x15x1024, .f32⟩
  | .hbm, ⟨48, _⟩ => ⟨S128x1x15x1024, .f32⟩
  | .hbm, ⟨49, _⟩ => ⟨S128x2x15x1024, .f32⟩
  | .local _ .vmem, ⟨0, _⟩ => ⟨S32x1024, .f32⟩
  | .local _ .vmem, ⟨1, _⟩ => ⟨S32x1024, .f32⟩
  | .local _ .vmem, ⟨2, _⟩ => ⟨S32x15x1024, .f32⟩
  | .local _ .vmem, ⟨3, _⟩ => ⟨S32x15x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x15x1024, .f32⟩
  | .local _ .vmem, ⟨16, _⟩ => ⟨S32x15x1024, .f32⟩
  | .local _ .vmem, ⟨17, _⟩ => ⟨S4x256x256, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x15x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x15x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S32x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference7Ideal.lean ====
abbrev S128x1x1024 : Shape := ⟨3, ![128, 1, 1024]⟩
abbrev S128x2x15x1024 : Shape := ⟨4, ![128, 2, 15, 1024]⟩
abbrev S2x4x256x256 : Shape := ⟨4, ![2, 4, 256, 256]⟩
abbrev S2x1024 : Shape := ⟨2, ![2, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x15x1024 : Shape := ⟨4, ![128, 1, 15, 1024]⟩
abbrev S128x15x1024 : Shape := ⟨3, ![128, 15, 1024]⟩
abbrev S128x16x1024 : Shape := ⟨3, ![128, 16, 1024]⟩

abbrev nBuf : Space → Nat
  | .hbm => 54
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x2x15x1024, .f32⟩
  | .hbm, ⟨3, _⟩ => ⟨S2x4x256x256, .f32⟩
  | .hbm, ⟨4, _⟩ => ⟨S2x1024, .f32⟩
  | .hbm, ⟨5, _⟩ => ⟨S4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S128x1x1024, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x1024, .f32⟩
  | .hbm, ⟨21, _⟩ => ⟨S128x1x1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S128x1x15x1024, .f32⟩
  | .hbm, ⟨26, _⟩ => ⟨S128x15x1024, .f32⟩
  | .hbm, ⟨27, _⟩ => ⟨S128x16x1024, .f32⟩
  | .hbm, ⟨28, _⟩ => ⟨S128x15x1024, .f32⟩
  | .hbm, ⟨29, _⟩ => ⟨S1x1024, .f32⟩
  | .hbm, ⟨30, _⟩ => ⟨S1024, .f32⟩
  | .hbm, ⟨31, _⟩ => ⟨S128x1x1024, .f32⟩
  | .hbm, ⟨32, _⟩ => ⟨S_, .f32⟩
  | .hbm, ⟨33, _⟩ => ⟨S128x1, .f32⟩
  | .hbm, ⟨34, _⟩ => ⟨S128x1x1, .f32⟩
  | .hbm, ⟨35, _⟩ => ⟨S_, .f32⟩
  | .hbm, ⟨36, _⟩ => ⟨S128x1x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S128x1x1, .f32⟩
  | .hbm, ⟨42, _⟩ => ⟨S128x1x1024, .f32⟩
  | .hbm, ⟨43, _⟩ => ⟨S128x1x1024, .f32⟩
  | .hbm, ⟨44, _⟩ => ⟨S1x1x1024, .f32⟩
  | .hbm, ⟨45, _⟩ => ⟨S128x1x1024, .f32⟩
  | .hbm, ⟨46, _⟩ => ⟨S128x1x1024, .f32⟩
  | .hbm, ⟨47, _⟩ => ⟨S128x1x15x1024, .f32⟩
  | .hbm, ⟨48, _⟩ => ⟨S128x15x1024, .f32⟩
  | .hbm, ⟨49, _⟩ => ⟨S128x16x1024, .f32⟩
  | .hbm, ⟨50, _⟩ => ⟨S128x15x1024, .f32⟩
  | .hbm, ⟨51, _⟩ => ⟨S128x1x15x1024, .f32⟩
  | .hbm, ⟨52, _⟩ => ⟨S128x1x15x1024, .f32⟩
  | .hbm, ⟨53, _⟩ => ⟨S128x2x15x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel8.lean ====
abbrev S8x2048x1024 : Shape := ⟨3, ![8, 2048, 1024]⟩
abbrev S2x4x256x256 : Shape := ⟨4, ![2, 4, 256, 256]⟩
abbrev S2x1024 : Shape := ⟨2, ![2, 1024]⟩
abbrev S4x1024 : Shape := ⟨2, ![4, 1024]⟩
abbrev S256 : Shape := ⟨1, ![256]⟩
abbrev S256x1 : Shape := ⟨2, ![256, 1]⟩
abbrev S_ : Shape := ⟨0, ![]⟩
abbrev S384 : Shape := ⟨1, ![384]⟩
abbrev S1x384 : Shape := ⟨2, ![1, 384]⟩
abbrev S256x384 : Shape := ⟨2, ![256, 384]⟩
abbrev S1x256x384 : Shape := ⟨3, ![1, 256, 384]⟩
abbrev S4x256x384 : Shape := ⟨3, ![4, 256, 384]⟩
abbrev S1x1024 : Shape := ⟨2, ![1, 1024]⟩
abbrev S1024 : Shape := ⟨1, ![1024]⟩
abbrev S1x4x256x256 : Shape := ⟨4, ![1, 4, 256, 256]⟩
abbrev S4x256x256 : Shape := ⟨3, ![4, 256, 256]⟩
abbrev S8x64x1024 : Shape := ⟨3, ![8, 64, 1024]⟩
abbrev S1x512x1024 : Shape := ⟨3, ![1, 512, 1024]⟩
abbrev S1x128x1024 : Shape := ⟨3, ![1, 128, 1024]⟩
abbrev S1x16x1024 : Shape := ⟨3, ![1, 16, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1x256x1024 : Shape := ⟨3, ![1, 256, 1024]⟩
abbrev S256x1024 : Shape := ⟨2, ![256, 1024]⟩
abbrev S384x1024 : Shape := ⟨2, ![384, 1024]⟩
abbrev S384x256 : Shape := ⟨2, ![384, 256]⟩
abbrev S256x256 : Shape := ⟨2, ![256, 256]⟩
abbrev S1x256x256 : Shape := ⟨3, ![1, 256, 256]⟩
abbrev S16x1024 : Shape := ⟨2, ![16, 1024]⟩
abbrev S8x15x1024 : Shape := ⟨3, ![8, 15, 1024]⟩
abbrev S8x1x15x1024 : Shape := ⟨4, ![8, 1, 15, 1024]⟩
abbrev S8x2x15x1024 : Shape := ⟨4, ![8, 2, 15, 1024]⟩

abbrev nBuf : Space → Nat
  | .hbm => 95
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S2x4x256x256, .f32⟩
  | .hbm, ⟨3, _⟩ => ⟨S2x1024, .f32⟩
  | .hbm, ⟨4, _⟩ => ⟨S4x1024, .f32⟩
  | .hbm, ⟨5, _⟩ => ⟨S4x1024, .f32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S384, .i32⟩
  | .hbm, ⟨12, _⟩ => ⟨S1x384, .i32⟩
  | .hbm, ⟨13, _⟩ => ⟨S256x384, .i32⟩
  | .hbm, ⟨14, _⟩ => ⟨S256x384, .i32⟩
  | .hbm, ⟨15, _⟩ => ⟨S256x384, .i1⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S256x384, .i32⟩
  | .hbm, ⟨20, _⟩ => ⟨S256x384, .i32⟩
  | .hbm, ⟨21, _⟩ => ⟨S256x384, .i1⟩
  | .hbm, ⟨22, _⟩ => ⟨S256x384, .i1⟩
  | .hbm, ⟨23, _⟩ => ⟨S256x384, .bf16⟩
  | .hbm, ⟨24, _⟩ => ⟨S256x384, .i32⟩
  | .hbm, ⟨25, _⟩ => ⟨S256x384, .i32⟩
  | .hbm, ⟨26, _⟩ => ⟨S256x384, .i1⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x384, .i32⟩
  | .hbm, ⟨31, _⟩ => ⟨S256x384, .i32⟩
  | .hbm, ⟨32, _⟩ => ⟨S256x384, .i1⟩
  | .hbm, ⟨33, _⟩ => ⟨S256x384, .i1⟩
  | .hbm, ⟨34, _⟩ => ⟨S256x384, .bf16⟩
  | .hbm, ⟨35, _⟩ => ⟨S256x384, .i32⟩
  | .hbm, ⟨36, _⟩ => ⟨S256x384, .i32⟩
  | .hbm, ⟨37, _⟩ => ⟨S256x384, .i1⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S256x384, .i32⟩
  | .hbm, ⟨42, _⟩ => ⟨S256x384, .i32⟩
  | .hbm, ⟨43, _⟩ => ⟨S256x384, .i1⟩
  | .hbm, ⟨44, _⟩ => ⟨S256x384, .i1⟩
  | .hbm, ⟨45, _⟩ => ⟨S256x384, .bf16⟩
  | .hbm, ⟨46, _⟩ => ⟨S256x384, .i32⟩
  | .hbm, ⟨47, _⟩ => ⟨S256x384, .i32⟩
  | .hbm, ⟨48, _⟩ => ⟨S256x384, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x384, .i32⟩
  | .hbm, ⟨53, _⟩ => ⟨S256x384, .i32⟩
  | .hbm, ⟨54, _⟩ => ⟨S256x384, .i1⟩
  | .hbm, ⟨55, _⟩ => ⟨S256x384, .i1⟩
  | .hbm, ⟨56, _⟩ => ⟨S256x384, .bf16⟩
  | .hbm, ⟨57, _⟩ => ⟨S1x256x384, .bf16⟩
  | .hbm, ⟨58, _⟩ => ⟨S1x256x384, .bf16⟩
  | .hbm, ⟨59, _⟩ => ⟨S1x256x384, .bf16⟩
  | .hbm, ⟨60, _⟩ => ⟨S1x256x384, .bf16⟩
  | .hbm, ⟨61, _⟩ => ⟨S4x256x384, .bf16⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S1x4x256x256, .f32⟩
  | .hbm, ⟨69, _⟩ => ⟨S4x256x256, .f32⟩
  | .hbm, ⟨70, _⟩ => ⟨S4x256x256, .bf16⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S8x2048x1024, .f32⟩
  | .hbm, ⟨75, _⟩ => ⟨S8x64x1024, .f32⟩
  | .hbm, ⟨76, _⟩ => ⟨S8x15x1024, .f32⟩
  | .hbm, ⟨77, _⟩ => ⟨S1x1024, .f32⟩
  | .hbm, ⟨78, _⟩ => ⟨S1024, .f32⟩
  | .hbm, ⟨79, _⟩ => ⟨S1x1024, .f32⟩
  | .hbm, ⟨80, _⟩ => ⟨S1x1024, .f32⟩
  | .hbm, ⟨81, _⟩ => ⟨S1024, .f32⟩
  | .hbm, ⟨82, _⟩ => ⟨S1x1024, .f32⟩
  | .hbm, ⟨83, _⟩ => ⟨S1x4x256x256, .f32⟩
  | .hbm, ⟨84, _⟩ => ⟨S4x256x256, .f32⟩
  | .hbm, ⟨85, _⟩ => ⟨S4x256x256, .bf16⟩
  | .hbm, ⟨86, _⟩ => ⟨S1x1024, .f32⟩
  | .hbm, ⟨87, _⟩ => ⟨S1024, .f32⟩
  | .hbm, ⟨88, _⟩ => ⟨S1x1024, .f32⟩
  | .hbm, ⟨89, _⟩ => ⟨S8x2048x1024, .f32⟩
  | .hbm, ⟨90, _⟩ => ⟨S8x64x1024, .f32⟩
  | .hbm, ⟨91, _⟩ => ⟨S8x15x1024, .f32⟩
  | .hbm, ⟨92, _⟩ => ⟨S8x1x15x1024, .f32⟩
  | .hbm, ⟨93, _⟩ => ⟨S8x1x15x1024, .f32⟩
  | .hbm, ⟨94, _⟩ => ⟨S8x2x15x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x128x1024, .f32⟩
  | .local _ .vmem, ⟨3, _⟩ => ⟨S1x128x1024, .f32⟩
  | .local _ .vmem, ⟨4, _⟩ => ⟨S4x256x384, .bf16⟩
  | .local _ .vmem, ⟨5, _⟩ => ⟨S4x256x256, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x16x1024, .f32⟩
  | .local _ .vmem, ⟨12, _⟩ => ⟨S1x16x1024, .f32⟩
  | .local _ .vmem, ⟨13, _⟩ => ⟨S512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x128x1024, .f32⟩
  | .local _ .vmem, ⟨17, _⟩ => ⟨S1x128x1024, .f32⟩
  | .local _ .vmem, ⟨18, _⟩ => ⟨S4x256x384, .bf16⟩
  | .local _ .vmem, ⟨19, _⟩ => ⟨S4x256x256, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x16x1024, .f32⟩
  | .local _ .vmem, ⟨26, _⟩ => ⟨S1x16x1024, .f32⟩
  | .local _ .vmem, ⟨27, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63_0 : Ref sig .tc := ⟨.hbm, 74, rfl⟩
abbrev main_v63_1 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77_0 : Ref sig .tc := ⟨.hbm, 89, rfl⟩
abbrev main_v77_1 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4x256x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4x256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x16x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== Reference8Ideal.lean ====
abbrev S8x2048x1024 : Shape := ⟨3, ![8, 2048, 1024]⟩
abbrev S2x4x256x256 : Shape := ⟨4, ![2, 4, 256, 256]⟩
abbrev S2x1024 : Shape := ⟨2, ![2, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x15x1024 : Shape := ⟨3, ![8, 15, 1024]⟩
abbrev S8x2063x1024 : Shape := ⟨3, ![8, 2063, 1024]⟩
abbrev S8x1x15x1024 : Shape := ⟨4, ![8, 1, 15, 1024]⟩
abbrev S8x2x15x1024 : Shape := ⟨4, ![8, 2, 15, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S2x4x256x256, .f32⟩
  | .hbm, ⟨3, _⟩ => ⟨S2x1024, .f32⟩
  | .hbm, ⟨4, _⟩ => ⟨S4x1024, .f32⟩
  | .hbm, ⟨5, _⟩ => ⟨S4x1024, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x15x1024, .f32⟩
  | .hbm, ⟨26, _⟩ => ⟨S8x2063x1024, .f32⟩
  | .hbm, ⟨27, _⟩ => ⟨S8x15x1024, .f32⟩
  | .hbm, ⟨28, _⟩ => ⟨S1x1024, .f32⟩
  | .hbm, ⟨29, _⟩ => ⟨S1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x15x1024, .f32⟩
  | .hbm, ⟨48, _⟩ => ⟨S8x2063x1024, .f32⟩
  | .hbm, ⟨49, _⟩ => ⟨S8x15x1024, .f32⟩
  | .hbm, ⟨50, _⟩ => ⟨S8x1x15x1024, .f32⟩
  | .hbm, ⟨51, _⟩ => ⟨S8x1x15x1024, .f32⟩
  | .hbm, ⟨52, _⟩ => ⟨S8x2x15x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Blocks.lean ====
/- What one grid point of the attention kernel computes, in words of its own: the pieces of one block of keys
   (scores, softplus, attention weights, weighted values, row sums), the two kinds of pairs of blocks (the masked pair
   on the diagonal, the unmasked pairs before it), and the block of the result that they leave. -/
module

public import proofs.«01_k».proof.Proof.Gen.KernelIdeal.Frame
public import Idealize.ShloMosaic.Lib.Pipeline.ValueKit.Acc
public import Idealize.ShloMosaic.Lib.Pipeline.ReadBack

@[expose] public section

noncomputable section

namespace Cert.KernelIdeal.Blocks

open Idealize.ShloMosaic Cert.KernelIdeal Cert.KernelIdeal.Gen

variable {F : FTy → Type} [FloatOps F]

/-- A block of 256 rows stays within the 2048 rows. -/
theorem kvB_inb {j : ℕ} (hj : j < 8) : ∀ a, (![0, 256 * j, 0] : Fin 3 → ℕ) a + S1x256x128.size a ≤ S1x2048x128.size a := by
  intro a
  match a with
  | ⟨0, _⟩ => exact Nat.le_refl 1
  | ⟨1, _⟩ => show 256 * j + 256 ≤ 2048; omega
  | ⟨2, _⟩ => exact Nat.le_refl 128

/-- The `j`-th block of 256 rows of the keys (or of the values). -/
def kvB (x : Vec F S1x2048x128 .bf16) (j : ℕ) (hj : j < 8) : FVec F S256x128 .bf16 :=
  shapeCast S256x128 (View.ld (Val := Elt F) x (Rect.unit ![0, 256 * j, 0] S1x256x128.size (kvB_inb hj)))
    shapeCasts_S1x256x128_S256x128

/-- The mask of a block on the diagonal: the key (a column, `o` further) lies before the query (a row). -/
def mskB (o : BitVec 32) : IVec S512x256 1 :=
  cmpi .slt (addi (iota .tc S512x256 32 [1] iota_S512x256_d1_w32) (broadcast S512x256 o))
    (iota .tc S512x256 32 [0] iota_S512x256_d0_w32)

/-- The block of zeros. -/
def zeroB : FVec F S512x256 .f32 := broadcast S512x256 (Scalar.ofBits .f32 0x00000000#32)

/-- The scores: queries against keys, plus the head's bias. -/
def zB (b : Elt F .f32) (k : FVec F S256x128 .bf16) (q : FVec F S512x128 .bf16) : FVec F S512x256 .f32 :=
  addf (matmul dot_S512x128_S256x128_S512x256_1_1_0_0_n_n none q k (constant S512x256 .f32 0x00000000#32))
    (broadcast S512x256 b)

/-- The softplus of the scores. -/
def spB (z : FVec F S512x256 .f32) : FVec F S512x256 .f32 :=
  addf (maximumf z zeroB)
    (log (addf (broadcast S512x256 (Scalar.ofBits .f32 0x3F800000#32)) (exp (subf zeroB (absf z)))))

/-- The attention weights, before the mask: `exp` of the log of the break, plus what the later keys of the block keep,
    plus what the later blocks keep (`c`). -/
def eB (z s : FVec F S512x256 .f32) (tri : Vec F S256x256 .bf16) (c : FVec F S512x256 .f32) : FVec F S512x256 .f32 :=
  exp (addf (addf (subf z (spB z))
    (matmul dot_S512x256_S256x256_S512x256_1_0_0_1_n_n none (truncf .bf16 s bitsLt_bf16_f32)
      (shapeCast S256x256 tri shapeCasts_S256x256_S256x256) (constant S512x256 .f32 0x00000000#32))) c)

/-- The weighted sum of the values of a block. -/
def pvB (a : FVec F S512x256 .f32) (v : FVec F S256x128 .bf16) : FVec F S512x128 .f32 :=
  matmul dot_S512x256_S256x128_S512x128_1_0_0_1_n_n none (truncf .bf16 a bitsLt_bf16_f32) v
    (constant S512x128 .f32 0x00000000#32)

/-- The sum of a block over its keys. -/
def rsB (s : FVec F S512x256 .f32) : FVec F S512x1 .f32 :=
  shapeCast S512x1 (multiReduction .add [1] S512 s 0x00000000#32 reduces_S512x256_S512 (.inl rfl) rfl)
    shapeCasts_S512_S512x1

/-- The softplus under a mask. -/
def smB (m : IVec S512x256 1) (z : FVec F S512x256 .f32) : FVec F S512x256 .f32 := select m (spB z) zeroB

/-- What is kept after the later block of the diagonal pair. -/
def c1M (b : Elt F .f32) (q : Vec F S1x512x128 .bf16) (k1 : FVec F S256x128 .bf16) : FVec F S512x1 .f32 :=
  subf (broadcast S512x1 (Scalar.ofBits .f32 0x00000000#32))
    (rsB (smB (mskB 256#32) (zB b k1 (shapeCast S512x128 q shapeCasts_S1x512x128_S512x128))))

/-- The diagonal pair's accumulator. -/
def accM (b : Elt F .f32) (q : Vec F S1x512x128 .bf16) (k1 v1 k0 v0 : FVec F S256x128 .bf16) (tri : Vec F S256x256 .bf16) :
    Vec F S1x512x128 .f32 :=
  shapeCast S1x512x128
    (addf
      (pvB (select (mskB 256#32)
        (eB (zB b k1 (shapeCast S512x128 q shapeCasts_S1x512x128_S512x128))
          (smB (mskB 256#32) (zB b k1 (shapeCast S512x128 q shapeCasts_S1x512x128_S512x128))) tri zeroB) zeroB) v1)
      (pvB (select (mskB 0#32)
        (eB (zB b k0 (shapeCast S512x128 q shapeCasts_S1x512x128_S512x128))
          (smB (mskB 0#32) (zB b k0 (shapeCast S512x128 q shapeCasts_S1x512x128_S512x128))) tri
          (broadcastTo S512x256 (c1M b q k1) broadcasts_S512x1_S512x256)) zeroB) v0))
    shapeCasts_S512x128_S1x512x128

/-- The diagonal pair's carry. -/
def carM (b : Elt F .f32) (q : Vec F S1x512x128 .bf16) (k1 k0 : FVec F S256x128 .bf16) : Vec F S1x512x1 .f32 :=
  shapeCast S1x512x1
    (subf (c1M b q k1) (rsB (smB (mskB 0#32) (zB b k0 (shapeCast S512x128 q shapeCasts_S1x512x128_S512x128)))))
    shapeCasts_S512x1_S1x512x1

/-- What is kept after the later block of a pair before the diagonal. -/
def c1U (b : Elt F .f32) (q : Vec F S1x512x128 .bf16) (k1 : FVec F S256x128 .bf16) (car : Vec F S1x512x1 .f32) :
    FVec F S512x1 .f32 :=
  subf (shapeCast S512x1 car shapeCasts_S1x512x1_S512x1)
    (rsB (spB (zB b k1 (shapeCast S512x128 q shapeCasts_S1x512x128_S512x128))))

/-- The accumulator after a pair before the diagonal. -/
def accU (b : Elt F .f32) (q : Vec F S1x512x128 .bf16) (k1 v1 k0 v0 : FVec F S256x128 .bf16) (tri : Vec F S256x256 .bf16)
    (acc : Vec F S1x512x128 .f32) (car : Vec F S1x512x1 .f32) : Vec F S1x512x128 .f32 :=
  shapeCast S1x512x128
    (addf (shapeCast S512x128 acc shapeCasts_S1x512x128_S512x128) (addf
      (pvB (eB (zB b k1 (shapeCast S512x128 q shapeCasts_S1x512x128_S512x128))
          (spB (zB b k1 (shapeCast S512x128 q shapeCasts_S1x512x128_S512x128))) tri
          (broadcastTo S512x256 (shapeCast S512x1 car shapeCasts_S1x512x1_S512x1) broadcasts_S512x1_S512x256)) v1)
      (pvB (eB (zB b k0 (shapeCast S512x128 q shapeCasts_S1x512x128_S512x128))
          (spB (zB b k0 (shapeCast S512x128 q shapeCasts_S1x512x128_S512x128))) tri
          (broadcastTo S512x256 (c1U b q k1 car) broadcasts_S512x1_S512x256)) v0)))
    shapeCasts_S512x128_S1x512x128

/-- The carry after a pair before the diagonal. -/
def carU (b : Elt F .f32) (q : Vec F S1x512x128 .bf16) (k1 k0 : FVec F S256x128 .bf16) (car : Vec F S1x512x1 .f32) :
    Vec F S1x512x1 .f32 :=
  shapeCast S1x512x1
    (subf (c1U b q k1 car) (rsB (spB (zB b k0 (shapeCast S512x128 q shapeCasts_S1x512x128_S512x128)))))
    shapeCasts_S512x1_S1x512x1

/-- Read back what a store into one of two disjoint parts left there: the part just stored. -/
theorem readCov_here {sig : RefSig} {κ : Kind} {sp : Space} {s : Shape} {e : EltTy} {Val : EltTy → Type}
    [∀ e, Nonempty (Val e)] (v : View sig κ sp s e) {off : Fin s.rank → ℕ} {sz : Fin s.rank → ℕ}
    (inb inb' : ∀ a, off a + sz a ≤ s.size a)
    (w : (Rect.unit off sz inb).shape.Idx → Val e) (L : List (View.Piece Val s e)) :
    v.readCov (⟨Rect.unit off sz inb, w⟩ :: L) (Rect.unit off sz inb').toLoadRect = w := by
  rw [View.readCov_eq_canon']
  funext j
  exact View.canon_cons_emb (Rect.unit off sz inb) w L j

/-- The bias of head `n` of the point's two heads. -/
def biasB (i : grid0.Coords) (n : Fin 2) (x0 : Vec F S16 .f32) : Elt F .f32 :=
  View.ld (Val := Elt F) x0 (Rect.unit (k0_off1 i (BitVec.ofNat 32 n.val)) S1.size (k0_off1_inb i n)) (Shape.Idx.first (s := S1) (by decide))

/-- What the two scratch buffers hold of one head: the accumulator and the carry. -/
structure St (F : FTy → Type) where
  /-- the accumulator -/
  acc : Vec F S1x512x128 .f32
  /-- the carry -/
  car : Vec F S1x512x1 .f32

/-- The diagonal pair: the key blocks `j + 1` and `j`. -/
def stM (b : Elt F .f32) (q : Vec F S1x512x128 .bf16) (x2 x3 : Vec F S1x2048x128 .bf16) (x4 : Vec F S256x256 .bf16)
    (j : ℕ) (hj : j + 1 < 8) : St F :=
  ⟨accM b q (kvB x2 (j + 1) hj) (kvB x3 (j + 1) hj) (kvB x2 j (Nat.lt_of_succ_lt hj)) (kvB x3 j (Nat.lt_of_succ_lt hj)) x4,
   carM b q (kvB x2 (j + 1) hj) (kvB x2 j (Nat.lt_of_succ_lt hj))⟩

/-- A pair before the diagonal: the key blocks `j + 1` and `j`. -/
def stU (b : Elt F .f32) (q : Vec F S1x512x128 .bf16) (x2 x3 : Vec F S1x2048x128 .bf16) (x4 : Vec F S256x256 .bf16)
    (j : ℕ) (hj : j + 1 < 8) (s : St F) : St F :=
  ⟨accU b q (kvB x2 (j + 1) hj) (kvB x3 (j + 1) hj) (kvB x2 j (Nat.lt_of_succ_lt hj)) (kvB x3 j (Nat.lt_of_succ_lt hj)) x4 s.acc s.car,
   carU b q (kvB x2 (j + 1) hj) (kvB x2 j (Nat.lt_of_succ_lt hj)) s.car⟩

section Cases

variable (c : Dev nD) (i : grid0.Coords) (arg3 : Memref sig .tc .smem S16 .f32) (harg3 : arg3.IsWhole)
  (arg4 : Memref sig .tc .vmem S1x512x128 .bf16) (harg4 : arg4.IsWhole)
  (arg5 : Memref sig .tc .vmem S1x2048x128 .bf16) (harg5 : arg5.IsWhole)
  (arg6 : Memref sig .tc .vmem S1x2048x128 .bf16) (harg6 : arg6.IsWhole)
  (arg7 : Memref sig .tc .vmem S256x256 .bf16) (harg7 : arg7.IsWhole)
  (arg8 : Memref sig .tc .vmem S1x512x128 .bf16) (harg8 : arg8.IsWhole)
  (arg9 : Memref sig .tc .vmem S2x512x128 .bf16) (harg9 : arg9.IsWhole)
  (arg10 : Memref sig .tc .vmem S2x512x128 .f32) (harg10 : arg10.IsWhole)
  (arg11 : Memref sig .tc .vmem S2x512x1 .f32) (harg11 : arg11.IsWhole)
  (x0 : Vec F S16 .f32) (x1 : Vec F S1x512x128 .bf16) (x2 : Vec F S1x2048x128 .bf16) (x3 : Vec F S1x2048x128 .bf16)
  (x4 : Vec F S256x256 .bf16)

/-- The block of the result at step 0 of the queries: the diagonal pair, then 0 pairs before it, for each of the two heads. -/
theorem out_A (hc0 : cond0_0 i) (hc1 : ¬cond0_1 i) (hc2 : ¬cond0_2 i) (hc3 : ¬cond0_3 i) :
    out0_A_5 c i arg3 harg3 arg4 harg4 arg5 harg5 arg6 harg6 arg7 harg7 arg8 harg8 arg9 harg9 arg10 harg10 arg11 harg11 hc0 hc1 hc2 hc3 x0 x1 x2 x3 x4
      = k0_pay9 k0_pay308 (stM (biasB i 0 x0) (k0_pay309 x1) x2 x3 x4 0 (by decide)).acc
          (stM (biasB i 1 x0) (k0_pay310 x1) x2 x3 x4 0 (by decide)).acc := by
  frame_out [readCov_here, ↓View.readCov_skip]
  rfl

/-- The block of the result at step 1 of the queries: the diagonal pair, then 1 pairs before it, for each of the two heads. -/
theorem out_B (hc0 : ¬cond0_0 i) (hc1 : cond0_1 i) (hc2 : ¬cond0_2 i) (hc3 : ¬cond0_3 i) :
    out0_B_5 c i arg3 harg3 arg4 harg4 arg5 harg5 arg6 harg6 arg7 harg7 arg8 harg8 arg9 harg9 arg10 harg10 arg11 harg11 hc0 hc1 hc2 hc3 x0 x1 x2 x3 x4
      = k0_pay9 k0_pay308 (stU (biasB i 0 x0) (k0_pay309 x1) x2 x3 x4 0 (by decide) (stM (biasB i 0 x0) (k0_pay309 x1) x2 x3 x4 2 (by decide))).acc
          (stU (biasB i 1 x0) (k0_pay310 x1) x2 x3 x4 0 (by decide) (stM (biasB i 1 x0) (k0_pay310 x1) x2 x3 x4 2 (by decide))).acc := by
  frame_out [readCov_here, ↓View.readCov_skip]
  rfl

/-- The block of the result at step 2 of the queries: the diagonal pair, then 2 pairs before it, for each of the two heads. -/
theorem out_C (hc0 : ¬cond0_0 i) (hc1 : ¬cond0_1 i) (hc2 : cond0_2 i) (hc3 : ¬cond0_3 i) :
    out0_C_5 c i arg3 harg3 arg4 harg4 arg5 harg5 arg6 harg6 arg7 harg7 arg8 harg8 arg9 harg9 arg10 harg10 arg11 harg11 hc0 hc1 hc2 hc3 x0 x1 x2 x3 x4
      = k0_pay9 k0_pay308 (stU (biasB i 0 x0) (k0_pay309 x1) x2 x3 x4 0 (by decide) (stU (biasB i 0 x0) (k0_pay309 x1) x2 x3 x4 2 (by decide) (stM (biasB i 0 x0) (k0_pay309 x1) x2 x3 x4 4 (by decide)))).acc
          (stU (biasB i 1 x0) (k0_pay310 x1) x2 x3 x4 0 (by decide) (stU (biasB i 1 x0) (k0_pay310 x1) x2 x3 x4 2 (by decide) (stM (biasB i 1 x0) (k0_pay310 x1) x2 x3 x4 4 (by decide)))).acc := by
  frame_out [readCov_here, ↓View.readCov_skip]
  rfl

/-- The block of the result at step 3 of the queries: the diagonal pair, then 3 pairs before it, for each of the two heads. -/
theorem out_D (hc0 : ¬cond0_0 i) (hc1 : ¬cond0_1 i) (hc2 : ¬cond0_2 i) (hc3 : cond0_3 i) :
    out0_D_5 c i arg3 harg3 arg4 harg4 arg5 harg5 arg6 harg6 arg7 harg7 arg8 harg8 arg9 harg9 arg10 harg10 arg11 harg11 hc0 hc1 hc2 hc3 x0 x1 x2 x3 x4
      = k0_pay9 k0_pay308 (stU (biasB i 0 x0) (k0_pay309 x1) x2 x3 x4 0 (by decide) (stU (biasB i 0 x0) (k0_pay309 x1) x2 x3 x4 2 (by decide) (stU (biasB i 0 x0) (k0_pay309 x1) x2 x3 x4 4 (by decide) (stM (biasB i 0 x0) (k0_pay309 x1) x2 x3 x4 6 (by decide))))).acc
          (stU (biasB i 1 x0) (k0_pay310 x1) x2 x3 x4 0 (by decide) (stU (biasB i 1 x0) (k0_pay310 x1) x2 x3 x4 2 (by decide) (stU (biasB i 1 x0) (k0_pay310 x1) x2 x3 x4 4 (by decide) (stM (biasB i 1 x0) (k0_pay310 x1) x2 x3 x4 6 (by decide))))).acc := by
  frame_out [readCov_here, ↓View.readCov_skip]
  rfl

end Cases

end Cert.KernelIdeal.Blocks
-- ==== Proof.StickMath.lean ====
/- The mathematics of stick-breaking attention over the extended reals: softplus, the log of a break and of what is
   kept, and sums over later keys walked in blocks of 256 keys from the last block to the first. -/
module

public import Idealize.ShloMosaic.PureOps.Ideal

@[expose] public section

noncomputable section

namespace Cert.Stick

open Idealize.ShloMosaic Finset

/-- Softplus, as the kernel computes it. -/
def sp (x : EReal) : EReal := max x 0 + Ideal.log (1 + Ideal.exp (0 - max x (-x)))

/-- The log of one plus an exponential is nonnegative. -/
theorem log_one_add_exp_nonneg (y : EReal) : 0 ≤ Ideal.log (1 + Ideal.exp y) := by
  induction y using EReal.rec with
  | bot =>
    show 0 ≤ Ideal.log (1 + ((0 : ℝ) : EReal))
    rw [← EReal.coe_one, ← EReal.coe_add]
    show 0 ≤ (if (1 + 0 : ℝ) ≤ 0 then (⊥ : EReal) else ((Real.log (1 + 0) : ℝ) : EReal))
    rw [if_neg (by norm_num)]; simp
  | top =>
    show 0 ≤ Ideal.log (1 + ⊤)
    rw [← EReal.coe_one, EReal.coe_add_top]; exact le_top
  | coe r =>
    show 0 ≤ Ideal.log (1 + ((Real.exp r : ℝ) : EReal))
    rw [← EReal.coe_one, ← EReal.coe_add]
    show 0 ≤ (if (1 + Real.exp r : ℝ) ≤ 0 then (⊥ : EReal) else ((Real.log (1 + Real.exp r) : ℝ) : EReal))
    have h := Real.exp_pos r
    rw [if_neg (by linarith)]
    exact_mod_cast Real.log_nonneg (by linarith)

/-- Softplus is nonnegative. -/
theorem sp_nonneg (x : EReal) : 0 ≤ sp x :=
  add_nonneg (le_max_right _ _) (log_one_add_exp_nonneg _)

/-- The greater of two reals, in the extended reals. -/
theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- Softplus of a real number. -/
theorem sp_coe (r : ℝ) : sp (r : EReal) = ((max r 0 + Real.log (1 + Real.exp (-|r|)) : ℝ) : EReal) := by
  have e : (0 : EReal) - max (r : EReal) (-(r : EReal)) = ((-|r| : ℝ) : EReal) := by
    rw [zero_sub, ← EReal.coe_neg, ← coe_max', ← EReal.coe_neg]; rfl
  unfold sp
  rw [e]
  show max (r : EReal) 0 + Ideal.log (1 + ((Real.exp (-|r|) : ℝ) : EReal)) = _
  rw [← EReal.coe_one, ← EReal.coe_add]
  show max (r : EReal) 0 + (if (1 + Real.exp (-|r|) : ℝ) ≤ 0 then (⊥ : EReal) else ((Real.log (1 + Real.exp (-|r|)) : ℝ) : EReal)) = _
  have h := Real.exp_pos (-|r|)
  rw [if_neg (by linarith), ← EReal.coe_zero, ← coe_max', ← EReal.coe_add]

/-- Softplus of `⊥` is zero. -/
theorem sp_bot : sp ⊥ = 0 := by
  unfold sp
  rw [EReal.neg_bot, max_eq_right bot_le, max_eq_right bot_le, zero_sub, EReal.neg_top]
  show 0 + Ideal.log (1 + ((0 : ℝ) : EReal)) = 0
  rw [← EReal.coe_one, ← EReal.coe_add]
  show 0 + (if (1 + 0 : ℝ) ≤ 0 then (⊥ : EReal) else ((Real.log (1 + 0) : ℝ) : EReal)) = 0
  rw [if_neg (by norm_num)]; simp

/-- Softplus of `⊤` is `⊤`. -/
theorem sp_top : sp ⊤ = ⊤ := by
  unfold sp
  rw [max_eq_left le_top]
  exact EReal.top_add_of_ne_bot fun h => by
    have := log_one_add_exp_nonneg (0 - max ⊤ (-⊤)); rw [h] at this; exact absurd this (by simp)

/-- A break's log plus what the later keys keep: with the log of the break as the score less its softplus, or as the
    negated softplus of the negated score and what is kept as an inclusive sum less the key's own share. Both say the same. -/
theorem break_eq (z C : EReal) (hC : C ≤ 0) : z - sp z + C = -sp (-z) + (-sp z + C - -sp z) := by
  induction z using EReal.rec with
  | bot => rw [sp_bot, EReal.neg_bot, sp_top, EReal.neg_top, EReal.bot_add, sub_eq_add_neg, EReal.bot_add, EReal.bot_add]
  | top =>
    rw [sp_top, EReal.neg_top, sp_bot, neg_zero, zero_add, EReal.bot_add, sub_eq_add_neg, EReal.neg_top, EReal.add_bot,
      EReal.bot_add, sub_eq_add_neg, EReal.bot_add]
  | coe r =>
    rw [← EReal.coe_neg, sp_coe, sp_coe]
    have e : max (-r) 0 = max r 0 - r := by
      rcases le_total r 0 with h | h
      · rw [max_eq_left (by linarith), max_eq_right h]; ring
      · rw [max_eq_right (by linarith), max_eq_left h]; ring
    rw [abs_neg, e]
    induction C using EReal.rec with
    | bot => rw [EReal.add_bot, EReal.add_bot, sub_eq_add_neg ⊥, EReal.bot_add, EReal.add_bot]
    | top => exact absurd hC (by simp)
    | coe c =>
      norm_cast
      ring

/-! ## Sums -/

/-- A negated sum of nonnegative terms. -/
theorem neg_sum {ι : Type*} (S : Finset ι) (f : ι → EReal) (hf : ∀ i, 0 ≤ f i) : -∑ i ∈ S, f i = ∑ i ∈ S, -f i := by
  classical
  induction S using Finset.induction_on with
  | empty => simp
  | insert a S ha ih =>
    rw [sum_insert ha, sum_insert ha, ← ih]
    have h1 : f a ≠ ⊥ := fun h => by have := hf a; rw [h] at this; exact absurd this (by simp)
    have h2 : ∑ i ∈ S, f i ≠ ⊥ := fun h => by
      have := sum_nonneg fun i (_ : i ∈ S) => hf i
      rw [h] at this; exact absurd this (by simp)
    rw [EReal.neg_add (.inl h1) (.inr h2), sub_eq_add_neg]

/-- A nonnegative finite factor distributes over a sum. -/
theorem sum_mul_of_nonneg {ι : Type*} (S : Finset ι) (f : ι → EReal) (c : EReal) (h0 : 0 ≤ c) (ht : c ≠ ⊤) :
    (∑ i ∈ S, f i) * c = ∑ i ∈ S, f i * c := by
  classical
  induction S using Finset.induction_on with
  | empty => simp
  | insert a S ha ih => rw [sum_insert ha, sum_insert ha, EReal.right_distrib_of_nonneg_of_ne_top h0 ht, ih]

section Row

/-! One row of queries: its position `t`, the scores `Z` of every key, the values `V` of every key (in one lane). -/

variable (t : ℕ) (Z V : ℕ → EReal)

/-- The masked softplus of key `s`. -/
def M (s : ℕ) : EReal := if s < t then sp (Z s) else 0

/-- The masked softplus is nonnegative. -/
theorem M_nonneg (s : ℕ) : 0 ≤ M t Z s := by
  unfold M; split
  · exact sp_nonneg _
  · exact le_refl _

/-- The log of what the keys from `n` on keep. -/
def C (n : ℕ) : EReal := ∑ s ∈ Ico n 2048, -M t Z s

/-- The log of what is kept is not positive. -/
theorem C_nonpos (n : ℕ) : C t Z n ≤ 0 :=
  sum_nonpos fun s _ => EReal.neg_le_zero.mpr (M_nonneg t Z s)

/-- The attention weight of key `s`. -/
def A (s : ℕ) : EReal := if s < t then Ideal.exp (Z s - sp (Z s) + C t Z (s + 1)) else 0

/-- The weighted sum of the values of the keys from `n` on. -/
def acc (n : ℕ) : EReal := ∑ s ∈ Ico n 2048, A t Z s * V s

/-- What the keys after key `l` of block `j` keep: those of the block by the product with the strictly lower triangle
    of minus ones, and those of the later blocks. -/
theorem C_block (j : ℕ) (hj : j < 8) (l : Fin 256) :
    (∑ p : Fin 256, M t Z (256 * j + p) * (if l < p then -1 else 0)) + C t Z (256 * (j + 1)) = C t Z (256 * j + l + 1) := by
  have h1 : (∑ p : Fin 256, M t Z (256 * j + p) * (if l < p then -1 else 0))
      = ∑ p ∈ range 256, if l.val < p then -M t Z (256 * j + p) else 0 := by
    rw [sum_range]
    refine sum_congr rfl fun p _ => ?_
    by_cases h : l < p
    · rw [if_pos h, if_pos (show l.val < p.val from h), mul_neg, mul_one]
    · rw [if_neg h, if_neg (show ¬l.val < p.val from h), mul_zero]
  have h2 : (∑ p ∈ range 256, if l.val < p then -M t Z (256 * j + p) else 0)
      = ∑ s ∈ Ico (256 * j + l + 1) (256 * (j + 1)), -M t Z s := by
    have hl := l.isLt
    rw [← sum_filter]
    refine (sum_nbij' (fun p => 256 * j + p) (fun s => s - 256 * j) ?_ ?_ ?_ ?_ ?_)
    · intro p hp; simp only [mem_filter, mem_range, mem_Ico] at hp ⊢; omega
    · intro s hs; simp only [mem_filter, mem_range, mem_Ico] at hs ⊢; omega
    · intro p hp; omega
    · intro s hs; simp only [mem_Ico] at hs; omega
    · intro p hp; rfl
  rw [h1, h2]
  exact sum_Ico_consecutive _ (by have := l.isLt; omega) (by omega)

/-- What the keys from the start of block `j` on keep. -/
theorem C_step (j : ℕ) (hj : j < 8) :
    C t Z (256 * (j + 1)) - ∑ p : Fin 256, M t Z (256 * j + p) = C t Z (256 * j) := by
  rw [sub_eq_add_neg, neg_sum _ _ fun p => M_nonneg t Z _, add_comm]
  have h2 : (∑ p : Fin 256, -M t Z (256 * j + p)) = ∑ s ∈ Ico (256 * j) (256 * (j + 1)), -M t Z s := by
    rw [← sum_range fun p => -M t Z (256 * j + p), range_eq_Ico]
    refine (sum_nbij' (fun p => 256 * j + p) (fun s => s - 256 * j) ?_ ?_ ?_ ?_ ?_)
    · intro p hp; simp only [mem_Ico] at hp ⊢; omega
    · intro s hs; simp only [mem_Ico] at hs ⊢; omega
    · intro p hp; omega
    · intro s hs; simp only [mem_Ico] at hs; omega
    · intro p hp; rfl
  rw [h2]
  exact sum_Ico_consecutive _ (by omega) (by omega)

/-- The weighted values of block `j`, added to those of the later blocks. -/
theorem acc_step (j : ℕ) (hj : j < 8) :
    acc t Z V (256 * (j + 1)) + ∑ p : Fin 256, A t Z (256 * j + p) * V (256 * j + p) = acc t Z V (256 * j) := by
  rw [add_comm]
  have h2 : (∑ p : Fin 256, A t Z (256 * j + p) * V (256 * j + p)) = ∑ s ∈ Ico (256 * j) (256 * (j + 1)), A t Z s * V s := by
    rw [← sum_range fun p => A t Z (256 * j + p) * V (256 * j + p)]
    refine (sum_nbij' (fun p => 256 * j + p) (fun s => s - 256 * j) ?_ ?_ ?_ ?_ ?_)
    · intro p hp; simp only [mem_Ico, mem_range] at hp ⊢; omega
    · intro s hs; simp only [mem_Ico, mem_range] at hs ⊢; omega
    · intro p hp; omega
    · intro s hs; simp only [mem_Ico] at hs; omega
    · intro p hp; rfl
  rw [h2]
  exact sum_Ico_consecutive _ (by omega) (by omega)

/-- No key from the query's position on is kept or weighted. -/
theorem C_late (n : ℕ) (h : t ≤ n) : C t Z n = 0 :=
  sum_eq_zero fun s hs => by
    unfold M; rw [if_neg (by simp only [mem_Ico] at hs; omega), neg_zero]

/-- No value from the query's position on is taken. -/
theorem acc_late (n : ℕ) (h : t ≤ n) : acc t Z V n = 0 :=
  sum_eq_zero fun s hs => by
    unfold A; rw [if_neg (by simp only [mem_Ico] at hs; omega), zero_mul]

/-- The reference's row: the weights by the inclusive sum of the log of what is kept, less the key's own share. -/
theorem acc_eq_reference :
    (∑ s : Fin 2048, V s * (if s.val < t then
        Ideal.exp (-sp (-Z s) + ((∑ s' ∈ Ico s.val 2048, if s' < t then -sp (Z s') else 0) - (if s.val < t then -sp (Z s) else 0)))
      else 0)) = acc t Z V 0 := by
  unfold acc
  rw [← range_eq_Ico, sum_range]
  refine sum_congr rfl fun s _ => ?_
  rw [mul_comm]
  congr 1
  unfold A
  by_cases h : s.val < t
  · rw [if_pos h, if_pos h, if_pos h, break_eq _ _ (C_nonpos t Z _)]
    congr 3
    have e : ∀ s', (if s' < t then -sp (Z s') else 0) = -M t Z s' := fun s' => by
      unfold M; split
      · rfl
      · rw [neg_zero]
    rw [sum_eq_sum_Ico_succ_bot s.isLt, if_pos h]
    unfold C
    rw [sum_congr rfl fun s' _ => e s']
  · rw [if_neg h, if_neg h]

end Row

end Cert.Stick
-- ==== Proof.Rows.lean ====
/- The rows of the attention: the scores of one query of one head, by key, and one lane of the values, by key. -/
module

public import proofs.«01_k».proof.Proof.StickMath
public import Idealize.ShloMosaic.Lib.ValueIdxCore

@[expose] public section

noncomputable section

namespace Cert.Stick

open Idealize.ShloMosaic Idealize.ShloMosaic.ValueIdx

/-- An array of the batch, its tokens and the lanes of all heads. -/
abbrev Arr : Type := (⟨3, ![8, 2048, 1024]⟩ : Shape).Idx → EReal

/-- A key position; positions past the end are taken around. -/
def key (s : ℕ) : Fin 2048 := ⟨s % 2048, Nat.mod_lt _ (by norm_num)⟩

/-- Lane `d` of head `h`. -/
def lane (h : Fin 16) (d : Fin 64) : Fin 1024 := ⟨64 * h.val + d.val, by have := h.isLt; have := d.isLt; omega⟩

/-- The score of query `t` against the key at `s`: the product of their rows of head `h`, an eighth of it, plus the
    head's bias. -/
def score (q k : Arr) (bias : (⟨1, ![16]⟩ : Shape).Idx → EReal) (b : Fin 8) (h : Fin 16) (t : Fin 2048) (s : ℕ) : EReal :=
  (∑ d : Fin 64, q (ix3 b t (lane h d)) * k (ix3 b (key s) (lane h d))) * Ideal.ofBits .f32 0x3E000000#32 + bias (ix1 h)

/-- One lane of the value at `s`. -/
def value (v : Arr) (b : Fin 8) (h : Fin 16) (d : Fin 64) (s : ℕ) : EReal := v (ix3 b (key s) (lane h d))

/-- The attention: the row of query `t`, lane `d` of head `h`. -/
def attn (q k v : Arr) (bias : (⟨1, ![16]⟩ : Shape).Idx → EReal) (b : Fin 8) (t : Fin 2048) (h : Fin 16) (d : Fin 64) : EReal :=
  acc t.val (score q k bias b h t) (value v b h d) 0

theorem key_val (s : Fin 2048) : key s.val = s := Fin.ext (Nat.mod_eq_of_lt s.isLt)

end Cert.Stick
-- ==== Proof.Pointwise.lean ====
/- The pieces of a grid point read at an entry, over the extended reals; and what a pair of blocks does to a row. -/
module

public import proofs.«01_k».proof.Proof.Blocks
public import proofs.«01_k».proof.Proof.Rows
public import Idealize.ShloMosaic.Lib.Pointwise
public import Idealize.ShloMosaic.Lib.Pipeline.ValueKit.Tiles

@[expose] public section

noncomputable section

namespace Cert.KernelIdeal.Blocks

open Idealize.ShloMosaic Cert.KernelIdeal Cert.KernelIdeal.Gen Cert.Stick

/-- The scores at an entry. -/
theorem zB_apply (b : Elt Ideal .f32) (k : FVec Ideal S256x128 .bf16) (q : FVec Ideal S512x128 .bf16) (r : Fin 512) (l : Fin 256) :
    zB b k q (ix2 r l) = (∑ d : Fin 128, (q (ix2 r d) : EReal) * k (ix2 l d)) + b := by
  unfold zB
  pointwise

/-- The softplus at an entry. -/
theorem spB_apply (z : FVec Ideal S512x256 .f32) (i : S512x256.Idx) : spB z i = sp (z i) := by
  unfold spB zeroB sp
  pointwise
  rfl

theorem zeroB_apply (i : S512x256.Idx) : zeroB (F := Ideal) i = (0 : EReal) := by
  unfold zeroB
  pointwise

/-- The weights at an entry. -/
theorem eB_apply (z s : FVec Ideal S512x256 .f32) (tri : Vec Ideal S256x256 .bf16) (c : FVec Ideal S512x256 .f32) (r : Fin 512) (l : Fin 256) :
    eB z s tri c (ix2 r l) = Ideal.exp ((z (ix2 r l) : EReal) - sp (z (ix2 r l)) + (∑ p : Fin 256, (s (ix2 r p) : EReal) * tri (ix2 p l)) + c (ix2 r l)) := by
  unfold eB
  pointwise [spB_apply]

/-- The weighted sum of the values at an entry. -/
theorem pvB_apply (a : FVec Ideal S512x256 .f32) (v : FVec Ideal S256x128 .bf16) (r : Fin 512) (d : Fin 128) :
    pvB a v (ix2 r d) = ∑ l : Fin 256, (a (ix2 r l) : EReal) * v (ix2 l d) := by
  unfold pvB
  pointwise

/-- The sum over a block's keys at a row. -/
theorem rsB_apply (s : FVec Ideal S512x256 .f32) (r : Fin 512) (d : Fin 1) :
    rsB s (ix2 r d) = ∑ l : Fin 256, (s (ix2 r l) : EReal) := by
  unfold rsB
  pointwise

/-- The mask at an entry. -/
theorem mskB_apply (o : ℕ) (ho : o ≤ 512) (r : Fin 512) (l : Fin 256) :
    mskB (BitVec.ofNat 32 o) (ix2 r l) = if l.val + o < r.val then 1#1 else 0#1 := by
  unfold mskB
  pointwise
  have hr := r.isLt
  have hl := l.isLt
  show BitVec.ofBool ((BitVec.ofNat 32 l.val + BitVec.ofNat 32 o).slt (BitVec.ofNat 32 r.val)) = _
  have e : (BitVec.ofNat 32 l.val + BitVec.ofNat 32 o).slt (BitVec.ofNat 32 r.val) = decide (l.val + o < r.val) := by
    rw [← BitVec.ofNat_add, BitVec.slt_eq_decide, BitVec.toInt_eq_toNat_of_lt (by simp; omega), BitVec.toInt_eq_toNat_of_lt (by simp; omega)]
    simp
    constructor <;> intro h <;> omega
  rw [e]
  by_cases h : l.val + o < r.val <;> simp [h]

/-- Row `l` of the `j`-th block of the keys or of the values. -/
theorem kvB_apply (x : Vec Ideal S1x2048x128 .bf16) (j : ℕ) (hj : j < 8) (l : Fin 256) (d : Fin 128) :
    kvB x j hj (ix2 l d) = x (ix3 0 ⟨256 * j + l.val, by have := l.isLt; omega⟩ d) := by
  unfold kvB
  rw [shapeCast_apply _ _ (ix2 l d) (ix3 0 l d)]
  · rw [View.ld_apply]
    refine congrArg x (funext fun a => Fin.ext ?_)
    rw [Rect.idx_unit_val]
    match a with
    | ⟨0, _⟩ => rfl
    | ⟨1, _⟩ => rfl
    | ⟨2, _⟩ => exact Nat.zero_add _
  · rw [Shape.rowMajor_val_three, Shape.rowMajor_val_two]
    show (0 * 256 + l.val) * 128 + d.val = l.val * 128 + d.val
    omega

/-- A block of the diagonal pair: the softplus under its mask. -/
theorem smB_apply (o : ℕ) (ho : o ≤ 512) (z : FVec Ideal S512x256 .f32) (r : Fin 512) (l : Fin 256) :
    smB (mskB (BitVec.ofNat 32 o)) z (ix2 r l) = if l.val + o < r.val then sp (z (ix2 r l)) else 0 := by
  show Scalar.select (mskB (BitVec.ofNat 32 o) (ix2 r l)) (spB z (ix2 r l)) (zeroB (ix2 r l)) = _
  rw [mskB_apply o ho, spB_apply, zeroB_apply]
  by_cases h : l.val + o < r.val
  · rw [if_pos h, if_pos h]; rfl
  · rw [if_neg h, if_neg h]; rfl

/-- The first head's lanes, or the second's, as the word the lane's mask holds. -/
theorem pay308_apply (d : Fin 128) : k0_pay308 (ix2 0 d) = if d.val < 64 then 0#1 else 1#1 := by
  unfold k0_pay308
  pointwise
  revert d
  decide +kernel

/-- The queries of the first head: the other head's lanes zero. -/
theorem pay309_apply (x1 : Vec Ideal S1x512x128 .bf16) (r : Fin 512) (d : Fin 128) :
    k0_pay309 x1 (ix3 0 r d) = if d.val < 64 then x1 (ix3 0 r d) else 0 := by
  unfold k0_pay309 k0_pay307
  pointwise
  have e : ∀ d : Fin 128, IntOp.andi (IntOp.cmpi CmpIPredicate.sge (BitVec.ofNat 32 d.val) 0#32)
      (IntOp.cmpi CmpIPredicate.slt (BitVec.ofNat 32 d.val) 64#32) = if d.val < 64 then 1#1 else 0#1 := by decide +kernel
  rw [e]
  by_cases h : d.val < 64
  · rw [if_pos h, if_pos h]; rfl
  · rw [if_neg h, if_neg h]; rfl

/-- The queries of the second head: the other head's lanes zero. -/
theorem pay310_apply (x1 : Vec Ideal S1x512x128 .bf16) (r : Fin 512) (d : Fin 128) :
    k0_pay310 x1 (ix3 0 r d) = if d.val < 64 then 0 else x1 (ix3 0 r d) := by
  unfold k0_pay310 k0_pay307
  pointwise [pay308_apply]
  by_cases h : d.val < 64
  · rw [if_pos h, if_pos h]; rfl
  · rw [if_neg h, if_neg h]; rfl

/-- The block that is stored: the lanes of the first head from its accumulator, the others from the second's. -/
theorem pay9_apply (a0 a1 : Vec Ideal S1x512x128 .f32) (r : Fin 512) (d : Fin 128) :
    k0_pay9 k0_pay308 a0 a1 (ix3 0 r d) = if d.val < 64 then a0 (ix3 0 r d) else a1 (ix3 0 r d) := by
  unfold k0_pay9
  pointwise [pay308_apply]
  by_cases h : d.val < 64
  · rw [if_pos h, if_pos h]; rfl
  · rw [if_neg h, if_neg h]; rfl

section Row

variable (t : ℕ) (Z V : ℕ → EReal) (r : Fin 512) (d : Fin 128) (tri : Vec Ideal S256x256 .bf16)
  (htri : ∀ p l : Fin 256, (tri (ix2 p l) : EReal) = if l < p then -1 else 0)

include htri in
/-- The weights of block `j`, before the mask, of a row whose scores are `Z`. -/
theorem eB_row (j : ℕ) (hj : j < 8) (z s c : FVec Ideal S512x256 .f32) (hz : ∀ l : Fin 256, z (ix2 r l) = Z (256 * j + l.val))
    (hs : ∀ l : Fin 256, s (ix2 r l) = M t Z (256 * j + l.val)) (hc : ∀ l : Fin 256, c (ix2 r l) = C t Z (256 * (j + 1))) (l : Fin 256) :
    eB z s tri c (ix2 r l) = Ideal.exp (Z (256 * j + l.val) - sp (Z (256 * j + l.val)) + C t Z (256 * j + l.val + 1)) := by
  rw [eB_apply, hz, hc, add_assoc, ← C_block t Z j hj l]
  simp only [hs, htri]

/-- The weighted values of block `j` of a row. -/
theorem pvB_row (j : ℕ) (a : FVec Ideal S512x256 .f32) (v : FVec Ideal S256x128 .bf16)
    (ha : ∀ l : Fin 256, a (ix2 r l) = A t Z (256 * j + l.val)) (hv : ∀ l : Fin 256, v (ix2 l d) = V (256 * j + l.val)) :
    pvB a v (ix2 r d) = ∑ p : Fin 256, A t Z (256 * j + p) * V (256 * j + p) := by
  rw [pvB_apply]
  exact Finset.sum_congr rfl fun l _ => congrArg₂ (· * ·) (ha l) (hv l)

/-- The sum of what a block keeps, of a row. -/
theorem rsB_row (j : ℕ) (s : FVec Ideal S512x256 .f32) (hs : ∀ l : Fin 256, s (ix2 r l) = M t Z (256 * j + l.val)) :
    rsB s (ix2 r 0) = ∑ p : Fin 256, M t Z (256 * j + p) := by
  rw [rsB_apply]
  exact Finset.sum_congr rfl fun l _ => hs l

/-- A block on the diagonal keeps the masked softplus. -/
theorem smB_row (o : ℕ) (ho : o ≤ 512) (j : ℕ) (ht : ∀ l, l + o < r.val ↔ 256 * j + l < t) (z : FVec Ideal S512x256 .f32)
    (hz : ∀ l : Fin 256, z (ix2 r l) = Z (256 * j + l.val)) (l : Fin 256) :
    smB (mskB (BitVec.ofNat 32 o)) z (ix2 r l) = M t Z (256 * j + l.val) := by
  rw [smB_apply o ho, hz]
  unfold Stick.M
  exact if_congr (ht l) rfl rfl

/-- A block before the diagonal keeps the softplus. -/
theorem spB_row (j : ℕ) (ht : 256 * (j + 1) ≤ t) (z : FVec Ideal S512x256 .f32)
    (hz : ∀ l : Fin 256, z (ix2 r l) = Z (256 * j + l.val)) (l : Fin 256) :
    spB z (ix2 r l) = M t Z (256 * j + l.val) := by
  rw [spB_apply, hz]
  unfold Stick.M
  have := l.isLt
  rw [if_pos (by omega)]

/-- The weights of a block on the diagonal under its mask. -/
theorem selB_row (o : ℕ) (ho : o ≤ 512) (j : ℕ) (ht : ∀ l, l + o < r.val ↔ 256 * j + l < t) (e : FVec Ideal S512x256 .f32)
    (he : ∀ l : Fin 256, e (ix2 r l) = Ideal.exp (Z (256 * j + l.val) - sp (Z (256 * j + l.val)) + C t Z (256 * j + l.val + 1))) (l : Fin 256) :
    select (mskB (BitVec.ofNat 32 o)) e zeroB (ix2 r l) = A t Z (256 * j + l.val) := by
  show Scalar.select (mskB (BitVec.ofNat 32 o) (ix2 r l)) (e (ix2 r l)) (zeroB (ix2 r l)) = _
  rw [mskB_apply o ho, he, zeroB_apply]
  unfold A
  by_cases h : l.val + o < r.val
  · rw [if_pos h, if_pos ((ht l).mp h)]; rfl
  · rw [if_neg h, if_neg (fun h' => h ((ht l).mpr h'))]; rfl

/-- The weights of a block before the diagonal. -/
theorem allB_row (j : ℕ) (ht : 256 * (j + 1) ≤ t) (l : Fin 256) :
    Ideal.exp (Z (256 * j + l.val) - sp (Z (256 * j + l.val)) + C t Z (256 * j + l.val + 1)) = A t Z (256 * j + l.val) := by
  unfold A
  have := l.isLt
  rw [if_pos (by omega)]

variable (b : Elt Ideal .f32) (q : Vec Ideal S1x512x128 .bf16) (x2 x3 : Vec Ideal S1x2048x128 .bf16)
  (hZ : ∀ s : Fin 2048, (∑ d : Fin 128, (q (ix3 0 r d) : EReal) * x2 (ix3 0 s d)) + b = Z s.val)
  (hV : ∀ s : Fin 2048, x3 (ix3 0 s d) = V s.val)

include hZ in
/-- The scores of block `j` of a row. -/
theorem zB_row (j : ℕ) (hj : j < 8) (l : Fin 256) :
    zB b (kvB x2 j hj) (shapeCast S512x128 q shapeCasts_S1x512x128_S512x128) (ix2 r l) = Z (256 * j + l.val) := by
  rw [zB_apply, ← hZ ⟨256 * j + l.val, by have := l.isLt; omega⟩]
  refine congrArg (· + b) (Finset.sum_congr rfl fun d _ => ?_)
  rw [kvB_apply]
  refine congrArg (fun x : EReal => x * _) ?_
  pointwise

include hV in
/-- The values of block `j` at a lane. -/
theorem vB_row (j : ℕ) (hj : j < 8) (l : Fin 256) : kvB x3 j hj (ix2 l d) = V (256 * j + l.val) := by
  rw [kvB_apply, hV]

/-- What the scratch holds of the row: the weighted values of the keys from `n` on, and the log of what they keep. -/
def Holds (s : St Ideal) (n : ℕ) : Prop := s.acc (ix3 0 r d) = acc t Z V n ∧ s.car (ix3 0 r 0) = C t Z n

include htri hZ hV in
/-- After the diagonal pair the row holds the keys from the pair's first block on. -/
theorem stM_row (j : ℕ) (hj : j + 1 < 8) (ht : t = 256 * j + r.val) :
    Holds t Z V r d (stM b q x2 x3 tri j hj) (256 * j) := by
  have hr := r.isLt
  have hj0 : j < 8 := Nat.lt_of_succ_lt hj
  have z1 := zB_row Z r b q x2 hZ (j + 1) hj
  have z0 := zB_row Z r b q x2 hZ j hj0
  have m1 := smB_row t Z r 256 (by norm_num) (j + 1) (fun l => by omega) _ z1
  have m0 := smB_row t Z r 0 (by norm_num) j (fun l => by omega) _ z0
  have c2 : C t Z (256 * (j + 1 + 1)) = 0 := C_late t Z _ (by omega)
  have a2 : acc t Z V (256 * (j + 1 + 1)) = 0 := acc_late t Z V _ (by omega)
  have c1 : c1M b q (kvB x2 (j + 1) hj) (ix2 r 0) = C t Z (256 * (j + 1)) := by
    rw [← C_step t Z (j + 1) hj, c2, ← rsB_row t Z r (j + 1) _ m1]
    unfold c1M
    pointwise
  constructor
  · show accM _ _ _ _ _ _ _ _ = _
    rw [← acc_step t Z V j hj0, ← acc_step t Z V (j + 1) hj, a2, zero_add,
      ← pvB_row t Z V r d (j + 1) _ _ (selB_row t Z r 256 (by norm_num) (j + 1) (fun l => by omega) _
        (eB_row t Z r tri htri (j + 1) hj _ _ zeroB z1 m1 (fun l => by rw [zeroB_apply, c2]))) (vB_row V d x3 hV (j + 1) hj),
      ← pvB_row t Z V r d j _ _ (selB_row t Z r 0 (by norm_num) j (fun l => by omega) _
        (eB_row t Z r tri htri j hj0 _ _ (broadcastTo S512x256 (c1M b q (kvB x2 (j + 1) hj)) broadcasts_S512x1_S512x256) z0 m0
          (fun l => by rw [← c1]; pointwise))) (vB_row V d x3 hV j hj0)]
    unfold accM
    pointwise
  · show carM _ _ _ _ _ = _
    rw [← C_step t Z j hj0, ← c1, ← rsB_row t Z r j _ m0]
    unfold carM
    pointwise

include htri hZ hV in
/-- After a pair before the diagonal the row holds the keys from the pair's first block on. -/
theorem stU_row (j : ℕ) (hj : j + 1 < 8) (ht : 256 * (j + 1 + 1) ≤ t) (s : St Ideal) (hs : Holds t Z V r d s (256 * (j + 1 + 1))) :
    Holds t Z V r d (stU b q x2 x3 tri j hj s) (256 * j) := by
  have hr := r.isLt
  have hj0 : j < 8 := Nat.lt_of_succ_lt hj
  have z1 := zB_row Z r b q x2 hZ (j + 1) hj
  have z0 := zB_row Z r b q x2 hZ j hj0
  have m1 := spB_row t Z r (j + 1) ht _ z1
  have m0 := spB_row t Z r j (by omega) _ z0
  obtain ⟨ha, hc⟩ := hs
  have c1 : c1U b q (kvB x2 (j + 1) hj) s.car (ix2 r 0) = C t Z (256 * (j + 1)) := by
    rw [← C_step t Z (j + 1) hj, ← hc, ← rsB_row t Z r (j + 1) _ m1]
    unfold c1U
    pointwise
  constructor
  · show accU _ _ _ _ _ _ _ _ _ _ = _
    rw [← acc_step t Z V j hj0, ← acc_step t Z V (j + 1) hj, ← ha, add_assoc,
      ← pvB_row t Z V r d (j + 1) _ _ (fun l => (eB_row t Z r tri htri (j + 1) hj _ _
          (broadcastTo S512x256 (shapeCast S512x1 s.car shapeCasts_S1x512x1_S512x1) broadcasts_S512x1_S512x256) z1 m1
          (fun l => by rw [← hc]; pointwise) l).trans (allB_row t Z (j + 1) ht l)) (vB_row V d x3 hV (j + 1) hj),
      ← pvB_row t Z V r d j _ _ (fun l => (eB_row t Z r tri htri j hj0 _ _
          (broadcastTo S512x256 (c1U b q (kvB x2 (j + 1) hj) s.car) broadcasts_S512x1_S512x256) z0 m0
          (fun l => by rw [← c1]; pointwise) l).trans (allB_row t Z j (by omega) l)) (vB_row V d x3 hV j hj0)]
    unfold accU
    pointwise
  · show carU _ _ _ _ _ _ = _
    rw [← C_step t Z j hj0, ← c1, ← rsB_row t Z r j _ m0]
    unfold carU
    pointwise

end Row

end Cert.KernelIdeal.Blocks
-- ==== Proof.Points.lean ====
/- The blocks that a grid point reads, at the places of the arrays. -/
module

public import proofs.«01_k».proof.Proof.Pointwise
public import proofs.«01_k».proof.Proof.Gen.KernelIdeal.Value
public import Idealize.ShloMosaic.Lib.Pipeline.ValueKit.Point

@[expose] public section

noncomputable section

namespace Cert.KernelIdeal.Blocks

open Idealize.ShloMosaic Idealize.ShloMosaic.TcCoe Cert.KernelIdeal Cert.KernelIdeal.Gen Cert.Stick

variable (m : (ℓ : Loc nD τ sig) → Buf (Elt Ideal) ℓ) (c : Dev nD)

theorem e0 : ∀ t : Fin cfg0.N, win0_0.index t = ![0] := (by decide +kernel : ∀ t : Fin grid0.N, _)
theorem e1 : ∀ t : Fin cfg0.N, win0_1.index t = ![t.val / 32, t.val % 4, t.val / 4 % 8] := (by decide +kernel : ∀ t : Fin grid0.N, _)
theorem e2 : ∀ t : Fin cfg0.N, win0_2.index t = ![t.val / 32, 0, t.val / 4 % 8] := (by decide +kernel : ∀ t : Fin grid0.N, _)
theorem e3 : ∀ t : Fin cfg0.N, win0_3.index t = ![t.val / 32, 0, t.val / 4 % 8] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 32, t.val % 4, t.val / 4 % 8] := (by decide +kernel : ∀ t : Fin grid0.N, _)
theorem ec : ∀ t : Fin cfg0.N, ((grid0.coords t) 1).val = t.val / 4 % 8 := (by decide +kernel : ∀ t : Fin grid0.N, _)

/-- The queries, the keys, the values and the biases that the program is given. -/
def argQ : Arr := m ((c : Thread nD τ).loc main_arg0)
@[inherit_doc argQ] def argK : Arr := m ((c : Thread nD τ).loc main_arg1)
@[inherit_doc argQ] def argV : Arr := m ((c : Thread nD τ).loc main_arg2)
@[inherit_doc argQ] def argB : (⟨1, ![16]⟩ : Shape).Idx → EReal := m ((c : Thread nD τ).loc main_arg3)

/-- A block of the queries, at its place: an eighth of the queries given. -/
theorem iblk1 (t : Fin cfg0.N) (r : Fin 512) (d : Fin 128) :
    (iblk m c 1 t (ix3 0 r d) : EReal) = argQ m c
      (ix3 ⟨t.val / 32, by have := t.isLt; change t.val < 256 at this; omega⟩ ⟨512 * (t.val % 4) + r.val, by have := r.isLt; omega⟩
        ⟨128 * (t.val / 4 % 8) + d.val, by have := d.isLt; omega⟩) * Ideal.ofBits .f32 0x3E000000#32 := by
  unfold argQ
  blk_ext! [iblk, e1 t]

/-- A block of the keys, at its place. -/
theorem iblk2 (t : Fin cfg0.N) (s : Fin 2048) (d : Fin 128) :
    iblk m c 2 t (ix3 0 s d) = argK m c
      (ix3 ⟨t.val / 32, by have := t.isLt; change t.val < 256 at this; omega⟩ s
        ⟨128 * (t.val / 4 % 8) + d.val, by have := d.isLt; omega⟩)  := by
  unfold argK
  blk_ext! [iblk, e2 t]

/-- A block of the values, at its place. -/
theorem iblk3 (t : Fin cfg0.N) (s : Fin 2048) (d : Fin 128) :
    iblk m c 3 t (ix3 0 s d) = argV m c
      (ix3 ⟨t.val / 32, by have := t.isLt; change t.val < 256 at this; omega⟩ s
        ⟨128 * (t.val / 4 % 8) + d.val, by have := d.isLt; omega⟩)  := by
  unfold argV
  blk_ext! [iblk, e3 t]

/-- The triangle of minus ones that the program prepares. -/
theorem iblk4 (t : Fin cfg0.N) (p l : Fin 256)  :
    iblk m c 4 t (ix2 p l) = if l < p then (-1 : EReal) else 0  := by
  blk_simp [iblk, e4 t]
  entry_read
  pointwise
  have h0 : (((View.whole main_v11).slice (win0_4.rect t)).emb (ix2 p l) 0).val = p.val := by blk_simp [e4 t]
  have h1 : (((View.whole main_v11).slice (win0_4.rect t)).emb (ix2 p l) 1).val = l.val := by blk_simp [e4 t]
  rw [h0, h1]
  have hp := p.isLt
  have hl := l.isLt
  have hc : IntOp.cmpi .sgt (BitVec.ofNat 32 p.val) (BitVec.ofNat 32 l.val) = if l < p then 1#1 else 0#1 := by
    have hh : BitVec.slt (BitVec.ofNat 32 l.val) (BitVec.ofNat 32 p.val) = decide (l.val < p.val) := by
      rw [BitVec.slt, BitVec.toInt_ofNat', BitVec.toInt_ofNat']
      congr 1
      apply propext
      rw [Int.bmod_eq_of_le (by omega) (by omega), Int.bmod_eq_of_le (by omega) (by omega)]
      omega
    unfold IntOp.cmpi
    simp only [hh]
    by_cases h : l.val < p.val
    · rw [if_pos (show l < p from h)]; simp [h]
    · rw [if_neg (show ¬ l < p from h)]; simp [h]
  rw [hc]
  split
  · show -(((1#1).toNat : ℝ) : EReal) = -1
    simp
  · show -(((0#1).toNat : ℝ) : EReal) = 0
    simp

theorem biasB_eq (t : Fin cfg0.N) (n : Fin 2) :
    biasB (grid0.coords t) n (iblk m c 0 t) = argB m c (ix1 ⟨2 * (t.val / 4 % 8) + n.val, by have := n.isLt; omega⟩) := by
  unfold biasB
  refine (View.ld_unit_apply_of _ _ _ _ _ (ix1 ⟨2 * (t.val / 4 % 8) + n.val, by have := n.isLt; omega⟩) ?_).trans ?_
  · intro a
    have e := congrFun (k0_off1_eq (grid0.coords t) n) 0
    rw [ec t] at e
    match a with
    | ⟨0, _⟩ => exact e.symm
  · unfold argB
    blk_ext! [iblk, e0 t]

end Cert.KernelIdeal.Blocks
-- ==== Proof.Result.lean ====
/- The block that a grid point writes: the attention's rows of two heads. -/
module

public import proofs.«01_k».proof.Proof.Points
public import Idealize.ShloMosaic.Lib.Pipeline.ValueKit.Geometry

@[expose] public section

noncomputable section

namespace Cert.KernelIdeal.Blocks

open Idealize.ShloMosaic Idealize.ShloMosaic.TcCoe Cert.KernelIdeal Cert.KernelIdeal.Gen Cert.Stick

/-- The two ways of naming a place of an array. -/
theorem ix3_same {a b c : ℕ} (i : Fin a) (j : Fin b) (k : Fin c) : (ix3 i j k : (⟨3, ![a, b, c]⟩ : Shape).Idx) = ValueIdx.ix3 i j k := by
  funext x; match x with | ⟨0, _⟩ => rfl | ⟨1, _⟩ => rfl | ⟨2, _⟩ => rfl

theorem ix1_same {a : ℕ} (i : Fin a) : (ix1 i : (⟨1, ![a]⟩ : Shape).Idx) = ValueIdx.ix1 i := by
  funext x; match x with | ⟨0, _⟩ => rfl

/-- The eighth. -/
theorem ofBits_eighth : Ideal.ofBits .f32 0x3E000000#32 = ((1 / 8 : ℝ) : EReal) := by
  simp [Ideal.ofBits, Ideal.ieee, -EReal.coe_mul]
  norm_num

theorem eighth_nonneg : 0 ≤ Ideal.ofBits .f32 0x3E000000#32 := by
  rw [ofBits_eighth]; exact EReal.coe_nonneg.2 (by norm_num)

theorem eighth_ne_top : Ideal.ofBits .f32 0x3E000000#32 ≠ ⊤ := by
  rw [ofBits_eighth]; exact EReal.coe_ne_top _

/-- With the upper lanes at nought the sum of a pair of heads is the lower head's. -/
theorem sum_low (a k : Fin 128 → EReal) :
    ∑ d : Fin 128, (if d.val < 64 then a d else 0) * k d = ∑ d : Fin 64, a (Fin.castAdd 64 d) * k (Fin.castAdd 64 d) := by
  refine (Fin.sum_univ_add (a := 64) (b := 64) fun d : Fin (64 + 64) => (if d.val < 64 then a d else 0) * k d).trans ?_
  have h2 : ∑ i : Fin 64, (if (Fin.natAdd 64 i : Fin (64 + 64)).val < 64 then a (Fin.natAdd 64 i) else 0) * k (Fin.natAdd 64 i) = 0 := by
    refine Finset.sum_eq_zero fun i _ => ?_
    rw [if_neg (by simp), zero_mul]
  rw [h2, add_zero]
  refine Finset.sum_congr rfl fun i _ => ?_
  rw [if_pos (by simp)]

/-- With the lower lanes at nought the sum of a pair of heads is the upper head's. -/
theorem sum_high (a k : Fin 128 → EReal) :
    ∑ d : Fin 128, (if d.val < 64 then 0 else a d) * k d = ∑ d : Fin 64, a (Fin.natAdd 64 d) * k (Fin.natAdd 64 d) := by
  refine (Fin.sum_univ_add (a := 64) (b := 64) fun d : Fin (64 + 64) => (if d.val < 64 then 0 else a d) * k d).trans ?_
  have h2 : ∑ i : Fin 64, (if (Fin.castAdd 64 i : Fin (64 + 64)).val < 64 then 0 else a (Fin.castAdd 64 i)) * k (Fin.castAdd 64 i) = 0 := by
    refine Finset.sum_eq_zero fun i _ => ?_
    rw [if_pos (by simp), zero_mul]
  rw [h2, zero_add]
  refine Finset.sum_congr rfl fun i _ => ?_
  rw [if_neg (by simp)]

/-- The product of a query's lower half with a key's row. -/
theorem head_low (x1 : (⟨3, ![1, 512, 128]⟩ : Shape).Idx → EReal) (x2 : (⟨3, ![1, 2048, 128]⟩ : Shape).Idx → EReal) (r : Fin 512) (s : Fin 2048) :
    ∑ d : Fin 128, (k0_pay309 (F := Ideal) x1 (ix3 0 r d) : EReal) * x2 (ix3 0 s d)
      = ∑ d : Fin 64, x1 (ix3 0 r (Fin.castAdd 64 d)) * x2 (ix3 0 s (Fin.castAdd 64 d)) := by
  rw [Finset.sum_congr rfl fun d _ => congrArg (· * x2 (ix3 0 s d)) (pay309_apply x1 r d)]
  exact sum_low (fun d => x1 (ix3 0 r d)) (fun d => x2 (ix3 0 s d))

/-- The product of a query's upper half with a key's row. -/
theorem head_high (x1 : (⟨3, ![1, 512, 128]⟩ : Shape).Idx → EReal) (x2 : (⟨3, ![1, 2048, 128]⟩ : Shape).Idx → EReal) (r : Fin 512) (s : Fin 2048) :
    ∑ d : Fin 128, (k0_pay310 (F := Ideal) x1 (ix3 0 r d) : EReal) * x2 (ix3 0 s d)
      = ∑ d : Fin 64, x1 (ix3 0 r (Fin.natAdd 64 d)) * x2 (ix3 0 s (Fin.natAdd 64 d)) := by
  rw [Finset.sum_congr rfl fun d _ => congrArg (· * x2 (ix3 0 s d)) (pay310_apply x1 r d)]
  exact sum_high (fun d => x1 (ix3 0 r d)) (fun d => x2 (ix3 0 s d))

variable (m : (ℓ : Loc nD τ sig) → Buf (Elt Ideal) ℓ) (c : Dev nD) (t : Fin cfg0.N)

/-- The batch of a grid point, the row of a query, and the head. -/
def pB : Fin 8 := ⟨t.val / 32, by have := t.isLt; change t.val < 256 at this; omega⟩
@[inherit_doc pB] def pT (r : Fin 512) : Fin 2048 := ⟨512 * (t.val % 4) + r.val, by have := r.isLt; omega⟩
@[inherit_doc pB] def pH (n : Fin 2) : Fin 16 := ⟨2 * (t.val / 4 % 8) + n.val, by have := n.isLt; omega⟩

/-- The scores of a grid point's query rows. -/
abbrev pZ (n : Fin 2) (r : Fin 512) : ℕ → EReal := score (argQ m c) (argK m c) (argB m c) (pB t) (pH t n) (pT t r)

/-- The lower head's scores. -/
theorem score_low (r : Fin 512) (s : Fin 2048) :
    (∑ d : Fin 128, (k0_pay309 (iblk m c 1 t) (ix3 0 r d) : EReal) * iblk m c 2 t (ix3 0 s d)) + biasB (grid0.coords t) 0 (iblk m c 0 t)
      = pZ m c t 0 r s.val := by
  unfold pZ score
  rw [biasB_eq, key_val, sum_mul_of_nonneg _ _ _ eighth_nonneg eighth_ne_top]
  refine congrArg₂ (· + ·) ?_ (congrArg (argB m c) (ix1_same _))
  refine (head_low _ _ r s).trans ?_
  refine Finset.sum_congr rfl fun d _ => ?_
  rw [iblk1, iblk2, mul_right_comm]
  refine congrArg (· * _) (congrArg₂ (· * ·) (congrArg (argQ m c) ?_) (congrArg (argK m c) ?_))
  · rw [ix3_same]
    refine congrArg (ValueIdx.ix3 _ _) (Fin.ext ?_)
    show 128 * (t.val / 4 % 8) + d.val = 64 * (2 * (t.val / 4 % 8) + 0) + d.val
    omega
  · rw [ix3_same]
    refine congrArg (ValueIdx.ix3 _ _) (Fin.ext ?_)
    show 128 * (t.val / 4 % 8) + d.val = 64 * (2 * (t.val / 4 % 8) + 0) + d.val
    omega

/-- The upper head's scores. -/
theorem score_high (r : Fin 512) (s : Fin 2048) :
    (∑ d : Fin 128, (k0_pay310 (iblk m c 1 t) (ix3 0 r d) : EReal) * iblk m c 2 t (ix3 0 s d)) + biasB (grid0.coords t) 1 (iblk m c 0 t)
      = pZ m c t 1 r s.val := by
  unfold pZ score
  rw [biasB_eq, key_val, sum_mul_of_nonneg _ _ _ eighth_nonneg eighth_ne_top]
  refine congrArg₂ (· + ·) ?_ (congrArg (argB m c) (ix1_same _))
  refine (head_high _ _ r s).trans ?_
  refine Finset.sum_congr rfl fun d _ => ?_
  rw [iblk1, iblk2, mul_right_comm]
  refine congrArg (· * _) (congrArg₂ (· * ·) (congrArg (argQ m c) ?_) (congrArg (argK m c) ?_))
  · rw [ix3_same]
    refine congrArg (ValueIdx.ix3 _ _) (Fin.ext ?_)
    show 128 * (t.val / 4 % 8) + (64 + d.val) = 64 * (2 * (t.val / 4 % 8) + 1) + d.val
    omega
  · rw [ix3_same]
    refine congrArg (ValueIdx.ix3 _ _) (Fin.ext ?_)
    show 128 * (t.val / 4 % 8) + (64 + d.val) = 64 * (2 * (t.val / 4 % 8) + 1) + d.val
    omega

/-- The lower head's values. -/
theorem value_low (s : Fin 2048) (d : Fin 128) (hd : d.val < 64) :
    (iblk m c 3 t (ix3 0 s d) : EReal) = value (argV m c) (pB t) (pH t 0) ⟨d.val, hd⟩ s.val := by
  unfold value
  rw [iblk3, key_val, ix3_same]
  refine congrArg (argV m c) (congrArg (ValueIdx.ix3 _ _) (Fin.ext ?_))
  show 128 * (t.val / 4 % 8) + d.val = 64 * (2 * (t.val / 4 % 8) + 0) + d.val
  omega

/-- The upper head's values. -/
theorem value_high (s : Fin 2048) (d : Fin 128) (hd : ¬ d.val < 64) :
    (iblk m c 3 t (ix3 0 s d) : EReal) = value (argV m c) (pB t) (pH t 1) ⟨d.val - 64, by have := d.isLt; omega⟩ s.val := by
  unfold value
  rw [iblk3, key_val, ix3_same]
  refine congrArg (argV m c) (congrArg (ValueIdx.ix3 _ _) (Fin.ext ?_))
  show 128 * (t.val / 4 % 8) + d.val = 64 * (2 * (t.val / 4 % 8) + 1) + (d.val - 64)
  omega

/-- The attention, as an array. -/
def attnArr (q k v : Arr) (bias : (⟨1, ![16]⟩ : Shape).Idx → EReal) : Arr := fun i =>
  attn q k v bias (i 0) (i 1) ⟨(i 2).val / 64, by have h : (i 2).val < 1024 := (i 2).isLt; omega⟩ ⟨(i 2).val % 64, Nat.mod_lt _ (by norm_num)⟩

/-- A block of the attention: the rows of a pair of heads, from the two accumulators that hold them. -/
theorem block_row (a0 a1 : (⟨3, ![1, 512, 128]⟩ : Shape).Idx → EReal) (r : Fin 512) (d : Fin 128)
    (h0 : ∀ hd : d.val < 64, a0 (ix3 0 r d) = acc (pT t r).val (pZ m c t 0 r) (value (argV m c) (pB t) (pH t 0) ⟨d.val, hd⟩) 0)
    (h1 : ∀ hd : ¬ d.val < 64, a1 (ix3 0 r d) = acc (pT t r).val (pZ m c t 1 r) (value (argV m c) (pB t) (pH t 1) ⟨d.val - 64, by have := d.isLt; omega⟩) 0) :
    (k0_pay9 (F := Ideal) k0_pay308 a0 a1 (ix3 0 r d) : EReal)
      = attnArr (argQ m c) (argK m c) (argV m c) (argB m c) (ix3 (pB t) (pT t r) ⟨128 * (t.val / 4 % 8) + d.val, by have := d.isLt; omega⟩) := by
  have hd' := d.isLt
  refine (pay9_apply a0 a1 r d).trans ?_
  unfold attnArr attn
  by_cases hd : d.val < 64
  · rw [if_pos hd, h0 hd]
    have e1 : (pH t 0) = ⟨(128 * (t.val / 4 % 8) + d.val) / 64, by omega⟩ := Fin.ext (by show 2 * (t.val / 4 % 8) + 0 = _; simp only; omega)
    have e2 : (⟨d.val, hd⟩ : Fin 64) = ⟨(128 * (t.val / 4 % 8) + d.val) % 64, Nat.mod_lt _ (by norm_num)⟩ := Fin.ext (by simp only; omega)
    unfold pZ
    rw [e1, e2]
    rfl
  · rw [if_neg hd, h1 hd]
    have e1 : (pH t 1) = ⟨(128 * (t.val / 4 % 8) + d.val) / 64, by omega⟩ := Fin.ext (by show 2 * (t.val / 4 % 8) + 1 = _; simp only; omega)
    have e2 : (⟨d.val - 64, by omega⟩ : Fin 64) = ⟨(128 * (t.val / 4 % 8) + d.val) % 64, Nat.mod_lt _ (by norm_num)⟩ := Fin.ext (by simp only; omega)
    unfold pZ
    rw [e1, e2]
    rfl

/-- The sums before the diagonal tile are what is left of it. -/
theorem tri_fact : ∀ p l : Fin 256, (iblk m c 4 t (ix2 p l) : EReal) = if l < p then (-1 : EReal) else 0 := fun p l => iblk4 m c t p l

/-- The block of step 0 of the queries is the attention there. -/
theorem point_A (h : t.val % 4 = 0) (c0) (c1) (c2) (c3) (r : Fin 512) (d : Fin 128) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) c0 c1 c2 c3 (iblk m c 0 t) (iblk m c 1 t) (iblk m c 2 t) (iblk m c 3 t) (iblk m c 4 t) (ix3 0 r d) : EReal)
      = attnArr (argQ m c) (argK m c) (argV m c) (argB m c) (ix3 (pB t) (pT t r) ⟨128 * (t.val / 4 % 8) + d.val, by have := d.isLt; omega⟩) := by
  have ht : (pT t r).val = 512 * (t.val % 4) + r.val := rfl
  rw [out_A]
  refine block_row m c t _ _ r d (fun hd => ?_) fun hd => ?_
  · exact (stM_row (pT t r).val _ _ r d _ (tri_fact m c t) _ _ _ _ (score_low m c t r) (fun s => value_low m c t s d hd) 0 _ (by omega)).1
  · exact (stM_row (pT t r).val _ _ r d _ (tri_fact m c t) _ _ _ _ (score_high m c t r) (fun s => value_high m c t s d hd) 0 _ (by omega)).1

/-- The block of step 1 of the queries is the attention there. -/
theorem point_B (h : t.val % 4 = 1) (c0) (c1) (c2) (c3) (r : Fin 512) (d : Fin 128) :
    (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) c0 c1 c2 c3 (iblk m c 0 t) (iblk m c 1 t) (iblk m c 2 t) (iblk m c 3 t) (iblk m c 4 t) (ix3 0 r d) : EReal)
      = attnArr (argQ m c) (argK m c) (argV m c) (argB m c) (ix3 (pB t) (pT t r) ⟨128 * (t.val / 4 % 8) + d.val, by have := d.isLt; omega⟩) := by
  have ht : (pT t r).val = 512 * (t.val % 4) + r.val := rfl
  rw [out_B]
  refine block_row m c t _ _ r d (fun hd => ?_) fun hd => ?_
  · exact (stU_row (pT t r).val _ _ r d _ (tri_fact m c t) _ _ _ _ (score_low m c t r) (fun s => value_low m c t s d hd) 0 _ (by omega) _ (stM_row (pT t r).val _ _ r d _ (tri_fact m c t) _ _ _ _ (score_low m c t r) (fun s => value_low m c t s d hd) 2 _ (by omega))).1
  · exact (stU_row (pT t r).val _ _ r d _ (tri_fact m c t) _ _ _ _ (score_high m c t r) (fun s => value_high m c t s d hd) 0 _ (by omega) _ (stM_row (pT t r).val _ _ r d _ (tri_fact m c t) _ _ _ _ (score_high m c t r) (fun s => value_high m c t s d hd) 2 _ (by omega))).1

/-- The block of step 2 of the queries is the attention there. -/
theorem point_C (h : t.val % 4 = 2) (c0) (c1) (c2) (c3) (r : Fin 512) (d : Fin 128) :
    (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) c0 c1 c2 c3 (iblk m c 0 t) (iblk m c 1 t) (iblk m c 2 t) (iblk m c 3 t) (iblk m c 4 t) (ix3 0 r d) : EReal)
      = attnArr (argQ m c) (argK m c) (argV m c) (argB m c) (ix3 (pB t) (pT t r) ⟨128 * (t.val / 4 % 8) + d.val, by have := d.isLt; omega⟩) := by
  have ht : (pT t r).val = 512 * (t.val % 4) + r.val := rfl
  rw [out_C]
  refine block_row m c t _ _ r d (fun hd => ?_) fun hd => ?_
  · exact (stU_row (pT t r).val _ _ r d _ (tri_fact m c t) _ _ _ _ (score_low m c t r) (fun s => value_low m c t s d hd) 0 _ (by omega) _ (stU_row (pT t r).val _ _ r d _ (tri_fact m c t) _ _ _ _ (score_low m c t r) (fun s => value_low m c t s d hd) 2 _ (by omega) _ (stM_row (pT t r).val _ _ r d _ (tri_fact m c t) _ _ _ _ (score_low m c t r) (fun s => value_low m c t s d hd) 4 _ (by omega)))).1
  · exact (stU_row (pT t r).val _ _ r d _ (tri_fact m c t) _ _ _ _ (score_high m c t r) (fun s => value_high m c t s d hd) 0 _ (by omega) _ (stU_row (pT t r).val _ _ r d _ (tri_fact m c t) _ _ _ _ (score_high m c t r) (fun s => value_high m c t s d hd) 2 _ (by omega) _ (stM_row (pT t r).val _ _ r d _ (tri_fact m c t) _ _ _ _ (score_high m c t r) (fun s => value_high m c t s d hd) 4 _ (by omega)))).1

/-- The block of step 3 of the queries is the attention there. -/
theorem point_D (h : t.val % 4 = 3) (c0) (c1) (c2) (c3) (r : Fin 512) (d : Fin 128) :
    (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) c0 c1 c2 c3 (iblk m c 0 t) (iblk m c 1 t) (iblk m c 2 t) (iblk m c 3 t) (iblk m c 4 t) (ix3 0 r d) : EReal)
      = attnArr (argQ m c) (argK m c) (argV m c) (argB m c) (ix3 (pB t) (pT t r) ⟨128 * (t.val / 4 % 8) + d.val, by have := d.isLt; omega⟩) := by
  have ht : (pT t r).val = 512 * (t.val % 4) + r.val := rfl
  rw [out_D]
  refine block_row m c t _ _ r d (fun hd => ?_) fun hd => ?_
  · exact (stU_row (pT t r).val _ _ r d _ (tri_fact m c t) _ _ _ _ (score_low m c t r) (fun s => value_low m c t s d hd) 0 _ (by omega) _ (stU_row (pT t r).val _ _ r d _ (tri_fact m c t) _ _ _ _ (score_low m c t r) (fun s => value_low m c t s d hd) 2 _ (by omega) _ (stU_row (pT t r).val _ _ r d _ (tri_fact m c t) _ _ _ _ (score_low m c t r) (fun s => value_low m c t s d hd) 4 _ (by omega) _ (stM_row (pT t r).val _ _ r d _ (tri_fact m c t) _ _ _ _ (score_low m c t r) (fun s => value_low m c t s d hd) 6 _ (by omega))))).1
  · exact (stU_row (pT t r).val _ _ r d _ (tri_fact m c t) _ _ _ _ (score_high m c t r) (fun s => value_high m c t s d hd) 0 _ (by omega) _ (stU_row (pT t r).val _ _ r d _ (tri_fact m c t) _ _ _ _ (score_high m c t r) (fun s => value_high m c t s d hd) 2 _ (by omega) _ (stU_row (pT t r).val _ _ r d _ (tri_fact m c t) _ _ _ _ (score_high m c t r) (fun s => value_high m c t s d hd) 4 _ (by omega) _ (stM_row (pT t r).val _ _ r d _ (tri_fact m c t) _ _ _ _ (score_high m c t r) (fun s => value_high m c t s d hd) 6 _ (by omega))))).1

/-- What a grid point leaves in the result's block. -/
theorem after_row (r : Fin 512) (d : Fin 128) :
    ((dats m 0 c).after 5 t (ix3 0 r d) : EReal)
      = attnArr (argQ m c) (argK m c) (argV m c) (argB m c) (ix3 (pB t) (pT t r) ⟨128 * (t.val / 4 % 8) + d.val, by have := d.isLt; omega⟩) := by
  rw [after0_5]
  have h : t.val % 4 = 0 ∨ t.val % 4 = 1 ∨ t.val % 4 = 2 ∨ t.val % 4 = 3 := by omega
  rcases h with h | h | h | h
  · rw [outsAt0_A m c t h (by omega) (by omega) (by omega)]; exact point_A m c t h _ _ _ _ r d
  · rw [outsAt0_B m c t (by omega) h (by omega) (by omega)]; exact point_B m c t h _ _ _ _ r d
  · rw [outsAt0_C m c t (by omega) (by omega) h (by omega)]; exact point_C m c t h _ _ _ _ r d
  · rw [outsAt0_D m c t (by omega) (by omega) (by omega) h]; exact point_D m c t h _ _ _ _ r d

/-- The result after the run is the attention. -/
theorem result_eq : (dats m 0 c).arrAt 5 cfg0.N = attnArr (argQ m c) (argK m c) (argV m c) (argB m c) := by
  refine (dats m 0 c).arrAt_eq_of_covers 5 _ (by decide +kernel) fun t hf y => ?_
  blk_simp [e5 t]
  have hy : y = (ix3 0 (y 1) (y 2) : (⟨3, ![1, 512, 128]⟩ : Shape).Idx) := by
    funext a
    match a with
    | ⟨0, _⟩ => exact Subsingleton.elim (α := Fin 1) _ _
    | ⟨1, _⟩ => rfl
    | ⟨2, _⟩ => rfl
  have he : (win0_5.blk t).view.emb y = (ix3 (pB t) (pT t (y 1)) ⟨128 * (t.val / 4 % 8) + (y 2).val, by have : (y 2).val < 128 := (y 2).isLt; omega⟩ : (⟨3, ![8, 2048, 1024]⟩ : Shape).Idx) := by
    have hy0 : (y 0).val < 1 := (y 0).isLt
    funext a
    apply Fin.ext
    match a with
    | ⟨0, _⟩ => blk_simp [e5 t]; show _ = t.val / 32; omega
    | ⟨1, _⟩ => blk_simp [e5 t]; show t.val % 4 * 512 + (y 1).val = 512 * (t.val % 4) + (y 1).val; omega
    | ⟨2, _⟩ => blk_simp [e5 t]; show t.val / 4 % 8 * 128 + (y 2).val = 128 * (t.val / 4 % 8) + (y 2).val; omega
  refine Eq.trans ?_ ((after_row m c t (y 1) (y 2)).trans (congrArg (attnArr (argQ m c) (argK m c) (argV m c) (argB m c)) he.symm))
  exact congrArg ((dats m 0 c).after 5 t) hy

end Cert.KernelIdeal.Blocks
-- ==== Proof.Cumsum.lean ====
module

public import proofs.«01_k».proof.Proof.Gen.ReferenceIdeal.Read
public import Idealize.ShloMosaic.Lib.ValueIdxCore

@[expose] public section

noncomputable section

namespace Cert.Cumsum

open Cert.ReferenceIdeal Idealize.ShloMosaic Idealize.ShloMosaic.ValueIdx Finset

/-- A left fold of additions along all positions is the sum over the positions. -/
theorem foldl_add_eq_sum {n : ℕ} (g : Fin n → EReal) (v : EReal) :
    (List.finRange n).foldl (fun r i => r + g i) v = v + ∑ i : Fin n, g i := by
  have h : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [h, ← List.ofFn_eq_map, List.sum_ofFn]

/-- The window of a row: one position on the first three axes, all positions on the last. -/
abbrev W : Shape := ⟨4, ![1, 1, 1, 2048]⟩

/-- The positions of the window are the positions of its last axis. -/
def posEquiv : Fin 2048 ≃ W.Idx where
  toFun k := ix4 (0 : Fin 1) (0 : Fin 1) (0 : Fin 1) k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- All axes of a window's position but the last are zero. -/
theorem pos_zero (w : W.Idx) : (w 0).val = 0 ∧ (w 1).val = 0 ∧ (w 2).val = 0 :=
  ⟨Nat.lt_one_iff.mp (w 0).isLt, Nat.lt_one_iff.mp (w 1).isLt, Nat.lt_one_iff.mp (w 2).isLt⟩

/-- A sum of the positions from `s` on of a row that is continued by zeros is the sum of its entries from `s` on. -/
theorem sum_shift (X : ℕ → EReal) (s : ℕ) (hs : s ≤ 2048) :
    ∑ k : Fin 2048, (if s + k.val < 2048 then X (s + k.val) else 0) = ∑ s' ∈ Ico s 2048, X s' := by
  rw [Fin.sum_univ_eq_sum_range (fun k => if s + k < 2048 then X (s + k) else 0) 2048, Finset.sum_Ico_eq_sum_range]
  rw [← Finset.sum_filter]
  refine Finset.sum_congr ?_ fun _ _ => rfl
  ext k
  simp only [Finset.mem_filter, Finset.mem_range]
  omega

/-- The host's running sum along the last axis, from the far end: the entry at `s` is the sum of the entries from `s` on. -/
theorem reverse_cumsum (x : S8x16x2048x2048.Idx → EReal) (X : ℕ → EReal) (b : Fin 8) (h : Fin 16) (t s : Fin 2048)
    (hX : ∀ s' : Fin 2048, x (ix4 b h t s') = X s'.val) (v : EReal) (hv : v = 0)
    (hw : S8x16x2048x2048.ReduceWindows (![1, 1, 1, 2048] : Fin 4 → Nat) ![1, 1, 1, 1] ![0, 0, 0, 0] ![0, 0, 0, 2047] S8x16x2048x2048) :
    Ideal.hostReduceWindowAdd (s := S8x16x2048x2048) ![1, 1, 1, 2048] ![1, 1, 1, 1] ![0, 0, 0, 0] ![0, 0, 0, 2047] hw x v (ix4 b h t s)
      = ∑ s' ∈ Ico s.val 2048, X s' := by
  subst hv
  unfold Ideal.hostReduceWindowAdd Host.reduceWindow
  refine (foldl_add_eq_sum _ _).trans ?_
  rw [zero_add]
  refine (Finset.sum_congr rfl (g := fun n => (fun w : W.Idx => if s.val + (w 3).val < 2048 then X (s.val + (w 3).val) else 0) (W.rowMajor.symm n))
    fun n _ => ?_).trans ?_
  · change Fin W.numel at n
    obtain ⟨w0, w1, w2⟩ := pos_zero (W.rowMajor.symm n)
    by_cases hk : s.val + (W.rowMajor.symm n 3).val < 2048
    · show _ = (if s.val + (W.rowMajor.symm n 3).val < 2048 then X (s.val + (W.rowMajor.symm n 3).val) else 0)
      rw [if_pos hk, dif_pos]
      · rw [← hX ⟨s.val + (W.rowMajor.symm n 3).val, hk⟩]
        congr 1
        funext a
        apply Fin.ext
        match a with
        | ⟨0, _⟩ => show b.val * 1 + (W.rowMajor.symm n 0).val - 0 = b.val; omega
        | ⟨1, _⟩ => show h.val * 1 + (W.rowMajor.symm n 1).val - 0 = h.val; omega
        | ⟨2, _⟩ => show t.val * 1 + (W.rowMajor.symm n 2).val - 0 = t.val; omega
        | ⟨3, _⟩ => show s.val * 1 + (W.rowMajor.symm n 3).val - 0 = s.val + (W.rowMajor.symm n 3).val; omega
      · intro a
        have h0 := b.isLt
        have h1 := h.isLt
        have h2 := t.isLt
        match a with
        | ⟨0, _⟩ => show 0 ≤ b.val * 1 + (W.rowMajor.symm n 0).val ∧ b.val * 1 + (W.rowMajor.symm n 0).val - 0 < 8; omega
        | ⟨1, _⟩ => show 0 ≤ h.val * 1 + (W.rowMajor.symm n 1).val ∧ h.val * 1 + (W.rowMajor.symm n 1).val - 0 < 16; omega
        | ⟨2, _⟩ => show 0 ≤ t.val * 1 + (W.rowMajor.symm n 2).val ∧ t.val * 1 + (W.rowMajor.symm n 2).val - 0 < 2048; omega
        | ⟨3, _⟩ => show 0 ≤ s.val * 1 + (W.rowMajor.symm n 3).val ∧ s.val * 1 + (W.rowMajor.symm n 3).val - 0 < 2048; omega
    · show _ = (if s.val + (W.rowMajor.symm n 3).val < 2048 then X (s.val + (W.rowMajor.symm n 3).val) else 0)
      rw [if_neg hk, dif_neg]
      intro hin
      have h3 : s.val * 1 + (W.rowMajor.symm n 3).val - 0 < 2048 := (hin 3).2
      omega
  · rw [Equiv.sum_comp W.rowMajor.symm (fun w : W.Idx => if s.val + (w 3).val < 2048 then X (s.val + (w 3).val) else 0),
      ← Equiv.sum_comp posEquiv, ← sum_shift X s.val s.isLt.le]
    rfl

end Cert.Cumsum
-- ==== Proof.Reference.lean ====
/- What the reference computes: its result is the stick-breaking attention of the rows. -/
module

public import proofs.«01_k».proof.Proof.Cumsum
public import proofs.«01_k».proof.Proof.Rows

@[expose] public section

noncomputable section

namespace Cert.ReferenceIdeal.Rows

open Cert.ReferenceIdeal Cert.ReferenceIdeal.Gen Cert.ReferenceIdeal.Read Idealize.ShloMosaic Idealize.ShloMosaic.ValueIdx Cert.Stick

variable (x0 x1 x2 : (⟨S8x2048x1024, .f32⟩ : BufTy).Contents (Elt Ideal)) (x3 : (⟨S16, .f32⟩ : BufTy).Contents (Elt Ideal))

/-- Splitting the lanes into heads reads lane `d` of head `h` at its place among all lanes. -/
theorem split_lane (b : Fin 8) (t : Fin 2048) (h : Fin 16) (d : Fin 64) (a : Fin 3) :
    (idx_main_v0 (ix4 b t h d : S8x2048x16x64.Idx) a).val = ((ix3 b t (lane h d) : S8x2048x1024.Idx) a).val := by
  have hb := b.isLt
  have hh := h.isLt
  have ht := t.isLt
  have hd := d.isLt
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show (((b.val * 2048 + t.val) * 16 + h.val) * 64 + d.val) % 1024 = 64 * h.val + d.val; omega

/-- The scores of the reference. -/
theorem v10_eq (b : Fin 8) (h : Fin 16) (t s : Fin 2048) :
    val_main_v10 (F := Ideal) x0 x1 x3 (ix4 b h t s) = score x0 x1 x3 b h t s.val := by
  rw [val_main_v10_apply, val_main_v7_apply, val_main_v5_apply, val_main_v6_apply, val_main_cst_apply, val_main_v9_apply, val_main_v8_apply]
  have hb := b.isLt
  have hh := h.isLt
  have ht := t.isLt
  have hs := s.isLt
  show (_ * _ + _ : EReal) = _
  unfold score
  rw [key_val]
  refine congrArg₂ (· + ·) (congrArg₂ (· * ·) (Finset.sum_congr rfl fun d _ => ?_) rfl) (congrArg x3 (funext fun a => Fin.ext ?_))
  · have hd := d.isLt
    rw [val_main_v0_apply, val_main_v1_apply]
    refine congrArg₂ (· * ·) (congrArg x0 (funext fun a => Fin.ext ?_)) (congrArg x1 (funext fun a => Fin.ext ?_))
    · exact split_lane b t h d a
    · exact split_lane b s h d a
  · fin_cases a; simp

/-- The host's softplus, as it prints, is the softplus. -/
theorem softplus_eq (x : EReal) :
    Scalar.select (FloatOps.cmpf (F := Ideal) (φ := .f32) .une (x - 0) (x - 0)) (x + 0)
      (max x 0 + Ideal.log1p (Ideal.exp (-(max (x - 0) (-(x - 0)))))) = sp x := by
  have h0 : x - 0 = x := sub_zero x
  rw [h0]
  have hc : (FloatOps.cmpf (F := Ideal) (φ := .f32) .une x x) = 0#1 := by
    show Ideal.cmp .une x x = 0#1
    simp [Ideal.cmp]
  rw [hc, select_zero]
  unfold sp
  rw [zero_sub]
  rfl

/-- The first softplus of the reference, of the negated argument. -/
theorem softplus0 (i : S8x16x2048x2048.Idx) :
    val_main_call0_v1 (F := Ideal) x0 x1 x3 i = sp (val_main_call0_v0 (F := Ideal) x0 x1 x3 i) := by
  refine Eq.trans ?_ (softplus_eq _)
  rw [val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply,
    val_main_call0_call0_v3_apply, val_main_call0_call0_v1_apply, val_main_call0_call0_v0_apply, val_main_call0_call0_v2_apply,
    val_main_call0_call0_v5_apply, val_main_call0_call0_cst_apply]
  generalize val_main_call0_v0 (F := Ideal) x0 x1 x3 i = z
  have e : (FloatOps.ofBits .f32 0x00000000#32 : Ideal .f32) = (0 : EReal) := Ideal.ofBits_zero_f32
  rw [e]
  rfl

/-- The second softplus of the reference, of the negated argument. -/
theorem softplus3 (i : S8x16x2048x2048.Idx) :
    val_main_call3_v1 (F := Ideal) x0 x1 x3 i = sp (val_main_call3_v0 (F := Ideal) x0 x1 x3 i) := by
  refine Eq.trans ?_ (softplus_eq _)
  rw [val_main_call3_v1_apply, val_main_call3_call0_v4_apply, val_main_call3_call0_v6_apply, val_main_call3_call0_v11_apply,
    val_main_call3_call0_v10_apply, val_main_call3_call0_v9_apply, val_main_call3_call0_v8_apply, val_main_call3_call0_v7_apply,
    val_main_call3_call0_v3_apply, val_main_call3_call0_v1_apply, val_main_call3_call0_v0_apply, val_main_call3_call0_v2_apply,
    val_main_call3_call0_v5_apply, val_main_call3_call0_cst_apply]
  generalize val_main_call3_v0 (F := Ideal) x0 x1 x3 i = z
  have e : (FloatOps.ofBits .f32 0x00000000#32 : Ideal .f32) = (0 : EReal) := Ideal.ofBits_zero_f32
  rw [e]
  rfl

/-- The mask of the reference: the keys before the query. -/
theorem v15_eq (t s : Fin 2048) : val_main_v15 (F := Ideal) (ix2 t s) = if s.val < t.val then 1#1 else 0#1 := by
  rw [val_main_v15_apply, val_main_v13_apply, val_main_v14_apply, val_main_v11_apply, val_main_v12_apply, val_main_v3_apply, val_main_v4_apply]
  have ht := t.isLt
  have hs := s.isLt
  have e : (BitVec.ofNat 32 s.val).slt (BitVec.ofNat 32 t.val) = decide (s.val < t.val) := by
    rw [BitVec.slt_eq_decide, BitVec.toInt_eq_toNat_of_lt (by simp; omega), BitVec.toInt_eq_toNat_of_lt (by simp; omega)]
    simp
    constructor <;> intro h <;> omega
  show BitVec.ofBool ((BitVec.ofNat 32 s.val).slt (BitVec.ofNat 32 t.val)) = _
  rw [e]
  by_cases h : s.val < t.val <;> simp [h]

/-- The log of what is kept, of the reference: minus the softplus of the score before the query, zero from it on. -/
theorem v18_eq (b : Fin 8) (h : Fin 16) (t s : Fin 2048) :
    val_main_v18 (F := Ideal) x0 x1 x3 (ix4 b h t s) = if s.val < t.val then -sp (score x0 x1 x3 b h t s.val) else 0 := by
  have e1 : val_main_call1_v1 (F := Ideal) (ix4 b h t s) = if s.val < t.val then 1#1 else 0#1 := by
    rw [val_main_call1_v1_apply, ← v15_eq t s]
    exact congrArg (val_main_v15 (F := Ideal)) (by funext a; apply Fin.ext; fin_cases a <;> rfl)
  have e2 : val_main_v17 (F := Ideal) x0 x1 x3 (ix4 b h t s) = -sp (score x0 x1 x3 b h t s.val) := by
    rw [val_main_v17_apply, softplus0, val_main_call0_v0_apply, val_main_v16_apply, v10_eq]
    show -sp (- -_) = _
    rw [neg_neg]
  have e3 : val_main_call1_v2 (F := Ideal) (ix4 b h t s) = (0 : EReal) := by
    rw [val_main_call1_v2_apply, val_main_call1_v0_apply, val_main_cst_0_apply]
    exact Ideal.ofBits_zero_f32
  rw [val_main_v18_apply, e1, e2, e3]
  by_cases hs : s.val < t.val
  · rw [if_pos hs, if_pos hs]; rfl
  · rw [if_neg hs, if_neg hs]; rfl

/-- The running sum of the reference. -/
theorem v19_eq (b : Fin 8) (h : Fin 16) (t s : Fin 2048) :
    val_main_v19 (F := Ideal) x0 x1 x3 (ix4 b h t s)
      = ∑ s' ∈ Finset.Ico s.val 2048, if s' < t.val then -sp (score x0 x1 x3 b h t s') else 0 := by
  have hv : val_main_call2_v0 (F := Ideal) (Shape.Idx.first h_S_) = (0 : EReal) := by
    rw [val_main_call2_v0_apply, val_main_call2_cst_apply]
    exact Ideal.ofBits_zero_f32
  have hx := fun s' : Fin 2048 => v18_eq x0 x1 x3 b h t s'
  unfold val_main_v19
  generalize val_main_v18 (F := Ideal) x0 x1 x3 = x at hx
  generalize val_main_call2_v0 (F := Ideal) = v at hv
  have h1 := Cumsum.reverse_cumsum x (fun s' => if s' < t.val then -sp (score x0 x1 x3 b h t s') else 0) b h t s hx _ hv
    reduceWindows_S8x16x2048x2048_S8x16x2048x2048_w1s1p0_0_w1s1p0_0_w1s1p0_0_w2048s1p0_2047
  rw [Host.reduceWindowAdd, Ideal.hostReduceWindowAdd_def, hv]
  rw [hv] at h1
  exact h1

/-- The weights of the reference. -/
theorem v24_eq (b : Fin 8) (h : Fin 16) (t s : Fin 2048) :
    val_main_v24 (F := Ideal) x0 x1 x3 (ix4 b h t s) = if s.val < t.val then
        Ideal.exp (-sp (-score x0 x1 x3 b h t s.val) + ((∑ s' ∈ Finset.Ico s.val 2048, if s' < t.val then -sp (score x0 x1 x3 b h t s') else 0)
          - (if s.val < t.val then -sp (score x0 x1 x3 b h t s.val) else 0))) else 0 := by
  have e1 : val_main_call4_v1 (F := Ideal) (ix4 b h t s) = if s.val < t.val then 1#1 else 0#1 := by
    rw [val_main_call4_v1_apply, ← v15_eq t s]
    exact congrArg (val_main_v15 (F := Ideal)) (by funext a; apply Fin.ext; fin_cases a <;> rfl)
  have e3 : val_main_call4_v2 (F := Ideal) (ix4 b h t s) = (0 : EReal) := by
    rw [val_main_call4_v2_apply, val_main_call4_v0_apply, val_main_cst_1_apply]
    exact Ideal.ofBits_zero_f32
  rw [val_main_v24_apply, e1, e3, val_main_v23_apply, val_main_v22_apply, val_main_v20_apply, v19_eq, v18_eq, val_main_v21_apply,
    softplus3, val_main_call3_v0_apply, v10_eq]
  by_cases hs : s.val < t.val
  · simp only [if_pos hs]; rfl
  · simp only [if_neg hs]; rfl

/-- The result of the reference: at lane `d` of head `h`, the attention. -/
theorem v28_eq (b : Fin 8) (t : Fin 2048) (h : Fin 16) (d : Fin 64) :
    val_main_v28 (F := Ideal) x0 x1 x2 x3 (ix3 b t (lane h d)) = attn x0 x1 x2 x3 b t h d := by
  have hb := b.isLt
  have hh := h.isLt
  have ht := t.isLt
  have hd := d.isLt
  rw [val_main_v28_apply, val_main_v27_apply, val_main_v26_apply]
  have e : idx_main_v26 (idx_main_v27 (ix3 b t (lane h d))) = ix4 b h d t := by
    funext a
    apply Fin.ext
    match a with
    | ⟨0, _⟩ => show ((b.val * 2048 + t.val) * 1024 + (64 * h.val + d.val)) / 2097152 = b.val; omega
    | ⟨1, _⟩ => show ((b.val * 2048 + t.val) * 1024 + (64 * h.val + d.val)) / 64 % 16 = h.val; omega
    | ⟨2, _⟩ => show ((b.val * 2048 + t.val) * 1024 + (64 * h.val + d.val)) % 64 = d.val; omega
    | ⟨3, _⟩ => show ((b.val * 2048 + t.val) * 1024 + (64 * h.val + d.val)) / 1024 % 2048 = t.val; omega
  rw [e, val_main_v25_apply]
  unfold attn
  rw [← acc_eq_reference]
  show (∑ _, _ : EReal) = _
  refine Finset.sum_congr rfl fun s _ => ?_
  have hs := s.isLt
  refine congrArg₂ (· * ·) ?_ ?_
  · rw [val_main_v2_apply]
    unfold value
    rw [key_val]
    exact congrArg x2 (funext fun a => Fin.ext (split_lane b s h d a))
  · rw [← v24_eq]
    exact congrArg (val_main_v24 (F := Ideal) x0 x1 x3) (by funext a; apply Fin.ext; fin_cases a <;> rfl)

end Cert.ReferenceIdeal.Rows
-- ==== Proof.Algebraic.lean ====
/- The two programs give the same attention. -/
module

public import proofs.«01_k».proof.Defs
public import proofs.«01_k».proof.Proof.Result
public import proofs.«01_k».proof.Proof.Reference
public import proofs.«01_k».proof.Proof.Gen.ReferenceIdeal.Run

@[expose] public section

noncomputable section

namespace Cert.Attention

open Idealize.ShloMosaic Idealize.SL.Sem Cert.Stick Cert.KernelIdeal.Blocks

/-- The reference's result is the attention, as an array. -/
theorem reference_eq (q k v : Arr) (bias : (⟨1, ![16]⟩ : Shape).Idx → EReal) :
    Cert.ReferenceIdeal.Read.val_main_v28 (F := Ideal) q k v bias = attnArr q k v bias := by
  funext i
  have h2 : (i 2).val < 1024 := (i 2).isLt
  have hi : i = ValueIdx.ix3 (i 0) (i 1) (lane ⟨(i 2).val / 64, by omega⟩ ⟨(i 2).val % 64, Nat.mod_lt _ (by norm_num)⟩) := by
    funext a
    match a with
    | ⟨0, _⟩ => rfl
    | ⟨1, _⟩ => rfl
    | ⟨2, _⟩ =>
      apply Fin.ext
      show (i 2).val = 64 * ((i 2).val / 64) + (i 2).val % 64
      omega
  refine Eq.trans ?_ (Cert.ReferenceIdeal.Rows.v28_eq q k v bias (i 0) (i 1) ⟨(i 2).val / 64, by omega⟩ ⟨(i 2).val % 64, Nat.mod_lt _ (by norm_num)⟩)
  exact congrArg (Cert.ReferenceIdeal.Read.val_main_v28 (F := Ideal) q k v bias) hi

/-- Both programs run and leave the attention of the same arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => attnArr (argQ m c) (argK m c) (argV m c) (argB m c), ?_, ?_⟩
  · refine (θ_run _ _ _).mono (fun r h c => ?_) (Cert.KernelIdeal.Value.run_blocks m g)
    exact ⟨(h c).1.trans (result_eq m c), (h c).2⟩
  · refine (θ_run _ _ _).mono (fun r h c => ?_) (Cert.ReferenceIdeal.Value.run m' g')
    refine ⟨(h c).1.trans ?_, (h c).2⟩
    rw [Cert.ReferenceIdeal.Read.val_main_v28_eq, (hm c).1, (hm c).2.1, (hm c).2.2.1, (hm c).2.2.2]
    exact reference_eq (argQ m c) (argK m c) (argV m c) (argB m c)

end Cert.Attention

end
-- ==== Proof.FfnRun.lean ====
module

public import proofs.«01_k».proof.Proof.Gen.Kernel2Ideal.Frame
public import proofs.«01_k».proof.Proof.Gen.Kernel2Ideal.Skeleton

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point works on the first column half: the condition under which the body starts the accumulator. -/
abbrev firstHalf (i : grid0.Coords) : Prop := (Scalar.cmpi .ne (Scalar.extui (Scalar.cmpi .eq (BitVec.ofNat 32 (i 1).val) 0#32)) 0#32) = 1#1

set_option maxHeartbeats 1000000 in
/-- The run at a first column half: the body started with its inputs, the result tile and the halo scratch at known contents ends with the inputs and the result tile as they were and the other buffers at what the run stored. -/
noncomputable def runFirst (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : firstHalf i) (hc1 : ¬k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S512x1024 .f32) (C : Vec F S2x8x1408 .f32) :
    Σ' (L13 : List (View.Piece (Elt F) S8x1408 .f32)), Σ' (L16 : List (View.Piece (Elt F) S512x1024 .bf16)), Σ' (L17 : List (View.Piece (Elt F) S512x1024 .f32)), { L18 : List (View.Piece (Elt F) S2x8x1408 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ arg18.view.loc (c : Thread nD τ) ↦[arg18.view.set]{fullShare} arg18.view.writes (Elt F) (harg18.unread C) L18) -∗ K ⟨⟩))
          ⊢ wp frame (wpE (defs₀ (F := F)) Variants.none c none) E (cc0_conv_ffn_ple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_conv_ffn_ple_eq_skeleton]; unfold cc0_conv_ffn_ple_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, HS0, HS1, ⟨%fs2, %hs2, HS2⟩, Hk⟩
    icases HS0 with ⟨%ds0, %fs0, -, HS0⟩
    icases HS1 with ⟨%ds1, %fs1, -, HS1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg18.eq_unread hs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; swap; · iexact H12
      ipureintro; exact hf12
    isplitl [H13]; · iexists _; iexact H13
    isplitl [HS0]; · iexists _; iexact HS0
    isplitl [HS1]; · iexists _; iexact HS1
    iexact HS2

set_option maxHeartbeats 1000000 in
/-- The run at a second column half: the body started with its inputs and the three scratch buffers at known contents ends with the inputs and the normalized rows as they were and the other buffers at what the run stored. -/
noncomputable def runSecond (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : ¬firstHalf i) (hc1 : k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (H : Vec F S512x1024 .bf16) (A : Vec F S512x1024 .f32) (C : Vec F S2x8x1408 .f32) :
    Σ' (L12 : List (View.Piece (Elt F) S512x1024 .f32)), Σ' (L13 : List (View.Piece (Elt F) S8x1408 .f32)), Σ' (L17 : List (View.Piece (Elt F) S512x1024 .f32)), { L18 : List (View.Piece (Elt F) S2x8x1408 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare H ∗ owns (c : Thread nD τ) arg17 fullShare A ∗ owns (c : Thread nD τ) arg18 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare H ∗ (∃ f, arg17.view.loc (c : Thread nD τ) ↦[arg17.view.set]{fullShare} arg17.view.writes (Elt F) f L17) ∗ arg18.view.loc (c : Thread nD τ) ↦[arg18.view.set]{fullShare} arg18.view.writes (Elt F) (harg18.unread C) L18) -∗ K ⟨⟩))
          ⊢ wp frame (wpE (defs₀ (F := F)) Variants.none c none) E (cc0_conv_ffn_ple i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_conv_ffn_ple_eq_skeleton]; unfold cc0_conv_ffn_ple_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg16.eq_unread hs0; obtain rfl := harg17.eq_unread hs1; obtain rfl := harg18.eq_unread hs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; iexact H12
    isplitl [H13]; · iexists _; iexact H13
    isplitl [HS0]
    · iexists _; isplitr; · ipureintro; exact harg16.read_unread _
      iexact HS0
    isplitl [HS1]; · iexists _; iexact HS1
    iexact HS2

end Cert.Ffn

end
-- ==== Proof.FfnPoint.lean ====
module

public import proofs.«01_k».proof.Proof.Gen.Kernel2Ideal.Frame
public import proofs.«01_k».proof.Proof.Gen.Kernel2Ideal.Skeleton
public import proofs.«01_k».proof.Proof.FfnRun
public import Idealize.ShloMosaic.Lib.VecWindow

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole loads and stores -/

/-- Loading a whole buffer of shape `S512x1024` reads what it holds. -/
theorem load_S512x1024 {e : EltTy} {m : Memref sig .tc .vmem S512x1024 e} (h : m.IsWhole) (X : Vec F S512x1024 e) :
    View.readAt (Elt F) m.view (Rect.unit (s := S512x1024) ![0, 0] ![512, 1024] inb_S512x1024_S512x1024_0_0).toLoadRect (h.unread X) = X :=
  (View.readAt_full m.view _ inb_S512x1024_S512x1024_0_0).trans (h.read_unread X)

/-- Loading a whole buffer of shape `S1x512x256` reads what it holds. -/
theorem load_S1x512x256 {e : EltTy} {m : Memref sig .tc .vmem S1x512x256 e} (h : m.IsWhole) (X : Vec F S1x512x256 e) :
    View.readAt (Elt F) m.view (Rect.unit (s := S1x512x256) ![0, 0, 0] ![1, 512, 256] inb_S1x512x256_S1x512x256_0_0_0).toLoadRect (h.unread X) = X :=
  (View.readAt_full m.view _ inb_S1x512x256_S1x512x256_0_0_0).trans (h.read_unread X)

/-- Loading a whole buffer of shape `S1x1024` reads what it holds. -/
theorem load_S1x1024 {e : EltTy} {m : Memref sig .tc .vmem S1x1024 e} (h : m.IsWhole) (X : Vec F S1x1024 e) :
    View.readAt (Elt F) m.view (Rect.unit (s := S1x1024) ![0, 0] ![1, 1024] inb_S1x1024_S1x1024_0_0).toLoadRect (h.unread X) = X :=
  (View.readAt_full m.view _ inb_S1x1024_S1x1024_0_0).trans (h.read_unread X)

/-- Loading a whole buffer of shape `S1x1024x1408` reads what it holds. -/
theorem load_S1x1024x1408 {e : EltTy} {m : Memref sig .tc .vmem S1x1024x1408 e} (h : m.IsWhole) (X : Vec F S1x1024x1408 e) :
    View.readAt (Elt F) m.view (Rect.unit (s := S1x1024x1408) ![0, 0, 0] ![1, 1024, 1408] inb_S1x1024x1408_S1x1024x1408_0_0_0).toLoadRect (h.unread X) = X :=
  (View.readAt_full m.view _ inb_S1x1024x1408_S1x1024x1408_0_0_0).trans (h.read_unread X)

/-- Loading a whole buffer of shape `S1x1x1408` reads what it holds. -/
theorem load_S1x1x1408 {e : EltTy} {m : Memref sig .tc .vmem S1x1x1408 e} (h : m.IsWhole) (X : Vec F S1x1x1408 e) :
    View.readAt (Elt F) m.view (Rect.unit (s := S1x1x1408) ![0, 0, 0] ![1, 1, 1408] inb_S1x1x1408_S1x1x1408_0_0_0).toLoadRect (h.unread X) = X :=
  (View.readAt_full m.view _ inb_S1x1x1408_S1x1x1408_0_0_0).trans (h.read_unread X)

/-- Loading a whole buffer of shape `S1x1408x1024` reads what it holds. -/
theorem load_S1x1408x1024 {e : EltTy} {m : Memref sig .tc .vmem S1x1408x1024 e} (h : m.IsWhole) (X : Vec F S1x1408x1024 e) :
    View.readAt (Elt F) m.view (Rect.unit (s := S1x1408x1024) ![0, 0, 0] ![1, 1408, 1024] inb_S1x1408x1024_S1x1408x1024_0_0_0).toLoadRect (h.unread X) = X :=
  (View.readAt_full m.view _ inb_S1x1408x1024_S1x1408x1024_0_0_0).trans (h.read_unread X)

/-- Loading a whole buffer of shape `S1x1024x1024` reads what it holds. -/
theorem load_S1x1024x1024 {e : EltTy} {m : Memref sig .tc .vmem S1x1024x1024 e} (h : m.IsWhole) (X : Vec F S1x1024x1024 e) :
    View.readAt (Elt F) m.view (Rect.unit (s := S1x1024x1024) ![0, 0, 0] ![1, 1024, 1024] inb_S1x1024x1024_S1x1024x1024_0_0_0).toLoadRect (h.unread X) = X :=
  (View.readAt_full m.view _ inb_S1x1024x1024_S1x1024x1024_0_0_0).trans (h.read_unread X)

/-- Loading a whole buffer of shape `S1x256x1024` reads what it holds. -/
theorem load_S1x256x1024 {e : EltTy} {m : Memref sig .tc .vmem S1x256x1024 e} (h : m.IsWhole) (X : Vec F S1x256x1024 e) :
    View.readAt (Elt F) m.view (Rect.unit (s := S1x256x1024) ![0, 0, 0] ![1, 256, 1024] inb_S1x256x1024_S1x256x1024_0_0_0).toLoadRect (h.unread X) = X :=
  (View.readAt_full m.view _ inb_S1x256x1024_S1x256x1024_0_0_0).trans (h.read_unread X)

/-- Loading a whole buffer of shape `S8x1408` reads what it holds. -/
theorem load_S8x1408 {e : EltTy} {m : Memref sig .tc .vmem S8x1408 e} (h : m.IsWhole) (X : Vec F S8x1408 e) :
    View.readAt (Elt F) m.view (Rect.unit (s := S8x1408) ![0, 0] ![8, 1408] inb_S8x1408_S8x1408_0_0).toLoadRect (h.unread X) = X :=
  (View.readAt_full m.view _ inb_S8x1408_S8x1408_0_0).trans (h.read_unread X)

/-- A store over a whole buffer of shape `S512x1024` leaves what was stored. -/
theorem stored_S512x1024 {e : EltTy} (m : Memref sig .tc .vmem S512x1024 e) (f : m.view.ty.Contents (Elt F)) (w : Vec F S512x1024 e) (L : List (View.Piece (Elt F) S512x1024 e)) :
    m.view.read (Elt F) (m.view.writes (Elt F) f (⟨Rect.unit (s := S512x1024) ![0, 0] ![512, 1024] inb_S512x1024_S512x1024_0_0, w⟩ :: L)) = w :=
  View.read_writes_full m.view f inb_S512x1024_S512x1024_0_0 w L

/-- A load of a whole buffer of shape `S512x1024` after a store over it reads what was stored. -/
theorem reload_S512x1024 {e : EltTy} (m : Memref sig .tc .vmem S512x1024 e) (w : Vec F S512x1024 e) (L : List (View.Piece (Elt F) S512x1024 e)) :
    m.view.readCov (⟨Rect.unit (s := S512x1024) ![0, 0] ![512, 1024] inb_S512x1024_S512x1024_0_0, w⟩ :: L) (Rect.unit (s := S512x1024) ![0, 0] ![512, 1024] inb_S512x1024_S512x1024_0_0).toLoadRect = w :=
  View.readCov_full m.view inb_S512x1024_S512x1024_0_0 inb_S512x1024_S512x1024_0_0 w L

/-- A store over a whole buffer of shape `S8x1408` leaves what was stored. -/
theorem stored_S8x1408 {e : EltTy} (m : Memref sig .tc .vmem S8x1408 e) (f : m.view.ty.Contents (Elt F)) (w : Vec F S8x1408 e) (L : List (View.Piece (Elt F) S8x1408 e)) :
    m.view.read (Elt F) (m.view.writes (Elt F) f (⟨Rect.unit (s := S8x1408) ![0, 0] ![8, 1408] inb_S8x1408_S8x1408_0_0, w⟩ :: L)) = w :=
  View.read_writes_full m.view f inb_S8x1408_S8x1408_0_0 w L

/-- A load of a whole buffer of shape `S8x1408` after a store over it reads what was stored. -/
theorem reload_S8x1408 {e : EltTy} (m : Memref sig .tc .vmem S8x1408 e) (w : Vec F S8x1408 e) (L : List (View.Piece (Elt F) S8x1408 e)) :
    m.view.readCov (⟨Rect.unit (s := S8x1408) ![0, 0] ![8, 1408] inb_S8x1408_S8x1408_0_0, w⟩ :: L) (Rect.unit (s := S8x1408) ![0, 0] ![8, 1408] inb_S8x1408_S8x1408_0_0).toLoadRect = w :=
  View.readCov_full m.view inb_S8x1408_S8x1408_0_0 inb_S8x1408_S8x1408_0_0 w L

/-- A load through a rectangle reads the window of what the buffer holds there. -/
theorem load_window {s : Shape} {e : EltTy} {m : Memref sig .tc .vmem s e} (h : m.IsWhole) (X : s.Idx → Elt F e) (off size : Fin s.rank → ℕ) (inb : ∀ a, off a + size a ≤ s.size a) :
    View.readAt (Elt F) m.view (Rect.unit off size inb).toLoadRect (h.unread X) = VecWindow.window X off size inb :=
  (View.readAt_unit m.view _ inb rfl inb).trans (by rw [h.read_unread])

/-- A store through a rectangle puts what is stored into the window. -/
theorem stored_window {s : Shape} {e : EltTy} {m : Memref sig .tc .vmem s e} (h : m.IsWhole) (X : s.Idx → Elt F e) (off size : Fin s.rank → ℕ) (inb : ∀ a, off a + size a ≤ s.size a) (w : (Rect.unit off size inb).shape.Idx → Elt F e) :
    m.view.read (Elt F) (m.view.writes (Elt F) (h.unread X) [⟨Rect.unit off size inb, w⟩]) = VecWindow.put X off size w :=
  (View.read_writes_cons_put m.view _ inb w [] rfl).trans (by rw [View.writes_nil, h.read_unread])

/-! ## What one grid point computes -/

/-- The row of the halo scratch that a grid point reads. -/
def halo (i : grid0.Coords) (C : Vec F S2x8x1408 .f32) : Vec F S1x8x1408 .f32 :=
  VecWindow.window C (k0_off1 i) ![1, 8, 1408] (k0_off1_inb i)

/-- The rows of `g` before the tile: zeros at the start of a sequence, the halo otherwise. -/
def prevRows (i : grid0.Coords) (C : Vec F S2x8x1408 .f32) : FVec F S8x1408 .f32 := k0_pay10 i (halo i C)

/-- The halo scratch after a grid point: its row holds the last rows of `g`. -/
def haloNext (i : grid0.Coords) (H : Vec F S512x1024 .bf16) (x5 : Vec F S1x1024x1408 .bf16) (C : Vec F S2x8x1408 .f32) : Vec F S2x8x1408 .f32 :=
  VecWindow.put C (k0_off1 i) ![1, 8, 1408] (k0_pay11 H x5)

/-- Row `0` of the convolution's weights. -/
def tap0 (x7 : Vec F S1x3x1408 .f32) : Vec F S1x1x1408 .f32 := VecWindow.window x7 ![0, 0, 0] ![1, 1, 1408] inb_S1x3x1408_S1x1x1408_0_0_0
/-- Row `1` of the convolution's weights. -/
def tap1 (x7 : Vec F S1x3x1408 .f32) : Vec F S1x1x1408 .f32 := VecWindow.window x7 ![0, 1, 0] ![1, 1, 1408] inb_S1x3x1408_S1x1x1408_0_1_0
/-- Row `2` of the convolution's weights. -/
def tap2 (x7 : Vec F S1x3x1408 .f32) : Vec F S1x1x1408 .f32 := VecWindow.window x7 ![0, 2, 0] ![1, 1, 1408] inb_S1x3x1408_S1x1x1408_0_2_0

/-- The accumulator after a grid point, from the normalized rows `H`, the rows `R` before the tile and the accumulator `A`. -/
def accNext (R : FVec F S8x1408 .f32) (x5 x6 : Vec F S1x1024x1408 .bf16) (x7 : Vec F S1x3x1408 .f32) (x8 : Vec F S1x1x1408 .f32) (x9 : Vec F S1x1408x1024 .bf16) (H : Vec F S512x1024 .bf16) (A : Vec F S512x1024 .f32) : Vec F S512x1024 .f32 :=
  k0_pay1 (k0_pay8 H x6) (k0_pay12 (k0_pay7 H x5) R x8 (tap0 x7) (tap1 x7) (tap2 x7)) (k0_pay13 (k0_pay7 H x5) R x8 (tap0 x7) (tap1 x7) (tap2 x7)) (k0_pay14 (k0_pay7 H x5) R x8 (tap0 x7) (tap1 x7) (tap2 x7)) A x9

/-- The tile of the result, from the finished accumulator `A`. -/
def outTile (x0 : Vec F S512x1024 .f32) (x1 : Vec F S1x512x256 .f32) (x3 x4 : Vec F S1x1024 .f32) (x10 : Vec F S1x1024x1024 .bf16) (x11 : Vec F S1x256x1024 .bf16) (A : Vec F S512x1024 .f32) : Vec F S512x1024 .f32 :=
  k0_pay2 (k0_pay3 x0 A x3) (k0_pay4 x1 x11 x0 A x3 x10) x4

/-! ## What the runs leave -/

set_option maxHeartbeats 1000000

/-- What `runFirst` leaves in its argument 15. -/
theorem runFirst_15 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : firstHalf i) (hc1 : ¬k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S512x1024 .f32) (C : Vec F S2x8x1408 .f32) (f : arg15.view.ty.Contents (Elt F)) : arg15.view.read (Elt F) (arg15.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 C).1) = k0_pay9 (k0_pay5 x0 x2) x5 := by
  dsimp only [runFirst]
  simp only [runFirst.sl.HS0_1, runFirst.sl.HS1_1, runFirst.sl.r, runFirst.sl.r_1, runFirst.sl.r_2, runFirst.sl.r_3, runFirst.sl.r_4, runFirst.sl.r_5, runFirst.sl.r_6, runFirst.sl.v0, runFirst.sl.v1, runFirst.sl.v2, runFirst.sl.v3, runFirst.sl.v82]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]

/-- What `runFirst` leaves in its argument 16. -/
theorem runFirst_16 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : firstHalf i) (hc1 : ¬k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S512x1024 .f32) (C : Vec F S2x8x1408 .f32) (f : arg16.view.ty.Contents (Elt F)) : arg16.view.read (Elt F) (arg16.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 C).2.1) = k0_pay5 x0 x2 := by
  dsimp only [runFirst]
  simp only [runFirst.sl.HS0_1, runFirst.sl.HS1_1, runFirst.sl.r, runFirst.sl.r_1, runFirst.sl.r_2, runFirst.sl.r_3, runFirst.sl.r_4, runFirst.sl.r_5, runFirst.sl.r_6, runFirst.sl.v0, runFirst.sl.v1, runFirst.sl.v2, runFirst.sl.v3, runFirst.sl.v82]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]

/-- What `runFirst` leaves in its argument 17. -/
theorem runFirst_17 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : firstHalf i) (hc1 : ¬k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S512x1024 .f32) (C : Vec F S2x8x1408 .f32) (f : arg17.view.ty.Contents (Elt F)) : arg17.view.read (Elt F) (arg17.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 C).2.2.1) = accNext (prevRows i C) x5 x6 x7 x8 x9 (k0_pay5 x0 x2) k0_pay6 := by
  dsimp only [runFirst]
  simp only [runFirst.sl.HS0_1, runFirst.sl.HS1_1, runFirst.sl.r, runFirst.sl.r_1, runFirst.sl.r_2, runFirst.sl.r_3, runFirst.sl.r_4, runFirst.sl.r_5, runFirst.sl.r_6, runFirst.sl.v0, runFirst.sl.v1, runFirst.sl.v2, runFirst.sl.v3, runFirst.sl.v82]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]
  simp only [load_window]
  rfl

/-- What `runFirst` leaves in its argument 18. -/
theorem runFirst_18 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : firstHalf i) (hc1 : ¬k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S512x1024 .f32) (C : Vec F S2x8x1408 .f32)  : arg18.view.read (Elt F) (arg18.view.writes (Elt F) (harg18.unread C) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 C).2.2.2.1) = haloNext i (k0_pay5 x0 x2) x5 C := by
  dsimp only [runFirst]
  simp only [runFirst.sl.HS0_1, runFirst.sl.HS1_1, runFirst.sl.r, runFirst.sl.r_1, runFirst.sl.r_2, runFirst.sl.r_3, runFirst.sl.r_4, runFirst.sl.r_5, runFirst.sl.r_6, runFirst.sl.v0, runFirst.sl.v1, runFirst.sl.v2, runFirst.sl.v3, runFirst.sl.v82]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]
  exact stored_window harg18 C _ _ _ _

/-- What `runSecond` leaves in its argument 14. -/
theorem runSecond_14 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : ¬firstHalf i) (hc1 : k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (H : Vec F S512x1024 .bf16) (A : Vec F S512x1024 .f32) (C : Vec F S2x8x1408 .f32) (f : arg14.view.ty.Contents (Elt F)) : arg14.view.read (Elt F) (arg14.view.writes (Elt F) f (runSecond c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 H A C).1) = outTile x0 x1 x3 x4 x10 x11 (accNext (prevRows i C) x5 x6 x7 x8 x9 H A) := by
  dsimp only [runSecond]
  simp only [runSecond.sl.HS1_1, runSecond.sl.r, runSecond.sl.r_1, runSecond.sl.r_2, runSecond.sl.r_3, runSecond.sl.r_4, runSecond.sl.r_5, runSecond.sl.r_6, runSecond.sl.r_7, runSecond.sl.r_8, runSecond.sl.v0, runSecond.sl.v1, runSecond.sl.v101, runSecond.sl.v2]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]
  simp only [load_window]
  rfl

/-- What `runSecond` leaves in its argument 15. -/
theorem runSecond_15 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : ¬firstHalf i) (hc1 : k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (H : Vec F S512x1024 .bf16) (A : Vec F S512x1024 .f32) (C : Vec F S2x8x1408 .f32) (f : arg15.view.ty.Contents (Elt F)) : arg15.view.read (Elt F) (arg15.view.writes (Elt F) f (runSecond c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 H A C).2.1) = k0_pay9 H x5 := by
  dsimp only [runSecond]
  simp only [runSecond.sl.HS1_1, runSecond.sl.r, runSecond.sl.r_1, runSecond.sl.r_2, runSecond.sl.r_3, runSecond.sl.r_4, runSecond.sl.r_5, runSecond.sl.r_6, runSecond.sl.r_7, runSecond.sl.r_8, runSecond.sl.v0, runSecond.sl.v1, runSecond.sl.v101, runSecond.sl.v2]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]

/-- What `runSecond` leaves in its argument 17. -/
theorem runSecond_17 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : ¬firstHalf i) (hc1 : k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (H : Vec F S512x1024 .bf16) (A : Vec F S512x1024 .f32) (C : Vec F S2x8x1408 .f32) (f : arg17.view.ty.Contents (Elt F)) : arg17.view.read (Elt F) (arg17.view.writes (Elt F) f (runSecond c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 H A C).2.2.1) = accNext (prevRows i C) x5 x6 x7 x8 x9 H A := by
  dsimp only [runSecond]
  simp only [runSecond.sl.HS1_1, runSecond.sl.r, runSecond.sl.r_1, runSecond.sl.r_2, runSecond.sl.r_3, runSecond.sl.r_4, runSecond.sl.r_5, runSecond.sl.r_6, runSecond.sl.r_7, runSecond.sl.r_8, runSecond.sl.v0, runSecond.sl.v1, runSecond.sl.v101, runSecond.sl.v2]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]
  simp only [load_window]
  rfl

/-- What `runSecond` leaves in its argument 18. -/
theorem runSecond_18 (c : Dev nD) (i : grid0.Coords) (arg2 : Memref sig .tc .vmem S512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S8x1408 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S2x8x1408 .f32) (harg18 : arg18.IsWhole) (hc0 : ¬firstHalf i) (hc1 : k0_cond2 i = 1#1)
    (x0 : Vec F S512x1024 .f32) (x1 : Vec F S1x512x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (H : Vec F S512x1024 .bf16) (A : Vec F S512x1024 .f32) (C : Vec F S2x8x1408 .f32)  : arg18.view.read (Elt F) (arg18.view.writes (Elt F) (harg18.unread C) (runSecond c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 H A C).2.2.2.1) = haloNext i H x5 C := by
  dsimp only [runSecond]
  try simp only [runSecond.sl.HS1_1, runSecond.sl.r, runSecond.sl.r_1, runSecond.sl.r_2, runSecond.sl.r_3, runSecond.sl.r_4, runSecond.sl.r_5, runSecond.sl.r_6, runSecond.sl.r_7, runSecond.sl.r_8, runSecond.sl.v0, runSecond.sl.v1, runSecond.sl.v101, runSecond.sl.v2]
  simp only [load_S512x1024, load_S1x512x256, load_S1x1024, load_S1x1024x1408, load_S1x1x1408, load_S1x1408x1024, load_S1x1024x1024, load_S1x256x1024, load_S8x1408, stored_S512x1024, reload_S512x1024, stored_S8x1408, reload_S8x1408]
  exact stored_window harg18 C _ _ _ _

end Cert.Ffn

end
-- ==== Proof.FfnFrame.lean ====
module

public import proofs.«01_k».proof.Proof.Gen.Kernel2Ideal.Frame
public import proofs.«01_k».proof.Proof.FfnPoint
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- The first point of the row tile that point `t` works on. -/
def evenPt (t : Fin cfg0.N) : Fin cfg0.N := ⟨t.val - t.val % 2, lt_of_le_of_lt (Nat.sub_le _ _) t.isLt⟩
/-- The point before `t`. -/
def prior (t : Fin cfg0.N) : Fin cfg0.N := ⟨t.val - 1, lt_of_le_of_lt (Nat.sub_le _ _) t.isLt⟩
/-- The point of the row tile before, at the same column half. -/
def tileBefore (t : Fin cfg0.N) : Fin cfg0.N := ⟨t.val - 2, lt_of_le_of_lt (Nat.sub_le _ _) t.isLt⟩

/-- The even points work on the first column half. -/
theorem firstHalf_iff : ∀ t : Fin cfg0.N, firstHalf (grid0.coords t) ↔ t.val % 2 = 0 :=
  (by decide +kernel : ∀ t : Fin grid0.N, firstHalf (grid0.coords t) ↔ t.val % 2 = 0)
/-- The odd points finish a tile of the result. -/
theorem lastHalf_iff : ∀ t : Fin cfg0.N, k0_cond2 (grid0.coords t) = 1#1 ↔ t.val % 2 = 1 :=
  (by decide +kernel : ∀ t : Fin grid0.N, k0_cond2 (grid0.coords t) = 1#1 ↔ t.val % 2 = 1)
/-- Each column half has its own row of the halo scratch. -/
theorem off_at : ∀ t : Fin cfg0.N, k0_off1 (grid0.coords t) = ![t.val % 2, 0, 0] :=
  (by decide +kernel : ∀ t : Fin grid0.N, k0_off1 (grid0.coords t) = ![t.val % 2, 0, 0])

/-- The test whether a row tile is the first of its sequence. -/
def seqStart (i : grid0.Coords) : BitVec 1 :=
  let arg0 : BitVec 32 := BitVec.ofNat 32 (i 0).val
  let v11 : BitVec 1 := Scalar.cmpi .eq 4#32 0#32
  let v12 : BitVec 32 := Scalar.select v11 1#32 4#32
  let v13 : BitVec 32 := Scalar.remsi arg0 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  Scalar.cmpi .eq v20 0#32

/-- It holds at every fourth row tile. -/
theorem seqStart_iff : ∀ t : Fin cfg0.N, seqStart (grid0.coords t) = 1#1 ↔ t.val / 2 % 4 = 0 :=
  (by decide +kernel : ∀ t : Fin grid0.N, seqStart (grid0.coords t) = 1#1 ↔ t.val / 2 % 4 = 0)

/-- At the start of a sequence the rows before the tile are zeros. -/
theorem pay10_start {i : grid0.Coords} (h : seqStart i = 1#1) (v : Vec F S1x8x1408 .f32) :
    k0_pay10 i v = broadcast S8x1408 (Scalar.ofBits .f32 0x00000000#32) :=
  show Scalar.select (seqStart i) _ _ = _ from if_pos h

/-- Elsewhere they are the halo's. -/
theorem pay10_inner {i : grid0.Coords} (h : ¬seqStart i = 1#1) (v : Vec F S1x8x1408 .f32) :
    k0_pay10 i v = shapeCast S8x1408 v shapeCasts_S1x8x1408_S8x1408 :=
  show Scalar.select (seqStart i) _ _ = _ from if_neg h

/-! ## What the buffers hold, point by point -/

/-- The normalized rows of point `t`'s row tile. -/
def hb (c : Dev nD) (t : Fin cfg0.N) : Vec F S512x1024 .bf16 :=
  k0_pay5 (iblk m c 0 (evenPt t)) (iblk m c 2 (evenPt t))
/-- The last rows of `g` at point `t`. -/
def tailAt (c : Dev nD) (t : Fin cfg0.N) : Vec F S1x8x1408 .f32 := k0_pay11 (hb m c t) (iblk m c 5 t)
/-- The rows of `g` before point `t`'s tile. -/
def prev (c : Dev nD) (t : Fin cfg0.N) : FVec F S8x1408 .f32 := k0_pay10 (grid0.coords t) (tailAt m c (tileBefore t))
/-- The accumulator after a first column half. -/
def accFirst (c : Dev nD) (t : Fin cfg0.N) : Vec F S512x1024 .f32 :=
  accNext (prev m c t) (iblk m c 5 t) (iblk m c 6 t) (iblk m c 7 t) (iblk m c 8 t) (iblk m c 9 t) (hb m c t) k0_pay6
/-- The accumulator after a second column half. -/
def accSecond (c : Dev nD) (t : Fin cfg0.N) : Vec F S512x1024 .f32 :=
  accNext (prev m c t) (iblk m c 5 t) (iblk m c 6 t) (iblk m c 7 t) (iblk m c 8 t) (iblk m c 9 t) (hb m c t) (accFirst m c (prior t))
/-- The finished tile of the result. -/
def outAt (c : Dev nD) (t : Fin cfg0.N) : Vec F S512x1024 .f32 :=
  outTile (iblk m c 0 t) (iblk m c 1 t) (iblk m c 3 t) (iblk m c 4 t) (iblk m c 10 t) (iblk m c 11 t) (accSecond m c t)

/-- What the three scratch buffers hold before point `n`. -/
def Carried (c : Dev nD) (n : ℕ) (H : Vec F S512x1024 .bf16) (A : Vec F S512x1024 .f32) (C : Vec F S2x8x1408 .f32) : Prop :=
  (∀ t : Fin cfg0.N, t.val + 1 = n → t.val % 2 = 0 → H = hb m c t ∧ A = accFirst m c t)
    ∧ ∀ t : Fin cfg0.N, t.val < n → n ≤ t.val + 2 → halo (grid0.coords t) C = tailAt m c t

/-- Before the first point nothing is asked of them. -/
theorem carried_zero (c : Dev nD) (H : Vec F S512x1024 .bf16) (A : Vec F S512x1024 .f32) (C : Vec F S2x8x1408 .f32) : Carried m c 0 H A C :=
  ⟨fun t h => absurd h (Nat.succ_ne_zero _), fun t h => absurd h (Nat.not_lt_zero _)⟩

/-- The row of the halo scratch is the same at two points of one column half. -/
theorem halo_congr {t u : Fin cfg0.N} (h : t.val % 2 = u.val % 2) (C : Vec F S2x8x1408 .f32) :
    halo (grid0.coords t) C = halo (grid0.coords u) C := by
  have e : k0_off1 (grid0.coords t) = k0_off1 (grid0.coords u) := by rw [off_at, off_at, h]
  have key : ∀ (o o' : Fin 3 → ℕ) (h₁ : ∀ a, o a + ![1, 8, 1408] a ≤ S2x8x1408.size a) (h₂ : ∀ a, o' a + ![1, 8, 1408] a ≤ S2x8x1408.size a),
      o = o' → VecWindow.window C o ![1, 8, 1408] h₁ = VecWindow.window C o' ![1, 8, 1408] h₂ := by
    rintro o _ h₁ h₂ rfl; rfl
  exact key _ _ _ _ e

/-- The row a point stores is found there. -/
theorem halo_haloNext_same (i : grid0.Coords) (H : Vec F S512x1024 .bf16) (x5 : Vec F S1x1024x1408 .bf16) (C : Vec F S2x8x1408 .f32) :
    halo i (haloNext i H x5 C) = k0_pay11 H x5 := VecWindow.window_put_same _ _ _ _ _

/-- The row of the other column half is kept. -/
theorem halo_haloNext_other {t u : Fin cfg0.N} (h : t.val % 2 ≠ u.val % 2) (H : Vec F S512x1024 .bf16) (x5 : Vec F S1x1024x1408 .bf16) (C : Vec F S2x8x1408 .f32) :
    halo (grid0.coords u) (haloNext (grid0.coords t) H x5 C) = halo (grid0.coords u) C := by
  refine VecWindow.window_put_of_disjoint _ _ _ _ _ _ _ 0 ?_
  rw [off_at, off_at]
  show u.val % 2 + 1 ≤ t.val % 2 ∨ t.val % 2 + 1 ≤ u.val % 2
  omega

/-- A point carries the scratch buffers on. -/
theorem carried_step (c : Dev nD) (t : Fin cfg0.N) {H H' : Vec F S512x1024 .bf16} {A A' : Vec F S512x1024 .f32} {C : Vec F S2x8x1408 .f32}
    (h : Carried m c t.val H A C) (h' : t.val % 2 = 0 → H' = hb m c t ∧ A' = accFirst m c t) :
    Carried m c (t.val + 1) H' A' (haloNext (grid0.coords t) (hb m c t) (iblk m c 5 t) C) := by
  refine ⟨fun u hu he => ?_, fun u hu hn => ?_⟩
  · obtain rfl : u = t := Fin.ext (by omega)
    exact h' he
  · by_cases e : u = t
    · subst e; exact halo_haloNext_same _ _ _ _
    · have : u.val ≠ t.val := fun q => e (Fin.ext q)
      rw [halo_haloNext_other (by omega)]
      exact h.2 u (by omega) (by omega)

/-- The rows before the tile, found in the halo scratch. -/
theorem prevRows_of (c : Dev nD) (t : Fin cfg0.N) {H : Vec F S512x1024 .bf16} {A : Vec F S512x1024 .f32} {C : Vec F S2x8x1408 .f32}
    (h : Carried m c t.val H A C) : prevRows (grid0.coords t) C = prev m c t := by
  unfold prevRows prev
  by_cases hs : seqStart (grid0.coords t) = 1#1
  · rw [pay10_start hs, pay10_start hs]
  · have h4 : ¬t.val / 2 % 4 = 0 := fun q => hs ((seqStart_iff t).mpr q)
    have hv : (tileBefore t).val = t.val - 2 := rfl
    rw [halo_congr (u := tileBefore t) (by omega), h.2 (tileBefore t) (by omega) (by omega)]

/-- The normalized rows at a first column half. -/
theorem hb_even (c : Dev nD) (t : Fin cfg0.N) (h : t.val % 2 = 0) : hb m c t = k0_pay5 (iblk m c 0 t) (iblk m c 2 t) := by
  have e : evenPt t = t := Fin.ext (by show t.val - t.val % 2 = t.val; omega)
  unfold hb; rw [e]

/-- The two column halves of a row tile share the normalized rows. -/
theorem hb_prior (c : Dev nD) (t : Fin cfg0.N) (h : t.val % 2 = 1) : hb m c (prior t) = hb m c t := by
  have e : evenPt (prior t) = evenPt t := Fin.ext (by show t.val - 1 - (t.val - 1) % 2 = t.val - t.val % 2; omega)
  unfold hb; rw [e]

/-- The scratch buffers before a second column half. -/
theorem carried_odd (c : Dev nD) (t : Fin cfg0.N) (h : t.val % 2 = 1) {H : Vec F S512x1024 .bf16} {A : Vec F S512x1024 .f32} {C : Vec F S2x8x1408 .f32}
    (hc : Carried m c t.val H A C) : H = hb m c t ∧ A = accFirst m c (prior t) := by
  have hv : (prior t).val = t.val - 1 := rfl
  have := hc.1 (prior t) (by omega) (by omega)
  exact ⟨this.1.trans (hb_prior m c t h), this.2⟩

/-! ## The proof data -/

/-- The scratch buffer of the normalized rows. -/
abbrev sc0 : Memref sig .tc .vmem S512x1024 .bf16 := Memref.whole cc0_scratch0
/-- The accumulator. -/
abbrev sc1 : Memref sig .tc .vmem S512x1024 .f32 := Memref.whole cc0_scratch1
/-- The halo scratch. -/
abbrev sc2 : Memref sig .tc .vmem S2x8x1408 .f32 := Memref.whole cc0_scratch2

/-- What a point finds and leaves beside its windows. -/
def carriedAt (c : Dev nD) (n : ℕ) : sProp 𝕄 :=
  iprop(∃ H A C, ⌜Carried m c n H A C⌝ ∗ owns (c : Thread nD τ) sc0 fullShare H ∗ owns (c : Thread nD τ) sc1 fullShare A
    ∗ owns (c : Thread nD τ) sc2 fullShare C ∗ (∃ r, prngReg c r))

/-- The proof data of the pipeline: what every buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
    | ⟨13, _⟩ => k0_pay9 (hb m c t) (iblk m c 5 t)
  Φ t := carriedAt m c t.val
  q _ := fullShare
  owed _ := 0

/-- The arrays are those the region finds. -/
theorem A_eq (c : Dev nD) (w : Fin cfg0.W) : (dats m 0 c).A w = V m c (Pipeline.arrRef spec0 w) := by
  dsimp only [dats]

/-- Window 0's buffer is left as found. -/
theorem after_0 (c : Dev nD) (t : Fin cfg0.N) : (dats m 0 c).after 0 t = iblk m c 0 t := by dsimp only [dats]
/-- Window 1's buffer is left as found. -/
theorem after_1 (c : Dev nD) (t : Fin cfg0.N) : (dats m 0 c).after 1 t = iblk m c 1 t := by dsimp only [dats]
/-- Window 2's buffer is left as found. -/
theorem after_2 (c : Dev nD) (t : Fin cfg0.N) : (dats m 0 c).after 2 t = iblk m c 2 t := by dsimp only [dats]
/-- Window 3's buffer is left as found. -/
theorem after_3 (c : Dev nD) (t : Fin cfg0.N) : (dats m 0 c).after 3 t = iblk m c 3 t := by dsimp only [dats]
/-- Window 4's buffer is left as found. -/
theorem after_4 (c : Dev nD) (t : Fin cfg0.N) : (dats m 0 c).after 4 t = iblk m c 4 t := by dsimp only [dats]
/-- Window 5's buffer is left as found. -/
theorem after_5 (c : Dev nD) (t : Fin cfg0.N) : (dats m 0 c).after 5 t = iblk m c 5 t := by dsimp only [dats]
/-- Window 6's buffer is left as found. -/
theorem after_6 (c : Dev nD) (t : Fin cfg0.N) : (dats m 0 c).after 6 t = iblk m c 6 t := by dsimp only [dats]
/-- Window 7's buffer is left as found. -/
theorem after_7 (c : Dev nD) (t : Fin cfg0.N) : (dats m 0 c).after 7 t = iblk m c 7 t := by dsimp only [dats]
/-- Window 8's buffer is left as found. -/
theorem after_8 (c : Dev nD) (t : Fin cfg0.N) : (dats m 0 c).after 8 t = iblk m c 8 t := by dsimp only [dats]
/-- Window 9's buffer is left as found. -/
theorem after_9 (c : Dev nD) (t : Fin cfg0.N) : (dats m 0 c).after 9 t = iblk m c 9 t := by dsimp only [dats]
/-- Window 10's buffer is left as found. -/
theorem after_10 (c : Dev nD) (t : Fin cfg0.N) : (dats m 0 c).after 10 t = iblk m c 10 t := by dsimp only [dats]
/-- Window 11's buffer is left as found. -/
theorem after_11 (c : Dev nD) (t : Fin cfg0.N) : (dats m 0 c).after 11 t = iblk m c 11 t := by dsimp only [dats]
/-- What the result's buffer is left with. -/
theorem after_12 (c : Dev nD) (t : Fin cfg0.N) : (dats m 0 c).after 12 t = outAt m c t := by dsimp only [dats]
/-- What the tail's buffer is left with. -/
theorem after_13 (c : Dev nD) (t : Fin cfg0.N) : (dats m 0 c).after 13 t = k0_pay9 (hb m c t) (iblk m c 5 t) := by dsimp only [dats]
/-- Window 0's buffer holds its block at every point. -/
theorem before_0 (c : Dev nD) (t : Fin cfg0.N) (d) : (dats m 0 c).before 0 t d = iblk m c 0 t :=
  before0_0_of m (dats m 0 c) (A_eq m c 0) (after_0 m c) t d
/-- Window 1's buffer holds its block at every point. -/
theorem before_1 (c : Dev nD) (t : Fin cfg0.N) (d) : (dats m 0 c).before 1 t d = iblk m c 1 t :=
  before0_1_of m (dats m 0 c) (A_eq m c 1) (after_1 m c) t d
/-- Window 2's buffer holds its block at every point. -/
theorem before_2 (c : Dev nD) (t : Fin cfg0.N) (d) : (dats m 0 c).before 2 t d = iblk m c 2 t :=
  before0_2_of m (dats m 0 c) (A_eq m c 2) (after_2 m c) t d
/-- Window 3's buffer holds its block at every point. -/
theorem before_3 (c : Dev nD) (t : Fin cfg0.N) (d) : (dats m 0 c).before 3 t d = iblk m c 3 t :=
  before0_3_of m (dats m 0 c) (A_eq m c 3) (after_3 m c) t d
/-- Window 4's buffer holds its block at every point. -/
theorem before_4 (c : Dev nD) (t : Fin cfg0.N) (d) : (dats m 0 c).before 4 t d = iblk m c 4 t :=
  before0_4_of m (dats m 0 c) (A_eq m c 4) (after_4 m c) t d
/-- Window 5's buffer holds its block at every point. -/
theorem before_5 (c : Dev nD) (t : Fin cfg0.N) (d) : (dats m 0 c).before 5 t d = iblk m c 5 t :=
  before0_5_of m (dats m 0 c) (A_eq m c 5) (after_5 m c) t d
/-- Window 6's buffer holds its block at every point. -/
theorem before_6 (c : Dev nD) (t : Fin cfg0.N) (d) : (dats m 0 c).before 6 t d = iblk m c 6 t :=
  before0_6_of m (dats m 0 c) (A_eq m c 6) (after_6 m c) t d
/-- Window 7's buffer holds its block at every point. -/
theorem before_7 (c : Dev nD) (t : Fin cfg0.N) (d) : (dats m 0 c).before 7 t d = iblk m c 7 t :=
  before0_7_of m (dats m 0 c) (A_eq m c 7) (after_7 m c) t d
/-- Window 8's buffer holds its block at every point. -/
theorem before_8 (c : Dev nD) (t : Fin cfg0.N) (d) : (dats m 0 c).before 8 t d = iblk m c 8 t :=
  before0_8_of m (dats m 0 c) (A_eq m c 8) (after_8 m c) t d
/-- Window 9's buffer holds its block at every point. -/
theorem before_9 (c : Dev nD) (t : Fin cfg0.N) (d) : (dats m 0 c).before 9 t d = iblk m c 9 t :=
  before0_9_of m (dats m 0 c) (A_eq m c 9) (after_9 m c) t d
/-- Window 10's buffer holds its block at every point. -/
theorem before_10 (c : Dev nD) (t : Fin cfg0.N) (d) : (dats m 0 c).before 10 t d = iblk m c 10 t :=
  before0_10_of m (dats m 0 c) (A_eq m c 10) (after_10 m c) t d
/-- Window 11's buffer holds its block at every point. -/
theorem before_11 (c : Dev nD) (t : Fin cfg0.N) (d) : (dats m 0 c).before 11 t d = iblk m c 11 t :=
  before0_11_of m (dats m 0 c) (A_eq m c 11) (after_11 m c) t d

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What it returns at a first column half, where the result's buffer is not touched. -/
def postFirst (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ d, owns (c : Thread nD τ) (st0_12 t) fullShare ((dats m 0 c).before 12 t d))
    ∗ owns (c : Thread nD τ) (st0_13 t) fullShare ((dats m 0 c).after 13 t))

/-- What it returns at a second column half. -/
def postSecond (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 3200000 in
/-- The body at a first column half. -/
theorem body_first (c : Dev nD) (t : Fin cfg0.N) (h : t.val % 2 = 0) :
    bodyPre m c t ⊢ wp frame (wpE (defs₀ (F := F)) Variants.none c none) Set.univ (bodyAt0 t) (fun _ => postFirst m c t) := by
  unfold bodyPre postFirst bodyAt0
  simp only [before_0, before_1, before_2, before_3, before_4, before_5, before_6, before_7, before_8, before_9, before_10, before_11]
  rw [show (dats m 0 c).Φ t.succ = carriedAt m c (t.val + 1) from rfl,
    show (dats m 0 c).Φ t.castSucc = carriedAt m c t.val from rfl,
    show (dats m 0 c).owesAt () t.succ = (dats m 0 c).owesAt () t.castSucc from rfl,
    after_0, after_1, after_2, after_3, after_4, after_5, after_6, after_7, after_8, after_9, after_10, after_11, after_13]
  unfold carriedAt
  iintro ⟨⟨%H, %A, %C, %hC, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runFirst c (grid0.coords t) _ _ _ _ _ _ _ _ _ _ _ _ _ _ _ _ _ _ _ _ _ _ _ _ _ _ _ _ _ _ _ _ _ _ ((firstHalf_iff t).mpr h) (fun q => by have := (lastHalf_iff t).mp q; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ C).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexists _; iexact HS0
  isplitl [HS1]; · iexists _; iexact HS1
  isplitl [HS2]; · iexact HS2
  iintro ⟨H0, H1, H2, H3, H4, H5, H6, H7, H8, H9, H10, H11, H12, ⟨%f13, H13⟩, ⟨%g0, HS0⟩, ⟨%g1, HS1⟩, HS2⟩
  isplitl [HS0 HS1 HS2 Hg]
  · iexists hb m c t, accFirst m c t, haloNext (grid0.coords t) (hb m c t) (iblk m c 5 t) C
    isplitr
    · ipureintro; exact carried_step m c t hC fun _ => ⟨rfl, rfl⟩
    isplitl [HS0]
    · unfold owns; iexists _; isplitr
      swap; · iexact HS0
      ipureintro; exact (runFirst_16 ..).trans (hb_even m c t h).symm
    isplitl [HS1]
    · unfold owns; iexists _; isplitr
      swap; · iexact HS1
      ipureintro; refine (runFirst_17 ..).trans ?_; rw [← hb_even m c t h, prevRows_of m c t hC]; rfl
    isplitl [HS2]
    · unfold owns; iexists _; isplitr
      swap; · iexact HS2
      ipureintro; refine (runFirst_18 ..).trans ?_; rw [← hb_even m c t h]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  unfold owns; iexists _; isplitr
  swap; · iexact H13
  ipureintro; refine (runFirst_15 ..).trans ?_; rw [← hb_even m c t h]

set_option maxHeartbeats 3200000 in
/-- The body at a second column half. -/
theorem body_second (c : Dev nD) (t : Fin cfg0.N) (h : t.val % 2 = 1) :
    bodyPre m c t ⊢ wp frame (wpE (defs₀ (F := F)) Variants.none c none) Set.univ (bodyAt0 t) (fun _ => postSecond m c t) := by
  unfold bodyPre postSecond bodyAt0
  simp only [before_0, before_1, before_2, before_3, before_4, before_5, before_6, before_7, before_8, before_9, before_10, before_11]
  rw [show (dats m 0 c).Φ t.succ = carriedAt m c (t.val + 1) from rfl,
    show (dats m 0 c).Φ t.castSucc = carriedAt m c t.val from rfl,
    show (dats m 0 c).owesAt () t.succ = (dats m 0 c).owesAt () t.castSucc from rfl,
    after_0, after_1, after_2, after_3, after_4, after_5, after_6, after_7, after_8, after_9, after_10, after_11, after_12, after_13]
  unfold carriedAt
  iintro ⟨⟨%H, %A, %C, %hC, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨eH, eA⟩ := carried_odd m c t h hC
  subst eH; subst eA
  iapply ((runSecond c (grid0.coords t) _ _ _ _ _ _ _ _ _ _ _ _ _ _ _ _ _ _ _ _ _ _ _ _ _ _ _ _ _ _ _ _ _ _ (fun q => by have := (firstHalf_iff t).mp q; omega) ((lastHalf_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (hb m c t) (accFirst m c (prior t)) C).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, ⟨%f12, H12⟩, ⟨%f13, H13⟩, HS0, ⟨%g1, HS1⟩, HS2⟩
  isplitl [HS0 HS1 HS2 Hg]
  · iexists hb m c t, accSecond m c t, haloNext (grid0.coords t) (hb m c t) (iblk m c 5 t) C
    isplitr
    · ipureintro; exact carried_step m c t hC fun q => absurd q (by omega)
    isplitl [HS0]; · iexact HS0
    isplitl [HS1]
    · unfold owns; iexists _; isplitr
      swap; · iexact HS1
      ipureintro; refine (runSecond_17 ..).trans ?_; rw [prevRows_of m c t hC]; rfl
    isplitl [HS2]
    · unfold owns; iexists _; isplitr
      swap; · iexact HS2
      ipureintro; exact runSecond_18 ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; refine (runSecond_14 ..).trans ?_; rw [prevRows_of m c t hC]; rfl
  unfold owns; iexists _; isplitr
  swap; · iexact H13
  ipureintro; exact runSecond_15 ..

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- At a first column half the result's window is idle. -/
theorem idle_even : ∀ t : Fin cfg0.N, t.val % 2 = 0 → cfg0.idle 12 (cfg0.grid.coords t) = true :=
  (by decide +kernel : ∀ t : Fin grid0.N, t.val % 2 = 0 → idle0 12 (grid0.coords t) = true)
/-- At a second it is not. -/
theorem idle_odd : ∀ t : Fin cfg0.N, t.val % 2 = 1 → cfg0.idle 12 (cfg0.grid.coords t) = false :=
  (by decide +kernel : ∀ t : Fin grid0.N, t.val % 2 = 1 → idle0 12 (grid0.coords t) = false)

/-- The body does at every point what the proof data says. -/
theorem body_obligation (c : Dev nD) : BodyObligation (dats (F := F) m 0 c) (defs₀ (F := F)) Variants.none () Set.univ := fun t => by
  rw [bigSep_W0, bigSep_W0, defs₀_row]
  rcases Nat.mod_two_eq_zero_or_one t.val with h | h
  · have i12 := idle_even t h
    have f12 : (cfg0.win 12).flush t = false := by
      rw [← Bool.not_eq_true]; intro q; have := (flush0_12 t).mp q; omega
    rw [i12, f12]
    exact triple_restated (body_first m c t h) rfl .rfl fun _ => .rfl
  · have i12 := idle_odd t h
    rw [i12]
    exact triple_restated (body_second m c t h) rfl .rfl fun _ => .rfl

/-! ## The run and the frame -/

/-- What the region hands over holds before the first point. -/
theorem carried_in (c : Dev nD) : Pipeline.ΦA spec0 c ⊢ (carriedAt m c 0 : sProp 𝕄) := by
  unfold Pipeline.ΦA carriedAt; rw [scopedRest0_eq]; simp only [sc0, sc1, sc2, owns_whole]
  iintro ⟨⟨⟨%f0, H0⟩, ⟨%f1, H1⟩, ⟨%f2, H2⟩⟩, Hg⟩
  iexists f0, f1, f2
  isplitr; · ipureintro; exact carried_zero m c _ _ _
  isplitl [H0]; · iexact H0
  isplitl [H1]; · iexact H1
  isplitl [H2]; · iexact H2
  iexact Hg

/-- What the last point leaves is what the region takes back. -/
theorem carried_out (c : Dev nD) (n : ℕ) : (carriedAt m c n : sProp 𝕄) ⊢ Pipeline.ΦA spec0 c := by
  unfold Pipeline.ΦA carriedAt; rw [scopedRest0_eq]; simp only [sc0, sc1, sc2, owns_whole]
  iintro ⟨%H, %A, %C, -, H0, H1, H2, Hg⟩
  isplitl [H0 H1 H2]
  · isplitl [H0]; · iexists _; iexact H0
    isplitl [H1]; · iexists _; iexact H1
    iexists _; iexact H2
  iexact Hg

set_option backward.isDefEq.respectTransparency.types false in
/-- Every run ends with each array at what the proof data says and every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := carried_in m) (hout := fun c => carried_out m c _)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments are unchanged and every counter ends at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_quiescent m ρ))

end Cert.Ffn

end
-- ==== Proof.FfnKernelFrame.lean ====
/- The channel mixing call's frame for the program as compiled: its text is the idealized program's, whose run holds for
   any float values. -/
module

public import proofs.«01_k».proof.Defs
public import proofs.«01_k».proof.Proof.Gen.Kernel2
public import proofs.«01_k».proof.Proof.FfnFrame

@[expose] public section

noncomputable section

namespace Cert.Ffn

open Idealize.ShloMosaic Idealize.SL.Sem

attribute [local instance] Cert.Kernel2.Gen.facts

variable {F : FTy → Type} [FloatOps F]

set_option maxHeartbeats 4000000 in
/-- The two programs have the same kernel body. -/
theorem bodies_same : (@Kernel2.defs₀ F _ _) = Kernel2Ideal.defs₀ := by
  unfold Kernel2.defs₀ Kernel2Ideal.defs₀
  refine congrArg Defs.onTc ?_
  funext l a
  match l, a with
  | 0, (t, s) => with_unfolding_all rfl
  | ⟨_ + 1, h⟩, _ => exact absurd h (Nat.not_lt.2 (Nat.le_add_left _ _))

/-- They have the same body table. -/
theorem defs_same : (@Kernel2.defs F _ _) = Kernel2Ideal.defs := by
  unfold Kernel2.defs Kernel2Ideal.defs
  exact congrArg (Pipeline.defs _) bodies_same

/-- The program as compiled terminates, leaves its arguments as they were and every counter at zero. -/
theorem frame_kernel : Cert.quiescent_Kernel2 (hKernel2 := Cert.Kernel2.Gen.facts) := fun m g _ => by
  rw [defs_same]
  exact frame (F := Bits) m g

end Cert.Ffn

end
-- ==== Proof.FfnPointwise.lean ====
/- The pieces of a grid point of the feed-forward kernel read at an entry, over the extended reals. -/
module

public import proofs.«01_k».proof.Proof.FfnPoint
public import Idealize.ShloMosaic.Lib.Pointwise
public import Idealize.ShloMosaic.Lib.Pipeline.ValueKit.Tiles

@[expose] public section

noncomputable section

namespace Cert.Ffn

open Idealize.ShloMosaic Cert.Kernel2Ideal Cert.Kernel2Ideal.Gen

/-- The factor that normalizes a row. -/
def rinv (v : Fin 1024 → EReal) : EReal :=
  Ideal.rsqrt (Ideal.div (∑ k, v k * v k) (Ideal.ofBits .f32 0x44800000#32) + Ideal.ofBits .f32 0x358637BD#32)

/-- An entry of a row, normalized and scaled. -/
def nrm (v g : Fin 1024 → EReal) (j : Fin 1024) : EReal := v j * rinv v * g j

/-- The activation, by its tanh approximation. -/
def gelu (c : EReal) : EReal :=
  Ideal.ofBits .f32 0x3F000000#32 * c *
    (Ideal.ofBits .f32 0x3F800000#32 + Ideal.tanh (Ideal.ofBits .f32 0x3F4C422A#32 * (c + Ideal.ofBits .f32 0x3D372713#32 * (c * c * c))))

/-- The sigmoid. -/
def sigm (z : EReal) : EReal :=
  Ideal.div (Ideal.ofBits .f32 0x3F800000#32) (Ideal.ofBits .f32 0x3F800000#32 + Ideal.exp (-z))

/-- The normalized rows at an entry. -/
theorem pay5_apply (x : Vec Ideal S512x1024 .f32) (g : Vec Ideal S1x1024 .f32) (r : Fin 512) (j : Fin 1024) :
    (k0_pay5 x g (ix2 r j) : EReal) = nrm (fun k => x (ix2 r k)) (fun k => g (ix2 0 k)) j := by
  unfold k0_pay5 nrm rinv
  pointwise

/-- The accumulator starts from zeros. -/
theorem pay6_apply (i : S512x1024.Idx) : (k0_pay6 (F := Ideal) i : EReal) = 0 := by
  unfold k0_pay6
  pointwise

/-- The first product at an entry. -/
theorem pay7_apply (h : Vec Ideal S512x1024 .bf16) (w : Vec Ideal S1x1024x1408 .bf16) (r : Fin 512) (l : Fin 1408) :
    (k0_pay7 h w (ix2 r l) : EReal) = ∑ d : Fin 1024, (h (ix2 r d) : EReal) * w (ix3 0 d l) := by
  unfold k0_pay7
  pointwise

/-- The second product at an entry. -/
theorem pay8_apply (h : Vec Ideal S512x1024 .bf16) (w : Vec Ideal S1x1024x1408 .bf16) (r : Fin 512) (l : Fin 1408) :
    (k0_pay8 h w (ix2 r l) : EReal) = ∑ d : Fin 1024, (h (ix2 r d) : EReal) * w (ix3 0 d l) := by
  unfold k0_pay8
  pointwise

/-- The last eight rows of the first product. -/
theorem pay9_apply (h : Vec Ideal S512x1024 .bf16) (w : Vec Ideal S1x1024x1408 .bf16) (r : Fin 8) (l : Fin 1408) :
    k0_pay9 h w (ix2 r l) = k0_pay7 h w (ix2 ⟨504 + r.val, by have := r.isLt; omega⟩ l) := by
  unfold k0_pay9
  pointwise

/-- The same, as the halo keeps them. -/
theorem pay11_apply (h : Vec Ideal S512x1024 .bf16) (w : Vec Ideal S1x1024x1408 .bf16) (r : Fin 8) (l : Fin 1408) :
    k0_pay11 h w (ix3 0 r l) = k0_pay9 h w (ix2 r l) := by
  unfold k0_pay11
  pointwise

/-- The row after the first normalization and addition. -/
theorem pay3_apply (x a : Vec Ideal S512x1024 .f32) (g : Vec Ideal S1x1024 .f32) (r : Fin 512) (j : Fin 1024) :
    (k0_pay3 x a g (ix2 r j) : EReal) = x (ix2 r j) + nrm (fun k => a (ix2 r k)) (fun k => g (ix2 0 k)) j := by
  unfold k0_pay3 nrm rinv
  pointwise

/-- The gated row. -/
theorem pay4_apply (p : Vec Ideal S1x512x256 .f32) (wpe : Vec Ideal S1x256x1024 .bf16) (x a : Vec Ideal S512x1024 .f32) (g : Vec Ideal S1x1024 .f32)
    (wpg : Vec Ideal S1x1024x1024 .bf16) (r : Fin 512) (j : Fin 1024) :
    (k0_pay4 p wpe x a g wpg (ix2 r j) : EReal) =
      sigm (∑ d : Fin 1024, (k0_pay3 x a g (ix2 r d) : EReal) * wpg (ix3 0 d j)) * ∑ d : Fin 256, (p (ix3 0 r d) : EReal) * wpe (ix3 0 d j) := by
  unfold k0_pay4 sigm
  pointwise
  rw [zero_sub]

/-- The finished row. -/
theorem pay2_apply (x e : FVec Ideal S512x1024 .f32) (g : Vec Ideal S1x1024 .f32) (r : Fin 512) (j : Fin 1024) :
    (k0_pay2 x e g (ix2 r j) : EReal) = x (ix2 r j) + nrm (fun k => e (ix2 r k)) (fun k => g (ix2 0 k)) j := by
  unfold k0_pay2 nrm rinv
  pointwise

/-- The accumulator after a column half. -/
theorem pay1_apply (u c c2 cc : FVec Ideal S512x1408 .f32) (a : Vec Ideal S512x1024 .f32) (w : Vec Ideal S1x1408x1024 .bf16) (r : Fin 512) (j : Fin 1024)
    (h2 : ∀ l, (c2 (ix2 r l) : EReal) = Ideal.ofBits .f32 0x3F000000#32 * c (ix2 r l)) (hc : ∀ l, (cc (ix2 r l) : EReal) = (c (ix2 r l) : EReal) * c (ix2 r l)) :
    (k0_pay1 u c c2 cc a w (ix2 r j) : EReal) =
      a (ix2 r j) + ∑ l : Fin 1408, gelu (c (ix2 r l)) * (u (ix2 r l) : EReal) * w (ix3 0 l j) := by
  unfold k0_pay1 gelu
  pointwise
  simp only [h2, hc]

section Conv
variable (v : FVec Ideal S512x1408 .f32) (R : FVec Ideal S8x1408 .f32) (b w0 w1 w2 : Vec Ideal S1x1x1408 .f32)

theorem pay13_apply (r : Fin 512) (l : Fin 1408) :
    (k0_pay13 v R b w0 w1 w2 (ix2 r l) : EReal) = Ideal.ofBits .f32 0x3F000000#32 * k0_pay12 v R b w0 w1 w2 (ix2 r l) := by
  unfold k0_pay13
  pointwise

theorem pay14_apply (r : Fin 512) (l : Fin 1408) :
    (k0_pay14 v R b w0 w1 w2 (ix2 r l) : EReal) = (k0_pay12 v R b w0 w1 w2 (ix2 r l) : EReal) * k0_pay12 v R b w0 w1 w2 (ix2 r l) := by
  unfold k0_pay14
  pointwise

/-- The rows `k` up: from the tile, or from the rows before it. -/
def up (k : ℕ) (r : Fin 512) (l : Fin 1408) : EReal :=
  if h : r.val < k then if hk : k ≤ 8 then R (ix2 ⟨8 - k + r.val, by omega⟩ l) else 0 else v (ix2 ⟨r.val - k, by have := r.isLt; omega⟩ l)

/-- The rows `k` up, as the rotations of the tile and of the rows before it give them. -/
theorem up_of (kw : BitVec 32) (k : ℕ) (hk : kw = BitVec.ofNat 32 k)
    (hc : ∀ r : Fin 512, IntOp.cmpi CmpIPredicate.slt (BitVec.ofNat 32 r.val) kw = if r.val < k then 1#1 else 0#1)
    (h8 : k ≤ 8) (h0 : 0 < k) (r : Fin 512) (l : Fin 1408) (a : Fin 8) (p q : Fin 512)
    (ha : r.val < k → a.val = 8 - k + r.val) (hp : k ≤ r.val → r.val < 8 → p.val = r.val - k) (hq : 8 ≤ r.val → q.val = r.val - k) :
    (if h : r.val < 8 then Scalar.select (IntOp.cmpi CmpIPredicate.slt (BitVec.ofNat 32 r.val) kw) (R (ix2 a l)) (v (ix2 p l)) else v (ix2 q l)) = up v R k r l := by
  unfold up
  rw [hc r]
  by_cases h : r.val < k
  · rw [dif_pos (show r.val < 8 by omega), dif_pos h, dif_pos h8, if_pos h]
    refine (if_pos rfl).trans ?_
    exact congrArg (fun z => R (ix2 z l)) (Fin.ext (ha h))
  · rw [dif_neg h, if_neg h]
    by_cases h' : r.val < 8
    · rw [dif_pos h']
      refine (if_neg (by decide)).trans ?_
      exact congrArg (fun z => v (ix2 z l)) (Fin.ext (hp (by omega) h'))
    · rw [dif_neg h']; exact congrArg (fun z => v (ix2 z l)) (Fin.ext (hq (by omega)))

/-- The convolution at an entry. -/
theorem pay12_apply (r : Fin 512) (l : Fin 1408) :
    (k0_pay12 v R b w0 w1 w2 (ix2 r l) : EReal) =
      (b (ix3 0 0 l) : EReal) + w0 (ix3 0 0 l) * up v R 2 r l + w1 (ix3 0 0 l) * up v R 1 r l + w2 (ix3 0 0 l) * v (ix2 r l) := by
  unfold k0_pay12
  pointwise
  have hr := r.isLt
  refine congrArg₂ (· + ·) (congrArg₂ (· + ·) (congrArg₂ (· + ·) rfl (congrArg₂ (· * ·) rfl ?_)) (congrArg₂ (· * ·) rfl ?_)) rfl
  · exact up_of v R 2#32 2 rfl (by decide +kernel) (by omega) (by omega) r l ⟨(r.val + 8 - 2) % 8, by omega⟩ ⟨(r.val + 512 - 2) % 512, by omega⟩ ⟨(8 + (r.val - 8) + 512 - 2) % 512, by omega⟩ (fun h => by show (r.val + 8 - 2) % 8 = _; omega) (fun h h' => by show (r.val + 512 - 2) % 512 = _; omega) (fun h => by show (8 + (r.val - 8) + 512 - 2) % 512 = _; omega)
  · exact up_of v R 1#32 1 rfl (by decide +kernel) (by omega) (by omega) r l ⟨(r.val + 8 - 1) % 8, by omega⟩ ⟨(r.val + 512 - 1) % 512, by omega⟩ ⟨(8 + (r.val - 8) + 512 - 1) % 512, by omega⟩ (fun h => by show (r.val + 8 - 1) % 8 = _; omega) (fun h h' => by show (r.val + 512 - 1) % 512 = _; omega) (fun h => by show (8 + (r.val - 8) + 512 - 1) % 512 = _; omega)

end Conv

end Cert.Ffn
-- ==== Proof.FfnMath.lean ====
/- What the feed-forward layer computes, entry by entry, in plain mathematics. -/
module

public import proofs.«01_k».proof.Proof.FfnPointwise

@[expose] public section

noncomputable section

namespace Cert.Ffn

open Idealize.ShloMosaic

/-- The arrays the layer is given: the rows, the per-layer inputs, the three norms' scales, the weights and the
    convolution, all of one layer. -/
structure Given where
  /-- The rows. -/
  x : Fin 8 → Fin 2048 → Fin 1024 → EReal
  /-- The per-layer inputs. -/
  p : Fin 8 → Fin 2048 → Fin 256 → EReal
  /-- The scale of the norm before. -/
  npre : Fin 1024 → EReal
  /-- The scale of the norm after. -/
  npost : Fin 1024 → EReal
  /-- The scale of the norm of the per-layer inputs. -/
  nple : Fin 1024 → EReal
  /-- The gate's weights. -/
  wg : Fin 1024 → Fin 2816 → EReal
  /-- The other factor's weights. -/
  wu : Fin 1024 → Fin 2816 → EReal
  /-- The three taps of the convolution. -/
  cw : Fin 3 → Fin 2816 → EReal
  /-- The bias of the convolution. -/
  cb : Fin 2816 → EReal
  /-- The weights back to the rows. -/
  wd : Fin 2816 → Fin 1024 → EReal
  /-- The weights of the per-layer gate. -/
  wpg : Fin 1024 → Fin 1024 → EReal
  /-- The weights of the per-layer inputs. -/
  wpe : Fin 256 → Fin 1024 → EReal

namespace Given

variable (G : Given) (b : Fin 8) (t : Fin 2048)

/-- The normalized row. -/
def h (j : Fin 1024) : EReal := nrm (G.x b t) G.npre j
/-- The gate's row. -/
def g (l : Fin 2816) : EReal := ∑ d, G.h b t d * G.wg d l
/-- The other factor's row. -/
def u (l : Fin 2816) : EReal := ∑ d, G.h b t d * G.wu d l
/-- The gate's row `k` places earlier in the sequence; zeros before its start. -/
def gUp (k : ℕ) (l : Fin 2816) : EReal := if t.val < k then 0 else G.g b ⟨t.val - k, lt_of_le_of_lt (Nat.sub_le _ _) t.isLt⟩ l
/-- The convolution along the sequence. -/
def conv (l : Fin 2816) : EReal := G.cb l + G.cw 0 l * G.gUp b t 2 l + G.cw 1 l * G.gUp b t 1 l + G.cw 2 l * G.g b t l
/-- The product of the activation and the other factor. -/
def act (l : Fin 2816) : EReal := gelu (G.conv b t l) * G.u b t l
/-- The row brought back. -/
def f (j : Fin 1024) : EReal := ∑ l, G.act b t l * G.wd l j
/-- The row after the first addition. -/
def x1 (j : Fin 1024) : EReal := G.x b t j + nrm (G.f b t) G.npost j
/-- The gated per-layer inputs. -/
def e (j : Fin 1024) : EReal := sigm (∑ d, G.x1 b t d * G.wpg d j) * ∑ d, G.p b t d * G.wpe d j
/-- The row of the result. -/
def out (j : Fin 1024) : EReal := G.x1 b t j + nrm (G.e b t) G.nple j

end Given

/-- The fourth layer of the arrays that both programs are given. -/
def given (x : (⟨3, ![8, 2048, 1024]⟩ : Shape).Idx → EReal) (p : (⟨4, ![4, 8, 2048, 256]⟩ : Shape).Idx → EReal)
    (npre npost : (⟨2, ![4, 1024]⟩ : Shape).Idx → EReal) (wg wu : (⟨3, ![4, 1024, 2816]⟩ : Shape).Idx → EReal)
    (cw : (⟨3, ![4, 3, 2816]⟩ : Shape).Idx → EReal) (cb : (⟨2, ![4, 2816]⟩ : Shape).Idx → EReal)
    (wd : (⟨3, ![4, 2816, 1024]⟩ : Shape).Idx → EReal) (wpg : (⟨3, ![4, 1024, 1024]⟩ : Shape).Idx → EReal)
    (wpe : (⟨3, ![4, 256, 1024]⟩ : Shape).Idx → EReal) (nple : (⟨2, ![4, 1024]⟩ : Shape).Idx → EReal) : Given where
  x b t j := x (ix3 b t j)
  p b t d := p (ix4 3 b t d)
  npre j := npre (ix2 3 j)
  npost j := npost (ix2 3 j)
  nple j := nple (ix2 3 j)
  wg d l := wg (ix3 3 d l)
  wu d l := wu (ix3 3 d l)
  cw k l := cw (ix3 3 k l)
  cb l := cb (ix2 3 l)
  wd l j := wd (ix3 3 l j)
  wpg d j := wpg (ix3 3 d j)
  wpe d j := wpe (ix3 3 d j)

end Cert.Ffn
-- ==== Proof.FfnBlocks.lean ====
/- The blocks of the feed-forward kernel's windows, at their places in the arrays. -/
module

public import proofs.«01_k».proof.Proof.FfnFrame
public import proofs.«01_k».proof.Proof.FfnMath
public import Idealize.ShloMosaic.Lib.Pipeline.ValueKit.Point
public import Idealize.ShloMosaic.Lib.Pipeline.ValueKit.Geometry
public import Idealize.ShloMosaic.Lib.Pipeline.ValueKit.Tiles

@[expose] public section

noncomputable section

namespace Cert.Ffn

open Cert.Kernel2Ideal Cert.Kernel2Ideal.Gen
open Idealize.ShloMosaic Idealize.ShloMosaic.TcCoe

variable (m : (ℓ : Loc nD τ sig) → Buf (Elt Ideal) ℓ) (c : Dev nD)

theorem e0 : ∀ t : Fin cfg0.N, win0_0.index t = ![t.val / 2, 0] := (by decide +kernel : ∀ t : Fin grid0.N, _)
theorem e1 : ∀ t : Fin cfg0.N, win0_1.index t = ![3, t.val / 2, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![3, 0, t.val % 2] := (by decide +kernel : ∀ t : Fin grid0.N, _)
theorem e6 : ∀ t : Fin cfg0.N, win0_6.index t = ![3, 0, t.val % 2] := (by decide +kernel : ∀ t : Fin grid0.N, _)
theorem e7 : ∀ t : Fin cfg0.N, win0_7.index t = ![3, 0, t.val % 2] := (by decide +kernel : ∀ t : Fin grid0.N, _)
theorem e8 : ∀ t : Fin cfg0.N, win0_8.index t = ![3, 0, t.val % 2] := (by decide +kernel : ∀ t : Fin grid0.N, _)
theorem e9 : ∀ t : Fin cfg0.N, win0_9.index t = ![3, t.val % 2, 0] := (by decide +kernel : ∀ t : Fin grid0.N, _)
theorem e10 : ∀ t : Fin cfg0.N, win0_10.index t = ![3, 0, 0] := (by decide +kernel : ∀ t : Fin grid0.N, _)
theorem e11 : ∀ t : Fin cfg0.N, win0_11.index t = ![3, 0, 0] := (by decide +kernel : ∀ t : Fin grid0.N, _)
theorem e12 : ∀ t : Fin cfg0.N, win0_12.index t = ![t.val / 2, 0] := (by decide +kernel : ∀ t : Fin grid0.N, _)
theorem e13 : ∀ t : Fin cfg0.N, win0_13.index t = ![t.val / 2, t.val % 2] := (by decide +kernel : ∀ t : Fin grid0.N, _)

/-- The arrays that the program is given. -/
def giv : Given := given (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11))

/-- What the region finds in an array that the host prepares. -/
theorem V_v15 : V m c main_v15 = shapeCast S16384x1024 (m ((c : Thread nD τ).loc main_arg0)) shapeCasts_S8x2048x1024_S16384x1024 := by
  show StableHlo.after (List.flatten [hostOps0]) (fun b => m (c, b)) (Proc.tc.devRef main_v15) = _
  rw [show List.flatten [hostOps0 (F := Ideal)] = hostOps0 from by simp only [List.flatten_cons, List.flatten_nil, List.append_nil]]
  unfold hostOps0
  after_results_simp
  rfl

/-- What the region finds in an array that the host prepares. -/
theorem V_v16 : V m c main_v16 = shapeCast S4x16384x256 (m ((c : Thread nD τ).loc main_arg1)) shapeCasts_S4x8x2048x256_S4x16384x256 := by
  show StableHlo.after (List.flatten [hostOps0]) (fun b => m (c, b)) (Proc.tc.devRef main_v16) = _
  rw [show List.flatten [hostOps0 (F := Ideal)] = hostOps0 from by simp only [List.flatten_cons, List.flatten_nil, List.append_nil]]
  unfold hostOps0
  after_results_simp
  rfl

/-- What the region finds in an array that the host prepares. -/
theorem V_v2 : V m c main_v2 = shapeCast S4x1x2816 (m ((c : Thread nD τ).loc main_arg7)) shapeCasts_S4x2816_S4x1x2816 := by
  show StableHlo.after (List.flatten [hostOps0]) (fun b => m (c, b)) (Proc.tc.devRef main_v2) = _
  rw [show List.flatten [hostOps0 (F := Ideal)] = hostOps0 from by simp only [List.flatten_cons, List.flatten_nil, List.append_nil]]
  unfold hostOps0
  after_results_simp
  rfl

/-- What the region finds in an array that the host prepares. -/
theorem V_v8 : V m c main_v8 = shapeCast S1x1024 (shapeCast S1024 (extractStridedSlice S1x1024 ![3, 0] (m ((c : Thread nD τ).loc main_arg2)) slices_S4x1024_S1x1024_3_0) shapeCasts_S1x1024_S1024) shapeCasts_S1024_S1x1024 := by
  show StableHlo.after (List.flatten [hostOps0]) (fun b => m (c, b)) (Proc.tc.devRef main_v8) = _
  rw [show List.flatten [hostOps0 (F := Ideal)] = hostOps0 from by simp only [List.flatten_cons, List.flatten_nil, List.append_nil]]
  unfold hostOps0
  after_results_simp
  rfl

/-- What the region finds in an array that the host prepares. -/
theorem V_v11 : V m c main_v11 = shapeCast S1x1024 (shapeCast S1024 (extractStridedSlice S1x1024 ![3, 0] (m ((c : Thread nD τ).loc main_arg3)) slices_S4x1024_S1x1024_3_0) shapeCasts_S1x1024_S1024) shapeCasts_S1024_S1x1024 := by
  show StableHlo.after (List.flatten [hostOps0]) (fun b => m (c, b)) (Proc.tc.devRef main_v11) = _
  rw [show List.flatten [hostOps0 (F := Ideal)] = hostOps0 from by simp only [List.flatten_cons, List.flatten_nil, List.append_nil]]
  unfold hostOps0
  after_results_simp
  rfl

/-- What the region finds in an array that the host prepares. -/
theorem V_v14 : V m c main_v14 = shapeCast S1x1024 (shapeCast S1024 (extractStridedSlice S1x1024 ![3, 0] (m ((c : Thread nD τ).loc main_arg11)) slices_S4x1024_S1x1024_3_0) shapeCasts_S1x1024_S1024) shapeCasts_S1024_S1x1024 := by
  show StableHlo.after (List.flatten [hostOps0]) (fun b => m (c, b)) (Proc.tc.devRef main_v14) = _
  rw [show List.flatten [hostOps0 (F := Ideal)] = hostOps0 from by simp only [List.flatten_cons, List.flatten_nil, List.append_nil]]
  unfold hostOps0
  after_results_simp
  rfl

/-- The sequence of a point. -/
def seqOf (t : Fin cfg0.N) : Fin 8 := ⟨t.val / 8, by have := t.isLt; change t.val < 64 at this; omega⟩
/-- The place in its sequence of a row of a point's tile. -/
def rowOf (t : Fin cfg0.N) (r : Fin 512) : Fin 2048 := ⟨512 * (t.val / 2 % 4) + r.val, by have := r.isLt; omega⟩
/-- The column of a point's column half. -/
def colOf (t : Fin cfg0.N) (l : Fin 1408) : Fin 2816 := ⟨1408 * (t.val % 2) + l.val, by have := l.isLt; omega⟩

/-- The rows' block. -/
theorem blk0 (t : Fin cfg0.N) (r : Fin 512) (j : Fin 1024) : (iblk m c 0 t (ix2 r j) : EReal) = (giv m c).x (seqOf t) (rowOf t r) j := by
  unfold giv given seqOf rowOf
  dsimp only
  show V m c main_v15 (((View.whole main_v15).slice (win0_0.rect t)).emb (ix2 r j)) = _
  rw [V_v15]
  have h0 : ((((View.whole main_v15).slice (win0_0.rect t)).emb (ix2 r j)) 0).val = 512 * (t.val / 2) + r.val := by blk_simp [e0 t] <;> first | rfl | omega
  have h1 : ((((View.whole main_v15).slice (win0_0.rect t)).emb (ix2 r j)) 1).val = j.val := by blk_simp [e0 t] <;> first | rfl | omega
  refine shapeCast_apply _ _ _ (ix3 (seqOf t) (rowOf t r) j) ?_
  rw [Shape.rowMajor_val_three, Shape.rowMajor_val_two, h0, h1]
  have ht := t.isLt
  change t.val < 64 at ht
  show (t.val / 8 * 2048 + (512 * (t.val / 2 % 4) + r.val)) * 1024 + j.val = (512 * (t.val / 2) + r.val) * 1024 + j.val
  omega

theorem blk1 (t : Fin cfg0.N) (r : Fin 512) (d : Fin 256) : (iblk m c 1 t (ix3 0 r d) : EReal) = (giv m c).p (seqOf t) (rowOf t r) d := by
  unfold giv given seqOf rowOf
  dsimp only
  show V m c main_v16 (((View.whole main_v16).slice (win0_1.rect t)).emb (ix3 0 r d)) = _
  rw [V_v16]
  have h0 : ((((View.whole main_v16).slice (win0_1.rect t)).emb (ix3 0 r d)) 0).val = 3 := by blk_simp [e1 t] <;> first | rfl | omega
  have h1 : ((((View.whole main_v16).slice (win0_1.rect t)).emb (ix3 0 r d)) 1).val = 512 * (t.val / 2) + r.val := by blk_simp [e1 t] <;> first | rfl | omega
  have h2 : ((((View.whole main_v16).slice (win0_1.rect t)).emb (ix3 0 r d)) 2).val = d.val := by blk_simp [e1 t] <;> first | rfl | omega
  refine shapeCast_apply _ _ _ (ix4 3 (seqOf t) (rowOf t r) d) ?_
  rw [Shape.rowMajor_val_four, Shape.rowMajor_val_three, h0, h1, h2]
  have ht := t.isLt
  change t.val < 64 at ht
  show ((3 * 8 + t.val / 8) * 2048 + (512 * (t.val / 2 % 4) + r.val)) * 256 + d.val = (3 * 16384 + (512 * (t.val / 2) + r.val)) * 256 + d.val
  omega

theorem blk2 (t : Fin cfg0.N) (j : Fin 1024) : (iblk m c 2 t (ix2 0 j) : EReal) = (giv m c).npre j := by
  unfold giv given
  dsimp only
  show V m c main_v8 (((View.whole main_v8).slice (win0_2.rect t)).emb (ix2 0 j)) = _
  rw [V_v8]
  pointwise
  refine congrArg (fun z => m ((c : Thread nD τ).loc main_arg2) (ix2 3 z)) (Fin.ext ?_)
  blk_simp [e2 t]

theorem blk3 (t : Fin cfg0.N) (j : Fin 1024) : (iblk m c 3 t (ix2 0 j) : EReal) = (giv m c).npost j := by
  unfold giv given
  dsimp only
  show V m c main_v11 (((View.whole main_v11).slice (win0_3.rect t)).emb (ix2 0 j)) = _
  rw [V_v11]
  pointwise
  refine congrArg (fun z => m ((c : Thread nD τ).loc main_arg3) (ix2 3 z)) (Fin.ext ?_)
  blk_simp [e3 t]

theorem blk4 (t : Fin cfg0.N) (j : Fin 1024) : (iblk m c 4 t (ix2 0 j) : EReal) = (giv m c).nple j := by
  unfold giv given
  dsimp only
  show V m c main_v14 (((View.whole main_v14).slice (win0_4.rect t)).emb (ix2 0 j)) = _
  rw [V_v14]
  pointwise
  refine congrArg (fun z => m ((c : Thread nD τ).loc main_arg11) (ix2 3 z)) (Fin.ext ?_)
  blk_simp [e4 t]

theorem blk5 (t : Fin cfg0.N) (d : Fin 1024) (l : Fin 1408) : (iblk m c 5 t (ix3 0 d l) : EReal) = (giv m c).wg d (colOf t l) := by
  unfold giv given colOf
  dsimp only
  blk_ext! [iblk, e5 t]

theorem blk6 (t : Fin cfg0.N) (d : Fin 1024) (l : Fin 1408) : (iblk m c 6 t (ix3 0 d l) : EReal) = (giv m c).wu d (colOf t l) := by
  unfold giv given colOf
  dsimp only
  blk_ext! [iblk, e6 t]

theorem blk7 (t : Fin cfg0.N) (k : Fin 3) (l : Fin 1408) : (iblk m c 7 t (ix3 0 k l) : EReal) = (giv m c).cw k (colOf t l) := by
  unfold giv given colOf
  dsimp only
  blk_ext! [iblk, e7 t]

theorem blk8 (t : Fin cfg0.N) (l : Fin 1408) : (iblk m c 8 t (ix3 0 0 l) : EReal) = (giv m c).cb (colOf t l) := by
  unfold giv given colOf
  dsimp only
  show V m c main_v2 (((View.whole main_v2).slice (win0_8.rect t)).emb (ix3 0 0 l)) = _
  rw [V_v2]
  have h0 : ((((View.whole main_v2).slice (win0_8.rect t)).emb (ix3 0 0 l)) 0).val = 3 := by blk_simp [e8 t] <;> first | rfl | omega
  have h1 : ((((View.whole main_v2).slice (win0_8.rect t)).emb (ix3 0 0 l)) 1).val = 0 := by blk_simp [e8 t] <;> first | rfl | omega
  have h2 : ((((View.whole main_v2).slice (win0_8.rect t)).emb (ix3 0 0 l)) 2).val = 1408 * (t.val % 2) + l.val := by blk_simp [e8 t] <;> first | rfl | omega
  refine shapeCast_apply _ _ _ (ix2 3 (colOf t l)) ?_
  rw [Shape.rowMajor_val_two, Shape.rowMajor_val_three, h0, h1, h2]
  show 3 * 2816 + (1408 * (t.val % 2) + l.val) = (3 * 1 + 0) * 2816 + (1408 * (t.val % 2) + l.val)
  omega

theorem blk9 (t : Fin cfg0.N) (l : Fin 1408) (j : Fin 1024) : (iblk m c 9 t (ix3 0 l j) : EReal) = (giv m c).wd (colOf t l) j := by
  unfold giv given colOf
  dsimp only
  blk_ext! [iblk, e9 t]

theorem blk10 (t : Fin cfg0.N) (d : Fin 1024) (j : Fin 1024) : (iblk m c 10 t (ix3 0 d j) : EReal) = (giv m c).wpg d j := by
  unfold giv given
  dsimp only
  blk_ext! [iblk, e10 t]

theorem blk11 (t : Fin cfg0.N) (d : Fin 256) (j : Fin 1024) : (iblk m c 11 t (ix3 0 d j) : EReal) = (giv m c).wpe d j := by
  unfold giv given
  dsimp only
  blk_ext! [iblk, e11 t]

end Cert.Ffn
-- ==== Proof.FfnTiles.lean ====
/- What the feed-forward kernel's tiles hold: rows of the layer's result, and the gate's rows at the end of a tile. -/
module

public import proofs.«01_k».proof.Proof.FfnBlocks

@[expose] public section

noncomputable section

namespace Cert.Ffn

open Cert.Kernel2Ideal Cert.Kernel2Ideal.Gen
open Idealize.ShloMosaic Idealize.ShloMosaic.TcCoe

/-- A tap of the convolution. -/
theorem tap0_apply (x : Vec Ideal S1x3x1408 .f32) (l : Fin 1408) : tap0 x (ix3 0 0 l) = x (ix3 0 0 l) := by
  unfold tap0 VecWindow.window
  refine congrArg x (funext fun a => Fin.ext ?_)
  match a with
  | ⟨0, _⟩ => rfl
  | ⟨1, _⟩ => rfl
  | ⟨2, _⟩ => show 0 + 1 * l.val = l.val; omega
@[inherit_doc tap0_apply]
theorem tap1_apply (x : Vec Ideal S1x3x1408 .f32) (l : Fin 1408) : tap1 x (ix3 0 0 l) = x (ix3 0 1 l) := by
  unfold tap1 VecWindow.window
  refine congrArg x (funext fun a => Fin.ext ?_)
  match a with
  | ⟨0, _⟩ => rfl
  | ⟨1, _⟩ => rfl
  | ⟨2, _⟩ => show 0 + 1 * l.val = l.val; omega
@[inherit_doc tap0_apply]
theorem tap2_apply (x : Vec Ideal S1x3x1408 .f32) (l : Fin 1408) : tap2 x (ix3 0 0 l) = x (ix3 0 2 l) := by
  unfold tap2 VecWindow.window
  refine congrArg x (funext fun a => Fin.ext ?_)
  match a with
  | ⟨0, _⟩ => rfl
  | ⟨1, _⟩ => rfl
  | ⟨2, _⟩ => show 0 + 1 * l.val = l.val; omega

/-- The accumulator after a column half, at an entry. -/
theorem accNext_apply (R : FVec Ideal S8x1408 .f32) (x5 x6 : Vec Ideal S1x1024x1408 .bf16) (x7 : Vec Ideal S1x3x1408 .f32)
    (x8 : Vec Ideal S1x1x1408 .f32) (x9 : Vec Ideal S1x1408x1024 .bf16) (H : Vec Ideal S512x1024 .bf16) (A : Vec Ideal S512x1024 .f32)
    (r : Fin 512) (j : Fin 1024) :
    (accNext R x5 x6 x7 x8 x9 H A (ix2 r j) : EReal) = A (ix2 r j) + ∑ l : Fin 1408,
      gelu ((x8 (ix3 0 0 l) : EReal) + x7 (ix3 0 0 l) * up (k0_pay7 H x5) R 2 r l + x7 (ix3 0 1 l) * up (k0_pay7 H x5) R 1 r l
        + x7 (ix3 0 2 l) * k0_pay7 H x5 (ix2 r l)) * (k0_pay8 H x6 (ix2 r l) : EReal) * x9 (ix3 0 l j) := by
  unfold accNext
  refine (pay1_apply _ _ _ _ _ _ _ _ (fun l => pay13_apply _ _ _ _ _ _ _ _) (fun l => pay14_apply _ _ _ _ _ _ _ _)).trans ?_
  refine congrArg₂ (· + ·) rfl (Finset.sum_congr rfl fun l _ => ?_)
  rw [pay12_apply, tap0_apply, tap1_apply, tap2_apply]

variable (m : (ℓ : Loc nD τ sig) → Buf (Elt Ideal) ℓ) (c : Dev nD)

/-- The normalized rows of a tile. -/
theorem hb_apply (t : Fin cfg0.N) (r : Fin 512) (j : Fin 1024) : (hb m c t (ix2 r j) : EReal) = (giv m c).h (seqOf t) (rowOf t r) j := by
  have es : seqOf (evenPt t) = seqOf t := Fin.ext (by show (t.val - t.val % 2) / 8 = t.val / 8; omega)
  have er : rowOf (evenPt t) r = rowOf t r := Fin.ext (by show 512 * ((t.val - t.val % 2) / 2 % 4) + r.val = 512 * (t.val / 2 % 4) + r.val; omega)
  unfold hb Given.h
  refine (pay5_apply _ _ _ _).trans (congrArg₂ (fun v g => nrm v g j) (funext fun k => ?_) (funext fun k => ?_))
  · rw [← es, ← er]; exact blk0 m c _ _ _
  · exact blk2 m c _ _

/-- The gate's rows of a tile, at a point's columns. -/
theorem gate_apply (t : Fin cfg0.N) (r : Fin 512) (l : Fin 1408) :
    (k0_pay7 (hb m c t) (iblk m c 5 t) (ix2 r l) : EReal) = (giv m c).g (seqOf t) (rowOf t r) (colOf t l) := by
  unfold Given.g
  refine (pay7_apply _ _ _ _).trans (Finset.sum_congr rfl fun d _ => congrArg₂ (· * ·) (hb_apply m c t r d) (blk5 m c t d l))

/-- The other factor's rows of a tile, at a point's columns. -/
theorem fac_apply (t : Fin cfg0.N) (r : Fin 512) (l : Fin 1408) :
    (k0_pay8 (hb m c t) (iblk m c 6 t) (ix2 r l) : EReal) = (giv m c).u (seqOf t) (rowOf t r) (colOf t l) := by
  unfold Given.u
  refine (pay8_apply _ _ _ _).trans (Finset.sum_congr rfl fun d _ => congrArg₂ (· * ·) (hb_apply m c t r d) (blk6 m c t d l))

/-- The gate's last rows of a tile. -/
theorem last_apply (t : Fin cfg0.N) (r : Fin 8) (l : Fin 1408) :
    (k0_pay9 (hb m c t) (iblk m c 5 t) (ix2 r l) : EReal)
      = (giv m c).g (seqOf t) (rowOf t ⟨504 + r.val, by have := r.isLt; omega⟩) (colOf t l) :=
  (pay9_apply _ _ _ _).trans (gate_apply m c t _ l)

/-- The rows before a tile that starts a sequence: zeros. -/
theorem prev_start (t : Fin cfg0.N) (h : t.val / 2 % 4 = 0) (r : Fin 8) (l : Fin 1408) : (prev m c t (ix2 r l) : EReal) = 0 := by
  unfold prev
  rw [pay10_start ((seqStart_iff t).mpr h)]
  exact Ideal.ofBits_zero_f32

/-- The rows before another tile: the last rows of the tile before. -/
theorem prev_inner (t : Fin cfg0.N) (h : ¬t.val / 2 % 4 = 0) (r : Fin 8) (l : Fin 1408) :
    (prev m c t (ix2 r l) : EReal)
      = (giv m c).g (seqOf t) ⟨512 * (t.val / 2 % 4) - 8 + r.val, by have := r.isLt; omega⟩ (colOf t l) := by
  have ht := t.isLt
  change t.val < 64 at ht
  have hr := r.isLt
  unfold prev
  rw [pay10_inner (fun q => h ((seqStart_iff t).mp q))]
  refine (shapeCast_apply _ _ (ix2 r l) (ix3 0 r l) ?_).trans ((pay11_apply _ _ _ _).trans ((last_apply m c (tileBefore t) r l).trans ?_))
  · rw [Shape.rowMajor_val_three, Shape.rowMajor_val_two]
    show (0 * 8 + r.val) * 1408 + l.val = r.val * 1408 + l.val
    omega
  · have e1 : seqOf (tileBefore t) = seqOf t := Fin.ext (by show (t.val - 2) / 8 = t.val / 8; omega)
    have e2 : rowOf (tileBefore t) ⟨504 + r.val, by omega⟩ = ⟨512 * (t.val / 2 % 4) - 8 + r.val, by omega⟩ :=
      Fin.ext (by show 512 * ((t.val - 2) / 2 % 4) + (504 + r.val) = 512 * (t.val / 2 % 4) - 8 + r.val; omega)
    have e3 : colOf (tileBefore t) l = colOf t l := Fin.ext (by show 1408 * ((t.val - 2) % 2) + l.val = 1408 * (t.val % 2) + l.val; omega)
    rw [e1, e2, e3]

/-- The gate's rows `k` up. -/
theorem up_apply (t : Fin cfg0.N) (k : ℕ) (hk : k ≤ 8) (r : Fin 512) (l : Fin 1408) :
    up (k0_pay7 (hb m c t) (iblk m c 5 t)) (prev m c t) k r l = (giv m c).gUp (seqOf t) (rowOf t r) k (colOf t l) := by
  have hr := r.isLt
  have hv : (rowOf t r).val = 512 * (t.val / 2 % 4) + r.val := rfl
  unfold up Given.gUp
  by_cases h : r.val < k
  · rw [dif_pos h, dif_pos hk]
    by_cases hs : t.val / 2 % 4 = 0
    · rw [if_pos (by omega)]
      exact prev_start m c t hs _ l
    · rw [if_neg (by omega)]
      refine (prev_inner m c t hs _ l).trans (congrArg (fun z => (giv m c).g (seqOf t) z (colOf t l)) (Fin.ext ?_))
      show 512 * (t.val / 2 % 4) - 8 + (8 - k + r.val) = 512 * (t.val / 2 % 4) + r.val - k
      omega
  · rw [dif_neg h, if_neg (by omega)]
    refine (gate_apply m c t _ l).trans (congrArg (fun z => (giv m c).g (seqOf t) z (colOf t l)) (Fin.ext ?_))
    show 512 * (t.val / 2 % 4) + (r.val - k) = 512 * (t.val / 2 % 4) + r.val - k
    omega

/-- What a point adds to the accumulator. -/
theorem acc_apply (t : Fin cfg0.N) (A : Vec Ideal S512x1024 .f32) (r : Fin 512) (j : Fin 1024) :
    (accNext (prev m c t) (iblk m c 5 t) (iblk m c 6 t) (iblk m c 7 t) (iblk m c 8 t) (iblk m c 9 t) (hb m c t) A (ix2 r j) : EReal)
      = A (ix2 r j) + ∑ l : Fin 1408, (giv m c).act (seqOf t) (rowOf t r) (colOf t l) * (giv m c).wd (colOf t l) j := by
  refine (accNext_apply _ _ _ _ _ _ _ _ _ _).trans (congrArg₂ (· + ·) rfl (Finset.sum_congr rfl fun l _ => ?_))
  unfold Given.act Given.conv
  rw [up_apply m c t 2 (by omega) r l, up_apply m c t 1 (by omega) r l, gate_apply m c t r l, fac_apply m c t r l]
  refine congrArg₂ (· * ·) (congrArg₂ (· * ·) (congrArg gelu ?_) rfl) (blk9 m c t l j)
  refine congrArg₂ (· + ·) (congrArg₂ (· + ·) (congrArg₂ (· + ·) (blk8 m c t l) ?_) ?_) ?_
  · exact congrArg (· * _) (blk7 m c t 0 l)
  · exact congrArg (· * _) (blk7 m c t 1 l)
  · exact congrArg (· * _) (blk7 m c t 2 l)

/-- The accumulator at the end of a tile: the rows brought back. -/
theorem accSecond_apply (t : Fin cfg0.N) (h : t.val % 2 = 1) (r : Fin 512) (j : Fin 1024) :
    (accSecond m c t (ix2 r j) : EReal) = (giv m c).f (seqOf t) (rowOf t r) j := by
  have hp : (prior t).val = t.val - 1 := rfl
  have e1 : seqOf (prior t) = seqOf t := Fin.ext (by show (t.val - 1) / 8 = t.val / 8; omega)
  have e2 : rowOf (prior t) r = rowOf t r := Fin.ext (by show 512 * ((t.val - 1) / 2 % 4) + r.val = 512 * (t.val / 2 % 4) + r.val; omega)
  have c0 : ∀ l : Fin 1408, colOf (prior t) l = Fin.castAdd 1408 l := fun l => Fin.ext (by show 1408 * ((t.val - 1) % 2) + l.val = l.val; omega)
  have c1 : ∀ l : Fin 1408, colOf t l = Fin.natAdd 1408 l := fun l => Fin.ext (by show 1408 * (t.val % 2) + l.val = 1408 + l.val; omega)
  unfold accSecond
  refine (acc_apply m c t _ r j).trans ?_
  have ef : (accFirst m c (prior t) (ix2 r j) : EReal)
      = ∑ l : Fin 1408, (giv m c).act (seqOf t) (rowOf t r) (Fin.castAdd 1408 l) * (giv m c).wd (Fin.castAdd 1408 l) j := by
    unfold accFirst
    refine (acc_apply m c (prior t) _ r j).trans ?_
    rw [pay6_apply, zero_add, e1, e2]
    exact Finset.sum_congr rfl fun l _ => by rw [c0 l]
  rw [ef]
  unfold Given.f
  refine Eq.trans ?_ (Fin.sum_univ_add (a := 1408) (b := 1408) fun l => (giv m c).act (seqOf t) (rowOf t r) l * (giv m c).wd l j).symm
  exact congrArg₂ (· + ·) rfl (Finset.sum_congr rfl fun l _ => by rw [c1 l])

/-- The finished tile: rows of the result. -/
theorem outAt_apply (t : Fin cfg0.N) (h : t.val % 2 = 1) (r : Fin 512) (j : Fin 1024) :
    (outAt m c t (ix2 r j) : EReal) = (giv m c).out (seqOf t) (rowOf t r) j := by
  have h1 : ∀ k, (k0_pay3 (iblk m c 0 t) (accSecond m c t) (iblk m c 3 t) (ix2 r k) : EReal) = (giv m c).x1 (seqOf t) (rowOf t r) k := by
    intro k
    refine (pay3_apply _ _ _ _ _).trans ?_
    unfold Given.x1
    refine congrArg₂ (· + ·) (blk0 m c t r k) (congrArg₂ (fun v g => nrm v g k) (funext fun d => ?_) (funext fun d => ?_))
    · exact accSecond_apply m c t h r d
    · exact blk3 m c t d
  have h2 : ∀ k, (k0_pay4 (iblk m c 1 t) (iblk m c 11 t) (iblk m c 0 t) (accSecond m c t) (iblk m c 3 t) (iblk m c 10 t) (ix2 r k) : EReal)
      = (giv m c).e (seqOf t) (rowOf t r) k := by
    intro k
    refine (pay4_apply _ _ _ _ _ _ _ _).trans ?_
    unfold Given.e
    refine congrArg₂ (· * ·) (congrArg sigm (Finset.sum_congr rfl fun d _ => congrArg₂ (· * ·) (h1 d) (blk10 m c t d k)))
      (Finset.sum_congr rfl fun d _ => congrArg₂ (· * ·) (blk1 m c t r d) (blk11 m c t d k))
  unfold outAt outTile
  refine (pay2_apply _ _ _ _ _).trans ?_
  unfold Given.out
  refine congrArg₂ (· + ·) (h1 j) (congrArg₂ (fun v g => nrm v g j) (funext fun d => h2 d) (funext fun d => ?_))
  exact blk4 m c t d

end Cert.Ffn
-- ==== Proof.FfnResult.lean ====
/- What the feed-forward kernel's program leaves in its two results. -/
module

public import proofs.«01_k».proof.Proof.FfnTiles

@[expose] public section

noncomputable section

namespace Cert.Ffn

open Cert.Kernel2Ideal Cert.Kernel2Ideal.Gen
open Idealize.ShloMosaic Idealize.ShloMosaic.TcCoe Idealize.SL.Sem

/-- The rows of the result, as an array. -/
def outArr (G : Given) : (⟨3, ![8, 2048, 1024]⟩ : Shape).Idx → EReal := fun i => G.out (i 0) (i 1) (i 2)
/-- The gate's last two rows of every sequence, as an array. -/
def tailArr (G : Given) : (⟨3, ![8, 2, 2816]⟩ : Shape).Idx → EReal := fun i =>
  G.g (i 0) ⟨2046 + (i 1).val, by have : (i 1).val < 2 := (i 1).isLt; omega⟩ (i 2)

/-- The rows of the result, all sequences one after the other. -/
def outFlat (G : Given) : (⟨2, ![16384, 1024]⟩ : Shape).Idx → EReal := fun i =>
  G.out ⟨(i 0).val / 2048, by have : (i 0).val < 16384 := (i 0).isLt; omega⟩ ⟨(i 0).val % 2048, Nat.mod_lt _ (by norm_num)⟩ (i 1)
/-- The gate's last eight rows of every tile. -/
def lastFlat (G : Given) : (⟨2, ![256, 2816]⟩ : Shape).Idx → EReal := fun i =>
  G.g ⟨(i 0).val / 32, by have : (i 0).val < 256 := (i 0).isLt; omega⟩ ⟨512 * ((i 0).val / 8 % 4) + 504 + (i 0).val % 8, by omega⟩ (i 1)

variable (m : (ℓ : Loc nD τ sig) → Buf (Elt Ideal) ℓ) (ρ : Dev nD → PrngReg) (c : Dev nD)

/-- The result's array after the region. -/
theorem arr12 : (dats m 0 c).arrAt 12 cfg0.N = outFlat (giv m c) := by
  refine (dats m 0 c).arrAt_eq_of_covers 12 _ (by decide +kernel) fun t hf y => ?_
  have h1 : t.val % 2 = 1 := by have := (flush0_12 t).mp hf; omega
  have ht := t.isLt
  change t.val < 64 at ht
  have hy0 : (y 0).val < 512 := (y 0).isLt
  blk_simp [e12 t]
  have hy : y = (ix2 (y 0) (y 1) : (⟨2, ![512, 1024]⟩ : Shape).Idx) := by
    funext a
    match a with
    | ⟨0, _⟩ => rfl
    | ⟨1, _⟩ => rfl
  have he0 : ((win0_12.blk t).view.emb y 0).val = 512 * (t.val / 2) + (y 0).val := by blk_simp [e12 t]; omega
  have he1 : ((win0_12.blk t).view.emb y 1).val = (y 1).val := by blk_simp [e12 t]
  refine Eq.trans (congrArg ((dats m 0 c).after 12 t) hy) ?_
  rw [after_12]
  refine (outAt_apply m c t h1 (y 0) (y 1)).trans ?_
  unfold outFlat
  have q0 : seqOf t = ⟨((win0_12.blk t).view.emb y 0).val / 2048, by rw [he0]; omega⟩ := Fin.ext (by show t.val / 8 = ((win0_12.blk t).view.emb y 0).val / 2048; rw [he0]; omega)
  have q1 : rowOf t (y 0) = ⟨((win0_12.blk t).view.emb y 0).val % 2048, Nat.mod_lt _ (by norm_num)⟩ := Fin.ext (by show 512 * (t.val / 2 % 4) + (y 0).val = ((win0_12.blk t).view.emb y 0).val % 2048; rw [he0]; omega)
  have q2 : (y 1 : Fin 1024) = (win0_12.blk t).view.emb y 1 := Fin.ext he1.symm
  rw [q0, q1]
  exact congrArg _ q2

/-- The tails' array after the region. -/
theorem arr13 : (dats m 0 c).arrAt 13 cfg0.N = lastFlat (giv m c) := by
  refine (dats m 0 c).arrAt_eq_of_covers 13 _ (by decide +kernel) fun t hf y => ?_
  have ht := t.isLt
  change t.val < 64 at ht
  have hy0 : (y 0).val < 8 := (y 0).isLt
  blk_simp [e13 t]
  have hy : y = (ix2 (y 0) (y 1) : (⟨2, ![8, 1408]⟩ : Shape).Idx) := by
    funext a
    match a with
    | ⟨0, _⟩ => rfl
    | ⟨1, _⟩ => rfl
  have he0 : ((win0_13.blk t).view.emb y 0).val = 8 * (t.val / 2) + (y 0).val := by blk_simp [e13 t]; omega
  have he1 : ((win0_13.blk t).view.emb y 1).val = 1408 * (t.val % 2) + (y 1).val := by blk_simp [e13 t]; omega
  refine Eq.trans (congrArg ((dats m 0 c).after 13 t) hy) ?_
  rw [after_13]
  refine (last_apply m c t (y 0) (y 1)).trans ?_
  unfold lastFlat
  have q0 : seqOf t = ⟨((win0_13.blk t).view.emb y 0).val / 32, by rw [he0]; omega⟩ := Fin.ext (by show t.val / 8 = ((win0_13.blk t).view.emb y 0).val / 32; rw [he0]; omega)
  have q1 : rowOf t ⟨504 + (y 0).val, by omega⟩ = ⟨512 * (((win0_13.blk t).view.emb y 0).val / 8 % 4) + 504 + ((win0_13.blk t).view.emb y 0).val % 8, by omega⟩ :=
    Fin.ext (by show 512 * (t.val / 2 % 4) + (504 + (y 0).val) = 512 * (((win0_13.blk t).view.emb y 0).val / 8 % 4) + 504 + ((win0_13.blk t).view.emb y 0).val % 8; rw [he0]; omega)
  have q2 : colOf t (y 1) = (win0_13.blk t).view.emb y 1 := Fin.ext he1.symm
  rw [q0, q1]
  exact congrArg _ q2

/-- What the host leaves in the first result. -/
theorem tail19 : Pipeline.afterTail₀ cfgs (dats m) 0 (V0 m) [hostOps1] c main_v19
    = shapeCast S8x2048x1024 ((dats m 0 c).arrAt 12 cfg0.N) shapeCasts_S16384x1024_S8x2048x1024 := by
  unfold Pipeline.afterTail₀
  rw [show List.flatten [hostOps1 (F := Ideal)] = hostOps1 from by simp only [List.flatten_cons, List.flatten_nil, List.append_nil]]
  unfold hostOps1
  after_results_simp
  exact congrArg (fun X : S16384x1024.Idx → EReal => shapeCast S8x2048x1024 X shapeCasts_S16384x1024_S8x2048x1024)
    (Pipeline.withArrays_arr (cfgs 0).spec (by decide) c (V0 m c) (fun w => (dats m 0 c).arrAt w (cfgs 0).N) 12)

/-- What the host leaves in the second result. -/
theorem tail21 : Pipeline.afterTail₀ cfgs (dats m) 0 (V0 m) [hostOps1] c main_v21
    = shapeCast S8x2x2816 (extractStridedSlice S8x1x2x2816 ![0, 3, 6, 0]
        (shapeCast S8x4x8x2816 ((dats m 0 c).arrAt 13 cfg0.N) shapeCasts_S256x2816_S8x4x8x2816) slices_S8x4x8x2816_S8x1x2x2816_0_3_6_0) shapeCasts_S8x1x2x2816_S8x2x2816 := by
  unfold Pipeline.afterTail₀
  rw [show List.flatten [hostOps1 (F := Ideal)] = hostOps1 from by simp only [List.flatten_cons, List.flatten_nil, List.append_nil]]
  unfold hostOps1
  after_results_simp
  refine congrArg (fun X : S8x1x2x2816.Idx → EReal => shapeCast S8x2x2816 X shapeCasts_S8x1x2x2816_S8x2x2816) ?_
  refine congrArg (fun X : S8x4x8x2816.Idx → EReal => extractStridedSlice S8x1x2x2816 ![0, 3, 6, 0] X slices_S8x4x8x2816_S8x1x2x2816_0_3_6_0) ?_
  exact congrArg (fun X : S256x2816.Idx → EReal => shapeCast S8x4x8x2816 X shapeCasts_S256x2816_S8x4x8x2816)
    (Pipeline.withArrays_arr (cfgs 0).spec (by decide) c (V0 m c) (fun w => (dats m 0 c).arrAt w (cfgs 0).N) 13)

/-- The first result holds the rows. -/
theorem result19 : Pipeline.afterTail₀ cfgs (dats m) 0 (V0 m) [hostOps1] c main_v19 = outArr (giv m c) := by
  rw [tail19, arr12]
  funext i
  refine (shapeCast_apply _ _ i (ix2 ⟨2048 * (i 0).val + (i 1).val, by
    have h0 : (i 0).val < 8 := (i 0).isLt; have h1 : (i 1).val < 2048 := (i 1).isLt; omega⟩ (i 2)) ?_).trans ?_
  · rw [Shape.rowMajor_val_two, Shape.rowMajor_val_three]
    show (2048 * (i 0).val + (i 1).val) * 1024 + (i 2).val = ((i 0).val * 2048 + (i 1).val) * 1024 + (i 2).val
    omega
  · have h1 : (i 1).val < 2048 := (i 1).isLt
    unfold outFlat outArr
    refine congrArg₂ (fun a b => (giv m c).out a b (i 2)) (Fin.ext ?_) (Fin.ext ?_)
    · show (2048 * (i 0).val + (i 1).val) / 2048 = (i 0).val; omega
    · show (2048 * (i 0).val + (i 1).val) % 2048 = (i 1).val; omega

/-- The second result holds the gate's last two rows. -/
theorem result21 : Pipeline.afterTail₀ cfgs (dats m) 0 (V0 m) [hostOps1] c main_v21 = tailArr (giv m c) := by
  rw [tail21, arr13]
  funext i
  have h0 : (i 0).val < 8 := (i 0).isLt
  have h1 : (i 1).val < 2 := (i 1).isLt
  refine (shapeCast_apply _ _ i (ix4 (i 0) 0 (i 1) (i 2) : (⟨4, ![8, 1, 2, 2816]⟩ : Shape).Idx) ?_).trans ?_
  · rw [Shape.rowMajor_val_four, Shape.rowMajor_val_three]
    show (((i 0).val * 1 + 0) * 2 + (i 1).val) * 2816 + (i 2).val = ((i 0).val * 2 + (i 1).val) * 2816 + (i 2).val
    omega
  refine (extractStridedSlice_apply _ _ _ _ (ix4 (i 0) 3 ⟨6 + (i 1).val, by omega⟩ (i 2) : (⟨4, ![8, 4, 8, 2816]⟩ : Shape).Idx) ?_).trans ?_
  · intro a
    match a with
    | ⟨0, _⟩ => exact (Nat.zero_add _).symm
    | ⟨1, _⟩ => rfl
    | ⟨2, _⟩ => rfl
    | ⟨3, _⟩ => exact (Nat.zero_add _).symm
  refine (shapeCast_apply _ _ _ (ix2 ⟨32 * (i 0).val + 24 + (6 + (i 1).val), by omega⟩ (i 2) : (⟨2, ![256, 2816]⟩ : Shape).Idx) ?_).trans ?_
  · rw [Shape.rowMajor_val_four, Shape.rowMajor_val_two]
    show (32 * (i 0).val + 24 + (6 + (i 1).val)) * 2816 + (i 2).val = (((i 0).val * 4 + 3) * 8 + (6 + (i 1).val)) * 2816 + (i 2).val
    omega
  unfold lastFlat tailArr
  refine congrArg₂ (fun a b => (giv m c).g a b (i 2)) (Fin.ext ?_) (Fin.ext ?_)
  · show (32 * (i 0).val + 24 + (6 + (i 1).val)) / 32 = (i 0).val; omega
  · show 512 * ((32 * (i 0).val + 24 + (6 + (i 1).val)) / 8 % 4) + 504 + (32 * (i 0).val + 24 + (6 + (i 1).val)) % 8 = 2046 + (i 1).val; omega

/-- After a run the two results hold the rows and the gate's last two rows. -/
theorem run_results : θ_run defs (onTc (τ := τ) (main (F := Ideal))) ⟨m, fun _ => 0, ρ⟩ (fun r => ∀ c : Dev nD,
    r.2.mem ((c.tc : Thread nD τ).loc main_v19) = outArr (giv m c) ∧ r.2.mem ((c.tc : Thread nD τ).loc main_v21) = tailArr (giv m c)) :=
  (θ_run defs _ _).mono (fun r h c =>
    ⟨((h c).2 main_v19 (Pipeline.mem_restRefs_of main_v19 (by decide) (by decide))).trans (result19 m c),
     ((h c).2 main_v21 (Pipeline.mem_restRefs_of main_v21 (by decide) (by decide))).trans (result21 m c)⟩) (run_main m ρ)

end Cert.Ffn
-- ==== Proof.FfnReference.lean ====
/- What the reference of the feed-forward layer computes, entry by entry. -/
module

public import proofs.«01_k».proof.Proof.FfnMath
public import proofs.«01_k».proof.Proof.Gen.Reference2Ideal.Read

@[expose] public section

noncomputable section

namespace Cert.Ffn.Ref

open Cert.Reference2Ideal Cert.Reference2Ideal.Gen Cert.Reference2Ideal.Read Idealize.ShloMosaic

/-- Two indices of three axes agree when their coordinates do. -/
theorem ext3 {a b c : ℕ} {i j : (⟨3, ![a, b, c]⟩ : Shape).Idx} (h0 : (i 0).val = (j 0).val) (h1 : (i 1).val = (j 1).val) (h2 : (i 2).val = (j 2).val) : i = j := by
  funext k
  match k with
  | ⟨0, _⟩ => exact Fin.ext h0
  | ⟨1, _⟩ => exact Fin.ext h1
  | ⟨2, _⟩ => exact Fin.ext h2

/-- Two indices of two axes agree when their coordinates do. -/
theorem ext2 {a b : ℕ} {i j : (⟨2, ![a, b]⟩ : Shape).Idx} (h0 : (i 0).val = (j 0).val) (h1 : (i 1).val = (j 1).val) : i = j := by
  funext k
  match k with
  | ⟨0, _⟩ => exact Fin.ext h0
  | ⟨1, _⟩ => exact Fin.ext h1

/-- A row's norm as the reference spells it. -/
theorem norm_eq (X : S8x2048x1024.Idx → EReal) (v w : Fin 1024 → EReal) (j : Fin 1024) (i : S8x2048x1024.Idx) (s : Fin 1024 → S8x2048x1024.Idx)
    (hi : X i = v j) (hs : ∀ k, X (s k) = v k) :
    X i * Ideal.rsqrt (Ideal.div (Ideal.ofBits .f32 0x00000000#32 + ∑ k, X (s k) * X (s k)) (Ideal.ofBits .f32 0x44800000#32) + Ideal.ofBits .f32 0x358637BD#32) * w j
      = nrm v w j := by
  unfold nrm rinv
  rw [hi, Ideal.ofBits_zero_f32, zero_add]
  simp only [hs]

variable (x0 : S8x2048x1024.Idx → EReal) (x1 : S4x8x2048x256.Idx → EReal) (x2 x3 : S4x1024.Idx → EReal) (x4 x5 : S4x1024x2816.Idx → EReal)
    (x6 : S4x3x2816.Idx → EReal) (x7 : S4x2816.Idx → EReal) (x8 : S4x2816x1024.Idx → EReal) (x9 : S4x1024x1024.Idx → EReal)
    (x10 : S4x256x1024.Idx → EReal) (x11 : S4x1024.Idx → EReal)

/-! ## The last layer's slices -/

/-- The gate's weights of the last layer. -/
theorem v1_eq (i : S1024x2816.Idx) : val_main_v1 (F := Ideal) x4 i = x4 (ix3 3 (i 0) (i 1)) := by
  rw [val_main_v1_apply, val_main_v0_apply]
  have h0 : (i 0).val < 1024 := (i 0).isLt
  have h1 : (i 1).val < 2816 := (i 1).isLt
  exact congrArg x4 (ext3 rfl (by show ((i 0).val * 2816 + (i 1).val) / 2816 % 1024 = (i 0).val; omega)
    (by show ((i 0).val * 2816 + (i 1).val) % 2816 = (i 1).val; omega))

/-- The other factor's weights of the last layer. -/
theorem v3_eq (i : S1024x2816.Idx) : val_main_v3 (F := Ideal) x5 i = x5 (ix3 3 (i 0) (i 1)) := by
  rw [val_main_v3_apply, val_main_v2_apply]
  have h0 : (i 0).val < 1024 := (i 0).isLt
  have h1 : (i 1).val < 2816 := (i 1).isLt
  exact congrArg x5 (ext3 rfl (by show ((i 0).val * 2816 + (i 1).val) / 2816 % 1024 = (i 0).val; omega)
    (by show ((i 0).val * 2816 + (i 1).val) % 2816 = (i 1).val; omega))

/-- The convolution's taps of the last layer. -/
theorem v5_eq (i : S3x2816.Idx) : val_main_v5 (F := Ideal) x6 i = x6 (ix3 3 (i 0) (i 1)) := by
  rw [val_main_v5_apply, val_main_v4_apply]
  have h0 : (i 0).val < 3 := (i 0).isLt
  have h1 : (i 1).val < 2816 := (i 1).isLt
  exact congrArg x6 (ext3 rfl (by show ((i 0).val * 2816 + (i 1).val) / 2816 % 3 = (i 0).val; omega)
    (by show ((i 0).val * 2816 + (i 1).val) % 2816 = (i 1).val; omega))

/-- The convolution's bias of the last layer. -/
theorem v7_eq (i : S2816.Idx) : val_main_v7 (F := Ideal) x7 i = x7 (ix2 3 (i 0)) := by
  rw [val_main_v7_apply, val_main_v6_apply]
  have h0 : (i 0).val < 2816 := (i 0).isLt
  exact congrArg x7 (ext2 rfl (by show (i 0).val % 2816 = (i 0).val; omega))

/-- The weights back of the last layer. -/
theorem v9_eq (i : S2816x1024.Idx) : val_main_v9 (F := Ideal) x8 i = x8 (ix3 3 (i 0) (i 1)) := by
  rw [val_main_v9_apply, val_main_v8_apply]
  have h0 : (i 0).val < 2816 := (i 0).isLt
  have h1 : (i 1).val < 1024 := (i 1).isLt
  exact congrArg x8 (ext3 rfl (by show ((i 0).val * 1024 + (i 1).val) / 1024 % 2816 = (i 0).val; omega)
    (by show ((i 0).val * 1024 + (i 1).val) % 1024 = (i 1).val; omega))

/-- The scale of the norm before. -/
theorem v11_eq (i : S1024.Idx) : val_main_v11 (F := Ideal) x2 i = x2 (ix2 3 (i 0)) := by
  rw [val_main_v11_apply, val_main_v10_apply]
  have h0 : (i 0).val < 1024 := (i 0).isLt
  exact congrArg x2 (ext2 rfl (by show (i 0).val % 1024 = (i 0).val; omega))

/-- The scale of the norm after. -/
theorem v68_eq (i : S1024.Idx) : val_main_v68 (F := Ideal) x3 i = x3 (ix2 3 (i 0)) := by
  rw [val_main_v68_apply, val_main_v67_apply]
  have h0 : (i 0).val < 1024 := (i 0).isLt
  exact congrArg x3 (ext2 rfl (by show (i 0).val % 1024 = (i 0).val; omega))

/-- The scale of the norm of the per-layer inputs. -/
theorem v99_eq (i : S1024.Idx) : val_main_v99 (F := Ideal) x11 i = x11 (ix2 3 (i 0)) := by
  rw [val_main_v99_apply, val_main_v98_apply]
  have h0 : (i 0).val < 1024 := (i 0).isLt
  exact congrArg x11 (ext2 rfl (by show (i 0).val % 1024 = (i 0).val; omega))

/-- The weights of the per-layer gate. -/
theorem v89_eq (i : S1024x1024.Idx) : val_main_v89 (F := Ideal) x9 i = x9 (ix3 3 (i 0) (i 1)) := by
  rw [val_main_v89_apply, val_main_v88_apply]
  have h0 : (i 0).val < 1024 := (i 0).isLt
  have h1 : (i 1).val < 1024 := (i 1).isLt
  exact congrArg x9 (ext3 rfl (by show ((i 0).val * 1024 + (i 1).val) / 1024 % 1024 = (i 0).val; omega)
    (by show ((i 0).val * 1024 + (i 1).val) % 1024 = (i 1).val; omega))

/-- The weights of the per-layer inputs. -/
theorem v86_eq (i : S256x1024.Idx) : val_main_v86 (F := Ideal) x10 i = x10 (ix3 3 (i 0) (i 1)) := by
  rw [val_main_v86_apply, val_main_v85_apply]
  have h0 : (i 0).val < 256 := (i 0).isLt
  have h1 : (i 1).val < 1024 := (i 1).isLt
  exact congrArg x10 (ext3 rfl (by show ((i 0).val * 1024 + (i 1).val) / 1024 % 256 = (i 0).val; omega)
    (by show ((i 0).val * 1024 + (i 1).val) % 1024 = (i 1).val; omega))

/-- The per-layer inputs of the last layer. -/
theorem v84_eq (i : S8x2048x256.Idx) : val_main_v84 (F := Ideal) x1 i = x1 (ix4 3 (i 0) (i 1) (i 2)) := by
  rw [val_main_v84_apply, val_main_v83_apply]
  have h0 : (i 0).val < 8 := (i 0).isLt
  have h1 : (i 1).val < 2048 := (i 1).isLt
  have h2 : (i 2).val < 256 := (i 2).isLt
  refine congrArg x1 (funext fun a => Fin.ext ?_)
  match a with
  | ⟨0, _⟩ => rfl
  | ⟨1, _⟩ => show (((i 0).val * 2048 + (i 1).val) * 256 + (i 2).val) / 524288 % 8 = (i 0).val; omega
  | ⟨2, _⟩ => show (((i 0).val * 2048 + (i 1).val) * 256 + (i 2).val) / 256 % 2048 = (i 1).val; omega
  | ⟨3, _⟩ => show (((i 0).val * 2048 + (i 1).val) * 256 + (i 2).val) % 256 = (i 2).val; omega

/-- The layer that the arrays give. -/
abbrev lay : Given := given x0 x1 x2 x3 x4 x5 x6 x7 x8 x9 x10 x11

/-! ## The gate -/

/-- The normalized rows. -/
theorem v24_eq (i : S8x2048x1024.Idx) :
    val_main_v24 (F := Ideal) x0 x2 i = (lay x0 x1 x2 x3 x4 x5 x6 x7 x8 x9 x10 x11).h (i 0) (i 1) (i 2) := by
  rw [val_main_v24_apply, val_main_v23_apply, val_main_v22_apply, v11_eq, val_main_v21_apply, val_main_v20_apply, val_main_v19_apply,
    val_main_v18_apply, val_main_v17_apply, val_main_cst_1_apply, val_main_v16_apply, val_main_v15_apply, val_main_cst_0_apply,
    val_main_v14_apply, val_main_v13_apply, val_main_cst_apply]
  exact norm_eq x0 (fun k => x0 (ix3 (i 0) (i 1) k)) (fun k => x2 (ix2 3 k)) (i 2) i _ (congrArg x0 (ext3 rfl rfl rfl)) fun k => congrArg x0 (ext3 rfl rfl rfl)

/-- The gate. -/
theorem v25_eq (i : S8x2048x2816.Idx) :
    val_main_v25 (F := Ideal) x0 x2 x4 i = (lay x0 x1 x2 x3 x4 x5 x6 x7 x8 x9 x10 x11).g (i 0) (i 1) (i 2) := by
  rw [val_main_v25_apply]
  refine Finset.sum_congr rfl fun d _ => ?_
  rw [v24_eq x0 x1 x2 x3 x4 x5 x6 x7 x8 x9 x10 x11, v1_eq]
  rfl

/-- The other factor. -/
theorem v26_eq (i : S8x2048x2816.Idx) :
    val_main_v26 (F := Ideal) x0 x2 x5 i = (lay x0 x1 x2 x3 x4 x5 x6 x7 x8 x9 x10 x11).u (i 0) (i 1) (i 2) := by
  rw [val_main_v26_apply]
  refine Finset.sum_congr rfl fun d _ => ?_
  rw [v24_eq x0 x1 x2 x3 x4 x5 x6 x7 x8 x9 x10 x11, v3_eq]
  rfl

/-- The padded gate before the sequence starts. -/
theorem v28_low (i : S8x2050x2816.Idx) (h : (i 1).val < 2) : val_main_v28 (F := Ideal) x0 x2 x4 i = (0 : EReal) := by
  have h0 : (i 0).val < 8 := (i 0).isLt
  have h2 : (i 2).val < 2816 := (i 2).isLt
  unfold val_main_v28
  refine (concatenate_pair_apply_left (s₁ := S8x2x2816) (s₂ := S8x2048x2816) _ _ _ _ i rfl (ix3 ⟨(i 0).val, h0⟩ ⟨(i 1).val, h⟩ ⟨(i 2).val, h2⟩ : S8x2x2816.Idx) ?_).trans ?_
  · intro a
    match a with
    | ⟨0, _⟩ => rfl
    | ⟨1, _⟩ => rfl
    | ⟨2, _⟩ => rfl
  · rw [val_main_v27_apply, val_main_cst_2_apply]
    exact Ideal.ofBits_zero_f32

/-- The padded gate from the start on. -/
theorem v28_high (i : S8x2050x2816.Idx) (h : ¬ (i 1).val < 2) :
    val_main_v28 (F := Ideal) x0 x2 x4 i = (lay x0 x1 x2 x3 x4 x5 x6 x7 x8 x9 x10 x11).g (i 0) ⟨(i 1).val - 2, by have : (i 1).val < 2050 := (i 1).isLt; omega⟩ (i 2) := by
  have h1 : (i 1).val < 2050 := (i 1).isLt
  unfold val_main_v28
  refine (concatenate_pair_apply_right (s₁ := S8x2x2816) (s₂ := S8x2048x2816) _ _ _ _ i rfl rfl (ix3 (i 0) ⟨(i 1).val - 2, by omega⟩ (i 2) : S8x2048x2816.Idx) ?_ ?_).trans ?_
  · intro a ha
    match a with
    | ⟨0, _⟩ => rfl
    | ⟨1, _⟩ => exact absurd rfl ha
    | ⟨2, _⟩ => rfl
  · show (i 1).val - 2 + 2 = (i 1).val; omega
  · exact v25_eq x0 x1 x2 x3 x4 x5 x6 x7 x8 x9 x10 x11 _

/-- The gate moved along the sequence. -/
theorem v28_eq (b : Fin 8) (t : Fin 2048) (l : Fin 2816) (k : ℕ) (i : S8x2050x2816.Idx) (hk : k ≤ 2)
    (h0 : (i 0).val = b.val) (h1 : (i 1).val + k = t.val + 2) (h2 : (i 2).val = l.val) :
    val_main_v28 (F := Ideal) x0 x2 x4 i = (lay x0 x1 x2 x3 x4 x5 x6 x7 x8 x9 x10 x11).gUp b t k l := by
  have e0 : (i 0 : Fin 8) = b := Fin.ext h0
  have e2 : (i 2 : Fin 2816) = l := Fin.ext h2
  unfold Given.gUp
  by_cases h : t.val < k
  · rw [if_pos h]; exact v28_low x0 x2 x4 i (by omega)
  · rw [if_neg h, v28_high x0 x1 x2 x3 x4 x5 x6 x7 x8 x9 x10 x11 i (by omega), e0, e2]
    exact congrArg (fun q => (lay x0 x1 x2 x3 x4 x5 x6 x7 x8 x9 x10 x11).g b q l) (Fin.ext (by show (i 1).val - 2 = t.val - k; omega))

/-- The convolution. -/
theorem v51_eq (i : S8x2048x2816.Idx) :
    val_main_v51 (F := Ideal) x0 x2 x4 x6 x7 i = (lay x0 x1 x2 x3 x4 x5 x6 x7 x8 x9 x10 x11).conv (i 0) (i 1) (i 2) := by
  have h2 : (i 2).val < 2816 := (i 2).isLt
  rw [val_main_v51_apply, val_main_v44_apply, val_main_v37_apply, val_main_v36_apply, val_main_v35_apply, v7_eq,
    val_main_v34_apply, val_main_v33_apply, val_main_v32_apply, val_main_v30_apply, val_main_v29_apply, v5_eq, val_main_v31_apply,
    val_main_v43_apply, val_main_v42_apply, val_main_v41_apply, val_main_v39_apply, val_main_v38_apply, v5_eq, val_main_v40_apply,
    val_main_v50_apply, val_main_v49_apply, val_main_v48_apply, val_main_v46_apply, val_main_v45_apply, v5_eq, val_main_v47_apply]
  rw [v28_eq x0 x1 x2 x3 x4 x5 x6 x7 x8 x9 x10 x11 (i 0) (i 1) (i 2) 2 _ le_rfl rfl rfl rfl,
    v28_eq x0 x1 x2 x3 x4 x5 x6 x7 x8 x9 x10 x11 (i 0) (i 1) (i 2) 1 _ (by omega) rfl (by show 1 + (i 1).val + 1 = (i 1).val + 2; omega) rfl,
    v28_eq x0 x1 x2 x3 x4 x5 x6 x7 x8 x9 x10 x11 (i 0) (i 1) (i 2) 0 _ (by omega) rfl (by show 2 + (i 1).val + 0 = (i 1).val + 2; omega) rfl]
  unfold Given.conv
  have q : (lay x0 x1 x2 x3 x4 x5 x6 x7 x8 x9 x10 x11).gUp (i 0) (i 1) 0 (i 2) = (lay x0 x1 x2 x3 x4 x5 x6 x7 x8 x9 x10 x11).g (i 0) (i 1) (i 2) := if_neg (by omega)
  rw [q]
  refine congrArg₂ (· + ·) (congrArg₂ (· + ·) (congrArg₂ (· + ·) rfl (congrArg₂ (· * ·) (congrArg x6 (ext3 rfl ?_ ?_)) rfl))
    (congrArg₂ (· * ·) (congrArg x6 (ext3 rfl ?_ ?_)) rfl)) (congrArg₂ (· * ·) (congrArg x6 (ext3 rfl ?_ ?_)) rfl)
  all_goals first
    | rfl
    | (show (i 2).val % 2816 = (i 2).val; omega)

/-- The activation. -/
theorem v64_eq (i : S8x2048x2816.Idx) :
    val_main_v64 (F := Ideal) x0 x2 x4 x6 x7 i = gelu ((lay x0 x1 x2 x3 x4 x5 x6 x7 x8 x9 x10 x11).conv (i 0) (i 1) (i 2)) := by
  rw [val_main_v64_apply, val_main_v63_apply, val_main_v62_apply, val_main_cst_6_apply, val_main_v61_apply, val_main_v60_apply, val_main_cst_5_apply,
    val_main_v59_apply, val_main_v58_apply, val_main_v57_apply, val_main_cst_4_apply, val_main_v56_apply, val_main_v55_apply, val_main_v54_apply, val_main_cst_3_apply,
    val_main_v53_apply, val_main_v52_apply, v51_eq x0 x1 x2 x3 x4 x5 x6 x7 x8 x9 x10 x11]
  unfold gelu
  generalize (lay x0 x1 x2 x3 x4 x5 x6 x7 x8 x9 x10 x11).conv (i 0) (i 1) (i 2) = c
  show c * (Ideal.ofBits .f32 0x3F000000#32 * _) = Ideal.ofBits .f32 0x3F000000#32 * c * _
  rw [← mul_assoc, mul_comm c]
  rfl

/-- The product of the activation and the other factor. -/
theorem v65_eq (i : S8x2048x2816.Idx) :
    val_main_v65 (F := Ideal) x0 x2 x4 x5 x6 x7 i = (lay x0 x1 x2 x3 x4 x5 x6 x7 x8 x9 x10 x11).act (i 0) (i 1) (i 2) := by
  rw [val_main_v65_apply, v64_eq x0 x1 x2 x3 x4 x5 x6 x7 x8 x9 x10 x11, v26_eq x0 x1 x2 x3 x4 x5 x6 x7 x8 x9 x10 x11]
  rfl

/-- The rows brought back. -/
theorem v66_eq (i : S8x2048x1024.Idx) :
    val_main_v66 (F := Ideal) x0 x2 x4 x5 x6 x7 x8 i = (lay x0 x1 x2 x3 x4 x5 x6 x7 x8 x9 x10 x11).f (i 0) (i 1) (i 2) := by
  rw [val_main_v66_apply]
  refine Finset.sum_congr rfl fun d _ => ?_
  rw [v65_eq x0 x1 x2 x3 x4 x5 x6 x7 x8 x9 x10 x11, v9_eq]
  rfl

/-- The rows after the first addition. -/
theorem v82_eq (i : S8x2048x1024.Idx) :
    val_main_v82 (F := Ideal) x0 x2 x3 x4 x5 x6 x7 x8 i = (lay x0 x1 x2 x3 x4 x5 x6 x7 x8 x9 x10 x11).x1 (i 0) (i 1) (i 2) := by
  rw [val_main_v82_apply, val_main_v81_apply, val_main_v80_apply, val_main_v79_apply, v68_eq, val_main_v78_apply, val_main_v77_apply, val_main_v76_apply,
    val_main_v75_apply, val_main_v74_apply, val_main_cst_9_apply, val_main_v73_apply, val_main_v72_apply, val_main_cst_8_apply,
    val_main_v71_apply, val_main_v70_apply, val_main_cst_7_apply]
  unfold Given.x1
  refine congrArg₂ (· + ·) (congrArg x0 (ext3 rfl rfl rfl)) ?_
  exact norm_eq (val_main_v66 (F := Ideal) x0 x2 x4 x5 x6 x7 x8) ((lay x0 x1 x2 x3 x4 x5 x6 x7 x8 x9 x10 x11).f (i 0) (i 1)) (fun k => x3 (ix2 3 k)) (i 2) i _
    (v66_eq x0 x1 x2 x3 x4 x5 x6 x7 x8 x9 x10 x11 i) fun k => v66_eq x0 x1 x2 x3 x4 x5 x6 x7 x8 x9 x10 x11 _

/-- The per-layer inputs brought to the rows. -/
theorem v87_eq (i : S8x2048x1024.Idx) :
    val_main_v87 (F := Ideal) x1 x10 i = ∑ d, (lay x0 x1 x2 x3 x4 x5 x6 x7 x8 x9 x10 x11).p (i 0) (i 1) d * (lay x0 x1 x2 x3 x4 x5 x6 x7 x8 x9 x10 x11).wpe d (i 2) := by
  rw [val_main_v87_apply]
  refine Finset.sum_congr rfl fun d _ => ?_
  rw [v84_eq, v86_eq]
  rfl

/-- The per-layer gate before the sigmoid. -/
theorem v90_eq (i : S8x2048x1024.Idx) :
    val_main_v90 (F := Ideal) x0 x2 x3 x4 x5 x6 x7 x8 x9 i = ∑ d, (lay x0 x1 x2 x3 x4 x5 x6 x7 x8 x9 x10 x11).x1 (i 0) (i 1) d * (lay x0 x1 x2 x3 x4 x5 x6 x7 x8 x9 x10 x11).wpg d (i 2) := by
  rw [val_main_v90_apply]
  refine Finset.sum_congr rfl fun d _ => ?_
  rw [v82_eq x0 x1 x2 x3 x4 x5 x6 x7 x8 x9 x10 x11, v89_eq]
  rfl

/-- The gated per-layer inputs. -/
theorem v97_eq (i : S8x2048x1024.Idx) :
    val_main_v97 (F := Ideal) x0 x1 x2 x3 x4 x5 x6 x7 x8 x9 x10 i = (lay x0 x1 x2 x3 x4 x5 x6 x7 x8 x9 x10 x11).e (i 0) (i 1) (i 2) := by
  rw [val_main_v97_apply, val_main_v96_apply, val_main_v95_apply, val_main_cst_11_apply, val_main_v94_apply, val_main_v93_apply, val_main_cst_10_apply,
    val_main_v92_apply, val_main_v91_apply, v90_eq x0 x1 x2 x3 x4 x5 x6 x7 x8 x9 x10 x11, v87_eq x0 x1 x2 x3 x4 x5 x6 x7 x8 x9 x10 x11]
  rfl

/-- The rows of the result. -/
theorem v113_eq (i : S8x2048x1024.Idx) :
    val_main_v113 (F := Ideal) x0 x1 x2 x3 x4 x5 x6 x7 x8 x9 x10 x11 i = (lay x0 x1 x2 x3 x4 x5 x6 x7 x8 x9 x10 x11).out (i 0) (i 1) (i 2) := by
  rw [val_main_v113_apply, v82_eq x0 x1 x2 x3 x4 x5 x6 x7 x8 x9 x10 x11, val_main_v112_apply, val_main_v111_apply, val_main_v110_apply, v99_eq, val_main_v109_apply, val_main_v108_apply, val_main_v107_apply,
    val_main_v106_apply, val_main_v105_apply, val_main_cst_14_apply, val_main_v104_apply, val_main_v103_apply, val_main_cst_13_apply,
    val_main_v102_apply, val_main_v101_apply, val_main_cst_12_apply]
  unfold Given.out
  refine congrArg₂ (· + ·) rfl ?_
  exact norm_eq (val_main_v97 (F := Ideal) x0 x1 x2 x3 x4 x5 x6 x7 x8 x9 x10) ((lay x0 x1 x2 x3 x4 x5 x6 x7 x8 x9 x10 x11).e (i 0) (i 1)) (fun k => x11 (ix2 3 k)) (i 2) i _
    (v97_eq x0 x1 x2 x3 x4 x5 x6 x7 x8 x9 x10 x11 i) fun k => v97_eq x0 x1 x2 x3 x4 x5 x6 x7 x8 x9 x10 x11 _

/-- The gate's last two rows. -/
theorem v114_eq (i : S8x2x2816.Idx) :
    val_main_v114 (F := Ideal) x0 x2 x4 i = (lay x0 x1 x2 x3 x4 x5 x6 x7 x8 x9 x10 x11).g (i 0) ⟨2046 + (i 1).val, by have : (i 1).val < 2 := (i 1).isLt; omega⟩ (i 2) := by
  rw [val_main_v114_apply, v28_high x0 x1 x2 x3 x4 x5 x6 x7 x8 x9 x10 x11 _ (by show ¬ 2048 + (i 1).val < 2; omega)]
  refine congrArg (fun q => (lay x0 x1 x2 x3 x4 x5 x6 x7 x8 x9 x10 x11).g (i 0) q (i 2)) (Fin.ext ?_)
  show 2048 + (i 1).val - 2 = 2046 + (i 1).val
  omega

end Cert.Ffn.Ref
-- ==== Proof.FfnAlgebraic.lean ====
/- The two programs of the feed-forward layer give the same rows and the same last rows of the gate. -/
module

public import proofs.«01_k».proof.Defs
public import proofs.«01_k».proof.Proof.FfnResult
public import proofs.«01_k».proof.Proof.FfnReference

@[expose] public section

noncomputable section

namespace Cert.Ffn

open Idealize.ShloMosaic Idealize.SL.Sem

/-- The reference's first result is the rows, as an array. -/
theorem reference_out (x0 x1 x2 x3 x4 x5 x6 x7 x8 x9 x10 x11) :
    Cert.Reference2Ideal.Read.val_main_v113 (F := Ideal) x0 x1 x2 x3 x4 x5 x6 x7 x8 x9 x10 x11 = outArr (given x0 x1 x2 x3 x4 x5 x6 x7 x8 x9 x10 x11) :=
  funext fun i => Ref.v113_eq x0 x1 x2 x3 x4 x5 x6 x7 x8 x9 x10 x11 i

/-- The reference's second result is the gate's last two rows, as an array. -/
theorem reference_tail (x0 x1 x2 x3 x4 x5 x6 x7 x8 x9 x10 x11) :
    Cert.Reference2Ideal.Read.val_main_v114 (F := Ideal) x0 x2 x4 = tailArr (given x0 x1 x2 x3 x4 x5 x6 x7 x8 x9 x10 x11) :=
  funext fun i => Ref.v114_eq x0 x1 x2 x3 x4 x5 x6 x7 x8 x9 x10 x11 i

/-- Both programs run and leave the same two results of the same arguments. -/
theorem algebraic : Cert.algebraic_Kernel2Ideal_Reference2Ideal (hKernel2Ideal := Cert.Kernel2Ideal.Gen.facts) (hReference2Ideal := Cert.Reference2Ideal.Gen.facts) := by
  intro m g m' g' _ hm
  refine ⟨fun c => outArr (giv m c), fun c => tailArr (giv m c), ?_, ?_⟩
  · refine (θ_run _ _ _).mono (fun r h c => ?_) (θ_run_and (run_results m g) (frame m g))
    exact ⟨(h.1 c).1, (h.1 c).2, h.2.1 c⟩
  · refine (θ_run _ _ _).mono (fun r h c => ?_) (Cert.Reference2Ideal.Value.run m' g')
    obtain ⟨e0, e1, e2, e3, e4, e5, e6, e7, e8, e9, e10, e11⟩ := hm c
    have q0 : StableHlo.launchContents m' c (Proc.devRef .tc Cert.Reference2Ideal.main_arg0) = m ((c.tc : Thread Cert.Kernel2Ideal.nD Cert.Kernel2Ideal.τ).loc Cert.Kernel2Ideal.main_arg0) := e0
    have q1 : StableHlo.launchContents m' c (Proc.devRef .tc Cert.Reference2Ideal.main_arg1) = m ((c.tc : Thread Cert.Kernel2Ideal.nD Cert.Kernel2Ideal.τ).loc Cert.Kernel2Ideal.main_arg1) := e1
    have q2 : StableHlo.launchContents m' c (Proc.devRef .tc Cert.Reference2Ideal.main_arg2) = m ((c.tc : Thread Cert.Kernel2Ideal.nD Cert.Kernel2Ideal.τ).loc Cert.Kernel2Ideal.main_arg2) := e2
    have q3 : StableHlo.launchContents m' c (Proc.devRef .tc Cert.Reference2Ideal.main_arg3) = m ((c.tc : Thread Cert.Kernel2Ideal.nD Cert.Kernel2Ideal.τ).loc Cert.Kernel2Ideal.main_arg3) := e3
    have q4 : StableHlo.launchContents m' c (Proc.devRef .tc Cert.Reference2Ideal.main_arg4) = m ((c.tc : Thread Cert.Kernel2Ideal.nD Cert.Kernel2Ideal.τ).loc Cert.Kernel2Ideal.main_arg4) := e4
    have q5 : StableHlo.launchContents m' c (Proc.devRef .tc Cert.Reference2Ideal.main_arg5) = m ((c.tc : Thread Cert.Kernel2Ideal.nD Cert.Kernel2Ideal.τ).loc Cert.Kernel2Ideal.main_arg5) := e5
    have q6 : StableHlo.launchContents m' c (Proc.devRef .tc Cert.Reference2Ideal.main_arg6) = m ((c.tc : Thread Cert.Kernel2Ideal.nD Cert.Kernel2Ideal.τ).loc Cert.Kernel2Ideal.main_arg6) := e6
    have q7 : StableHlo.launchContents m' c (Proc.devRef .tc Cert.Reference2Ideal.main_arg7) = m ((c.tc : Thread Cert.Kernel2Ideal.nD Cert.Kernel2Ideal.τ).loc Cert.Kernel2Ideal.main_arg7) := e7
    have q8 : StableHlo.launchContents m' c (Proc.devRef .tc Cert.Reference2Ideal.main_arg8) = m ((c.tc : Thread Cert.Kernel2Ideal.nD Cert.Kernel2Ideal.τ).loc Cert.Kernel2Ideal.main_arg8) := e8
    have q9 : StableHlo.launchContents m' c (Proc.devRef .tc Cert.Reference2Ideal.main_arg9) = m ((c.tc : Thread Cert.Kernel2Ideal.nD Cert.Kernel2Ideal.τ).loc Cert.Kernel2Ideal.main_arg9) := e9
    have q10 : StableHlo.launchContents m' c (Proc.devRef .tc Cert.Reference2Ideal.main_arg10) = m ((c.tc : Thread Cert.Kernel2Ideal.nD Cert.Kernel2Ideal.τ).loc Cert.Kernel2Ideal.main_arg10) := e10
    have q11 : StableHlo.launchContents m' c (Proc.devRef .tc Cert.Reference2Ideal.main_arg11) = m ((c.tc : Thread Cert.Kernel2Ideal.nD Cert.Kernel2Ideal.τ).loc Cert.Kernel2Ideal.main_arg11) := e11
    refine ⟨(h c).1.trans ?_, (h c).2.1.trans ?_, (h c).2.2⟩
    · rw [Cert.Reference2Ideal.Read.val_main_v113_eq, q0, q1, q2, q3, q4, q5, q6, q7, q8, q9, q10, q11]
      exact reference_out _ _ _ _ _ _ _ _ _ _ _ _
    · rw [Cert.Reference2Ideal.Read.val_main_v114_eq, q0, q2, q4]
      exact reference_tail _ _ _ _ _ _ _ _ _ _ _ _

end Cert.Ffn

end
-- ==== Proof.FlatRows.lean ====
/- Rows of sequences laid one after the other, and a row's norm, as the projections before and after the attention use them. -/
module

public import proofs.«01_k».proof.Proof.FfnMath

@[expose] public section

noncomputable section

namespace Cert.Flat

open Idealize.ShloMosaic Cert.Ffn

/-- Two indices of two axes agree when their coordinates do. -/
theorem ext2 {a b : ℕ} {i j : (⟨2, ![a, b]⟩ : Shape).Idx} (h0 : (i 0).val = (j 0).val) (h1 : (i 1).val = (j 1).val) : i = j := by
  funext k
  match k with
  | ⟨0, _⟩ => exact Fin.ext h0
  | ⟨1, _⟩ => exact Fin.ext h1

/-- Two indices of three axes agree when their coordinates do. -/
theorem ext3 {a b c : ℕ} {i j : (⟨3, ![a, b, c]⟩ : Shape).Idx} (h0 : (i 0).val = (j 0).val) (h1 : (i 1).val = (j 1).val) (h2 : (i 2).val = (j 2).val) : i = j := by
  funext k
  match k with
  | ⟨0, _⟩ => exact Fin.ext h0
  | ⟨1, _⟩ => exact Fin.ext h1
  | ⟨2, _⟩ => exact Fin.ext h2

/-- The rows of the eight sequences one after the other. -/
def flat (X : (⟨3, ![8, 2048, 1024]⟩ : Shape).Idx → EReal) : (⟨2, ![16384, 1024]⟩ : Shape).Idx → EReal := fun i =>
  X (ix3 ⟨(i 0).val / 2048, by have : (i 0).val < 16384 := (i 0).isLt; omega⟩ ⟨(i 0).val % 2048, Nat.mod_lt _ (by norm_num)⟩ (i 1))

/-- The place of a row among all rows. -/
def place (b : Fin 8) (t : Fin 2048) : Fin 16384 := ⟨2048 * b.val + t.val, by have := b.isLt; have := t.isLt; omega⟩

/-- Laying the rows one after the other is a reshape. -/
theorem cast_flat (X : (⟨3, ![8, 2048, 1024]⟩ : Shape).Idx → EReal) (h) : shapeCast (⟨2, ![16384, 1024]⟩ : Shape) X h = flat X := by
  funext i
  refine shapeCast_apply _ _ _ _ ?_
  rw [Shape.rowMajor_val_three, Shape.rowMajor_val_two]
  show ((i 0).val / 2048 * 2048 + (i 0).val % 2048) * 1024 + (i 1).val = (i 0).val * 1024 + (i 1).val
  omega

/-- Cutting the rows into sequences is a reshape. -/
theorem cast_cut (Y : (⟨2, ![16384, 1024]⟩ : Shape).Idx → EReal) (h) (i : (⟨3, ![8, 2048, 1024]⟩ : Shape).Idx) :
    shapeCast (⟨3, ![8, 2048, 1024]⟩ : Shape) Y h i = Y (ix2 (place (i 0) (i 1)) (i 2)) := by
  refine shapeCast_apply _ _ _ _ ?_
  rw [Shape.rowMajor_val_three, Shape.rowMajor_val_two]
  show (2048 * (i 0).val + (i 1).val) * 1024 + (i 2).val = ((i 0).val * 2048 + (i 1).val) * 1024 + (i 2).val
  omega

/-- A row of a sequence among all rows. -/
theorem flat_place (X : (⟨3, ![8, 2048, 1024]⟩ : Shape).Idx → EReal) (b : Fin 8) (t : Fin 2048) (j : Fin 1024) :
    flat X (ix2 (place b t) j) = X (ix3 b t j) := by
  unfold flat place
  have ht := t.isLt
  exact congrArg X (ext3 (by show (2048 * b.val + t.val) / 2048 = b.val; omega) (by show (2048 * b.val + t.val) % 2048 = t.val; omega) rfl)

/-- A row's norm as the reference spells it. -/
theorem norm_eq {ι : Type} (X : ι → EReal) (v w : Fin 1024 → EReal) (j : Fin 1024) (i : ι) (s : Fin 1024 → ι) (g : EReal)
    (hi : X i = v j) (hs : ∀ k, X (s k) = v k) (hg : g = w j) :
    X i * Ideal.rsqrt (Ideal.div (Ideal.ofBits .f32 0x00000000#32 + ∑ k, X (s k) * X (s k)) (Ideal.ofBits .f32 0x44800000#32) + Ideal.ofBits .f32 0x358637BD#32) * g
      = nrm v w j := by
  unfold nrm rinv
  rw [hi, Ideal.ofBits_zero_f32, zero_add, hg]
  simp only [hs]

end Cert.Flat

end
-- ==== Proof.QkvMath.lean ====
/- A row's query, key and value: the entries of the normalized row times the layer's weights. -/
module

public import proofs.«01_k».proof.Proof.FlatRows

@[expose] public section

noncomputable section

namespace Cert.Qkv

open Idealize.ShloMosaic Cert.Ffn Cert.Flat

/-- Two indices of five axes agree when their coordinates do. -/
theorem ext5 {a b c d e : ℕ} {i j : (⟨5, ![a, b, c, d, e]⟩ : Shape).Idx} (h0 : (i 0).val = (j 0).val) (h1 : (i 1).val = (j 1).val)
    (h2 : (i 2).val = (j 2).val) (h3 : (i 3).val = (j 3).val) (h4 : (i 4).val = (j 4).val) : i = j := by
  funext k
  match k with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- Two indices of four axes agree when their coordinates do. -/
theorem ext4 {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext k
  match k with
  | ⟨0, _⟩ => exact Fin.ext h0
  | ⟨1, _⟩ => exact Fin.ext h1
  | ⟨2, _⟩ => exact Fin.ext h2
  | ⟨3, _⟩ => exact Fin.ext h3

/-- The column of the query's (0), key's (1) or value's (2) feature among the weights' columns. -/
def col (s : Fin 3) (j : Fin 1024) : Fin 3072 := ⟨1024 * s.val + j.val, by have := s.isLt; have := j.isLt; omega⟩

/-- The feature of a head's lane. -/
def feat (h : Fin 16) (d : Fin 64) : Fin 1024 := ⟨64 * h.val + d.val, by have := h.isLt; have := d.isLt; omega⟩

/-- The norm of an attention layer among the four layers' norms. -/
def nth (l : Fin 2) : Fin 4 := ⟨2 * l.val + 1, by have := l.isLt; omega⟩

/-- An entry of a normalized row times the weights' columns. -/
def proj (v g : Fin 1024 → EReal) (w : Fin 1024 → EReal) : EReal := ∑ d : Fin 1024, nrm v g d * w d

/-- The entry of a layer's row `v`, in part `s` at feature `j`, from all layers' norms and weights. -/
def entry (g : (⟨2, ![4, 1024]⟩ : Shape).Idx → EReal) (w : (⟨3, ![2, 1024, 3072]⟩ : Shape).Idx → EReal) (l : Fin 2) (v : Fin 1024 → EReal)
    (s : Fin 3) (j : Fin 1024) : EReal :=
  proj v (fun k => g (ix2 (nth l) k)) (fun d => w (ix3 l d (col s j)))

/-- The factor on the query: one over the root of the head's width. -/
def sc : EReal := Ideal.ofBits .f32 0x3E000000#32

/-- The last layer's rows of part `s`. -/
def partArr {B T : ℕ} (x : (⟨3, ![B, T, 1024]⟩ : Shape).Idx → EReal) (g : (⟨2, ![4, 1024]⟩ : Shape).Idx → EReal)
    (w : (⟨3, ![2, 1024, 3072]⟩ : Shape).Idx → EReal) (s : Fin 3) : (⟨3, ![B, T, 1024]⟩ : Shape).Idx → EReal := fun i =>
  entry g w 1 (fun d => x (ix3 (i 0) (i 1) d)) s (i 2)

/-- The last layer's queries, scaled. -/
def queryArr {B T : ℕ} (x : (⟨3, ![B, T, 1024]⟩ : Shape).Idx → EReal) (g : (⟨2, ![4, 1024]⟩ : Shape).Idx → EReal)
    (w : (⟨3, ![2, 1024, 3072]⟩ : Shape).Idx → EReal) : (⟨3, ![B, T, 1024]⟩ : Shape).Idx → EReal := fun i =>
  partArr x g w 0 i * sc

/-- Part `s` of both layers, the layer on the second axis. -/
def bothArr {B T : ℕ} (x y : (⟨3, ![B, T, 1024]⟩ : Shape).Idx → EReal) (g : (⟨2, ![4, 1024]⟩ : Shape).Idx → EReal)
    (w : (⟨3, ![2, 1024, 3072]⟩ : Shape).Idx → EReal) (s : Fin 3) : (⟨5, ![B, 2, T, 16, 64]⟩ : Shape).Idx → EReal := fun i =>
  entry g w (i 1) (fun d => (if (i 1).val = 0 then x else y) (ix3 (i 0) (i 2) d)) s (feat (i 3) (i 4))

/-- The same with the position on the last axis. -/
def lastArr {B T : ℕ} (x y : (⟨3, ![B, T, 1024]⟩ : Shape).Idx → EReal) (g : (⟨2, ![4, 1024]⟩ : Shape).Idx → EReal)
    (w : (⟨3, ![2, 1024, 3072]⟩ : Shape).Idx → EReal) (s : Fin 3) : (⟨5, ![B, 2, 16, 64, T]⟩ : Shape).Idx → EReal := fun i =>
  bothArr x y g w s (ix5 (i 0) (i 1) (i 4) (i 2) (i 3))

/-- The first layer's part `s`, and zero for the other layer, the position on the last axis. -/
def firstArr {B T : ℕ} (x : (⟨3, ![B, T, 1024]⟩ : Shape).Idx → EReal) (g : (⟨2, ![4, 1024]⟩ : Shape).Idx → EReal)
    (w : (⟨3, ![2, 1024, 3072]⟩ : Shape).Idx → EReal) (s : Fin 3) : (⟨5, ![B, 2, 16, 64, T]⟩ : Shape).Idx → EReal := fun i =>
  if (i 1).val = 0 then bothArr x x g w s (ix5 (i 0) (i 1) (i 4) (i 2) (i 3)) else 0

end Cert.Qkv

end
-- ==== Proof.Qkv3Point.lean ====
/- What one point of each layer's projection over the prompt leaves, entry by entry. -/
module

public import proofs.«01_k».proof.Proof.QkvMath
public import proofs.«01_k».proof.Proof.Gen.Kernel3Ideal.Frame
public import Idealize.ShloMosaic.Lib.Pointwise
public import Idealize.ShloMosaic.Lib.Pipeline.ValueKit.Point
public import Idealize.ShloMosaic.Lib.Pipeline.ValueKit.Geometry
public import Idealize.ShloMosaic.Lib.Pipeline.ValueKit.Tiles

@[expose] public section

noncomputable section

namespace Cert.Qkv3

open Cert.Kernel3Ideal Cert.Kernel3Ideal.Gen Cert.Ffn Cert.Flat Cert.Qkv
open Idealize.ShloMosaic Idealize.ShloMosaic.TcCoe Idealize.SL.Sem

/-- The weights' columns of a part, as the body loads them. -/
theorem ld_part (w : Vec Ideal S1024x3072 .bf16) (s : Fin 3) (off : Fin 2 → ℕ) (inb) (h0 : off 0 = 0) (h1 : off 1 = 1024 * s.val) (d j : Fin 1024) :
    (View.ld w (Rect.unit (s := S1024x3072) off S1024x1024.size inb) (ix2 d j) : EReal) = w (ix2 d (col s j)) := by
  refine View.ld_unit_apply_of _ _ _ _ _ _ fun a => ?_
  match a with
  | ⟨0, _⟩ => show d.val = off 0 + d.val; omega
  | ⟨1, _⟩ => show 1024 * s.val + j.val = off 1 + j.val; omega

section Payloads

variable (x : Vec Ideal S512x1024 .f32) (g : Vec Ideal S1x1024 .f32) (w : Vec Ideal S1024x1024 .bf16) (r : Fin 512)

/-- The first layer's normalized row. -/
theorem pay6_apply (j : Fin 1024) : (k0_pay6 x g (ix2 r j) : EReal) = nrm (fun k => x (ix2 r k)) (fun k => g (ix2 0 k)) j := by
  unfold k0_pay6 nrm rinv
  pointwise

/-- The first layer's key rows. -/
theorem pay8_apply (j : Fin 1024) : (k0_pay8 x g w (ix2 r j) : EReal) = proj (fun k => x (ix2 r k)) (fun k => g (ix2 0 k)) (fun d => w (ix2 d j)) := by
  unfold proj
  simp only [← pay6_apply]
  unfold k0_pay8
  pointwise

/-- The first layer's value rows. -/
theorem pay2_apply (j : Fin 1024) : (k0_pay2 (k0_pay6 x g) w (ix2 r j) : EReal) = proj (fun k => x (ix2 r k)) (fun k => g (ix2 0 k)) (fun d => w (ix2 d j)) := by
  unfold proj
  simp only [← pay6_apply]
  unfold k0_pay2
  pointwise

/-- Rows turned, cut into heads and given two outer axes. -/
theorem turn_apply (y : FVec Ideal S512x1024 .f32) (a b : Fin 1) (h : Fin 16) (d : Fin 64) :
    (shapeCast S1x1x16x64x512 (shapeCast S16x64x512 (transpose S1024x512 [1, 0] y transposes_S512x1024_p1_0_S1024x512) shapeCasts_S1024x512_S16x64x512)
      shapeCasts_S16x64x512_S1x1x16x64x512 (ix5 a b h d r) : EReal) = y (ix2 r (feat h d)) := by
  have ha := a.isLt
  have hb := b.isLt
  refine (shapeCast_apply _ _ _ (ix3 h d r : (⟨3, ![16, 64, 512]⟩ : Shape).Idx) ?_).trans ?_
  · rw [Shape.rowMajor_val_three, Shape.rowMajor_val_five]
    show (h.val * 64 + d.val) * 512 + r.val = (((a.val * 1 + b.val) * 16 + h.val) * 64 + d.val) * 512 + r.val
    omega
  refine (shapeCast_apply _ _ _ (ix2 (feat h d) r : (⟨2, ![1024, 512]⟩ : Shape).Idx) ?_).trans ?_
  · rw [Shape.rowMajor_val_three, Shape.rowMajor_val_two]
    show (64 * h.val + d.val) * 512 + r.val = (h.val * 64 + d.val) * 512 + r.val
    omega
  exact transpose_apply _ _ _ _ _ fun c => match c with | ⟨0, _⟩ => rfl | ⟨1, _⟩ => rfl

/-- The last layer's normalized row. -/
theorem pay4_apply' (j : Fin 1024) : (k1_pay4 x g (ix2 r j) : EReal) = nrm (fun k => x (ix2 r k)) (fun k => g (ix2 0 k)) j := by
  unfold k1_pay4 nrm rinv
  pointwise

/-- The last layer's query rows. -/
theorem pay5_apply' (j : Fin 1024) : (k1_pay5 x g w (ix2 r j) : EReal) = proj (fun k => x (ix2 r k)) (fun k => g (ix2 0 k)) (fun d => w (ix2 d j)) * sc := by
  unfold proj sc
  simp only [← pay4_apply']
  unfold k1_pay5
  pointwise

/-- The last layer's key rows. -/
theorem pay6_apply' (j : Fin 1024) : (k1_pay6 x g w (ix2 r j) : EReal) = proj (fun k => x (ix2 r k)) (fun k => g (ix2 0 k)) (fun d => w (ix2 d j)) := by
  unfold proj
  simp only [← pay4_apply']
  unfold k1_pay6
  pointwise

/-- The last layer's value rows. -/
theorem pay1_apply' (j : Fin 1024) : (k1_pay1 (k1_pay4 x g) w (ix2 r j) : EReal) = proj (fun k => x (ix2 r k)) (fun k => g (ix2 0 k)) (fun d => w (ix2 d j)) := by
  unfold proj
  simp only [← pay4_apply']
  unfold k1_pay1
  pointwise

end Payloads

section Outs

variable (x0 : Vec Ideal S512x1024 .f32) (x1 : Vec Ideal S1x1024 .f32) (x2 : Vec Ideal S1024x3072 .bf16)

/-- An entry of the first layer is not in the last layer's store. -/
theorem first_not_mem (a : Fin 1) (h : Fin 16) (d : Fin 64) (r : Fin 512) : (ix5 a 0 h d r : S1x2x16x64x512.Idx) ∉ r0_5.set := by
  intro hm
  obtain ⟨z, hz⟩ := r0_5.exists_idx_of_mem hm
  have h2 : (r0_5.idx z 1).val = 1 + (z 1).val := Rect.idx_unit_val _ _ _ z 1
  have h1 : 1 + (z 1).val = 0 := h2.symm.trans (congrArg Fin.val (congrFun hz 1))
  exact Nat.one_ne_zero (Nat.add_eq_zero_iff.mp h1).1

/-- An entry of the first layer is in the first layer's store. -/
theorem first_emb (a : Fin 1) (h : Fin 16) (d : Fin 64) (r : Fin 512) :
    (ix5 a 0 h d r : S1x2x16x64x512.Idx) = r0_4.emb (ix5 0 0 h d r : S1x1x16x64x512.Idx) := by
  have ha := a.isLt
  refine ext5 ?_ ?_ ?_ ?_ ?_
  · refine Eq.trans ?_ (Rect.idx_unit_val _ _ _ _ 0).symm; show a.val = 0 + 0; omega
  · refine Eq.trans ?_ (Rect.idx_unit_val _ _ _ _ 1).symm; rfl
  · refine Eq.trans ?_ (Rect.idx_unit_val _ _ _ _ 2).symm; show h.val = 0 + h.val; omega
  · refine Eq.trans ?_ (Rect.idx_unit_val _ _ _ _ 3).symm; show d.val = 0 + d.val; omega
  · refine Eq.trans ?_ (Rect.idx_unit_val _ _ _ _ 4).symm; show r.val = 0 + r.val; omega

/-- An entry of the last layer is in the last layer's store. -/
theorem last_emb (a : Fin 1) (h : Fin 16) (d : Fin 64) (r : Fin 512) :
    (ix5 a 1 h d r : S1x2x16x64x512.Idx) = r0_5.emb (ix5 0 0 h d r : S1x1x16x64x512.Idx) := by
  have ha := a.isLt
  refine ext5 ?_ ?_ ?_ ?_ ?_
  · refine Eq.trans ?_ (Rect.idx_unit_val _ _ _ _ 0).symm; show a.val = 0 + 0; omega
  · refine Eq.trans ?_ (Rect.idx_unit_val _ _ _ _ 1).symm; rfl
  · refine Eq.trans ?_ (Rect.idx_unit_val _ _ _ _ 2).symm; show h.val = 0 + h.val; omega
  · refine Eq.trans ?_ (Rect.idx_unit_val _ _ _ _ 3).symm; show d.val = 0 + d.val; omega
  · refine Eq.trans ?_ (Rect.idx_unit_val _ _ _ _ 4).symm; show r.val = 0 + r.val; omega

/-- Two stores read at an entry of the first that the second leaves. -/
theorem two_apply {S : Shape} {e : EltTy} (r r' : Rect S) (p : r'.shape.Idx → Elt Ideal e) (q : r.shape.Idx → Elt Ideal e) (y : S.Idx) (hn : y ∉ r.set)
    (z : r'.shape.Idx) (hz : r'.emb z = y) : View.canon ([⟨r, q⟩, ⟨r', p⟩] : List (View.Piece (Elt Ideal) S e)) y = p z := by
  rw [View.canon_cons_of_not_mem _ _ hn, ← hz, View.canon_cons_emb]

/-- Two stores, one a layer, read at the first layer. -/
theorem two_first (p q : Vec Ideal S1x1x16x64x512 .f32) (a : Fin 1) (h : Fin 16) (d : Fin 64) (r : Fin 512) :
    View.canon ([⟨r0_5, q⟩, ⟨r0_4, p⟩] : List (View.Piece (Elt Ideal) S1x2x16x64x512 .f32)) (ix5 a 0 h d r) = p (ix5 0 0 h d r) := by
  exact two_apply r0_5 r0_4 p q _ (first_not_mem a h d r) _ (first_emb a h d r).symm

/-- Two stores, one a layer, read at the last layer. -/
theorem two_last (p q : Vec Ideal S1x1x16x64x512 .f32) (a : Fin 1) (h : Fin 16) (d : Fin 64) (r : Fin 512) :
    View.canon ([⟨r0_5, q⟩, ⟨r0_4, p⟩] : List (View.Piece (Elt Ideal) S1x2x16x64x512 .f32)) (ix5 a 1 h d r) = q (ix5 0 0 h d r) := by
  rw [last_emb]
  exact View.canon_cons_emb _ _ _ _

/-- The entry of a block's row in part `s`. -/
def blkEntry (s : Fin 3) (r : Fin 512) (j : Fin 1024) : EReal :=
  proj (fun k => x0 (ix2 r k)) (fun k => x1 (ix2 0 k)) (fun d => x2 (ix2 d (col s j)))

theorem ld_x (x0 : Vec Ideal S512x1024 .f32) : View.ld x0 r0_0 = x0 := View.ld_unit_lit _ x0 (by decide)
theorem ld_g (x1 : Vec Ideal S1x1024 .f32) : View.ld x1 r0_1 = x1 := View.ld_unit_lit _ x1 (by decide)

/-- The first layer's keys, at an entry of the block. -/
theorem out4_apply (a : Fin 1) (l : Fin 2) (h : Fin 16) (d : Fin 64) (r : Fin 512) :
    (out0_4 x0 x1 x2 (ix5 a l h d r) : EReal) = if l.val = 0 then blkEntry x0 x1 x2 1 r (feat h d) else 0 := by
  unfold out0_4
  match l with
  | ⟨0, _⟩ =>
    refine (two_first _ _ a h d r).trans ?_
    rw [ld_x, ld_g]
    unfold k0_pay10
    refine (turn_apply r _ 0 0 h d).trans ((pay8_apply x0 x1 _ r _).trans ?_)
    refine Eq.trans ?_ (if_pos rfl).symm
    exact congrArg (proj _ _) (funext fun e => ld_part x2 1 ![0, 1024] inb_S1024x3072_S1024x1024_0_1024 rfl rfl e _)
  | ⟨1, _⟩ =>
    refine (two_last _ _ a h d r).trans ?_
    show (Ideal.ofBits .f32 0x00000000#32 : EReal) = 0
    exact Ideal.ofBits_zero_f32

/-- The first layer's values, at an entry of the block. -/
theorem out5_apply (a : Fin 1) (l : Fin 2) (h : Fin 16) (d : Fin 64) (r : Fin 512) :
    (out0_5 x0 x1 x2 (ix5 a l h d r) : EReal) = if l.val = 0 then blkEntry x0 x1 x2 2 r (feat h d) else 0 := by
  unfold out0_5 k0_pay11
  match l with
  | ⟨0, _⟩ =>
    refine (two_first _ _ a h d r).trans ?_
    rw [ld_x, ld_g]
    unfold k0_pay4
    refine (turn_apply r _ 0 0 h d).trans ((pay2_apply x0 x1 _ r _).trans ?_)
    refine Eq.trans ?_ (if_pos rfl).symm
    exact congrArg (proj _ _) (funext fun e => ld_part x2 2 ![0, 2048] inb_S1024x3072_S1024x1024_0_2048 rfl rfl e _)
  | ⟨1, _⟩ =>
    refine (two_last _ _ a h d r).trans ?_
    show (Ideal.ofBits .f32 0x00000000#32 : EReal) = 0
    exact Ideal.ofBits_zero_f32

variable (V : (c : Dev nD) → (b : Ref sig .tc) → Buf (Elt Ideal) ((c : Thread nD τ).loc b)) (c : Dev nD) (t : Fin cfg1.N)

theorem outs3 : (outsAt1 V c t).1 = k1_pay5 (iblk1 V c 0 t) (iblk1 V c 1 t) (View.ld (iblk1 V c 2 t) r0_2) := by
  unfold outsAt1; frame_out; rfl

theorem outs4 : (outsAt1 V c t).2.1 = k1_pay8 (iblk1 V c 0 t) (iblk1 V c 1 t) (View.ld (iblk1 V c 2 t) r0_3) := by
  unfold outsAt1; frame_out; rfl

theorem outs5 : (outsAt1 V c t).2.2.1 = k1_pay3 (k1_pay4 (iblk1 V c 0 t) (iblk1 V c 1 t)) (View.ld (iblk1 V c 2 t) r0_6) := by
  unfold outsAt1; frame_out; rfl

theorem outs6 : (outsAt1 V c t).2.2.2.1 = k1_pay7 (iblk1 V c 0 t) (iblk1 V c 1 t) (View.ld (iblk1 V c 2 t) r0_3) := by
  unfold outsAt1; frame_out; rfl

theorem outs7 : (outsAt1 V c t).2.2.2.2 = k1_pay2 (k1_pay4 (iblk1 V c 0 t) (iblk1 V c 1 t)) (View.ld (iblk1 V c 2 t) r0_6) := by
  unfold outsAt1; frame_out; rfl

end Outs

end Cert.Qkv3

end
-- ==== Proof.Qkv3Run.lean ====
/- The run of the two projections over the prompt: the arrays it leaves, as the program's boundaries hold them. -/
module

public import proofs.«01_k».proof.Proof.QkvMath
public import proofs.«01_k».proof.Proof.Gen.Kernel3Ideal.Frame

@[expose] public section

noncomputable section

namespace Cert.Qkv3

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- After a run every array the host holds is as the program's boundaries leave it, the last one after the host's last operations. -/
theorem run_all : θ_run defs (onTc (τ := τ) (main (F := Ideal))) ⟨m, fun _ => 0, ρ⟩ (fun r => ∀ c : Dev nD, ∀ b ∈ Pipeline.ucRefs τ sig,
      r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Qkv3

end
-- ==== Proof.Qkv3Region.lean ====
/- The arrays the two projections over the prompt leave. -/
module

public import proofs.«01_k».proof.Proof.Qkv3Point
public import proofs.«01_k».proof.Proof.Qkv3Run
public import Idealize.ShloMosaic.Lib.Pipeline.ValueKit.Partial

@[expose] public section

noncomputable section

namespace Cert.Qkv3

open Cert.Kernel3Ideal Cert.Kernel3Ideal.Gen Cert.Ffn Cert.Flat Cert.Qkv
open Idealize.ShloMosaic Idealize.ShloMosaic.TcCoe Idealize.SL.Sem

theorem e00 : ∀ t : Fin cfg0.N, win0_0.index t = ![t.val, 0] := (by decide +kernel : ∀ t : Fin grid0.N, _)
theorem e01 : ∀ t : Fin cfg0.N, win0_1.index t = ![0, 0] := (by decide +kernel : ∀ t : Fin grid0.N, _)
theorem e02 : ∀ t : Fin cfg0.N, win0_2.index t = ![0, 0] := (by decide +kernel : ∀ t : Fin grid0.N, _)
theorem e04 : ∀ t : Fin cfg0.N, win0_4.index t = ![t.val / 4, 0, 0, 0, t.val % 4] := (by decide +kernel : ∀ t : Fin grid0.N, _)
theorem e05 : ∀ t : Fin cfg0.N, win0_5.index t = ![t.val / 4, 0, 0, 0, t.val % 4] := (by decide +kernel : ∀ t : Fin grid0.N, _)
theorem e10 : ∀ t : Fin cfg1.N, win1_0.index t = ![t.val, 0] := (by decide +kernel : ∀ t : Fin grid1.N, _)
theorem e11 : ∀ t : Fin cfg1.N, win1_1.index t = ![0, 0] := (by decide +kernel : ∀ t : Fin grid1.N, _)
theorem e12 : ∀ t : Fin cfg1.N, win1_2.index t = ![0, 0] := (by decide +kernel : ∀ t : Fin grid1.N, _)
theorem e13 : ∀ t : Fin cfg1.N, win1_3.index t = ![t.val, 0] := (by decide +kernel : ∀ t : Fin grid1.N, _)
theorem e14 : ∀ t : Fin cfg1.N, win1_4.index t = ![t.val / 4, 1, 0, 0, t.val % 4] := (by decide +kernel : ∀ t : Fin grid1.N, _)
theorem e15 : ∀ t : Fin cfg1.N, win1_5.index t = ![t.val / 4, 1, 0, 0, t.val % 4] := (by decide +kernel : ∀ t : Fin grid1.N, _)
theorem e16 : ∀ t : Fin cfg1.N, win1_6.index t = ![t.val, 0] := (by decide +kernel : ∀ t : Fin grid1.N, _)
theorem e17 : ∀ t : Fin cfg1.N, win1_7.index t = ![t.val, 0] := (by decide +kernel : ∀ t : Fin grid1.N, _)

/-- The sequence of a point. -/
def bt (t : ℕ) (ht : t < 32) : Fin 8 := ⟨t / 4, by omega⟩

/-- The position of a point's row in its sequence. -/
def tt (t : ℕ) (r : Fin 512) : Fin 2048 := ⟨512 * (t % 4) + r.val, by have := r.isLt; omega⟩

variable (V : (c : Dev nD) → (b : Ref sig .tc) → Buf (Elt Ideal) ((c : Thread nD τ).loc b)) (c : Dev nD)
variable (X : (⟨3, ![8, 2048, 1024]⟩ : Shape).Idx → EReal) (g : (⟨2, ![4, 1024]⟩ : Shape).Idx → EReal) (w : (⟨3, ![2, 1024, 3072]⟩ : Shape).Idx → EReal)

section First

variable (t : Fin cfg0.N) (ht : t.val < 32)
  (hx : V c main_v6 = flat X) (hg : ∀ k : Fin 1024, (V c main_v2 (ix2 0 k) : EReal) = g (ix2 1 k))
  (hw : ∀ (d : Fin 1024) (n : Fin 3072), (V c main_v5 (ix2 d n) : EReal) = w (ix3 0 d n))

include hx in
/-- The first layer's block of rows. -/
theorem blk00 (r : Fin 512) (j : Fin 1024) : (iblk0 V c 0 t (ix2 r j) : EReal) = X (ix3 (bt t.val ht) (tt t.val r) j) := by
  show V c main_v6 (((View.whole main_v6).slice (win0_0.rect t)).emb (ix2 r j)) = _
  rw [hx]
  have hr := r.isLt
  have h0 : ((((View.whole main_v6).slice (win0_0.rect t)).emb (ix2 r j)) 0).val = 512 * t.val + r.val := by blk_simp [e00 t] <;> first | rfl | omega
  have h1 : ((((View.whole main_v6).slice (win0_0.rect t)).emb (ix2 r j)) 1).val = j.val := by blk_simp [e00 t] <;> first | rfl | omega
  unfold flat
  refine congrArg X (ext3 ?_ ?_ h1)
  · show ((((View.whole main_v6).slice (win0_0.rect t)).emb (ix2 r j)) 0).val / 2048 = t.val / 4
    rw [h0]; omega
  · show ((((View.whole main_v6).slice (win0_0.rect t)).emb (ix2 r j)) 0).val % 2048 = 512 * (t.val % 4) + r.val
    rw [h0]; omega

include hg in
/-- The first layer's block of norm factors. -/
theorem blk01 (j : Fin 1024) : (iblk0 V c 1 t (ix2 0 j) : EReal) = g (ix2 1 j) := by
  rw [← hg]
  show V c main_v2 (((View.whole main_v2).slice (win0_1.rect t)).emb (ix2 0 j)) = _
  have h0 : ((((View.whole main_v2).slice (win0_1.rect t)).emb (ix2 0 j)) 0).val = 0 := by blk_simp [e01 t] <;> first | rfl | omega
  have h1 : ((((View.whole main_v2).slice (win0_1.rect t)).emb (ix2 0 j)) 1).val = j.val := by blk_simp [e01 t] <;> first | rfl | omega
  exact congrArg (V c main_v2) (ext2 h0 h1)

include hw in
/-- The first layer's block of weights. -/
theorem blk02 (d : Fin 1024) (n : Fin 3072) : (iblk0 V c 2 t (ix2 d n) : EReal) = w (ix3 0 d n) := by
  rw [← hw]
  show V c main_v5 (((View.whole main_v5).slice (win0_2.rect t)).emb (ix2 d n)) = _
  have h0 : ((((View.whole main_v5).slice (win0_2.rect t)).emb (ix2 d n)) 0).val = d.val := by blk_simp [e02 t] <;> first | rfl | omega
  have h1 : ((((View.whole main_v5).slice (win0_2.rect t)).emb (ix2 d n)) 1).val = n.val := by blk_simp [e02 t] <;> first | rfl | omega
  exact congrArg (V c main_v5) (ext2 h0 h1)

include hx hg hw in
/-- The first layer's entry of a point's row. -/
theorem entry0 (s : Fin 3) (r : Fin 512) (j : Fin 1024) :
    blkEntry (iblk0 V c 0 t) (iblk0 V c 1 t) (iblk0 V c 2 t) s r j = entry g w 0 (fun d => X (ix3 (bt t.val ht) (tt t.val r) d)) s j := by
  unfold blkEntry entry
  have h1 : (fun k => iblk0 V c 0 t (ix2 r k)) = fun d => X (ix3 (bt t.val ht) (tt t.val r) d) := funext fun k => blk00 V c X t ht hx r k
  have h2 : (fun k => iblk0 V c 1 t (ix2 0 k)) = fun k => g (ix2 (nth 0) k) := funext fun k => blk01 V c g t hg k
  have h3 : (fun d => iblk0 V c 2 t (ix2 d (col s j))) = fun d => w (ix3 0 d (col s j)) := funext fun d => blk02 V c w t hw d _
  exact (congrArg₂ (fun a b => proj a b _) h1 h2).trans (congrArg (proj _ _) h3)

include hx hg hw in
/-- What a point of the first layer leaves of the keys. -/
theorem point04 (a : Fin 1) (l : Fin 2) (h : Fin 16) (d : Fin 64) (r : Fin 512) :
    ((dat0 V c).after 4 t (ix5 a l h d r) : EReal) = firstArr X g w 1 (ix5 (bt t.val ht) l h d (tt t.val r)) := by
  rw [after0_4]
  refine (out4_apply _ _ _ a l h d r).trans ?_
  unfold firstArr
  match l with
  | ⟨0, _⟩ =>
    refine (if_pos rfl).trans (Eq.trans ?_ (if_pos rfl).symm)
    exact entry0 V c X g w t ht hx hg hw 1 r (feat h d)
  | ⟨1, _⟩ => exact (if_neg Nat.one_ne_zero).trans (if_neg Nat.one_ne_zero).symm

include hx hg hw in
/-- The keys' array after the first layer. -/
theorem arr04 : (dat0 V c).arrAt 4 cfg0.N = firstArr X g w 1 := by
  refine (dat0 V c).arrAt_eq_of_covers 4 _ (by decide +kernel) fun t hf y => ?_
  have ht := t.isLt
  change t.val < 32 at ht
  blk_simp [e04 t]
  have hy : y = (ix5 (y 0) (y 1) (y 2) (y 3) (y 4) : (⟨5, ![1, 2, 16, 64, 512]⟩ : Shape).Idx) := ext5 rfl rfl rfl rfl rfl
  have hy0 : (y 0).val < 1 := (y 0).isLt
  have h0 : ((win0_4.blk t).view.emb y 0).val = t.val / 4 := by blk_simp [e04 t] <;> first | rfl | omega
  have h1 : ((win0_4.blk t).view.emb y 1).val = (y 1).val := by blk_simp [e04 t] <;> first | rfl | omega
  have h2 : ((win0_4.blk t).view.emb y 2).val = (y 2).val := by blk_simp [e04 t] <;> first | rfl | omega
  have h3 : ((win0_4.blk t).view.emb y 3).val = (y 3).val := by blk_simp [e04 t] <;> first | rfl | omega
  have h4 : ((win0_4.blk t).view.emb y 4).val = 512 * (t.val % 4) + (y 4).val := by blk_simp [e04 t] <;> first | rfl | omega
  refine Eq.trans (congrArg ((dat0 V c).after 4 t) hy) ?_
  refine (point04 V c X g w t ht hx hg hw (y 0) (y 1) (y 2) (y 3) (y 4)).trans ?_
  exact congrArg (firstArr X g w 1) (ext5 h0.symm h1.symm h2.symm h3.symm h4.symm)

include hx hg hw in
/-- What a point of the first layer leaves of the values. -/
theorem point05 (a : Fin 1) (l : Fin 2) (h : Fin 16) (d : Fin 64) (r : Fin 512) :
    ((dat0 V c).after 5 t (ix5 a l h d r) : EReal) = firstArr X g w 2 (ix5 (bt t.val ht) l h d (tt t.val r)) := by
  rw [after0_5]
  refine (out5_apply _ _ _ a l h d r).trans ?_
  unfold firstArr
  match l with
  | ⟨0, _⟩ =>
    refine (if_pos rfl).trans (Eq.trans ?_ (if_pos rfl).symm)
    exact entry0 V c X g w t ht hx hg hw 2 r (feat h d)
  | ⟨1, _⟩ => exact (if_neg Nat.one_ne_zero).trans (if_neg Nat.one_ne_zero).symm

include hx hg hw in
/-- The values' array after the first layer. -/
theorem arr05 : (dat0 V c).arrAt 5 cfg0.N = firstArr X g w 2 := by
  refine (dat0 V c).arrAt_eq_of_covers 5 _ (by decide +kernel) fun t hf y => ?_
  have ht := t.isLt
  change t.val < 32 at ht
  blk_simp [e05 t]
  have hy : y = (ix5 (y 0) (y 1) (y 2) (y 3) (y 4) : (⟨5, ![1, 2, 16, 64, 512]⟩ : Shape).Idx) := ext5 rfl rfl rfl rfl rfl
  have hy0 : (y 0).val < 1 := (y 0).isLt
  have h0 : ((win0_5.blk t).view.emb y 0).val = t.val / 4 := by blk_simp [e05 t] <;> first | rfl | omega
  have h1 : ((win0_5.blk t).view.emb y 1).val = (y 1).val := by blk_simp [e05 t] <;> first | rfl | omega
  have h2 : ((win0_5.blk t).view.emb y 2).val = (y 2).val := by blk_simp [e05 t] <;> first | rfl | omega
  have h3 : ((win0_5.blk t).view.emb y 3).val = (y 3).val := by blk_simp [e05 t] <;> first | rfl | omega
  have h4 : ((win0_5.blk t).view.emb y 4).val = 512 * (t.val % 4) + (y 4).val := by blk_simp [e05 t] <;> first | rfl | omega
  refine Eq.trans (congrArg ((dat0 V c).after 5 t) hy) ?_
  refine (point05 V c X g w t ht hx hg hw (y 0) (y 1) (y 2) (y 3) (y 4)).trans ?_
  exact congrArg (firstArr X g w 2) (ext5 h0.symm h1.symm h2.symm h3.symm h4.symm)

end First

/-- The row of a point's tile among all rows. -/
def row (t : Fin cfg1.N) (r : Fin 512) : Fin 16384 := ⟨512 * t.val + r.val, by have := t.isLt; change t.val < 32 at this; have := r.isLt; omega⟩

/-- A point's row among all rows is a row of its sequence. -/
theorem flat_row (t : Fin cfg1.N) (ht : t.val < 32) (Z : (⟨3, ![8, 2048, 1024]⟩ : Shape).Idx → EReal) (r : Fin 512) (j : Fin 1024) :
    flat Z (ix2 (row t r) j) = Z (ix3 (bt t.val ht) (tt t.val r) j) := by
  have hr := r.isLt
  unfold flat
  refine congrArg Z (ext3 ?_ ?_ rfl)
  · show (512 * t.val + r.val) / 2048 = t.val / 4
    omega
  · show (512 * t.val + r.val) % 2048 = 512 * (t.val % 4) + r.val
    omega

section Last

variable (Y : (⟨3, ![8, 2048, 1024]⟩ : Shape).Idx → EReal) (t : Fin cfg1.N) (ht : t.val < 32)
  (hx : V c main_v14 = flat X) (hg : ∀ k : Fin 1024, (V c main_v10 (ix2 0 k) : EReal) = g (ix2 3 k))
  (hw : ∀ (d : Fin 1024) (n : Fin 3072), (V c main_v13 (ix2 d n) : EReal) = w (ix3 1 d n))

include hx in
/-- The last layer's block of rows. -/
theorem blk10 (r : Fin 512) (j : Fin 1024) : (iblk1 V c 0 t (ix2 r j) : EReal) = X (ix3 (bt t.val ht) (tt t.val r) j) := by
  show V c main_v14 (((View.whole main_v14).slice (win1_0.rect t)).emb (ix2 r j)) = _
  rw [hx]
  have hr := r.isLt
  have h0 : ((((View.whole main_v14).slice (win1_0.rect t)).emb (ix2 r j)) 0).val = 512 * t.val + r.val := by blk_simp [e10 t] <;> first | rfl | omega
  have h1 : ((((View.whole main_v14).slice (win1_0.rect t)).emb (ix2 r j)) 1).val = j.val := by blk_simp [e10 t] <;> first | rfl | omega
  unfold flat
  refine congrArg X (ext3 ?_ ?_ h1)
  · show ((((View.whole main_v14).slice (win1_0.rect t)).emb (ix2 r j)) 0).val / 2048 = t.val / 4
    rw [h0]; omega
  · show ((((View.whole main_v14).slice (win1_0.rect t)).emb (ix2 r j)) 0).val % 2048 = 512 * (t.val % 4) + r.val
    rw [h0]; omega

include hg in
/-- The last layer's block of norm factors. -/
theorem blk11 (j : Fin 1024) : (iblk1 V c 1 t (ix2 0 j) : EReal) = g (ix2 3 j) := by
  rw [← hg]
  show V c main_v10 (((View.whole main_v10).slice (win1_1.rect t)).emb (ix2 0 j)) = _
  have h0 : ((((View.whole main_v10).slice (win1_1.rect t)).emb (ix2 0 j)) 0).val = 0 := by blk_simp [e11 t] <;> first | rfl | omega
  have h1 : ((((View.whole main_v10).slice (win1_1.rect t)).emb (ix2 0 j)) 1).val = j.val := by blk_simp [e11 t] <;> first | rfl | omega
  exact congrArg (V c main_v10) (ext2 h0 h1)

include hw in
/-- The last layer's block of weights. -/
theorem blk12 (d : Fin 1024) (n : Fin 3072) : (iblk1 V c 2 t (ix2 d n) : EReal) = w (ix3 1 d n) := by
  rw [← hw]
  show V c main_v13 (((View.whole main_v13).slice (win1_2.rect t)).emb (ix2 d n)) = _
  have h0 : ((((View.whole main_v13).slice (win1_2.rect t)).emb (ix2 d n)) 0).val = d.val := by blk_simp [e12 t] <;> first | rfl | omega
  have h1 : ((((View.whole main_v13).slice (win1_2.rect t)).emb (ix2 d n)) 1).val = n.val := by blk_simp [e12 t] <;> first | rfl | omega
  exact congrArg (V c main_v13) (ext2 h0 h1)

include hx hg hw in
/-- The last layer's entry of a point's row. -/
theorem entry1 (s : Fin 3) (r : Fin 512) (j : Fin 1024) :
    blkEntry (iblk1 V c 0 t) (iblk1 V c 1 t) (iblk1 V c 2 t) s r j = entry g w 1 (fun d => X (ix3 (bt t.val ht) (tt t.val r) d)) s j := by
  unfold blkEntry entry
  have h1 : (fun k => iblk1 V c 0 t (ix2 r k)) = fun d => X (ix3 (bt t.val ht) (tt t.val r) d) := funext fun k => blk10 V c X t ht hx r k
  have h2 : (fun k => iblk1 V c 1 t (ix2 0 k)) = fun k => g (ix2 (nth 1) k) := funext fun k => blk11 V c g t hg k
  have h3 : (fun d => iblk1 V c 2 t (ix2 d (col s j))) = fun d => w (ix3 1 d (col s j)) := funext fun d => blk12 V c w t hw d _
  exact (congrArg₂ (fun a b => proj a b _) h1 h2).trans (congrArg (proj _ _) h3)

include ht hx hg hw in
/-- What a point of the last layer leaves of the queries. -/
theorem point13 (r : Fin 512) (j : Fin 1024) : ((dat1 V c).after 3 t (ix2 r j) : EReal) = flat (queryArr X g w) (ix2 (row t r) j) := by
  rw [after1_3, outs3]
  refine Eq.trans ?_ (flat_row t ht _ r j).symm
  refine (pay5_apply' _ _ _ r j).trans ?_
  unfold queryArr
  refine congrArg (· * sc) (Eq.trans ?_ (entry1 V c X g w t ht hx hg hw 0 r j))
  exact congrArg (proj _ _) (funext fun e => ld_part (iblk1 V c 2 t) 0 ![0, 0] inb_S1024x3072_S1024x1024_0_0 rfl rfl e _)

include hx hg hw in
/-- The queries' array after the last layer. -/
theorem arr13 : (dat1 V c).arrAt 3 cfg1.N = flat (queryArr X g w) := by
  refine (dat1 V c).arrAt_eq_of_covers 3 _ (by decide +kernel) fun t hf y => ?_
  have ht := t.isLt
  change t.val < 32 at ht
  blk_simp [e13 t]
  have hy : y = (ix2 (y 0) (y 1) : (⟨2, ![512, 1024]⟩ : Shape).Idx) := ext2 rfl rfl
  have h0 : ((win1_3.blk t).view.emb y 0).val = 512 * t.val + (y 0).val := by blk_simp [e13 t] <;> first | rfl | omega
  have h1 : ((win1_3.blk t).view.emb y 1).val = (y 1).val := by blk_simp [e13 t] <;> first | rfl | omega
  refine Eq.trans (congrArg ((dat1 V c).after 3 t) hy) ?_
  refine (point13 V c X g w t ht hx hg hw (y 0) (y 1)).trans ?_
  exact congrArg (flat _) (ext2 h0.symm h1.symm)

include hx hg hw in
/-- What a point of the last layer leaves of both layers' keys. -/
theorem point14 (a b : Fin 1) (h : Fin 16) (d : Fin 64) (r : Fin 512) :
    ((dat1 V c).after 4 t (ix5 a b h d r) : EReal) = lastArr Y X g w 1 (ix5 (bt t.val ht) 1 h d (tt t.val r)) := by
  rw [after1_4, outs4]
  unfold k1_pay8
  refine (turn_apply r _ a b h d).trans ((pay6_apply' _ _ _ r _).trans ?_)
  refine Eq.trans ?_ (entry1 V c X g w t ht hx hg hw 1 r (feat h d))
  exact congrArg (proj _ _) (funext fun e => ld_part (iblk1 V c 2 t) 1 ![0, 1024] inb_S1024x3072_S1024x1024_0_1024 rfl rfl e _)

include hx hg hw in
/-- Both layers' keys after the last layer, which leaves the first layer's as they were. -/
theorem arr14 (h7 : V c main_v15_1 = firstArr Y g w 1) : (dat1 V c).arrAt 4 cfg1.N = lastArr Y X g w 1 := by
  refine (dat1 V c).arrAt_eq_of_coversWhere_of_agree 4 _ (fun β => β 1 = 1) (by decide +kernel) (fun t hf y => ?_) (fun j hj => ?_)
  · have ht := t.isLt
    change t.val < 32 at ht
    blk_simp [e14 t]
    have hy : y = (ix5 (y 0) (y 1) (y 2) (y 3) (y 4) : (⟨5, ![1, 1, 16, 64, 512]⟩ : Shape).Idx) := ext5 rfl rfl rfl rfl rfl
    have hy0 : (y 0).val < 1 := (y 0).isLt
    have hy1 : (y 1).val < 1 := (y 1).isLt
    have h0 : ((win1_4.blk t).view.emb y 0).val = t.val / 4 := by blk_simp [e14 t] <;> first | rfl | omega
    have h1 : ((win1_4.blk t).view.emb y 1).val = 1 := by blk_simp [e14 t] <;> first | rfl | omega
    have h2 : ((win1_4.blk t).view.emb y 2).val = (y 2).val := by blk_simp [e14 t] <;> first | rfl | omega
    have h3 : ((win1_4.blk t).view.emb y 3).val = (y 3).val := by blk_simp [e14 t] <;> first | rfl | omega
    have h4 : ((win1_4.blk t).view.emb y 4).val = 512 * (t.val % 4) + (y 4).val := by blk_simp [e14 t] <;> first | rfl | omega
    refine Eq.trans (congrArg ((dat1 V c).after 4 t) hy) ?_
    refine (point14 V c X g w Y t ht hx hg hw (y 0) (y 1) (y 2) (y 3) (y 4)).trans ?_
    exact congrArg (lastArr Y X g w 1) (ext5 h0.symm h1.symm h2.symm h3.symm h4.symm)
  · blk_simp [Pipeline.Window.cell_apply] at hj
    show V c main_v15_1 j = lastArr Y X g w 1 j
    rw [h7]
    have hj0 : (j 1).val = 0 := by
      have hlt : (j 1).val < 2 := (j 1).isLt
      omega
    unfold firstArr lastArr
    rw [if_pos hj0]
    unfold bothArr
    refine congrArg (fun f => entry g w _ f 1 _) (funext fun d => ?_)
    exact (congrFun (if_pos hj0) _).trans (congrFun (if_pos hj0) _).symm

include hx hg hw in
/-- What a point of the last layer leaves of both layers' values. -/
theorem point15 (a b : Fin 1) (h : Fin 16) (d : Fin 64) (r : Fin 512) :
    ((dat1 V c).after 5 t (ix5 a b h d r) : EReal) = lastArr Y X g w 2 (ix5 (bt t.val ht) 1 h d (tt t.val r)) := by
  rw [after1_5, outs5]
  unfold k1_pay3
  refine (turn_apply r _ a b h d).trans ((pay1_apply' _ _ _ r _).trans ?_)
  refine Eq.trans ?_ (entry1 V c X g w t ht hx hg hw 2 r (feat h d))
  exact congrArg (proj _ _) (funext fun e => ld_part (iblk1 V c 2 t) 2 ![0, 2048] inb_S1024x3072_S1024x1024_0_2048 rfl rfl e _)

include hx hg hw in
/-- Both layers' values after the last layer, which leaves the first layer's as they were. -/
theorem arr15 (h7 : V c main_v15_2 = firstArr Y g w 2) : (dat1 V c).arrAt 5 cfg1.N = lastArr Y X g w 2 := by
  refine (dat1 V c).arrAt_eq_of_coversWhere_of_agree 5 _ (fun β => β 1 = 1) (by decide +kernel) (fun t hf y => ?_) (fun j hj => ?_)
  · have ht := t.isLt
    change t.val < 32 at ht
    blk_simp [e15 t]
    have hy : y = (ix5 (y 0) (y 1) (y 2) (y 3) (y 4) : (⟨5, ![1, 1, 16, 64, 512]⟩ : Shape).Idx) := ext5 rfl rfl rfl rfl rfl
    have hy0 : (y 0).val < 1 := (y 0).isLt
    have hy1 : (y 1).val < 1 := (y 1).isLt
    have h0 : ((win1_5.blk t).view.emb y 0).val = t.val / 4 := by blk_simp [e15 t] <;> first | rfl | omega
    have h1 : ((win1_5.blk t).view.emb y 1).val = 1 := by blk_simp [e15 t] <;> first | rfl | omega
    have h2 : ((win1_5.blk t).view.emb y 2).val = (y 2).val := by blk_simp [e15 t] <;> first | rfl | omega
    have h3 : ((win1_5.blk t).view.emb y 3).val = (y 3).val := by blk_simp [e15 t] <;> first | rfl | omega
    have h4 : ((win1_5.blk t).view.emb y 4).val = 512 * (t.val % 4) + (y 4).val := by blk_simp [e15 t] <;> first | rfl | omega
    refine Eq.trans (congrArg ((dat1 V c).after 5 t) hy) ?_
    refine (point15 V c X g w Y t ht hx hg hw (y 0) (y 1) (y 2) (y 3) (y 4)).trans ?_
    exact congrArg (lastArr Y X g w 2) (ext5 h0.symm h1.symm h2.symm h3.symm h4.symm)
  · blk_simp [Pipeline.Window.cell_apply] at hj
    show V c main_v15_2 j = lastArr Y X g w 2 j
    rw [h7]
    have hj0 : (j 1).val = 0 := by
      have hlt : (j 1).val < 2 := (j 1).isLt
      omega
    unfold firstArr lastArr
    rw [if_pos hj0]
    unfold bothArr
    refine congrArg (fun f => entry g w _ f 2 _) (funext fun d => ?_)
    exact (congrFun (if_pos hj0) _).trans (congrFun (if_pos hj0) _).symm

include ht hx hg hw in
/-- What a point of the last layer leaves of the keys. -/
theorem point16 (r : Fin 512) (j : Fin 1024) : ((dat1 V c).after 6 t (ix2 r j) : EReal) = flat (partArr X g w 1) (ix2 (row t r) j) := by
  rw [after1_6, outs6]
  refine Eq.trans ?_ (flat_row t ht _ r j).symm
  refine (pay6_apply' _ _ _ r j).trans ?_
  refine Eq.trans ?_ (entry1 V c X g w t ht hx hg hw 1 r j)
  exact congrArg (proj _ _) (funext fun e => ld_part (iblk1 V c 2 t) 1 ![0, 1024] inb_S1024x3072_S1024x1024_0_1024 rfl rfl e _)

include hx hg hw in
/-- The keys' array after the last layer. -/
theorem arr16 : (dat1 V c).arrAt 6 cfg1.N = flat (partArr X g w 1) := by
  refine (dat1 V c).arrAt_eq_of_covers 6 _ (by decide +kernel) fun t hf y => ?_
  have ht := t.isLt
  change t.val < 32 at ht
  blk_simp [e16 t]
  have hy : y = (ix2 (y 0) (y 1) : (⟨2, ![512, 1024]⟩ : Shape).Idx) := ext2 rfl rfl
  have h0 : ((win1_6.blk t).view.emb y 0).val = 512 * t.val + (y 0).val := by blk_simp [e16 t] <;> first | rfl | omega
  have h1 : ((win1_6.blk t).view.emb y 1).val = (y 1).val := by blk_simp [e16 t] <;> first | rfl | omega
  refine Eq.trans (congrArg ((dat1 V c).after 6 t) hy) ?_
  refine (point16 V c X g w t ht hx hg hw (y 0) (y 1)).trans ?_
  exact congrArg (flat _) (ext2 h0.symm h1.symm)

include ht hx hg hw in
/-- What a point of the last layer leaves of the values. -/
theorem point17 (r : Fin 512) (j : Fin 1024) : ((dat1 V c).after 7 t (ix2 r j) : EReal) = flat (partArr X g w 2) (ix2 (row t r) j) := by
  rw [after1_7, outs7]
  refine Eq.trans ?_ (flat_row t ht _ r j).symm
  refine (pay1_apply' _ _ _ r j).trans ?_
  refine Eq.trans ?_ (entry1 V c X g w t ht hx hg hw 2 r j)
  exact congrArg (proj _ _) (funext fun e => ld_part (iblk1 V c 2 t) 2 ![0, 2048] inb_S1024x3072_S1024x1024_0_2048 rfl rfl e _)

include hx hg hw in
/-- The values' array after the last layer. -/
theorem arr17 : (dat1 V c).arrAt 7 cfg1.N = flat (partArr X g w 2) := by
  refine (dat1 V c).arrAt_eq_of_covers 7 _ (by decide +kernel) fun t hf y => ?_
  have ht := t.isLt
  change t.val < 32 at ht
  blk_simp [e17 t]
  have hy : y = (ix2 (y 0) (y 1) : (⟨2, ![512, 1024]⟩ : Shape).Idx) := ext2 rfl rfl
  have h0 : ((win1_7.blk t).view.emb y 0).val = 512 * t.val + (y 0).val := by blk_simp [e17 t] <;> first | rfl | omega
  have h1 : ((win1_7.blk t).view.emb y 1).val = (y 1).val := by blk_simp [e17 t] <;> first | rfl | omega
  refine Eq.trans (congrArg ((dat1 V c).after 7 t) hy) ?_
  refine (point17 V c X g w t ht hx hg hw (y 0) (y 1)).trans ?_
  exact congrArg (flat _) (ext2 h0.symm h1.symm)

end Last

end Cert.Qkv3

end
-- ==== Proof.Qkv3Result.lean ====
/- The results of the two projections over the prompt. -/
module

public import proofs.«01_k».proof.Proof.Qkv3Region

@[expose] public section

noncomputable section

namespace Cert.Qkv3

open Cert.Kernel3Ideal Cert.Kernel3Ideal.Gen Cert.Ffn Cert.Flat Cert.Qkv
open Idealize.ShloMosaic Idealize.ShloMosaic.TcCoe Idealize.SL.Sem

variable (m : (ℓ : Loc nD τ sig) → Buf (Elt Ideal) ℓ) (ρ : Dev nD → PrngReg) (c : Dev nD)

/-- The rows before the first attention layer. -/
theorem V1_v6 : V1 m ρ c main_v6 = flat (m ((c : Thread nD τ).loc main_arg0)) := by
  refine Eq.trans ?_ (cast_flat (m ((c : Thread nD τ).loc main_arg0)) shapeCasts_S8x2048x1024_S16384x1024)
  show StableHlo.after hostOps0 (fun b => m (c, b)) (Proc.tc.devRef main_v6) = _
  unfold hostOps0
  after_results_simp
  rfl

/-- The first layer's norm. -/
theorem V1_v2 (k : Fin 1024) : (V1 m ρ c main_v2 (ix2 0 k) : EReal) = m ((c : Thread nD τ).loc main_arg2) (ix2 1 k) := by
  have h : V1 m ρ c main_v2 = shapeCast S1x1024 (shapeCast S1024 (extractStridedSlice S1x1024 ![1, 0] (m ((c : Thread nD τ).loc main_arg2)) slices_S4x1024_S1x1024_1_0) shapeCasts_S1x1024_S1024) shapeCasts_S1024_S1x1024 := by
    show StableHlo.after hostOps0 (fun b => m (c, b)) (Proc.tc.devRef main_v2) = _
    unfold hostOps0
    after_results_simp
    rfl
  rw [h]
  pointwise

/-- The first layer's weights. -/
theorem V1_v5 (d : Fin 1024) (n : Fin 3072) : (V1 m ρ c main_v5 (ix2 d n) : EReal) = m ((c : Thread nD τ).loc main_arg3) (ix3 0 d n) := by
  have h : V1 m ρ c main_v5 = shapeCast S1024x3072 (extractStridedSlice S1x1024x3072 ![0, 0, 0] (m ((c : Thread nD τ).loc main_arg3)) slices_S2x1024x3072_S1x1024x3072_0_0_0) shapeCasts_S1x1024x3072_S1024x3072 := by
    show StableHlo.after hostOps0 (fun b => m (c, b)) (Proc.tc.devRef main_v5) = _
    unfold hostOps0
    after_results_simp
    rfl
  rw [h]
  pointwise

/-- The rows before the last attention layer. -/
theorem V3_v14 : V3 m ρ c main_v14 = flat (m ((c : Thread nD τ).loc main_arg1)) := by
  refine Eq.trans ?_ (cast_flat (m ((c : Thread nD τ).loc main_arg1)) shapeCasts_S8x2048x1024_S16384x1024)
  rw [← W2_args m ρ c main_arg1 (by decide)]
  show StableHlo.after hostOps1 (W2 m ρ c) (Proc.tc.devRef main_v14) = _
  unfold hostOps1
  after_results_simp
  rfl

/-- The last layer's norm. -/
theorem V3_v10 (k : Fin 1024) : (V3 m ρ c main_v10 (ix2 0 k) : EReal) = m ((c : Thread nD τ).loc main_arg2) (ix2 3 k) := by
  have h : V3 m ρ c main_v10 = shapeCast S1x1024 (shapeCast S1024 (extractStridedSlice S1x1024 ![3, 0] (m ((c : Thread nD τ).loc main_arg2)) slices_S4x1024_S1x1024_3_0) shapeCasts_S1x1024_S1024) shapeCasts_S1024_S1x1024 := by
    rw [← W2_args m ρ c main_arg2 (by decide)]
    show StableHlo.after hostOps1 (W2 m ρ c) (Proc.tc.devRef main_v10) = _
    unfold hostOps1
    after_results_simp
    rfl
  rw [h]
  pointwise

/-- The last layer's weights. -/
theorem V3_v13 (d : Fin 1024) (n : Fin 3072) : (V3 m ρ c main_v13 (ix2 d n) : EReal) = m ((c : Thread nD τ).loc main_arg3) (ix3 1 d n) := by
  have h : V3 m ρ c main_v13 = shapeCast S1024x3072 (extractStridedSlice S1x1024x3072 ![1, 0, 0] (m ((c : Thread nD τ).loc main_arg3)) slices_S2x1024x3072_S1x1024x3072_1_0_0) shapeCasts_S1x1024x3072_S1024x3072 := by
    rw [← W2_args m ρ c main_arg3 (by decide)]
    show StableHlo.after hostOps1 (W2 m ρ c) (Proc.tc.devRef main_v13) = _
    unfold hostOps1
    after_results_simp
    rfl
  rw [h]
  pointwise

/-- The keys the last layer's call finds. -/
theorem V3_keys : V3 m ρ c main_v15_1 = firstArr (m ((c : Thread nD τ).loc main_arg0)) (m ((c : Thread nD τ).loc main_arg2)) (m ((c : Thread nD τ).loc main_arg3)) 1 := by
  refine Eq.trans ?_ ((W2_arr m ρ c 4).trans (arr04 (V1 m ρ) c _ _ _ (V1_v6 m ρ c) (V1_v2 m ρ c) (V1_v5 m ρ c)))
  show StableHlo.after hostOps1 (W2 m ρ c) (Proc.tc.devRef main_v15_1) = _
  unfold hostOps1
  after_results_simp
  rfl

/-- The values the last layer's call finds. -/
theorem V3_values : V3 m ρ c main_v15_2 = firstArr (m ((c : Thread nD τ).loc main_arg0)) (m ((c : Thread nD τ).loc main_arg2)) (m ((c : Thread nD τ).loc main_arg3)) 2 := by
  refine Eq.trans ?_ ((W2_arr m ρ c 5).trans (arr05 (V1 m ρ) c _ _ _ (V1_v6 m ρ c) (V1_v2 m ρ c) (V1_v5 m ρ c)))
  show StableHlo.after hostOps1 (W2 m ρ c) (Proc.tc.devRef main_v15_2) = _
  unfold hostOps1
  after_results_simp
  rfl

/-- Rows laid one after the other and cut again. -/
theorem cut_flat (Z : (⟨3, ![8, 2048, 1024]⟩ : Shape).Idx → EReal) (h) : shapeCast (⟨3, ![8, 2048, 1024]⟩ : Shape) (flat Z) h = Z := by
  funext i
  exact (cast_cut _ _ i).trans ((flat_place Z _ _ _).trans (congrArg Z (ext3 rfl rfl rfl)))

/-- The positions moved from the last axis to the third. -/
theorem back (x y : (⟨3, ![8, 2048, 1024]⟩ : Shape).Idx → EReal) (g : (⟨2, ![4, 1024]⟩ : Shape).Idx → EReal) (w : (⟨3, ![2, 1024, 3072]⟩ : Shape).Idx → EReal) (s : Fin 3) (h) :
    transpose S8x2x2048x16x64 [0, 1, 4, 2, 3] (lastArr x y g w s : S8x2x16x64x2048.Idx → EReal) h = bothArr x y g w s := by
  funext i
  refine (transpose_apply _ _ _ i (ix5 (i 0) (i 1) (i 3) (i 4) (i 2)) fun a => ?_).trans ?_
  · match a with
    | ⟨0, _⟩ => rfl
    | ⟨1, _⟩ => rfl
    | ⟨2, _⟩ => rfl
    | ⟨3, _⟩ => rfl
    | ⟨4, _⟩ => rfl
  · unfold lastArr
    exact congrArg (bothArr x y g w s) (ext5 rfl rfl rfl rfl rfl)

/-- The queries. -/
theorem W5_v16 : W5 m ρ c main_v16 = queryArr (m ((c : Thread nD τ).loc main_arg1)) (m ((c : Thread nD τ).loc main_arg2)) (m ((c : Thread nD τ).loc main_arg3)) := by
  refine Eq.trans ?_ (cut_flat _ shapeCasts_S16384x1024_S8x2048x1024)
  rw [← arr13 (V3 m ρ) c _ _ _ (V3_v14 m ρ c) (V3_v10 m ρ c) (V3_v13 m ρ c), ← W4_arr m ρ c 3]
  show StableHlo.after hostOps2 (W4 m ρ c) (Proc.tc.devRef main_v16) = _
  unfold hostOps2
  after_results_simp
  rfl

/-- The last layer's keys. -/
theorem W5_v17 : W5 m ρ c main_v17 = partArr (m ((c : Thread nD τ).loc main_arg1)) (m ((c : Thread nD τ).loc main_arg2)) (m ((c : Thread nD τ).loc main_arg3)) 1 := by
  refine Eq.trans ?_ (cut_flat _ shapeCasts_S16384x1024_S8x2048x1024)
  rw [← arr16 (V3 m ρ) c _ _ _ (V3_v14 m ρ c) (V3_v10 m ρ c) (V3_v13 m ρ c), ← W4_arr m ρ c 6]
  show StableHlo.after hostOps2 (W4 m ρ c) (Proc.tc.devRef main_v17) = _
  unfold hostOps2
  after_results_simp
  rfl

/-- The last layer's values. -/
theorem W5_v18 : W5 m ρ c main_v18 = partArr (m ((c : Thread nD τ).loc main_arg1)) (m ((c : Thread nD τ).loc main_arg2)) (m ((c : Thread nD τ).loc main_arg3)) 2 := by
  refine Eq.trans ?_ (cut_flat _ shapeCasts_S16384x1024_S8x2048x1024)
  rw [← arr17 (V3 m ρ) c _ _ _ (V3_v14 m ρ c) (V3_v10 m ρ c) (V3_v13 m ρ c), ← W4_arr m ρ c 7]
  show StableHlo.after hostOps2 (W4 m ρ c) (Proc.tc.devRef main_v18) = _
  unfold hostOps2
  after_results_simp
  rfl

/-- Both layers' keys. -/
theorem W5_v19 : W5 m ρ c main_v19 = bothArr (m ((c : Thread nD τ).loc main_arg0)) (m ((c : Thread nD τ).loc main_arg1)) (m ((c : Thread nD τ).loc main_arg2)) (m ((c : Thread nD τ).loc main_arg3)) 1 := by
  refine Eq.trans ?_ (back _ _ _ _ 1 transposes_S8x2x16x64x2048_S8x2x2048x16x64_0_1_4_2_3)
  rw [← arr14 (V3 m ρ) c _ _ _ _ (V3_v14 m ρ c) (V3_v10 m ρ c) (V3_v13 m ρ c) (V3_keys m ρ c), ← W4_arr m ρ c 4]
  show StableHlo.after hostOps2 (W4 m ρ c) (Proc.tc.devRef main_v19) = _
  unfold hostOps2
  after_results_simp

/-- Both layers' values. -/
theorem W5_v20 : W5 m ρ c main_v20 = bothArr (m ((c : Thread nD τ).loc main_arg0)) (m ((c : Thread nD τ).loc main_arg1)) (m ((c : Thread nD τ).loc main_arg2)) (m ((c : Thread nD τ).loc main_arg3)) 2 := by
  refine Eq.trans ?_ (back _ _ _ _ 2 transposes_S8x2x16x64x2048_S8x2x2048x16x64_0_1_4_2_3)
  rw [← arr15 (V3 m ρ) c _ _ _ _ (V3_v14 m ρ c) (V3_v10 m ρ c) (V3_v13 m ρ c) (V3_values m ρ c), ← W4_arr m ρ c 5]
  show StableHlo.after hostOps2 (W4 m ρ c) (Proc.tc.devRef main_v20) = _
  unfold hostOps2
  after_results_simp

/-- After a run the results hold the last layer's queries, keys and values, and both layers' keys and values. -/
theorem run_result : θ_run defs (onTc (τ := τ) (main (F := Ideal))) ⟨m, fun _ => 0, ρ⟩ (fun r => ∀ c : Dev nD,
    r.2.mem ((c.tc : Thread nD τ).loc main_v16) = queryArr (m ((c : Thread nD τ).loc main_arg1)) (m ((c : Thread nD τ).loc main_arg2)) (m ((c : Thread nD τ).loc main_arg3))
    ∧ r.2.mem ((c.tc : Thread nD τ).loc main_v17) = partArr (m ((c : Thread nD τ).loc main_arg1)) (m ((c : Thread nD τ).loc main_arg2)) (m ((c : Thread nD τ).loc main_arg3)) 1
    ∧ r.2.mem ((c.tc : Thread nD τ).loc main_v18) = partArr (m ((c : Thread nD τ).loc main_arg1)) (m ((c : Thread nD τ).loc main_arg2)) (m ((c : Thread nD τ).loc main_arg3)) 2
    ∧ r.2.mem ((c.tc : Thread nD τ).loc main_v19) = bothArr (m ((c : Thread nD τ).loc main_arg0)) (m ((c : Thread nD τ).loc main_arg1)) (m ((c : Thread nD τ).loc main_arg2)) (m ((c : Thread nD τ).loc main_arg3)) 1
    ∧ r.2.mem ((c.tc : Thread nD τ).loc main_v20) = bothArr (m ((c : Thread nD τ).loc main_arg0)) (m ((c : Thread nD τ).loc main_arg1)) (m ((c : Thread nD τ).loc main_arg2)) (m ((c : Thread nD τ).loc main_arg3)) 2) :=
  (θ_run defs _ _).mono (fun r h c =>
    ⟨(h c _ (mem_uc main_v16 (by decide))).trans (W5_v16 m ρ c),
     (h c _ (mem_uc main_v17 (by decide))).trans (W5_v17 m ρ c),
     (h c _ (mem_uc main_v18 (by decide))).trans (W5_v18 m ρ c),
     (h c _ (mem_uc main_v19 (by decide))).trans (W5_v19 m ρ c),
     (h c _ (mem_uc main_v20 (by decide))).trans (W5_v20 m ρ c)⟩) (run_all m ρ)

end Cert.Qkv3

end
-- ==== Proof.Qkv3Ref.lean ====
/- What the reference of the two projections over the prompt returns. -/
module

public import proofs.«01_k».proof.Proof.QkvMath
public import proofs.«01_k».proof.Proof.Gen.Reference3Ideal.Read
public import proofs.«01_k».proof.Proof.Gen.Reference3Ideal.Run

@[expose] public section

noncomputable section

namespace Cert.Qkv3.Ref

open Cert.Reference3Ideal Cert.Reference3Ideal.Gen Cert.Reference3Ideal.Read Cert.Ffn Cert.Flat Cert.Qkv Idealize.ShloMosaic

variable (x y : S8x2048x1024.Idx → EReal) (x2 : S4x1024.Idx → EReal) (x3 : S2x1024x3072.Idx → EReal)

/-- The first layer's norm factors. -/
theorem g0_eq (i : S1024.Idx) : val_main_v1 (F := Ideal) x2 i = x2 (ix2 1 (i 0)) := by
  rw [val_main_v1_apply, val_main_v0_apply]
  have h0 : (i 0).val < 1024 := (i 0).isLt
  exact congrArg x2 (ext2 rfl (by show (i 0).val % 1024 = (i 0).val; omega))

/-- The first layer's normalized rows. -/
theorem n0_eq (i : S8x2048x1024.Idx) : val_main_v14 (F := Ideal) x x2 i = nrm (fun d => x (ix3 (i 0) (i 1) d)) (fun k => x2 (ix2 1 k)) (i 2) := by
  rw [val_main_v14_apply, val_main_v13_apply, val_main_v12_apply, g0_eq, val_main_v11_apply, val_main_v10_apply, val_main_v9_apply, val_main_v8_apply, val_main_v7_apply, val_main_cst_1_apply, val_main_v6_apply, val_main_v5_apply, val_main_cst_0_apply,
    val_main_v4_apply, val_main_v3_apply, val_main_cst_apply]
  exact norm_eq x (fun d => x (ix3 (i 0) (i 1) d)) (fun k => x2 (ix2 1 k)) (i 2) i _ _ (congrArg x (ext3 rfl rfl rfl))
    (fun k => congrArg x (ext3 rfl rfl rfl)) rfl

/-- The first layer's weights. -/
theorem w0_eq (i : S1024x3072.Idx) : val_main_v16 (F := Ideal) x3 i = x3 (ix3 0 (i 0) (i 1)) := by
  rw [val_main_v16_apply, val_main_v15_apply]
  have h0 : (i 0).val < 1024 := (i 0).isLt
  have h1 : (i 1).val < 3072 := (i 1).isLt
  exact congrArg x3 (ext3 rfl (by show ((i 0).val * 3072 + (i 1).val) / 3072 % 1024 = (i 0).val; omega)
    (by show ((i 0).val * 3072 + (i 1).val) % 3072 = (i 1).val; omega))

/-- The first layer's parts. -/
theorem p0_eq (i : S8x2048x3x16x64.Idx) : val_main_v18 (F := Ideal) x x2 x3 i = entry x2 x3 0 (fun d => x (ix3 (i 0) (i 1) d)) (i 2) (feat (i 3) (i 4)) := by
  rw [val_main_v18_apply, val_main_v17_apply]
  unfold entry proj
  have h0 : (i 0).val < 8 := (i 0).isLt
  have h1 : (i 1).val < 2048 := (i 1).isLt
  have h2 : (i 2).val < 3 := (i 2).isLt
  have h3 : (i 3).val < 16 := (i 3).isLt
  have h4 : (i 4).val < 64 := (i 4).isLt
  refine Finset.sum_congr rfl fun d _ => ?_
  rw [n0_eq, w0_eq]
  refine congrArg₂ (· * ·) (congrArg (fun f => nrm f _ d) (funext fun e => congrArg x (ext3 ?_ ?_ rfl))) (congrArg x3 (ext3 rfl rfl ?_))
  · show ((((((i 0).val * 2048 + (i 1).val) * 3 + (i 2).val) * 16 + (i 3).val) * 64 + (i 4).val) / 6291456 : ℕ) = (i 0).val
    omega
  · show ((((((i 0).val * 2048 + (i 1).val) * 3 + (i 2).val) * 16 + (i 3).val) * 64 + (i 4).val) / 3072 % 2048 : ℕ) = (i 1).val
    omega
  · show ((((((i 0).val * 2048 + (i 1).val) * 3 + (i 2).val) * 16 + (i 3).val) * 64 + (i 4).val) % 3072 : ℕ) = 1024 * (i 2).val + (64 * (i 3).val + (i 4).val)
    omega

/-- The first layer's key, head by head. -/
theorem h01_eq (i : S8x2048x16x64.Idx) : val_main_v22 (F := Ideal) x x2 x3 i = entry x2 x3 0 (fun d => x (ix3 (i 0) (i 1) d)) 1 (feat (i 2) (i 3)) := by
  rw [val_main_v22_apply, val_main_v21_apply, p0_eq]
  have h0 : (i 0).val < 8 := (i 0).isLt
  have h1 : (i 1).val < 2048 := (i 1).isLt
  have h2 : (i 2).val < 16 := (i 2).isLt
  have h3 : (i 3).val < 64 := (i 3).isLt
  refine congr (congr (congrArg (entry x2 x3 0) (funext fun d => congrArg x (ext3 ?_ ?_ rfl))) (Fin.ext ?_)) (Fin.ext ?_)
  · show (((((i 0).val * 2048 + (i 1).val) * 16 + (i 2).val) * 64 + (i 3).val) / 2097152 : ℕ) = (i 0).val
    omega
  · show (((((i 0).val * 2048 + (i 1).val) * 16 + (i 2).val) * 64 + (i 3).val) / 1024 % 2048 : ℕ) = (i 1).val
    omega
  · rfl
  · show 64 * ((((((i 0).val * 2048 + (i 1).val) * 16 + (i 2).val) * 64 + (i 3).val) / 64 % 16 : ℕ)) + (((((i 0).val * 2048 + (i 1).val) * 16 + (i 2).val) * 64 + (i 3).val) % 64 : ℕ) = 64 * (i 2).val + (i 3).val
    omega

/-- The first layer's value, head by head. -/
theorem h02_eq (i : S8x2048x16x64.Idx) : val_main_v24 (F := Ideal) x x2 x3 i = entry x2 x3 0 (fun d => x (ix3 (i 0) (i 1) d)) 2 (feat (i 2) (i 3)) := by
  rw [val_main_v24_apply, val_main_v23_apply, p0_eq]
  have h0 : (i 0).val < 8 := (i 0).isLt
  have h1 : (i 1).val < 2048 := (i 1).isLt
  have h2 : (i 2).val < 16 := (i 2).isLt
  have h3 : (i 3).val < 64 := (i 3).isLt
  refine congr (congr (congrArg (entry x2 x3 0) (funext fun d => congrArg x (ext3 ?_ ?_ rfl))) (Fin.ext ?_)) (Fin.ext ?_)
  · show (((((i 0).val * 2048 + (i 1).val) * 16 + (i 2).val) * 64 + (i 3).val) / 2097152 : ℕ) = (i 0).val
    omega
  · show (((((i 0).val * 2048 + (i 1).val) * 16 + (i 2).val) * 64 + (i 3).val) / 1024 % 2048 : ℕ) = (i 1).val
    omega
  · rfl
  · show 64 * ((((((i 0).val * 2048 + (i 1).val) * 16 + (i 2).val) * 64 + (i 3).val) / 64 % 16 : ℕ)) + (((((i 0).val * 2048 + (i 1).val) * 16 + (i 2).val) * 64 + (i 3).val) % 64 : ℕ) = 64 * (i 2).val + (i 3).val
    omega

/-- The last layer's norm factors. -/
theorem g1_eq (i : S1024.Idx) : val_main_v26 (F := Ideal) x2 i = x2 (ix2 3 (i 0)) := by
  rw [val_main_v26_apply, val_main_v25_apply]
  have h0 : (i 0).val < 1024 := (i 0).isLt
  exact congrArg x2 (ext2 rfl (by show (i 0).val % 1024 = (i 0).val; omega))

/-- The last layer's normalized rows. -/
theorem n1_eq (i : S8x2048x1024.Idx) : val_main_v39 (F := Ideal) x x2 i = nrm (fun d => x (ix3 (i 0) (i 1) d)) (fun k => x2 (ix2 3 k)) (i 2) := by
  rw [val_main_v39_apply, val_main_v38_apply, val_main_v37_apply, g1_eq, val_main_v36_apply, val_main_v35_apply, val_main_v34_apply, val_main_v33_apply, val_main_v32_apply, val_main_cst_4_apply, val_main_v31_apply, val_main_v30_apply, val_main_cst_3_apply,
    val_main_v29_apply, val_main_v28_apply, val_main_cst_2_apply]
  exact norm_eq x (fun d => x (ix3 (i 0) (i 1) d)) (fun k => x2 (ix2 3 k)) (i 2) i _ _ (congrArg x (ext3 rfl rfl rfl))
    (fun k => congrArg x (ext3 rfl rfl rfl)) rfl

/-- The last layer's weights. -/
theorem w1_eq (i : S1024x3072.Idx) : val_main_v41 (F := Ideal) x3 i = x3 (ix3 1 (i 0) (i 1)) := by
  rw [val_main_v41_apply, val_main_v40_apply]
  have h0 : (i 0).val < 1024 := (i 0).isLt
  have h1 : (i 1).val < 3072 := (i 1).isLt
  exact congrArg x3 (ext3 rfl (by show ((i 0).val * 3072 + (i 1).val) / 3072 % 1024 = (i 0).val; omega)
    (by show ((i 0).val * 3072 + (i 1).val) % 3072 = (i 1).val; omega))

/-- The last layer's parts. -/
theorem p1_eq (i : S8x2048x3x16x64.Idx) : val_main_v43 (F := Ideal) x x2 x3 i = entry x2 x3 1 (fun d => x (ix3 (i 0) (i 1) d)) (i 2) (feat (i 3) (i 4)) := by
  rw [val_main_v43_apply, val_main_v42_apply]
  unfold entry proj
  have h0 : (i 0).val < 8 := (i 0).isLt
  have h1 : (i 1).val < 2048 := (i 1).isLt
  have h2 : (i 2).val < 3 := (i 2).isLt
  have h3 : (i 3).val < 16 := (i 3).isLt
  have h4 : (i 4).val < 64 := (i 4).isLt
  refine Finset.sum_congr rfl fun d _ => ?_
  rw [n1_eq, w1_eq]
  refine congrArg₂ (· * ·) (congrArg (fun f => nrm f _ d) (funext fun e => congrArg x (ext3 ?_ ?_ rfl))) (congrArg x3 (ext3 rfl rfl ?_))
  · show ((((((i 0).val * 2048 + (i 1).val) * 3 + (i 2).val) * 16 + (i 3).val) * 64 + (i 4).val) / 6291456 : ℕ) = (i 0).val
    omega
  · show ((((((i 0).val * 2048 + (i 1).val) * 3 + (i 2).val) * 16 + (i 3).val) * 64 + (i 4).val) / 3072 % 2048 : ℕ) = (i 1).val
    omega
  · show ((((((i 0).val * 2048 + (i 1).val) * 3 + (i 2).val) * 16 + (i 3).val) * 64 + (i 4).val) % 3072 : ℕ) = 1024 * (i 2).val + (64 * (i 3).val + (i 4).val)
    omega

/-- The last layer's query, head by head. -/
theorem h10_eq (i : S8x2048x16x64.Idx) : val_main_v45 (F := Ideal) x x2 x3 i = entry x2 x3 1 (fun d => x (ix3 (i 0) (i 1) d)) 0 (feat (i 2) (i 3)) := by
  rw [val_main_v45_apply, val_main_v44_apply, p1_eq]
  have h0 : (i 0).val < 8 := (i 0).isLt
  have h1 : (i 1).val < 2048 := (i 1).isLt
  have h2 : (i 2).val < 16 := (i 2).isLt
  have h3 : (i 3).val < 64 := (i 3).isLt
  refine congr (congr (congrArg (entry x2 x3 1) (funext fun d => congrArg x (ext3 ?_ ?_ rfl))) (Fin.ext ?_)) (Fin.ext ?_)
  · show (((((i 0).val * 2048 + (i 1).val) * 16 + (i 2).val) * 64 + (i 3).val) / 2097152 : ℕ) = (i 0).val
    omega
  · show (((((i 0).val * 2048 + (i 1).val) * 16 + (i 2).val) * 64 + (i 3).val) / 1024 % 2048 : ℕ) = (i 1).val
    omega
  · rfl
  · show 64 * ((((((i 0).val * 2048 + (i 1).val) * 16 + (i 2).val) * 64 + (i 3).val) / 64 % 16 : ℕ)) + (((((i 0).val * 2048 + (i 1).val) * 16 + (i 2).val) * 64 + (i 3).val) % 64 : ℕ) = 64 * (i 2).val + (i 3).val
    omega

/-- The last layer's key, head by head. -/
theorem h11_eq (i : S8x2048x16x64.Idx) : val_main_v47 (F := Ideal) x x2 x3 i = entry x2 x3 1 (fun d => x (ix3 (i 0) (i 1) d)) 1 (feat (i 2) (i 3)) := by
  rw [val_main_v47_apply, val_main_v46_apply, p1_eq]
  have h0 : (i 0).val < 8 := (i 0).isLt
  have h1 : (i 1).val < 2048 := (i 1).isLt
  have h2 : (i 2).val < 16 := (i 2).isLt
  have h3 : (i 3).val < 64 := (i 3).isLt
  refine congr (congr (congrArg (entry x2 x3 1) (funext fun d => congrArg x (ext3 ?_ ?_ rfl))) (Fin.ext ?_)) (Fin.ext ?_)
  · show (((((i 0).val * 2048 + (i 1).val) * 16 + (i 2).val) * 64 + (i 3).val) / 2097152 : ℕ) = (i 0).val
    omega
  · show (((((i 0).val * 2048 + (i 1).val) * 16 + (i 2).val) * 64 + (i 3).val) / 1024 % 2048 : ℕ) = (i 1).val
    omega
  · rfl
  · show 64 * ((((((i 0).val * 2048 + (i 1).val) * 16 + (i 2).val) * 64 + (i 3).val) / 64 % 16 : ℕ)) + (((((i 0).val * 2048 + (i 1).val) * 16 + (i 2).val) * 64 + (i 3).val) % 64 : ℕ) = 64 * (i 2).val + (i 3).val
    omega

/-- The last layer's value, head by head. -/
theorem h12_eq (i : S8x2048x16x64.Idx) : val_main_v49 (F := Ideal) x x2 x3 i = entry x2 x3 1 (fun d => x (ix3 (i 0) (i 1) d)) 2 (feat (i 2) (i 3)) := by
  rw [val_main_v49_apply, val_main_v48_apply, p1_eq]
  have h0 : (i 0).val < 8 := (i 0).isLt
  have h1 : (i 1).val < 2048 := (i 1).isLt
  have h2 : (i 2).val < 16 := (i 2).isLt
  have h3 : (i 3).val < 64 := (i 3).isLt
  refine congr (congr (congrArg (entry x2 x3 1) (funext fun d => congrArg x (ext3 ?_ ?_ rfl))) (Fin.ext ?_)) (Fin.ext ?_)
  · show (((((i 0).val * 2048 + (i 1).val) * 16 + (i 2).val) * 64 + (i 3).val) / 2097152 : ℕ) = (i 0).val
    omega
  · show (((((i 0).val * 2048 + (i 1).val) * 16 + (i 2).val) * 64 + (i 3).val) / 1024 % 2048 : ℕ) = (i 1).val
    omega
  · rfl
  · show 64 * ((((((i 0).val * 2048 + (i 1).val) * 16 + (i 2).val) * 64 + (i 3).val) / 64 % 16 : ℕ)) + (((((i 0).val * 2048 + (i 1).val) * 16 + (i 2).val) * 64 + (i 3).val) % 64 : ℕ) = 64 * (i 2).val + (i 3).val
    omega

/-- The last layer's queries. -/
theorem v53_eq (i : S8x2048x1024.Idx) : val_main_v53 (F := Ideal) x x2 x3 i = queryArr x x2 x3 i := by
  rw [val_main_v53_apply, val_main_v52_apply, val_main_v51_apply, h10_eq, val_main_v50_apply, val_main_cst_5_apply]
  have h0 : (i 0).val < 8 := (i 0).isLt
  have h1 : (i 1).val < 2048 := (i 1).isLt
  have h2 : (i 2).val < 1024 := (i 2).isLt
  unfold queryArr partArr
  refine congrArg (· * sc) ?_
  refine congr (congrArg₂ (entry x2 x3 1) (funext fun d => congrArg x (ext3 ?_ ?_ rfl)) rfl) (Fin.ext ?_)
  · show ((((i 0).val * 2048 + (i 1).val) * 1024 + (i 2).val) / 2097152 : ℕ) = (i 0).val
    omega
  · show ((((i 0).val * 2048 + (i 1).val) * 1024 + (i 2).val) / 1024 % 2048 : ℕ) = (i 1).val
    omega
  · show 64 * (((((i 0).val * 2048 + (i 1).val) * 1024 + (i 2).val) / 64 % 16 : ℕ)) + ((((i 0).val * 2048 + (i 1).val) * 1024 + (i 2).val) % 64 : ℕ) = (i 2).val
    omega

/-- The last layer's rows of part 1. -/
theorem v55_eq (i : S8x2048x1024.Idx) : val_main_v55 (F := Ideal) x x2 x3 i = partArr x x2 x3 1 i := by
  rw [val_main_v55_apply, val_main_v54_apply, h11_eq]
  have h0 : (i 0).val < 8 := (i 0).isLt
  have h1 : (i 1).val < 2048 := (i 1).isLt
  have h2 : (i 2).val < 1024 := (i 2).isLt
  unfold partArr
  show (entry x2 x3 1 _ 1 _ : EReal) = _
  refine congr (congrArg₂ (entry x2 x3 1) (funext fun d => congrArg x (ext3 ?_ ?_ rfl)) rfl) (Fin.ext ?_)
  · show ((((i 0).val * 2048 + (i 1).val) * 1024 + (i 2).val) / 2097152 : ℕ) = (i 0).val
    omega
  · show ((((i 0).val * 2048 + (i 1).val) * 1024 + (i 2).val) / 1024 % 2048 : ℕ) = (i 1).val
    omega
  · show 64 * (((((i 0).val * 2048 + (i 1).val) * 1024 + (i 2).val) / 64 % 16 : ℕ)) + ((((i 0).val * 2048 + (i 1).val) * 1024 + (i 2).val) % 64 : ℕ) = (i 2).val
    omega

/-- The last layer's rows of part 2. -/
theorem v57_eq (i : S8x2048x1024.Idx) : val_main_v57 (F := Ideal) x x2 x3 i = partArr x x2 x3 2 i := by
  rw [val_main_v57_apply, val_main_v56_apply, h12_eq]
  have h0 : (i 0).val < 8 := (i 0).isLt
  have h1 : (i 1).val < 2048 := (i 1).isLt
  have h2 : (i 2).val < 1024 := (i 2).isLt
  unfold partArr
  show (entry x2 x3 1 _ 2 _ : EReal) = _
  refine congr (congrArg₂ (entry x2 x3 1) (funext fun d => congrArg x (ext3 ?_ ?_ rfl)) rfl) (Fin.ext ?_)
  · show ((((i 0).val * 2048 + (i 1).val) * 1024 + (i 2).val) / 2097152 : ℕ) = (i 0).val
    omega
  · show ((((i 0).val * 2048 + (i 1).val) * 1024 + (i 2).val) / 1024 % 2048 : ℕ) = (i 1).val
    omega
  · show 64 * (((((i 0).val * 2048 + (i 1).val) * 1024 + (i 2).val) / 64 % 16 : ℕ)) + ((((i 0).val * 2048 + (i 1).val) * 1024 + (i 2).val) % 64 : ℕ) = (i 2).val
    omega

/-- Both layers' part 1. -/
theorem v60_eq (i : S8x2x2048x16x64.Idx) : val_main_v60 (F := Ideal) x y x2 x3 i = bothArr x y x2 x3 1 i := by
  unfold val_main_v60 bothArr
  have hlt : (i 1).val < 2 := (i 1).isLt
  by_cases h : (i 1).val = 0
  · refine (concatenate_pair_apply_left (s₁ := S8x1x2048x16x64) (s₂ := S8x1x2048x16x64) _ _ _ _ i rfl (ix5 (i 0) 0 (i 2) (i 3) (i 4) : S8x1x2048x16x64.Idx) ?_).trans ?_
    · intro b
      match b with
      | ⟨0, _⟩ => rfl
      | ⟨1, _⟩ => exact h.symm
      | ⟨2, _⟩ => rfl
      | ⟨3, _⟩ => rfl
      | ⟨4, _⟩ => rfl
    rw [val_main_v58_apply, h01_eq]
    have hl : i 1 = (0 : Fin 2) := Fin.ext h
    rw [hl]
    rfl
  · have h1 : (i 1).val = 1 := by omega
    refine (concatenate_pair_apply_right (s₁ := S8x1x2048x16x64) (s₂ := S8x1x2048x16x64) _ _ _ _ i rfl rfl (ix5 (i 0) 0 (i 2) (i 3) (i 4) : S8x1x2048x16x64.Idx) ?_ ?_).trans ?_
    · intro b hb
      match b with
      | ⟨0, _⟩ => rfl
      | ⟨1, _⟩ => exact absurd rfl hb
      | ⟨2, _⟩ => rfl
      | ⟨3, _⟩ => rfl
      | ⟨4, _⟩ => rfl
    · exact h1.symm
    rw [val_main_v59_apply, h11_eq]
    have hl : i 1 = (1 : Fin 2) := Fin.ext h1
    rw [hl]
    rfl

/-- Both layers' part 2. -/
theorem v63_eq (i : S8x2x2048x16x64.Idx) : val_main_v63 (F := Ideal) x y x2 x3 i = bothArr x y x2 x3 2 i := by
  unfold val_main_v63 bothArr
  have hlt : (i 1).val < 2 := (i 1).isLt
  by_cases h : (i 1).val = 0
  · refine (concatenate_pair_apply_left (s₁ := S8x1x2048x16x64) (s₂ := S8x1x2048x16x64) _ _ _ _ i rfl (ix5 (i 0) 0 (i 2) (i 3) (i 4) : S8x1x2048x16x64.Idx) ?_).trans ?_
    · intro b
      match b with
      | ⟨0, _⟩ => rfl
      | ⟨1, _⟩ => exact h.symm
      | ⟨2, _⟩ => rfl
      | ⟨3, _⟩ => rfl
      | ⟨4, _⟩ => rfl
    rw [val_main_v61_apply, h02_eq]
    have hl : i 1 = (0 : Fin 2) := Fin.ext h
    rw [hl]
    rfl
  · have h1 : (i 1).val = 1 := by omega
    refine (concatenate_pair_apply_right (s₁ := S8x1x2048x16x64) (s₂ := S8x1x2048x16x64) _ _ _ _ i rfl rfl (ix5 (i 0) 0 (i 2) (i 3) (i 4) : S8x1x2048x16x64.Idx) ?_ ?_).trans ?_
    · intro b hb
      match b with
      | ⟨0, _⟩ => rfl
      | ⟨1, _⟩ => exact absurd rfl hb
      | ⟨2, _⟩ => rfl
      | ⟨3, _⟩ => rfl
      | ⟨4, _⟩ => rfl
    · exact h1.symm
    rw [val_main_v62_apply, h12_eq]
    have hl : i 1 = (1 : Fin 2) := Fin.ext h1
    rw [hl]
    rfl

end Cert.Qkv3.Ref

end
-- ==== Proof.Qkv3.lean ====
/- The two projections over the prompt and the reference leave the same results. -/
module

public import proofs.«01_k».proof.Proof.Qkv3Result
public import proofs.«01_k».proof.Proof.Qkv3Ref
public import proofs.«01_k».proof.Defs

@[expose] public section

noncomputable section

namespace Cert.Qkv3

open Cert.Qkv Idealize.ShloMosaic Idealize.SL.Sem

/-- Both programs run and leave the same results of the same arguments. -/
theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => queryArr (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => partArr (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) 1,
    fun c => partArr (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) 2,
    fun c => bothArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) 1,
    fun c => bothArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) 2, ?_, ?_⟩
  · refine (θ_run _ _ _).mono (fun r h c => ?_) (θ_run_and (run_result m g) (Cert.Kernel3Ideal.Gen.frame m g))
    exact ⟨(h.1 c).1, (h.1 c).2.1, (h.1 c).2.2.1, (h.1 c).2.2.2.1, (h.1 c).2.2.2.2, h.2.1 c⟩
  · refine (θ_run _ _ _).mono (fun r h c => ?_) (Cert.Reference3Ideal.Value.run m' g')
    obtain ⟨e0, e1, e2, e3⟩ := hm c
    refine ⟨(h c).1.trans ?_, (h c).2.1.trans ?_, (h c).2.2.1.trans ?_, (h c).2.2.2.1.trans ?_, (h c).2.2.2.2.1.trans ?_, (h c).2.2.2.2.2⟩
    · rw [Cert.Reference3Ideal.Read.val_main_v53_eq, e1, e2, e3]
      exact funext fun i => Ref.v53_eq _ _ _ i
    · rw [Cert.Reference3Ideal.Read.val_main_v55_eq, e1, e2, e3]
      exact funext fun i => Ref.v55_eq _ _ _ i
    · rw [Cert.Reference3Ideal.Read.val_main_v57_eq, e1, e2, e3]
      exact funext fun i => Ref.v57_eq _ _ _ i
    · rw [Cert.Reference3Ideal.Read.val_main_v60_eq, e0, e1, e2, e3]
      exact funext fun i => Ref.v60_eq _ _ _ _ i
    · rw [Cert.Reference3Ideal.Read.val_main_v63_eq, e0, e1, e2, e3]
      exact funext fun i => Ref.v63_eq _ _ _ _ i

end Cert.Qkv3

end
-- ==== Proof.Qkv4Run.lean ====
/- The run of the two projections over the sample: the arrays it leaves, as the program's boundaries hold them. -/
module

public import proofs.«01_k».proof.Proof.QkvMath
public import proofs.«01_k».proof.Proof.Gen.Kernel4Ideal.Frame

@[expose] public section

noncomputable section

namespace Cert.Qkv4

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- After a run every array the host holds is as the program's boundaries leave it, the last one after the host's last operations. -/
theorem run_all : θ_run defs (onTc (τ := τ) (main (F := Ideal))) ⟨m, fun _ => 0, ρ⟩ (fun r => ∀ c : Dev nD, ∀ b ∈ Pipeline.ucRefs τ sig,
      r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Qkv4

end
-- ==== Proof.Qkv4Region.lean ====
/- The arrays the two projections over the sample leave. -/
module

public import proofs.«01_k».proof.Proof.QkvMath
public import proofs.«01_k».proof.Proof.Qkv4Run
public import Idealize.ShloMosaic.Lib.Pointwise
public import Idealize.ShloMosaic.Lib.Pipeline.ValueKit.Point
public import Idealize.ShloMosaic.Lib.Pipeline.ValueKit.Geometry
public import Idealize.ShloMosaic.Lib.Pipeline.ValueKit.Tiles

@[expose] public section

noncomputable section

namespace Cert.Qkv4

open Cert.Kernel4Ideal Cert.Kernel4Ideal.Gen Cert.Ffn Cert.Flat Cert.Qkv
open Idealize.ShloMosaic Idealize.ShloMosaic.TcCoe Idealize.SL.Sem

/-- The rows of part `s` of a layer, one row a sequence. -/
def rowsArr (x : (⟨3, ![128, 1, 1024]⟩ : Shape).Idx → EReal) (g : (⟨2, ![4, 1024]⟩ : Shape).Idx → EReal) (w : (⟨3, ![2, 1024, 3072]⟩ : Shape).Idx → EReal)
    (l : Fin 2) (s : Fin 3) : (⟨2, ![128, 1024]⟩ : Shape).Idx → EReal := fun i =>
  entry g w l (fun d => x (ix3 (i 0) 0 d)) s (i 1)

/-- The last layer's queries, one row a sequence. -/
def rowsQuery (x : (⟨3, ![128, 1, 1024]⟩ : Shape).Idx → EReal) (g : (⟨2, ![4, 1024]⟩ : Shape).Idx → EReal) (w : (⟨3, ![2, 1024, 3072]⟩ : Shape).Idx → EReal) :
    (⟨2, ![128, 1024]⟩ : Shape).Idx → EReal := fun i =>
  rowsArr x g w 1 0 i * sc

/-- The weights' columns of a part, as the body loads them. -/
theorem ld_part (w : Vec Ideal S1024x3072 .bf16) (s : Fin 3) (off : Fin 2 → ℕ) (inb) (h0 : off 0 = 0) (h1 : off 1 = 1024 * s.val) (d j : Fin 1024) :
    (View.ld w (Rect.unit (s := S1024x3072) off S1024x1024.size inb) (ix2 d j) : EReal) = w (ix2 d (col s j)) := by
  refine View.ld_unit_apply_of _ _ _ _ _ _ fun a => ?_
  match a with
  | ⟨0, _⟩ => show d.val = off 0 + d.val; omega
  | ⟨1, _⟩ => show 1024 * s.val + j.val = off 1 + j.val; omega

/-- Rows loaded whole. -/
theorem ld_x (x0 : Vec Ideal S128x1024 .f32) : View.ld x0 r0_0 = x0 := View.ld_unit_lit _ x0 (by decide)

/-- Norm factors loaded whole. -/
theorem ld_g (x1 : Vec Ideal S1x1024 .f32) : View.ld x1 r0_1 = x1 := View.ld_unit_lit _ x1 (by decide)

/-- One store of the whole block. -/
theorem one_apply {e : EltTy} (p : S128x1024.Idx → Elt Ideal e) (y : S128x1024.Idx) :
    View.canon ([⟨r0_0, p⟩] : List (View.Piece (Elt Ideal) S128x1024 e)) y = p y :=
  congrFun (View.canon_unit_zero (by decide) _ p) y

/-- The entry of a block's row in part `s`. -/
def blkEntry (x0 : Vec Ideal S128x1024 .f32) (x1 : Vec Ideal S1x1024 .f32) (x2 : Vec Ideal S1024x3072 .bf16) (s : Fin 3) (r : Fin 128) (j : Fin 1024) : EReal :=
  proj (fun k => x0 (ix2 r k)) (fun k => x1 (ix2 0 k)) (fun d => x2 (ix2 d (col s j)))

section Payloads

variable (x : Vec Ideal S128x1024 .f32) (g : Vec Ideal S1x1024 .f32) (w : Vec Ideal S1024x1024 .bf16) (r : Fin 128)

/-- The first layer's normalized row. -/
theorem pay01_apply (j : Fin 1024) : (k0_pay1 x g (ix2 r j) : EReal) = nrm (fun k => x (ix2 r k)) (fun k => g (ix2 0 k)) j := by
  unfold k0_pay1 nrm rinv
  pointwise

/-- The first layer's query rows. -/
theorem pay02_apply (j : Fin 1024) : (k0_pay2 x g w (ix2 r j) : EReal) = proj (fun k => x (ix2 r k)) (fun k => g (ix2 0 k)) (fun d => w (ix2 d j)) * sc := by
  unfold proj sc
  simp only [← pay01_apply]
  unfold k0_pay2
  pointwise

/-- The first layer's key rows. -/
theorem pay03_apply (j : Fin 1024) : (k0_pay3 x g w (ix2 r j) : EReal) = proj (fun k => x (ix2 r k)) (fun k => g (ix2 0 k)) (fun d => w (ix2 d j)) := by
  unfold proj
  simp only [← pay01_apply]
  unfold k0_pay3
  pointwise

/-- The first layer's value rows. -/
theorem pay04_apply (j : Fin 1024) : (k0_pay4 x g w (ix2 r j) : EReal) = proj (fun k => x (ix2 r k)) (fun k => g (ix2 0 k)) (fun d => w (ix2 d j)) := by
  unfold proj
  simp only [← pay01_apply]
  unfold k0_pay4
  pointwise

/-- The last layer's normalized row. -/
theorem pay11_apply (j : Fin 1024) : (k1_pay1 x g (ix2 r j) : EReal) = nrm (fun k => x (ix2 r k)) (fun k => g (ix2 0 k)) j := by
  unfold k1_pay1 nrm rinv
  pointwise

/-- The last layer's query rows. -/
theorem pay12_apply (j : Fin 1024) : (k1_pay2 x g w (ix2 r j) : EReal) = proj (fun k => x (ix2 r k)) (fun k => g (ix2 0 k)) (fun d => w (ix2 d j)) * sc := by
  unfold proj sc
  simp only [← pay11_apply]
  unfold k1_pay2
  pointwise

/-- The last layer's key rows. -/
theorem pay13_apply (j : Fin 1024) : (k1_pay3 x g w (ix2 r j) : EReal) = proj (fun k => x (ix2 r k)) (fun k => g (ix2 0 k)) (fun d => w (ix2 d j)) := by
  unfold proj
  simp only [← pay11_apply]
  unfold k1_pay3
  pointwise

/-- The last layer's value rows. -/
theorem pay14_apply (j : Fin 1024) : (k1_pay4 x g w (ix2 r j) : EReal) = proj (fun k => x (ix2 r k)) (fun k => g (ix2 0 k)) (fun d => w (ix2 d j)) := by
  unfold proj
  simp only [← pay11_apply]
  unfold k1_pay4
  pointwise

end Payloads

section Outs

variable (x0 : Vec Ideal S128x1024 .f32) (x1 : Vec Ideal S1x1024 .f32) (x2 : Vec Ideal S1024x3072 .bf16) (r : Fin 128) (j : Fin 1024)

/-- The first layer's keys, at an entry of the block. -/
theorem out04_apply : (out0_4 x0 x1 x2 (ix2 r j) : EReal) = blkEntry x0 x1 x2 1 r j := by
  unfold out0_4
  refine (one_apply _ _).trans ?_
  rw [ld_x, ld_g]
  refine (pay03_apply x0 x1 _ r j).trans ?_
  unfold blkEntry
  exact congrArg (proj _ _) (funext fun e => ld_part x2 1 ![0, 1024] inb_S1024x3072_S1024x1024_0_1024 rfl rfl e _)

/-- The first layer's values, at an entry of the block. -/
theorem out05_apply : (out0_5 x0 x1 x2 (ix2 r j) : EReal) = blkEntry x0 x1 x2 2 r j := by
  unfold out0_5
  refine (one_apply _ _).trans ?_
  rw [ld_x, ld_g]
  refine (pay04_apply x0 x1 _ r j).trans ?_
  unfold blkEntry
  exact congrArg (proj _ _) (funext fun e => ld_part x2 2 ![0, 2048] inb_S1024x3072_S1024x1024_0_2048 rfl rfl e _)

/-- The last layer's queries, at an entry of the block. -/
theorem out13_apply : (out1_3 x0 x1 x2 (ix2 r j) : EReal) = blkEntry x0 x1 x2 0 r j * sc := by
  unfold out1_3
  refine (one_apply _ _).trans ?_
  rw [ld_x, ld_g]
  refine (pay12_apply x0 x1 _ r j).trans ?_
  unfold blkEntry
  exact congrArg (· * sc) (congrArg (proj _ _) (funext fun e => ld_part x2 0 ![0, 0] inb_S1024x3072_S1024x1024_0_0 rfl rfl e _))

/-- The last layer's keys, at an entry of the block. -/
theorem out14_apply : (out1_4 x0 x1 x2 (ix2 r j) : EReal) = blkEntry x0 x1 x2 1 r j := by
  unfold out1_4
  refine (one_apply _ _).trans ?_
  rw [ld_x, ld_g]
  refine (pay13_apply x0 x1 _ r j).trans ?_
  unfold blkEntry
  exact congrArg (proj _ _) (funext fun e => ld_part x2 1 ![0, 1024] inb_S1024x3072_S1024x1024_0_1024 rfl rfl e _)

/-- The last layer's values, at an entry of the block. -/
theorem out15_apply : (out1_5 x0 x1 x2 (ix2 r j) : EReal) = blkEntry x0 x1 x2 2 r j := by
  unfold out1_5
  refine (one_apply _ _).trans ?_
  rw [ld_x, ld_g]
  refine (pay14_apply x0 x1 _ r j).trans ?_
  unfold blkEntry
  exact congrArg (proj _ _) (funext fun e => ld_part x2 2 ![0, 2048] inb_S1024x3072_S1024x1024_0_2048 rfl rfl e _)

end Outs

theorem e00 : ∀ t : Fin cfg0.N, win0_0.index t = ![0, 0] := (by decide +kernel : ∀ t : Fin grid0.N, _)
theorem e01 : ∀ t : Fin cfg0.N, win0_1.index t = ![0, 0] := (by decide +kernel : ∀ t : Fin grid0.N, _)
theorem e02 : ∀ t : Fin cfg0.N, win0_2.index t = ![0, 0] := (by decide +kernel : ∀ t : Fin grid0.N, _)
theorem e04 : ∀ t : Fin cfg0.N, win0_4.index t = ![0, 0] := (by decide +kernel : ∀ t : Fin grid0.N, _)
theorem e05 : ∀ t : Fin cfg0.N, win0_5.index t = ![0, 0] := (by decide +kernel : ∀ t : Fin grid0.N, _)
theorem e10 : ∀ t : Fin cfg1.N, win1_0.index t = ![0, 0] := (by decide +kernel : ∀ t : Fin grid1.N, _)
theorem e11 : ∀ t : Fin cfg1.N, win1_1.index t = ![0, 0] := (by decide +kernel : ∀ t : Fin grid1.N, _)
theorem e12 : ∀ t : Fin cfg1.N, win1_2.index t = ![0, 0] := (by decide +kernel : ∀ t : Fin grid1.N, _)
theorem e13 : ∀ t : Fin cfg1.N, win1_3.index t = ![0, 0] := (by decide +kernel : ∀ t : Fin grid1.N, _)
theorem e14 : ∀ t : Fin cfg1.N, win1_4.index t = ![0, 0] := (by decide +kernel : ∀ t : Fin grid1.N, _)
theorem e15 : ∀ t : Fin cfg1.N, win1_5.index t = ![0, 0] := (by decide +kernel : ∀ t : Fin grid1.N, _)

variable (V : (c : Dev nD) → (b : Ref sig .tc) → Buf (Elt Ideal) ((c : Thread nD τ).loc b)) (c : Dev nD)
variable (X : (⟨3, ![128, 1, 1024]⟩ : Shape).Idx → EReal) (g : (⟨2, ![4, 1024]⟩ : Shape).Idx → EReal) (w : (⟨3, ![2, 1024, 3072]⟩ : Shape).Idx → EReal)

section First

variable (t : Fin cfg0.N)
  (hx : ∀ (r : Fin 128) (j : Fin 1024), (V c main_v6 (ix2 r j) : EReal) = X (ix3 r 0 j)) (hg : ∀ k : Fin 1024, (V c main_v2 (ix2 0 k) : EReal) = g (ix2 1 k))
  (hw : ∀ (d : Fin 1024) (n : Fin 3072), (V c main_v5 (ix2 d n) : EReal) = w (ix3 0 d n))

include hx in
/-- The first layer's block of rows. -/
theorem blk00 (r : Fin 128) (j : Fin 1024) : (iblk0 V c 0 t (ix2 r j) : EReal) = X (ix3 r 0 j) := by
  rw [← hx]
  show V c main_v6 (((View.whole main_v6).slice (win0_0.rect t)).emb (ix2 r j)) = _
  have h0 : ((((View.whole main_v6).slice (win0_0.rect t)).emb (ix2 r j)) 0).val = r.val := by blk_simp [e00 t] <;> first | rfl | omega
  have h1 : ((((View.whole main_v6).slice (win0_0.rect t)).emb (ix2 r j)) 1).val = j.val := by blk_simp [e00 t] <;> first | rfl | omega
  exact congrArg (V c main_v6) (ext2 h0 h1)

include hg in
/-- The first layer's block of norm factors. -/
theorem blk01 (j : Fin 1024) : (iblk0 V c 1 t (ix2 0 j) : EReal) = g (ix2 1 j) := by
  rw [← hg]
  show V c main_v2 (((View.whole main_v2).slice (win0_1.rect t)).emb (ix2 0 j)) = _
  have h0 : ((((View.whole main_v2).slice (win0_1.rect t)).emb (ix2 0 j)) 0).val = 0 := by blk_simp [e01 t] <;> first | rfl | omega
  have h1 : ((((View.whole main_v2).slice (win0_1.rect t)).emb (ix2 0 j)) 1).val = j.val := by blk_simp [e01 t] <;> first | rfl | omega
  exact congrArg (V c main_v2) (ext2 h0 h1)

include hw in
/-- The first layer's block of weights. -/
theorem blk02 (d : Fin 1024) (n : Fin 3072) : (iblk0 V c 2 t (ix2 d n) : EReal) = w (ix3 0 d n) := by
  rw [← hw]
  show V c main_v5 (((View.whole main_v5).slice (win0_2.rect t)).emb (ix2 d n)) = _
  have h0 : ((((View.whole main_v5).slice (win0_2.rect t)).emb (ix2 d n)) 0).val = d.val := by blk_simp [e02 t] <;> first | rfl | omega
  have h1 : ((((View.whole main_v5).slice (win0_2.rect t)).emb (ix2 d n)) 1).val = n.val := by blk_simp [e02 t] <;> first | rfl | omega
  exact congrArg (V c main_v5) (ext2 h0 h1)

include hx hg hw in
/-- The first layer's entry of a row. -/
theorem entry0 (s : Fin 3) (r : Fin 128) (j : Fin 1024) :
    blkEntry (iblk0 V c 0 t) (iblk0 V c 1 t) (iblk0 V c 2 t) s r j = rowsArr X g w 0 s (ix2 r j) := by
  unfold blkEntry rowsArr entry
  have h1 : (fun k => iblk0 V c 0 t (ix2 r k)) = fun d => X (ix3 r 0 d) := funext fun k => blk00 V c X t hx r k
  have h2 : (fun k => iblk0 V c 1 t (ix2 0 k)) = fun k => g (ix2 (nth 0) k) := funext fun k => blk01 V c g t hg k
  have h3 : (fun d => iblk0 V c 2 t (ix2 d (col s j))) = fun d => w (ix3 0 d (col s j)) := funext fun d => blk02 V c w t hw d _
  exact (congrArg₂ (fun a b => proj a b _) h1 h2).trans (congrArg (proj _ _) h3)

include hx hg hw in
/-- What the first layer leaves of the keys, at an entry. -/
theorem point04 (r : Fin 128) (j : Fin 1024) : ((dat0 V c).after 4 t (ix2 r j) : EReal) = rowsArr X g w 0 1 (ix2 r j) := by
  rw [after0_4]
  refine (out04_apply _ _ _ r j).trans ?_
  exact entry0 V c X g w t hx hg hw 1 r j

include hx hg hw in
/-- The keys' array after the first layer. -/
theorem arr04 : (dat0 V c).arrAt 4 cfg0.N = rowsArr X g w 0 1 := by
  refine (dat0 V c).arrAt_eq_of_covers 4 _ (by decide +kernel) fun t hf y => ?_
  blk_simp [e04 t]
  have hy : y = (ix2 (y 0) (y 1) : (⟨2, ![128, 1024]⟩ : Shape).Idx) := ext2 rfl rfl
  have h0 : ((win0_4.blk t).view.emb y 0).val = (y 0).val := by blk_simp [e04 t] <;> first | rfl | omega
  have h1 : ((win0_4.blk t).view.emb y 1).val = (y 1).val := by blk_simp [e04 t] <;> first | rfl | omega
  refine Eq.trans (congrArg ((dat0 V c).after 4 t) hy) ?_
  refine (point04 V c X g w t hx hg hw (y 0) (y 1)).trans ?_
  exact congrArg (rowsArr X g w 0 1) (ext2 h0.symm h1.symm)

include hx hg hw in
/-- What the first layer leaves of the values, at an entry. -/
theorem point05 (r : Fin 128) (j : Fin 1024) : ((dat0 V c).after 5 t (ix2 r j) : EReal) = rowsArr X g w 0 2 (ix2 r j) := by
  rw [after0_5]
  refine (out05_apply _ _ _ r j).trans ?_
  exact entry0 V c X g w t hx hg hw 2 r j

include hx hg hw in
/-- The values' array after the first layer. -/
theorem arr05 : (dat0 V c).arrAt 5 cfg0.N = rowsArr X g w 0 2 := by
  refine (dat0 V c).arrAt_eq_of_covers 5 _ (by decide +kernel) fun t hf y => ?_
  blk_simp [e05 t]
  have hy : y = (ix2 (y 0) (y 1) : (⟨2, ![128, 1024]⟩ : Shape).Idx) := ext2 rfl rfl
  have h0 : ((win0_5.blk t).view.emb y 0).val = (y 0).val := by blk_simp [e05 t] <;> first | rfl | omega
  have h1 : ((win0_5.blk t).view.emb y 1).val = (y 1).val := by blk_simp [e05 t] <;> first | rfl | omega
  refine Eq.trans (congrArg ((dat0 V c).after 5 t) hy) ?_
  refine (point05 V c X g w t hx hg hw (y 0) (y 1)).trans ?_
  exact congrArg (rowsArr X g w 0 2) (ext2 h0.symm h1.symm)

end First

section Last

variable (t : Fin cfg1.N)
  (hx : ∀ (r : Fin 128) (j : Fin 1024), (V c main_v16 (ix2 r j) : EReal) = X (ix3 r 0 j)) (hg : ∀ k : Fin 1024, (V c main_v12 (ix2 0 k) : EReal) = g (ix2 3 k))
  (hw : ∀ (d : Fin 1024) (n : Fin 3072), (V c main_v15 (ix2 d n) : EReal) = w (ix3 1 d n))

include hx in
/-- The last layer's block of rows. -/
theorem blk10 (r : Fin 128) (j : Fin 1024) : (iblk1 V c 0 t (ix2 r j) : EReal) = X (ix3 r 0 j) := by
  rw [← hx]
  show V c main_v16 (((View.whole main_v16).slice (win1_0.rect t)).emb (ix2 r j)) = _
  have h0 : ((((View.whole main_v16).slice (win1_0.rect t)).emb (ix2 r j)) 0).val = r.val := by blk_simp [e10 t] <;> first | rfl | omega
  have h1 : ((((View.whole main_v16).slice (win1_0.rect t)).emb (ix2 r j)) 1).val = j.val := by blk_simp [e10 t] <;> first | rfl | omega
  exact congrArg (V c main_v16) (ext2 h0 h1)

include hg in
/-- The last layer's block of norm factors. -/
theorem blk11 (j : Fin 1024) : (iblk1 V c 1 t (ix2 0 j) : EReal) = g (ix2 3 j) := by
  rw [← hg]
  show V c main_v12 (((View.whole main_v12).slice (win1_1.rect t)).emb (ix2 0 j)) = _
  have h0 : ((((View.whole main_v12).slice (win1_1.rect t)).emb (ix2 0 j)) 0).val = 0 := by blk_simp [e11 t] <;> first | rfl | omega
  have h1 : ((((View.whole main_v12).slice (win1_1.rect t)).emb (ix2 0 j)) 1).val = j.val := by blk_simp [e11 t] <;> first | rfl | omega
  exact congrArg (V c main_v12) (ext2 h0 h1)

include hw in
/-- The last layer's block of weights. -/
theorem blk12 (d : Fin 1024) (n : Fin 3072) : (iblk1 V c 2 t (ix2 d n) : EReal) = w (ix3 1 d n) := by
  rw [← hw]
  show V c main_v15 (((View.whole main_v15).slice (win1_2.rect t)).emb (ix2 d n)) = _
  have h0 : ((((View.whole main_v15).slice (win1_2.rect t)).emb (ix2 d n)) 0).val = d.val := by blk_simp [e12 t] <;> first | rfl | omega
  have h1 : ((((View.whole main_v15).slice (win1_2.rect t)).emb (ix2 d n)) 1).val = n.val := by blk_simp [e12 t] <;> first | rfl | omega
  exact congrArg (V c main_v15) (ext2 h0 h1)

include hx hg hw in
/-- The last layer's entry of a row. -/
theorem entry1 (s : Fin 3) (r : Fin 128) (j : Fin 1024) :
    blkEntry (iblk1 V c 0 t) (iblk1 V c 1 t) (iblk1 V c 2 t) s r j = rowsArr X g w 1 s (ix2 r j) := by
  unfold blkEntry rowsArr entry
  have h1 : (fun k => iblk1 V c 0 t (ix2 r k)) = fun d => X (ix3 r 0 d) := funext fun k => blk10 V c X t hx r k
  have h2 : (fun k => iblk1 V c 1 t (ix2 0 k)) = fun k => g (ix2 (nth 1) k) := funext fun k => blk11 V c g t hg k
  have h3 : (fun d => iblk1 V c 2 t (ix2 d (col s j))) = fun d => w (ix3 1 d (col s j)) := funext fun d => blk12 V c w t hw d _
  exact (congrArg₂ (fun a b => proj a b _) h1 h2).trans (congrArg (proj _ _) h3)

include hx hg hw in
/-- What the last layer leaves of the queries, at an entry. -/
theorem point13 (r : Fin 128) (j : Fin 1024) : ((dat1 V c).after 3 t (ix2 r j) : EReal) = rowsQuery X g w (ix2 r j) := by
  rw [after1_3]
  refine (out13_apply _ _ _ r j).trans ?_
  exact congrArg (· * sc) (entry1 V c X g w t hx hg hw 0 r j)

include hx hg hw in
/-- The queries' array after the last layer. -/
theorem arr13 : (dat1 V c).arrAt 3 cfg1.N = rowsQuery X g w := by
  refine (dat1 V c).arrAt_eq_of_covers 3 _ (by decide +kernel) fun t hf y => ?_
  blk_simp [e13 t]
  have hy : y = (ix2 (y 0) (y 1) : (⟨2, ![128, 1024]⟩ : Shape).Idx) := ext2 rfl rfl
  have h0 : ((win1_3.blk t).view.emb y 0).val = (y 0).val := by blk_simp [e13 t] <;> first | rfl | omega
  have h1 : ((win1_3.blk t).view.emb y 1).val = (y 1).val := by blk_simp [e13 t] <;> first | rfl | omega
  refine Eq.trans (congrArg ((dat1 V c).after 3 t) hy) ?_
  refine (point13 V c X g w t hx hg hw (y 0) (y 1)).trans ?_
  exact congrArg (rowsQuery X g w) (ext2 h0.symm h1.symm)

include hx hg hw in
/-- What the last layer leaves of the keys, at an entry. -/
theorem point14 (r : Fin 128) (j : Fin 1024) : ((dat1 V c).after 4 t (ix2 r j) : EReal) = rowsArr X g w 1 1 (ix2 r j) := by
  rw [after1_4]
  refine (out14_apply _ _ _ r j).trans ?_
  exact entry1 V c X g w t hx hg hw 1 r j

include hx hg hw in
/-- The keys' array after the last layer. -/
theorem arr14 : (dat1 V c).arrAt 4 cfg1.N = rowsArr X g w 1 1 := by
  refine (dat1 V c).arrAt_eq_of_covers 4 _ (by decide +kernel) fun t hf y => ?_
  blk_simp [e14 t]
  have hy : y = (ix2 (y 0) (y 1) : (⟨2, ![128, 1024]⟩ : Shape).Idx) := ext2 rfl rfl
  have h0 : ((win1_4.blk t).view.emb y 0).val = (y 0).val := by blk_simp [e14 t] <;> first | rfl | omega
  have h1 : ((win1_4.blk t).view.emb y 1).val = (y 1).val := by blk_simp [e14 t] <;> first | rfl | omega
  refine Eq.trans (congrArg ((dat1 V c).after 4 t) hy) ?_
  refine (point14 V c X g w t hx hg hw (y 0) (y 1)).trans ?_
  exact congrArg (rowsArr X g w 1 1) (ext2 h0.symm h1.symm)

include hx hg hw in
/-- What the last layer leaves of the values, at an entry. -/
theorem point15 (r : Fin 128) (j : Fin 1024) : ((dat1 V c).after 5 t (ix2 r j) : EReal) = rowsArr X g w 1 2 (ix2 r j) := by
  rw [after1_5]
  refine (out15_apply _ _ _ r j).trans ?_
  exact entry1 V c X g w t hx hg hw 2 r j

include hx hg hw in
/-- The values' array after the last layer. -/
theorem arr15 : (dat1 V c).arrAt 5 cfg1.N = rowsArr X g w 1 2 := by
  refine (dat1 V c).arrAt_eq_of_covers 5 _ (by decide +kernel) fun t hf y => ?_
  blk_simp [e15 t]
  have hy : y = (ix2 (y 0) (y 1) : (⟨2, ![128, 1024]⟩ : Shape).Idx) := ext2 rfl rfl
  have h0 : ((win1_5.blk t).view.emb y 0).val = (y 0).val := by blk_simp [e15 t] <;> first | rfl | omega
  have h1 : ((win1_5.blk t).view.emb y 1).val = (y 1).val := by blk_simp [e15 t] <;> first | rfl | omega
  refine Eq.trans (congrArg ((dat1 V c).after 5 t) hy) ?_
  refine (point15 V c X g w t hx hg hw (y 0) (y 1)).trans ?_
  exact congrArg (rowsArr X g w 1 2) (ext2 h0.symm h1.symm)

end Last

end Cert.Qkv4

end
-- ==== Proof.Qkv4Result.lean ====
/- The results of the two projections over the sample. -/
module

public import proofs.«01_k».proof.Proof.Qkv4Region

@[expose] public section

noncomputable section

namespace Cert.Qkv4

open Cert.Kernel4Ideal Cert.Kernel4Ideal.Gen Cert.Ffn Cert.Flat Cert.Qkv
open Idealize.ShloMosaic Idealize.ShloMosaic.TcCoe Idealize.SL.Sem

/-- One row a sequence, without the axis of one position. -/
theorem row_apply (X : (⟨3, ![128, 1, 1024]⟩ : Shape).Idx → EReal) (h) (r : Fin 128) (j : Fin 1024) : shapeCast (⟨2, ![128, 1024]⟩ : Shape) X h (ix2 r j) = X (ix3 r 0 j) := by
  refine shapeCast_apply _ _ _ _ ?_
  rw [Shape.rowMajor_val_three, Shape.rowMajor_val_two]
  show (r.val * 1 + 0) * 1024 + j.val = r.val * 1024 + j.val
  omega

/-- The queries with the axis of one position. -/
theorem query_cast (x : (⟨3, ![128, 1, 1024]⟩ : Shape).Idx → EReal) (g : (⟨2, ![4, 1024]⟩ : Shape).Idx → EReal) (w : (⟨3, ![2, 1024, 3072]⟩ : Shape).Idx → EReal) (h) :
    shapeCast (⟨3, ![128, 1, 1024]⟩ : Shape) (rowsQuery x g w) h = queryArr x g w := by
  funext i
  have h1 : (i 1).val < 1 := (i 1).isLt
  refine (shapeCast_apply _ _ _ (ix2 (i 0) (i 2) : (⟨2, ![128, 1024]⟩ : Shape).Idx) ?_).trans ?_
  · rw [Shape.rowMajor_val_three, Shape.rowMajor_val_two]
    show (i 0).val * 1024 + (i 2).val = ((i 0).val * 1 + (i 1).val) * 1024 + (i 2).val
    omega
  · unfold rowsQuery rowsArr queryArr partArr
    refine congrArg (· * sc) (congrArg (fun f => entry g w 1 f 0 (i 2)) (funext fun d => congrArg x (ext3 rfl ?_ rfl)))
    show (0 : ℕ) = (i 1).val
    omega

/-- A layer's rows cut into heads, with an axis for the layer. -/
theorem heads_apply (p : (⟨2, ![128, 1024]⟩ : Shape).Idx → EReal) (i : S128x1x1x16x64.Idx) :
    broadcastInDim S128x1x1x16x64 ![0, 2, 3, 4] bcast_S128x1x16x64_S128x1x1x16x64_0_2_3_4 (shapeCast S128x1x16x64 p shapeCasts_S128x1024_S128x1x16x64) i = p (ix2 (i 0) (feat (i 3) (i 4))) := by
  have h3 : (i 3).val < 16 := (i 3).isLt
  have h4 : (i 4).val < 64 := (i 4).isLt
  refine (broadcastInDim_apply _ _ _ i (ix4 (i 0) 0 (i 3) (i 4) : S128x1x16x64.Idx) fun a => ?_).trans ?_
  · match a with
    | ⟨0, _⟩ => show (i 0).val = if (128 : Nat) = 1 then 0 else (i 0).val; rw [if_neg (by decide)]
    | ⟨1, _⟩ => show 0 = if (1 : Nat) = 1 then 0 else (i 2).val; rw [if_pos rfl]
    | ⟨2, _⟩ => show (i 3).val = if (16 : Nat) = 1 then 0 else (i 3).val; rw [if_neg (by decide)]
    | ⟨3, _⟩ => show (i 4).val = if (64 : Nat) = 1 then 0 else (i 4).val; rw [if_neg (by decide)]
  refine shapeCast_apply _ _ _ _ ?_
  rw [Shape.rowMajor_val_four, Shape.rowMajor_val_two]
  show (i 0).val * 1024 + (64 * (i 3).val + (i 4).val) = (((i 0).val * 1 + 0) * 16 + (i 3).val) * 64 + (i 4).val
  omega

/-- Both layers' rows side by side. -/
theorem stacked (x y : (⟨3, ![128, 1, 1024]⟩ : Shape).Idx → EReal) (g : (⟨2, ![4, 1024]⟩ : Shape).Idx → EReal) (w : (⟨3, ![2, 1024, 3072]⟩ : Shape).Idx → EReal) (s : Fin 3) :
    concatenate S128x2x1x16x64 1
      [⟨S128x1x1x16x64, broadcastInDim S128x1x1x16x64 ![0, 2, 3, 4] bcast_S128x1x16x64_S128x1x1x16x64_0_2_3_4 (shapeCast S128x1x16x64 (rowsArr x g w 0 s) shapeCasts_S128x1024_S128x1x16x64)⟩,
       ⟨S128x1x1x16x64, broadcastInDim S128x1x1x16x64 ![0, 2, 3, 4] bcast_S128x1x16x64_S128x1x1x16x64_0_2_3_4 (shapeCast S128x1x16x64 (rowsArr y g w 1 s) shapeCasts_S128x1024_S128x1x16x64)⟩]
      concatenates_S128x1x1x16x64_S128x1x1x16x64_S128x2x1x16x64_d1 = bothArr x y g w s := by
  funext i
  unfold bothArr
  have hlt : (i 1).val < 2 := (i 1).isLt
  have h2 : (i 2).val < 1 := (i 2).isLt
  by_cases h : (i 1).val = 0
  · refine (concatenate_pair_apply_left (s₁ := S128x1x1x16x64) (s₂ := S128x1x1x16x64) _ _ _ _ i rfl (ix5 (i 0) 0 (i 2) (i 3) (i 4) : S128x1x1x16x64.Idx) ?_).trans ?_
    · intro b
      match b with
      | ⟨0, _⟩ => rfl
      | ⟨1, _⟩ => exact h.symm
      | ⟨2, _⟩ => rfl
      | ⟨3, _⟩ => rfl
      | ⟨4, _⟩ => rfl
    refine (heads_apply _ _).trans ?_
    have hl : i 1 = (0 : Fin 2) := Fin.ext h
    rw [hl]
    refine congrArg (fun f => entry g w 0 f s (feat (i 3) (i 4))) (funext fun d => congrArg x (ext3 rfl ?_ rfl))
    show (0 : ℕ) = (i 2).val
    omega
  · have h1 : (i 1).val = 1 := by omega
    refine (concatenate_pair_apply_right (s₁ := S128x1x1x16x64) (s₂ := S128x1x1x16x64) _ _ _ _ i rfl rfl (ix5 (i 0) 0 (i 2) (i 3) (i 4) : S128x1x1x16x64.Idx) ?_ ?_).trans ?_
    · intro b hb
      match b with
      | ⟨0, _⟩ => rfl
      | ⟨1, _⟩ => exact absurd rfl hb
      | ⟨2, _⟩ => rfl
      | ⟨3, _⟩ => rfl
      | ⟨4, _⟩ => rfl
    · exact h1.symm
    refine (heads_apply _ _).trans ?_
    have hl : i 1 = (1 : Fin 2) := Fin.ext h1
    rw [hl]
    refine congrArg (fun f => entry g w 1 f s (feat (i 3) (i 4))) (funext fun d => congrArg y (ext3 rfl ?_ rfl))
    show (0 : ℕ) = (i 2).val
    omega

variable (m : (ℓ : Loc nD τ sig) → Buf (Elt Ideal) ℓ) (ρ : Dev nD → PrngReg) (c : Dev nD)

/-- The rows before the first attention layer. -/
theorem V1_v6 (r : Fin 128) (j : Fin 1024) : (V1 m ρ c main_v6 (ix2 r j) : EReal) = m ((c : Thread nD τ).loc main_arg0) (ix3 r 0 j) := by
  have h : V1 m ρ c main_v6 = shapeCast S128x1024 (m ((c : Thread nD τ).loc main_arg0)) shapeCasts_S128x1x1024_S128x1024 := by
    show StableHlo.after hostOps0 (fun b => m (c, b)) (Proc.tc.devRef main_v6) = _
    unfold hostOps0
    after_results_simp
    rfl
  rw [h]
  exact row_apply _ _ r j

/-- The first layer's norm. -/
theorem V1_v2 (k : Fin 1024) : (V1 m ρ c main_v2 (ix2 0 k) : EReal) = m ((c : Thread nD τ).loc main_arg2) (ix2 1 k) := by
  have h : V1 m ρ c main_v2 = shapeCast S1x1024 (shapeCast S1024 (extractStridedSlice S1x1024 ![1, 0] (m ((c : Thread nD τ).loc main_arg2)) slices_S4x1024_S1x1024_1_0) shapeCasts_S1x1024_S1024) shapeCasts_S1024_S1x1024 := by
    show StableHlo.after hostOps0 (fun b => m (c, b)) (Proc.tc.devRef main_v2) = _
    unfold hostOps0
    after_results_simp
    rfl
  rw [h]
  pointwise

/-- The first layer's weights. -/
theorem V1_v5 (d : Fin 1024) (n : Fin 3072) : (V1 m ρ c main_v5 (ix2 d n) : EReal) = m ((c : Thread nD τ).loc main_arg3) (ix3 0 d n) := by
  have h : V1 m ρ c main_v5 = shapeCast S1024x3072 (extractStridedSlice S1x1024x3072 ![0, 0, 0] (m ((c : Thread nD τ).loc main_arg3)) slices_S2x1024x3072_S1x1024x3072_0_0_0) shapeCasts_S1x1024x3072_S1024x3072 := by
    show StableHlo.after hostOps0 (fun b => m (c, b)) (Proc.tc.devRef main_v5) = _
    unfold hostOps0
    after_results_simp
    rfl
  rw [h]
  pointwise

/-- The rows before the last attention layer. -/
theorem V3_v16 (r : Fin 128) (j : Fin 1024) : (V3 m ρ c main_v16 (ix2 r j) : EReal) = m ((c : Thread nD τ).loc main_arg1) (ix3 r 0 j) := by
  have h : V3 m ρ c main_v16 = shapeCast S128x1024 (m ((c : Thread nD τ).loc main_arg1)) shapeCasts_S128x1x1024_S128x1024 := by
    rw [← W2_args m ρ c main_arg1 (by decide)]
    show StableHlo.after hostOps1 (W2 m ρ c) (Proc.tc.devRef main_v16) = _
    unfold hostOps1
    after_results_simp
    rfl
  rw [h]
  exact row_apply _ _ r j

/-- The last layer's norm. -/
theorem V3_v12 (k : Fin 1024) : (V3 m ρ c main_v12 (ix2 0 k) : EReal) = m ((c : Thread nD τ).loc main_arg2) (ix2 3 k) := by
  have h : V3 m ρ c main_v12 = shapeCast S1x1024 (shapeCast S1024 (extractStridedSlice S1x1024 ![3, 0] (m ((c : Thread nD τ).loc main_arg2)) slices_S4x1024_S1x1024_3_0) shapeCasts_S1x1024_S1024) shapeCasts_S1024_S1x1024 := by
    rw [← W2_args m ρ c main_arg2 (by decide)]
    show StableHlo.after hostOps1 (W2 m ρ c) (Proc.tc.devRef main_v12) = _
    unfold hostOps1
    after_results_simp
    rfl
  rw [h]
  pointwise

/-- The last layer's weights. -/
theorem V3_v15 (d : Fin 1024) (n : Fin 3072) : (V3 m ρ c main_v15 (ix2 d n) : EReal) = m ((c : Thread nD τ).loc main_arg3) (ix3 1 d n) := by
  have h : V3 m ρ c main_v15 = shapeCast S1024x3072 (extractStridedSlice S1x1024x3072 ![1, 0, 0] (m ((c : Thread nD τ).loc main_arg3)) slices_S2x1024x3072_S1x1024x3072_1_0_0) shapeCasts_S1x1024x3072_S1024x3072 := by
    rw [← W2_args m ρ c main_arg3 (by decide)]
    show StableHlo.after hostOps1 (W2 m ρ c) (Proc.tc.devRef main_v15) = _
    unfold hostOps1
    after_results_simp
    rfl
  rw [h]
  pointwise

/-- The first layer's keys cut into heads, as the host's last operations find them. -/
theorem W4_v8 : W4 m ρ c main_v8 = shapeCast S128x1x16x64 (rowsArr (m ((c : Thread nD τ).loc main_arg0)) (m ((c : Thread nD τ).loc main_arg2)) (m ((c : Thread nD τ).loc main_arg3)) 0 1) shapeCasts_S128x1024_S128x1x16x64 := by
  refine (W4_of_ne m ρ c main_v8 (by decide)).trans ?_
  rw [← arr04 (V1 m ρ) c _ _ _ (V1_v6 m ρ c) (V1_v2 m ρ c) (V1_v5 m ρ c), ← W2_arr m ρ c 4]
  show StableHlo.after hostOps1 (W2 m ρ c) (Proc.tc.devRef main_v8) = _
  unfold hostOps1
  after_results_simp
  rfl

/-- The first layer's values cut into heads, as the host's last operations find them. -/
theorem W4_v9 : W4 m ρ c main_v9 = shapeCast S128x1x16x64 (rowsArr (m ((c : Thread nD τ).loc main_arg0)) (m ((c : Thread nD τ).loc main_arg2)) (m ((c : Thread nD τ).loc main_arg3)) 0 2) shapeCasts_S128x1024_S128x1x16x64 := by
  refine (W4_of_ne m ρ c main_v9 (by decide)).trans ?_
  rw [← arr05 (V1 m ρ) c _ _ _ (V1_v6 m ρ c) (V1_v2 m ρ c) (V1_v5 m ρ c), ← W2_arr m ρ c 5]
  show StableHlo.after hostOps1 (W2 m ρ c) (Proc.tc.devRef main_v9) = _
  unfold hostOps1
  after_results_simp
  rfl

/-- The queries. -/
theorem W5_v20 : W5 m ρ c main_v20 = queryArr (m ((c : Thread nD τ).loc main_arg1)) (m ((c : Thread nD τ).loc main_arg2)) (m ((c : Thread nD τ).loc main_arg3)) := by
  refine Eq.trans ?_ (query_cast _ _ _ shapeCasts_S128x1024_S128x1x1024)
  rw [← arr13 (V3 m ρ) c _ _ _ (V3_v16 m ρ c) (V3_v12 m ρ c) (V3_v15 m ρ c), ← W4_arr m ρ c 3]
  show StableHlo.after hostOps2 (W4 m ρ c) (Proc.tc.devRef main_v20) = _
  unfold hostOps2
  after_results_simp
  rfl

/-- Both layers' keys. -/
theorem W5_v23 : W5 m ρ c main_v23 = bothArr (m ((c : Thread nD τ).loc main_arg0)) (m ((c : Thread nD τ).loc main_arg1)) (m ((c : Thread nD τ).loc main_arg2)) (m ((c : Thread nD τ).loc main_arg3)) 1 := by
  refine Eq.trans ?_ (stacked _ _ _ _ 1)
  rw [← W4_v8, ← arr14 (V3 m ρ) c _ _ _ (V3_v16 m ρ c) (V3_v12 m ρ c) (V3_v15 m ρ c), ← W4_arr m ρ c 4]
  show StableHlo.after hostOps2 (W4 m ρ c) (Proc.tc.devRef main_v23) = _
  unfold hostOps2
  after_results_simp
  rfl

/-- Both layers' values. -/
theorem W5_v26 : W5 m ρ c main_v26 = bothArr (m ((c : Thread nD τ).loc main_arg0)) (m ((c : Thread nD τ).loc main_arg1)) (m ((c : Thread nD τ).loc main_arg2)) (m ((c : Thread nD τ).loc main_arg3)) 2 := by
  refine Eq.trans ?_ (stacked _ _ _ _ 2)
  rw [← W4_v9, ← arr15 (V3 m ρ) c _ _ _ (V3_v16 m ρ c) (V3_v12 m ρ c) (V3_v15 m ρ c), ← W4_arr m ρ c 5]
  show StableHlo.after hostOps2 (W4 m ρ c) (Proc.tc.devRef main_v26) = _
  unfold hostOps2
  after_results_simp
  rfl

/-- After a run the results hold the last layer's queries, and both layers' keys and values. -/
theorem run_result : θ_run defs (onTc (τ := τ) (main (F := Ideal))) ⟨m, fun _ => 0, ρ⟩ (fun r => ∀ c : Dev nD,
    r.2.mem ((c.tc : Thread nD τ).loc main_v20) = queryArr (m ((c : Thread nD τ).loc main_arg1)) (m ((c : Thread nD τ).loc main_arg2)) (m ((c : Thread nD τ).loc main_arg3))
    ∧ r.2.mem ((c.tc : Thread nD τ).loc main_v23) = bothArr (m ((c : Thread nD τ).loc main_arg0)) (m ((c : Thread nD τ).loc main_arg1)) (m ((c : Thread nD τ).loc main_arg2)) (m ((c : Thread nD τ).loc main_arg3)) 1
    ∧ r.2.mem ((c.tc : Thread nD τ).loc main_v26) = bothArr (m ((c : Thread nD τ).loc main_arg0)) (m ((c : Thread nD τ).loc main_arg1)) (m ((c : Thread nD τ).loc main_arg2)) (m ((c : Thread nD τ).loc main_arg3)) 2) :=
  (θ_run defs _ _).mono (fun r h c =>
    ⟨(h c _ (mem_uc main_v20 (by decide))).trans (W5_v20 m ρ c),
     (h c _ (mem_uc main_v23 (by decide))).trans (W5_v23 m ρ c),
     (h c _ (mem_uc main_v26 (by decide))).trans (W5_v26 m ρ c)⟩) (run_all m ρ)

end Cert.Qkv4

end
-- ==== Proof.Qkv4Ref.lean ====
/- What the reference of the two projections over the sample returns. -/
module

public import proofs.«01_k».proof.Proof.QkvMath
public import proofs.«01_k».proof.Proof.Gen.Reference4Ideal.Read
public import proofs.«01_k».proof.Proof.Gen.Reference4Ideal.Run

@[expose] public section

noncomputable section

namespace Cert.Qkv4.Ref

open Cert.Reference4Ideal Cert.Reference4Ideal.Gen Cert.Reference4Ideal.Read Cert.Ffn Cert.Flat Cert.Qkv Idealize.ShloMosaic

variable (x y : S128x1x1024.Idx → EReal) (x2 : S4x1024.Idx → EReal) (x3 : S2x1024x3072.Idx → EReal)

/-- The first layer's norm factors. -/
theorem g0_eq (i : S1024.Idx) : val_main_v1 (F := Ideal) x2 i = x2 (ix2 1 (i 0)) := by
  rw [val_main_v1_apply, val_main_v0_apply]
  have h0 : (i 0).val < 1024 := (i 0).isLt
  exact congrArg x2 (ext2 rfl (by show (i 0).val % 1024 = (i 0).val; omega))

/-- The first layer's normalized rows. -/
theorem n0_eq (i : S128x1x1024.Idx) : val_main_v14 (F := Ideal) x x2 i = nrm (fun d => x (ix3 (i 0) (i 1) d)) (fun k => x2 (ix2 1 k)) (i 2) := by
  rw [val_main_v14_apply, val_main_v13_apply, val_main_v12_apply, g0_eq, val_main_v11_apply, val_main_v10_apply, val_main_v9_apply, val_main_v8_apply, val_main_v7_apply, val_main_cst_1_apply, val_main_v6_apply, val_main_v5_apply, val_main_cst_0_apply,
    val_main_v4_apply, val_main_v3_apply, val_main_cst_apply]
  exact norm_eq x (fun d => x (ix3 (i 0) (i 1) d)) (fun k => x2 (ix2 1 k)) (i 2) i _ _ (congrArg x (ext3 rfl rfl rfl))
    (fun k => congrArg x (ext3 rfl (by have h1 : (i 1).val < 1 := (i 1).isLt; show (0 : ℕ) = (i 1).val; omega) rfl)) rfl

/-- The first layer's weights. -/
theorem w0_eq (i : S1024x3072.Idx) : val_main_v16 (F := Ideal) x3 i = x3 (ix3 0 (i 0) (i 1)) := by
  rw [val_main_v16_apply, val_main_v15_apply]
  have h0 : (i 0).val < 1024 := (i 0).isLt
  have h1 : (i 1).val < 3072 := (i 1).isLt
  exact congrArg x3 (ext3 rfl (by show ((i 0).val * 3072 + (i 1).val) / 3072 % 1024 = (i 0).val; omega)
    (by show ((i 0).val * 3072 + (i 1).val) % 3072 = (i 1).val; omega))

/-- The first layer's parts. -/
theorem p0_eq (i : S128x1x3x16x64.Idx) : val_main_v18 (F := Ideal) x x2 x3 i = entry x2 x3 0 (fun d => x (ix3 (i 0) (i 1) d)) (i 2) (feat (i 3) (i 4)) := by
  rw [val_main_v18_apply, val_main_v17_apply]
  unfold entry proj
  have h0 : (i 0).val < 128 := (i 0).isLt
  have h1 : (i 1).val < 1 := (i 1).isLt
  have h2 : (i 2).val < 3 := (i 2).isLt
  have h3 : (i 3).val < 16 := (i 3).isLt
  have h4 : (i 4).val < 64 := (i 4).isLt
  refine Finset.sum_congr rfl fun d _ => ?_
  rw [n0_eq, w0_eq]
  refine congrArg₂ (· * ·) (congrArg (fun f => nrm f _ d) (funext fun e => congrArg x (ext3 ?_ ?_ rfl))) (congrArg x3 (ext3 rfl rfl ?_))
  · show ((((((i 0).val * 1 + (i 1).val) * 3 + (i 2).val) * 16 + (i 3).val) * 64 + (i 4).val) / 3072 : ℕ) = (i 0).val
    omega
  · show (0 : ℕ) = (i 1).val
    omega
  · show ((((((i 0).val * 1 + (i 1).val) * 3 + (i 2).val) * 16 + (i 3).val) * 64 + (i 4).val) % 3072 : ℕ) = 1024 * (i 2).val + (64 * (i 3).val + (i 4).val)
    omega

/-- The first layer's key, head by head. -/
theorem h01_eq (i : S128x1x16x64.Idx) : val_main_v22 (F := Ideal) x x2 x3 i = entry x2 x3 0 (fun d => x (ix3 (i 0) (i 1) d)) 1 (feat (i 2) (i 3)) := by
  rw [val_main_v22_apply, val_main_v21_apply, p0_eq]
  have h0 : (i 0).val < 128 := (i 0).isLt
  have h1 : (i 1).val < 1 := (i 1).isLt
  have h2 : (i 2).val < 16 := (i 2).isLt
  have h3 : (i 3).val < 64 := (i 3).isLt
  refine congr (congr (congrArg (entry x2 x3 0) (funext fun d => congrArg x (ext3 ?_ ?_ rfl))) (Fin.ext ?_)) (Fin.ext ?_)
  · show (((((i 0).val * 1 + (i 1).val) * 16 + (i 2).val) * 64 + (i 3).val) / 1024 : ℕ) = (i 0).val
    omega
  · show (0 : ℕ) = (i 1).val
    omega
  · rfl
  · show 64 * ((((((i 0).val * 1 + (i 1).val) * 16 + (i 2).val) * 64 + (i 3).val) / 64 % 16 : ℕ)) + (((((i 0).val * 1 + (i 1).val) * 16 + (i 2).val) * 64 + (i 3).val) % 64 : ℕ) = 64 * (i 2).val + (i 3).val
    omega

/-- The first layer's value, head by head. -/
theorem h02_eq (i : S128x1x16x64.Idx) : val_main_v24 (F := Ideal) x x2 x3 i = entry x2 x3 0 (fun d => x (ix3 (i 0) (i 1) d)) 2 (feat (i 2) (i 3)) := by
  rw [val_main_v24_apply, val_main_v23_apply, p0_eq]
  have h0 : (i 0).val < 128 := (i 0).isLt
  have h1 : (i 1).val < 1 := (i 1).isLt
  have h2 : (i 2).val < 16 := (i 2).isLt
  have h3 : (i 3).val < 64 := (i 3).isLt
  refine congr (congr (congrArg (entry x2 x3 0) (funext fun d => congrArg x (ext3 ?_ ?_ rfl))) (Fin.ext ?_)) (Fin.ext ?_)
  · show (((((i 0).val * 1 + (i 1).val) * 16 + (i 2).val) * 64 + (i 3).val) / 1024 : ℕ) = (i 0).val
    omega
  · show (0 : ℕ) = (i 1).val
    omega
  · rfl
  · show 64 * ((((((i 0).val * 1 + (i 1).val) * 16 + (i 2).val) * 64 + (i 3).val) / 64 % 16 : ℕ)) + (((((i 0).val * 1 + (i 1).val) * 16 + (i 2).val) * 64 + (i 3).val) % 64 : ℕ) = 64 * (i 2).val + (i 3).val
    omega

/-- The last layer's norm factors. -/
theorem g1_eq (i : S1024.Idx) : val_main_v26 (F := Ideal) x2 i = x2 (ix2 3 (i 0)) := by
  rw [val_main_v26_apply, val_main_v25_apply]
  have h0 : (i 0).val < 1024 := (i 0).isLt
  exact congrArg x2 (ext2 rfl (by show (i 0).val % 1024 = (i 0).val; omega))

/-- The last layer's normalized rows. -/
theorem n1_eq (i : S128x1x1024.Idx) : val_main_v39 (F := Ideal) x x2 i = nrm (fun d => x (ix3 (i 0) (i 1) d)) (fun k => x2 (ix2 3 k)) (i 2) := by
  rw [val_main_v39_apply, val_main_v38_apply, val_main_v37_apply, g1_eq, val_main_v36_apply, val_main_v35_apply, val_main_v34_apply, val_main_v33_apply, val_main_v32_apply, val_main_cst_4_apply, val_main_v31_apply, val_main_v30_apply, val_main_cst_3_apply,
    val_main_v29_apply, val_main_v28_apply, val_main_cst_2_apply]
  exact norm_eq x (fun d => x (ix3 (i 0) (i 1) d)) (fun k => x2 (ix2 3 k)) (i 2) i _ _ (congrArg x (ext3 rfl rfl rfl))
    (fun k => congrArg x (ext3 rfl (by have h1 : (i 1).val < 1 := (i 1).isLt; show (0 : ℕ) = (i 1).val; omega) rfl)) rfl

/-- The last layer's weights. -/
theorem w1_eq (i : S1024x3072.Idx) : val_main_v41 (F := Ideal) x3 i = x3 (ix3 1 (i 0) (i 1)) := by
  rw [val_main_v41_apply, val_main_v40_apply]
  have h0 : (i 0).val < 1024 := (i 0).isLt
  have h1 : (i 1).val < 3072 := (i 1).isLt
  exact congrArg x3 (ext3 rfl (by show ((i 0).val * 3072 + (i 1).val) / 3072 % 1024 = (i 0).val; omega)
    (by show ((i 0).val * 3072 + (i 1).val) % 3072 = (i 1).val; omega))

/-- The last layer's parts. -/
theorem p1_eq (i : S128x1x3x16x64.Idx) : val_main_v43 (F := Ideal) x x2 x3 i = entry x2 x3 1 (fun d => x (ix3 (i 0) (i 1) d)) (i 2) (feat (i 3) (i 4)) := by
  rw [val_main_v43_apply, val_main_v42_apply]
  unfold entry proj
  have h0 : (i 0).val < 128 := (i 0).isLt
  have h1 : (i 1).val < 1 := (i 1).isLt
  have h2 : (i 2).val < 3 := (i 2).isLt
  have h3 : (i 3).val < 16 := (i 3).isLt
  have h4 : (i 4).val < 64 := (i 4).isLt
  refine Finset.sum_congr rfl fun d _ => ?_
  rw [n1_eq, w1_eq]
  refine congrArg₂ (· * ·) (congrArg (fun f => nrm f _ d) (funext fun e => congrArg x (ext3 ?_ ?_ rfl))) (congrArg x3 (ext3 rfl rfl ?_))
  · show ((((((i 0).val * 1 + (i 1).val) * 3 + (i 2).val) * 16 + (i 3).val) * 64 + (i 4).val) / 3072 : ℕ) = (i 0).val
    omega
  · show (0 : ℕ) = (i 1).val
    omega
  · show ((((((i 0).val * 1 + (i 1).val) * 3 + (i 2).val) * 16 + (i 3).val) * 64 + (i 4).val) % 3072 : ℕ) = 1024 * (i 2).val + (64 * (i 3).val + (i 4).val)
    omega

/-- The last layer's query, head by head. -/
theorem h10_eq (i : S128x1x16x64.Idx) : val_main_v45 (F := Ideal) x x2 x3 i = entry x2 x3 1 (fun d => x (ix3 (i 0) (i 1) d)) 0 (feat (i 2) (i 3)) := by
  rw [val_main_v45_apply, val_main_v44_apply, p1_eq]
  have h0 : (i 0).val < 128 := (i 0).isLt
  have h1 : (i 1).val < 1 := (i 1).isLt
  have h2 : (i 2).val < 16 := (i 2).isLt
  have h3 : (i 3).val < 64 := (i 3).isLt
  refine congr (congr (congrArg (entry x2 x3 1) (funext fun d => congrArg x (ext3 ?_ ?_ rfl))) (Fin.ext ?_)) (Fin.ext ?_)
  · show (((((i 0).val * 1 + (i 1).val) * 16 + (i 2).val) * 64 + (i 3).val) / 1024 : ℕ) = (i 0).val
    omega
  · show (0 : ℕ) = (i 1).val
    omega
  · rfl
  · show 64 * ((((((i 0).val * 1 + (i 1).val) * 16 + (i 2).val) * 64 + (i 3).val) / 64 % 16 : ℕ)) + (((((i 0).val * 1 + (i 1).val) * 16 + (i 2).val) * 64 + (i 3).val) % 64 : ℕ) = 64 * (i 2).val + (i 3).val
    omega

/-- The last layer's key, head by head. -/
theorem h11_eq (i : S128x1x16x64.Idx) : val_main_v47 (F := Ideal) x x2 x3 i = entry x2 x3 1 (fun d => x (ix3 (i 0) (i 1) d)) 1 (feat (i 2) (i 3)) := by
  rw [val_main_v47_apply, val_main_v46_apply, p1_eq]
  have h0 : (i 0).val < 128 := (i 0).isLt
  have h1 : (i 1).val < 1 := (i 1).isLt
  have h2 : (i 2).val < 16 := (i 2).isLt
  have h3 : (i 3).val < 64 := (i 3).isLt
  refine congr (congr (congrArg (entry x2 x3 1) (funext fun d => congrArg x (ext3 ?_ ?_ rfl))) (Fin.ext ?_)) (Fin.ext ?_)
  · show (((((i 0).val * 1 + (i 1).val) * 16 + (i 2).val) * 64 + (i 3).val) / 1024 : ℕ) = (i 0).val
    omega
  · show (0 : ℕ) = (i 1).val
    omega
  · rfl
  · show 64 * ((((((i 0).val * 1 + (i 1).val) * 16 + (i 2).val) * 64 + (i 3).val) / 64 % 16 : ℕ)) + (((((i 0).val * 1 + (i 1).val) * 16 + (i 2).val) * 64 + (i 3).val) % 64 : ℕ) = 64 * (i 2).val + (i 3).val
    omega

/-- The last layer's value, head by head. -/
theorem h12_eq (i : S128x1x16x64.Idx) : val_main_v49 (F := Ideal) x x2 x3 i = entry x2 x3 1 (fun d => x (ix3 (i 0) (i 1) d)) 2 (feat (i 2) (i 3)) := by
  rw [val_main_v49_apply, val_main_v48_apply, p1_eq]
  have h0 : (i 0).val < 128 := (i 0).isLt
  have h1 : (i 1).val < 1 := (i 1).isLt
  have h2 : (i 2).val < 16 := (i 2).isLt
  have h3 : (i 3).val < 64 := (i 3).isLt
  refine congr (congr (congrArg (entry x2 x3 1) (funext fun d => congrArg x (ext3 ?_ ?_ rfl))) (Fin.ext ?_)) (Fin.ext ?_)
  · show (((((i 0).val * 1 + (i 1).val) * 16 + (i 2).val) * 64 + (i 3).val) / 1024 : ℕ) = (i 0).val
    omega
  · show (0 : ℕ) = (i 1).val
    omega
  · rfl
  · show 64 * ((((((i 0).val * 1 + (i 1).val) * 16 + (i 2).val) * 64 + (i 3).val) / 64 % 16 : ℕ)) + (((((i 0).val * 1 + (i 1).val) * 16 + (i 2).val) * 64 + (i 3).val) % 64 : ℕ) = 64 * (i 2).val + (i 3).val
    omega

/-- The last layer's queries. -/
theorem v53_eq (i : S128x1x1024.Idx) : val_main_v53 (F := Ideal) x x2 x3 i = queryArr x x2 x3 i := by
  rw [val_main_v53_apply, val_main_v52_apply, val_main_v51_apply, h10_eq, val_main_v50_apply, val_main_cst_5_apply]
  have h0 : (i 0).val < 128 := (i 0).isLt
  have h1 : (i 1).val < 1 := (i 1).isLt
  have h2 : (i 2).val < 1024 := (i 2).isLt
  unfold queryArr partArr
  refine congrArg (· * sc) ?_
  refine congr (congrArg₂ (entry x2 x3 1) (funext fun d => congrArg x (ext3 ?_ ?_ rfl)) rfl) (Fin.ext ?_)
  · show ((((i 0).val * 1 + (i 1).val) * 1024 + (i 2).val) / 1024 : ℕ) = (i 0).val
    omega
  · show (0 : ℕ) = (i 1).val
    omega
  · show 64 * (((((i 0).val * 1 + (i 1).val) * 1024 + (i 2).val) / 64 % 16 : ℕ)) + ((((i 0).val * 1 + (i 1).val) * 1024 + (i 2).val) % 64 : ℕ) = (i 2).val
    omega

/-- Both layers' part 1. -/
theorem v60_eq (i : S128x2x1x16x64.Idx) : val_main_v60 (F := Ideal) x y x2 x3 i = bothArr x y x2 x3 1 i := by
  unfold val_main_v60 bothArr
  have hlt : (i 1).val < 2 := (i 1).isLt
  by_cases h : (i 1).val = 0
  · refine (concatenate_pair_apply_left (s₁ := S128x1x1x16x64) (s₂ := S128x1x1x16x64) _ _ _ _ i rfl (ix5 (i 0) 0 (i 2) (i 3) (i 4) : S128x1x1x16x64.Idx) ?_).trans ?_
    · intro b
      match b with
      | ⟨0, _⟩ => rfl
      | ⟨1, _⟩ => exact h.symm
      | ⟨2, _⟩ => rfl
      | ⟨3, _⟩ => rfl
      | ⟨4, _⟩ => rfl
    rw [val_main_v58_apply, h01_eq]
    have hl : i 1 = (0 : Fin 2) := Fin.ext h
    rw [hl]
    refine congrArg (fun f => entry x2 x3 0 f 1 (feat (i 3) (i 4))) (funext fun d => congrArg x (ext3 rfl ?_ rfl))
    have h2 : (i 2).val < 1 := (i 2).isLt
    show (0 : ℕ) = (i 2).val
    omega
  · have h1 : (i 1).val = 1 := by omega
    refine (concatenate_pair_apply_right (s₁ := S128x1x1x16x64) (s₂ := S128x1x1x16x64) _ _ _ _ i rfl rfl (ix5 (i 0) 0 (i 2) (i 3) (i 4) : S128x1x1x16x64.Idx) ?_ ?_).trans ?_
    · intro b hb
      match b with
      | ⟨0, _⟩ => rfl
      | ⟨1, _⟩ => exact absurd rfl hb
      | ⟨2, _⟩ => rfl
      | ⟨3, _⟩ => rfl
      | ⟨4, _⟩ => rfl
    · exact h1.symm
    rw [val_main_v59_apply, h11_eq]
    have hl : i 1 = (1 : Fin 2) := Fin.ext h1
    rw [hl]
    refine congrArg (fun f => entry x2 x3 1 f 1 (feat (i 3) (i 4))) (funext fun d => congrArg y (ext3 rfl ?_ rfl))
    have h2 : (i 2).val < 1 := (i 2).isLt
    show (0 : ℕ) = (i 2).val
    omega

/-- Both layers' part 2. -/
theorem v63_eq (i : S128x2x1x16x64.Idx) : val_main_v63 (F := Ideal) x y x2 x3 i = bothArr x y x2 x3 2 i := by
  unfold val_main_v63 bothArr
  have hlt : (i 1).val < 2 := (i 1).isLt
  by_cases h : (i 1).val = 0
  · refine (concatenate_pair_apply_left (s₁ := S128x1x1x16x64) (s₂ := S128x1x1x16x64) _ _ _ _ i rfl (ix5 (i 0) 0 (i 2) (i 3) (i 4) : S128x1x1x16x64.Idx) ?_).trans ?_
    · intro b
      match b with
      | ⟨0, _⟩ => rfl
      | ⟨1, _⟩ => exact h.symm
      | ⟨2, _⟩ => rfl
      | ⟨3, _⟩ => rfl
      | ⟨4, _⟩ => rfl
    rw [val_main_v61_apply, h02_eq]
    have hl : i 1 = (0 : Fin 2) := Fin.ext h
    rw [hl]
    refine congrArg (fun f => entry x2 x3 0 f 2 (feat (i 3) (i 4))) (funext fun d => congrArg x (ext3 rfl ?_ rfl))
    have h2 : (i 2).val < 1 := (i 2).isLt
    show (0 : ℕ) = (i 2).val
    omega
  · have h1 : (i 1).val = 1 := by omega
    refine (concatenate_pair_apply_right (s₁ := S128x1x1x16x64) (s₂ := S128x1x1x16x64) _ _ _ _ i rfl rfl (ix5 (i 0) 0 (i 2) (i 3) (i 4) : S128x1x1x16x64.Idx) ?_ ?_).trans ?_
    · intro b hb
      match b with
      | ⟨0, _⟩ => rfl
      | ⟨1, _⟩ => exact absurd rfl hb
      | ⟨2, _⟩ => rfl
      | ⟨3, _⟩ => rfl
      | ⟨4, _⟩ => rfl
    · exact h1.symm
    rw [val_main_v62_apply, h12_eq]
    have hl : i 1 = (1 : Fin 2) := Fin.ext h1
    rw [hl]
    refine congrArg (fun f => entry x2 x3 1 f 2 (feat (i 3) (i 4))) (funext fun d => congrArg y (ext3 rfl ?_ rfl))
    have h2 : (i 2).val < 1 := (i 2).isLt
    show (0 : ℕ) = (i 2).val
    omega

end Cert.Qkv4.Ref

end
-- ==== Proof.Qkv4.lean ====
/- The two projections over the sample and the reference leave the same results. -/
module

public import proofs.«01_k».proof.Proof.Qkv4Result
public import proofs.«01_k».proof.Proof.Qkv4Ref
public import proofs.«01_k».proof.Defs

@[expose] public section

noncomputable section

namespace Cert.Qkv4

open Cert.Qkv Idealize.ShloMosaic Idealize.SL.Sem

/-- Both programs run and leave the same results of the same arguments. -/
theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => queryArr (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => bothArr (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) 1,
    fun c => bothArr (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) 2, ?_, ?_⟩
  · refine (θ_run _ _ _).mono (fun r h c => ?_) (θ_run_and (run_result m g) (Cert.Kernel4Ideal.Gen.frame m g))
    exact ⟨(h.1 c).1, (h.1 c).2.1, (h.1 c).2.2, h.2.1 c⟩
  · refine (θ_run _ _ _).mono (fun r h c => ?_) (Cert.Reference4Ideal.Value.run m' g')
    obtain ⟨e0, e1, e2, e3⟩ := hm c
    refine ⟨(h c).1.trans ?_, (h c).2.1.trans ?_, (h c).2.2.1.trans ?_, (h c).2.2.2⟩
    · rw [Cert.Reference4Ideal.Read.val_main_v53_eq, e1, e2, e3]
      exact funext fun i => Ref.v53_eq _ _ _ i
    · rw [Cert.Reference4Ideal.Read.val_main_v60_eq, e0, e1, e2, e3]
      exact funext fun i => Ref.v60_eq _ _ _ _ i
    · rw [Cert.Reference4Ideal.Read.val_main_v63_eq, e0, e1, e2, e3]
      exact funext fun i => Ref.v63_eq _ _ _ _ i

end Cert.Qkv4

end
-- ==== Proof.Proj.lean ====
/- The output projection with its norm and residual: what the kernel and the reference leave, and that it is the same. -/
module

public import proofs.«01_k».proof.Defs
public import proofs.«01_k».proof.Proof.FlatRows
public import proofs.«01_k».proof.Proof.Gen.Kernel5Ideal.Frame
public import proofs.«01_k».proof.Proof.Gen.Reference5Ideal.Read
public import proofs.«01_k».proof.Proof.Gen.Reference5Ideal.Run
public import Idealize.ShloMosaic.Lib.Pointwise
public import Idealize.ShloMosaic.Lib.Pipeline.ValueKit.Point
public import Idealize.ShloMosaic.Lib.Pipeline.ValueKit.Geometry
public import Idealize.ShloMosaic.Lib.Pipeline.ValueKit.Tiles

@[expose] public section

noncomputable section

namespace Cert.Proj

open Cert.Kernel5Ideal Cert.Kernel5Ideal.Gen Cert.Ffn Cert.Flat
open Idealize.ShloMosaic Idealize.ShloMosaic.TcCoe Idealize.SL.Sem

/-- An entry of a projected row. -/
def prod (o : Fin 1024 → EReal) (w : (⟨3, ![2, 1024, 1024]⟩ : Shape).Idx → EReal) (k : Fin 1024) : EReal := ∑ d : Fin 1024, o d * w (ix3 1 d k)

/-- The rows with the projected and normalized rows added, as an array. -/
def outArr (x o : (⟨3, ![8, 2048, 1024]⟩ : Shape).Idx → EReal) (g : (⟨2, ![4, 1024]⟩ : Shape).Idx → EReal) (w : (⟨3, ![2, 1024, 1024]⟩ : Shape).Idx → EReal) :
    (⟨3, ![8, 2048, 1024]⟩ : Shape).Idx → EReal := fun i =>
  x (ix3 (i 0) (i 1) (i 2)) + nrm (prod (fun d => o (ix3 (i 0) (i 1) d)) w) (fun k => g (ix2 3 k)) (i 2)

/-- The same with all rows one after the other. -/
def outFlat (x o : (⟨3, ![8, 2048, 1024]⟩ : Shape).Idx → EReal) (g : (⟨2, ![4, 1024]⟩ : Shape).Idx → EReal) (w : (⟨3, ![2, 1024, 1024]⟩ : Shape).Idx → EReal) :
    (⟨2, ![16384, 1024]⟩ : Shape).Idx → EReal := fun i =>
  flat x (ix2 (i 0) (i 1)) + nrm (prod (fun d => flat o (ix2 (i 0) d)) w) (fun k => g (ix2 3 k)) (i 1)

/-- The body's result at an entry. -/
theorem pay1_apply (o : Vec Ideal S512x1024 .bf16) (w : Vec Ideal S1024x1024 .bf16) (x : Vec Ideal S512x1024 .f32) (g : Vec Ideal S1x1024 .f32)
    (r : Fin 512) (j : Fin 1024) :
    (k0_pay1 o w x g (ix2 r j) : EReal)
      = x (ix2 r j) + nrm (fun k => ∑ d : Fin 1024, (o (ix2 r d) : EReal) * w (ix2 d k)) (fun k => g (ix2 0 k)) j := by
  unfold k0_pay1 nrm rinv
  pointwise

/-- The body leaves its payload. -/
theorem out_eq (x0 : Vec Ideal S512x1024 .f32) (x1 : Vec Ideal S512x1024 .bf16) (x2 : Vec Ideal S1024x1024 .bf16) (x3 : Vec Ideal S1x1024 .f32) :
    out0_4 x0 x1 x2 x3 = k0_pay1 x1 x2 x0 x3 := by
  frame_out

variable (m : (ℓ : Loc nD τ sig) → Buf (Elt Ideal) ℓ) (ρ : Dev nD → PrngReg) (c : Dev nD)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)

/-- The rows as the region finds them. -/
theorem V_v6 : V m c main_v6 = flat (m ((c : Thread nD τ).loc main_arg0)) := by
  refine Eq.trans ?_ (cast_flat (m ((c : Thread nD τ).loc main_arg0)) shapeCasts_S8x2048x1024_S16384x1024)
  show StableHlo.after (List.flatten [hostOps0]) (fun b => m (c, b)) (Proc.tc.devRef main_v6) = _
  rw [show List.flatten [hostOps0 (F := Ideal)] = hostOps0 from by simp only [List.flatten_cons, List.flatten_nil, List.append_nil]]
  unfold hostOps0
  after_results_simp
  rfl

/-- The attention's rows as the region finds them. -/
theorem V_v7 : V m c main_v7 = flat (m ((c : Thread nD τ).loc main_arg1)) := by
  refine Eq.trans ?_ (cast_flat (m ((c : Thread nD τ).loc main_arg1)) shapeCasts_S8x2048x1024_S16384x1024)
  show StableHlo.after (List.flatten [hostOps0]) (fun b => m (c, b)) (Proc.tc.devRef main_v7) = _
  rw [show List.flatten [hostOps0 (F := Ideal)] = hostOps0 from by simp only [List.flatten_cons, List.flatten_nil, List.append_nil]]
  unfold hostOps0
  after_results_simp
  rfl

/-- The weights as the region finds them. -/
theorem V_v2 : V m c main_v2 = shapeCast S1024x1024 (extractStridedSlice S1x1024x1024 ![1, 0, 0] (m ((c : Thread nD τ).loc main_arg3)) slices_S2x1024x1024_S1x1024x1024_1_0_0) shapeCasts_S1x1024x1024_S1024x1024 := by
  show StableHlo.after (List.flatten [hostOps0]) (fun b => m (c, b)) (Proc.tc.devRef main_v2) = _
  rw [show List.flatten [hostOps0 (F := Ideal)] = hostOps0 from by simp only [List.flatten_cons, List.flatten_nil, List.append_nil]]
  unfold hostOps0
  after_results_simp
  rfl

/-- The norm's factors as the region finds them. -/
theorem V_v5 : V m c main_v5 = shapeCast S1x1024 (shapeCast S1024 (extractStridedSlice S1x1024 ![3, 0] (m ((c : Thread nD τ).loc main_arg2)) slices_S4x1024_S1x1024_3_0) shapeCasts_S1x1024_S1024) shapeCasts_S1024_S1x1024 := by
  show StableHlo.after (List.flatten [hostOps0]) (fun b => m (c, b)) (Proc.tc.devRef main_v5) = _
  rw [show List.flatten [hostOps0 (F := Ideal)] = hostOps0 from by simp only [List.flatten_cons, List.flatten_nil, List.append_nil]]
  unfold hostOps0
  after_results_simp
  rfl

/-- The row of a point's tile among all rows. -/
def row (t : Fin cfg0.N) (r : Fin 512) : Fin 16384 := ⟨512 * t.val + r.val, by have := t.isLt; change t.val < 32 at this; have := r.isLt; omega⟩

/-- The rows' block. -/
theorem blk0 (t : Fin cfg0.N) (r : Fin 512) (j : Fin 1024) : (iblk m c 0 t (ix2 r j) : EReal) = flat (m ((c : Thread nD τ).loc main_arg0)) (ix2 (row t r) j) := by
  show V m c main_v6 (((View.whole main_v6).slice (win0_0.rect t)).emb (ix2 r j)) = _
  rw [V_v6]
  have h0 : ((((View.whole main_v6).slice (win0_0.rect t)).emb (ix2 r j)) 0).val = 512 * t.val + r.val := by blk_simp [e0 t] <;> first | rfl | omega
  have h1 : ((((View.whole main_v6).slice (win0_0.rect t)).emb (ix2 r j)) 1).val = j.val := by blk_simp [e0 t] <;> first | rfl | omega
  exact congrArg (flat _) (ext2 h0 h1)

/-- The attention's block. -/
theorem blk1 (t : Fin cfg0.N) (r : Fin 512) (j : Fin 1024) : (iblk m c 1 t (ix2 r j) : EReal) = flat (m ((c : Thread nD τ).loc main_arg1)) (ix2 (row t r) j) := by
  show V m c main_v7 (((View.whole main_v7).slice (win0_1.rect t)).emb (ix2 r j)) = _
  rw [V_v7]
  have h0 : ((((View.whole main_v7).slice (win0_1.rect t)).emb (ix2 r j)) 0).val = 512 * t.val + r.val := by blk_simp [e1 t] <;> first | rfl | omega
  have h1 : ((((View.whole main_v7).slice (win0_1.rect t)).emb (ix2 r j)) 1).val = j.val := by blk_simp [e1 t] <;> first | rfl | omega
  exact congrArg (flat _) (ext2 h0 h1)

/-- The weights' block. -/
theorem blk2 (t : Fin cfg0.N) (d j : Fin 1024) : (iblk m c 2 t (ix2 d j) : EReal) = m ((c : Thread nD τ).loc main_arg3) (ix3 1 d j) := by
  show V m c main_v2 (((View.whole main_v2).slice (win0_2.rect t)).emb (ix2 d j)) = _
  rw [V_v2]
  pointwise
  refine congrArg₂ (fun y z => m ((c : Thread nD τ).loc main_arg3) (ix3 1 y z)) (Fin.ext ?_) (Fin.ext ?_)
  · blk_simp [e2 t]
  · blk_simp [e2 t]

/-- The norm's block. -/
theorem blk3 (t : Fin cfg0.N) (j : Fin 1024) : (iblk m c 3 t (ix2 0 j) : EReal) = m ((c : Thread nD τ).loc main_arg2) (ix2 3 j) := by
  show V m c main_v5 (((View.whole main_v5).slice (win0_3.rect t)).emb (ix2 0 j)) = _
  rw [V_v5]
  pointwise
  refine congrArg (fun z => m ((c : Thread nD τ).loc main_arg2) (ix2 3 z)) (Fin.ext ?_)
  blk_simp [e3 t]

/-- What a point leaves, at an entry. -/
theorem point_apply (t : Fin cfg0.N) (r : Fin 512) (j : Fin 1024) : ((dats m 0 c).after 4 t (ix2 r j) : EReal)
    = outFlat (m ((c : Thread nD τ).loc main_arg0)) (m ((c : Thread nD τ).loc main_arg1)) (m ((c : Thread nD τ).loc main_arg2)) (m ((c : Thread nD τ).loc main_arg3)) (ix2 (row t r) j) := by
  have h : (dats m 0 c).after 4 t = out0_4 (iblk m c 0 t) (iblk m c 1 t) (iblk m c 2 t) (iblk m c 3 t) := by dsimp only [dats]
  rw [h, out_eq]
  refine (pay1_apply _ _ _ _ r j).trans ?_
  rw [blk0]
  unfold outFlat prod
  refine congrArg₂ (fun a b => _ + nrm a b j) (funext fun k => Finset.sum_congr rfl fun d _ => ?_) (funext fun k => blk3 m c t k)
  rw [blk1, blk2]
  rfl

/-- The result's array after the region. -/
theorem arr4 : (dats m 0 c).arrAt 4 cfg0.N
    = outFlat (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht := t.isLt
  change t.val < 32 at ht
  blk_simp [e4 t]
  have hy : y = (ix2 (y 0) (y 1) : (⟨2, ![512, 1024]⟩ : Shape).Idx) := ext2 rfl rfl
  have he0 : ((win0_4.blk t).view.emb y 0).val = 512 * t.val + (y 0).val := by blk_simp [e4 t]; omega
  have he1 : ((win0_4.blk t).view.emb y 1).val = (y 1).val := by blk_simp [e4 t]
  refine Eq.trans (congrArg ((dats m 0 c).after 4 t) hy) ?_
  refine (point_apply m c t (y 0) (y 1)).trans ?_
  exact congrArg (outFlat _ _ _ _) (ext2 he0.symm he1.symm)

/-- What the host leaves in the result. -/
theorem result : Pipeline.afterTail₀ cfgs (dats m) 0 (V0 m) [hostOps1] c main_v9
    = outArr (m ((c : Thread nD τ).loc main_arg0)) (m ((c : Thread nD τ).loc main_arg1)) (m ((c : Thread nD τ).loc main_arg2)) (m ((c : Thread nD τ).loc main_arg3)) := by
  have h : Pipeline.afterTail₀ cfgs (dats m) 0 (V0 m) [hostOps1] c main_v9
      = shapeCast S8x2048x1024 ((dats m 0 c).arrAt 4 cfg0.N) shapeCasts_S16384x1024_S8x2048x1024 := by
    unfold Pipeline.afterTail₀
    rw [show List.flatten [hostOps1 (F := Ideal)] = hostOps1 from by simp only [List.flatten_cons, List.flatten_nil, List.append_nil]]
    unfold hostOps1
    after_results_simp
    exact congrArg (fun X : S16384x1024.Idx → EReal => shapeCast S8x2048x1024 X shapeCasts_S16384x1024_S8x2048x1024)
      (Pipeline.withArrays_arr (cfgs 0).spec (by decide) c (V0 m c) (fun w => (dats m 0 c).arrAt w (cfgs 0).N) 4)
  rw [h, arr4]
  funext i
  refine (cast_cut _ _ i).trans ?_
  unfold outFlat outArr
  refine congrArg₂ (fun a b => a + nrm (prod b _) _ (i 2)) (flat_place _ _ _ _) (funext fun d => flat_place _ _ _ _)

/-- After a run the result holds the rows with the projected rows added. -/
theorem run_result : θ_run defs (onTc (τ := τ) (main (F := Ideal))) ⟨m, fun _ => 0, ρ⟩ (fun r => ∀ c : Dev nD,
    r.2.mem ((c.tc : Thread nD τ).loc main_v9) = outArr (m ((c : Thread nD τ).loc main_arg0)) (m ((c : Thread nD τ).loc main_arg1)) (m ((c : Thread nD τ).loc main_arg2)) (m ((c : Thread nD τ).loc main_arg3))) :=
  (θ_run defs _ _).mono (fun r h c =>
    ((h c).2 main_v9 (Pipeline.mem_restRefs_of main_v9 (by decide) (by decide))).trans (result m c)) (run_main m ρ)

end Cert.Proj

namespace Cert.Proj.Ref

open Cert.Reference5Ideal Cert.Reference5Ideal.Gen Cert.Reference5Ideal.Read Cert.Ffn Cert.Flat Idealize.ShloMosaic

variable (x0 x1 : S8x2048x1024.Idx → EReal) (x2 : S4x1024.Idx → EReal) (x3 : S2x1024x1024.Idx → EReal)

/-- The second layer's weights. -/
theorem v2_eq (i : S1024x1024.Idx) : val_main_v2 (F := Ideal) x3 i = x3 (ix3 1 (i 0) (i 1)) := by
  rw [val_main_v2_apply, val_main_v1_apply]
  have h0 : (i 0).val < 1024 := (i 0).isLt
  have h1 : (i 1).val < 1024 := (i 1).isLt
  exact congrArg x3 (ext3 rfl (by show ((i 0).val * 1024 + (i 1).val) / 1024 % 1024 = (i 0).val; omega)
    (by show ((i 0).val * 1024 + (i 1).val) % 1024 = (i 1).val; omega))

/-- The product. -/
theorem v3_eq (i : S8x2048x1024.Idx) : val_main_v3 (F := Ideal) x1 x3 i = prod (fun d => x1 (ix3 (i 0) (i 1) d)) x3 (i 2) := by
  rw [val_main_v3_apply]
  unfold prod
  refine Finset.sum_congr rfl fun d _ => ?_
  rw [v2_eq, val_main_v0_apply]
  exact congrArg₂ (· * ·) (congrArg x1 (ext3 rfl rfl rfl)) (congrArg x3 (ext3 rfl rfl rfl))

/-- The norm's factors. -/
theorem v5_eq (i : S1024.Idx) : val_main_v5 (F := Ideal) x2 i = x2 (ix2 3 (i 0)) := by
  rw [val_main_v5_apply, val_main_v4_apply]
  have h0 : (i 0).val < 1024 := (i 0).isLt
  exact congrArg x2 (ext2 rfl (by show (i 0).val % 1024 = (i 0).val; omega))

/-- The reference's result. -/
theorem v19_eq (i : S8x2048x1024.Idx) : val_main_v19 (F := Ideal) x0 x1 x2 x3 i = outArr x0 x1 x2 x3 i := by
  rw [val_main_v19_apply, val_main_v18_apply, val_main_v17_apply, val_main_v16_apply, v5_eq, val_main_v15_apply, val_main_v14_apply, val_main_v13_apply,
    val_main_v12_apply, val_main_v11_apply, val_main_cst_1_apply, val_main_v10_apply, val_main_v9_apply, val_main_cst_0_apply,
    val_main_v8_apply, val_main_v7_apply, val_main_cst_apply]
  unfold outArr
  refine congrArg₂ (· + ·) (congrArg x0 (ext3 rfl rfl rfl)) ?_
  exact norm_eq (val_main_v3 (F := Ideal) x1 x3) (prod (fun d => x1 (ix3 (i 0) (i 1) d)) x3) (fun k => x2 (ix2 3 k)) (i 2) i _ _ (v3_eq x1 x3 i)
    (fun k => v3_eq x1 x3 _) rfl

end Cert.Proj.Ref

namespace Cert.Proj

open Idealize.ShloMosaic Idealize.SL.Sem

/-- Both programs run and leave the same result of the same arguments. -/
theorem algebraic : Cert.algebraic_Kernel5Ideal_Reference5Ideal (hKernel5Ideal := Cert.Kernel5Ideal.Gen.facts) (hReference5Ideal := Cert.Reference5Ideal.Gen.facts) := by
  intro m g m' g' _ hm
  refine ⟨fun c => outArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), ?_, ?_⟩
  · refine (θ_run _ _ _).mono (fun r h c => ?_) (θ_run_and (run_result m g) (Cert.Kernel5Ideal.Gen.frame m g))
    exact ⟨h.1 c, h.2.1 c⟩
  · refine (θ_run _ _ _).mono (fun r h c => ?_) (Cert.Reference5Ideal.Value.run m' g')
    obtain ⟨e0, e1, e2, e3⟩ := hm c
    refine ⟨(h c).1.trans ?_, (h c).2⟩
    rw [Cert.Reference5Ideal.Read.val_main_v19_eq, e0, e1, e2, e3]
    exact funext fun i => Ref.v19_eq _ _ _ _ i

end Cert.Proj

end
-- ==== Proof.Ffn6Point.lean ====
/- What the two grid points of the feed-forward kernel over the sample leave, as compositions of their pieces. -/
module

public import proofs.«01_k».proof.Proof.Gen.Kernel6Ideal.Frame
public import proofs.«01_k».proof.Proof.Gen.Kernel6Ideal.Skeleton
public import Idealize.ShloMosaic.Lib.VecWindow

@[expose] public section

set_option maxRecDepth 16384

noncomputable section

namespace Cert.Ffn6

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Whole loads and stores -/

/-- Loading a whole buffer of shape `S128x1024` reads what it holds. -/
theorem load_S128x1024 {e : EltTy} {m : Memref sig .tc .vmem S128x1024 e} (h : m.IsWhole) (X : Vec F S128x1024 e) :
    View.readAt (Elt F) m.view (Rect.unit (s := S128x1024) ![0, 0] ![128, 1024] inb_S128x1024_S128x1024_0_0).toLoadRect (h.unread X) = X :=
  (View.readAt_full m.view _ inb_S128x1024_S128x1024_0_0).trans (h.read_unread X)

/-- Loading a whole buffer of shape `S1x128x256` reads what it holds. -/
theorem load_S1x128x256 {e : EltTy} {m : Memref sig .tc .vmem S1x128x256 e} (h : m.IsWhole) (X : Vec F S1x128x256 e) :
    View.readAt (Elt F) m.view (Rect.unit (s := S1x128x256) ![0, 0, 0] ![1, 128, 256] inb_S1x128x256_S1x128x256_0_0_0).toLoadRect (h.unread X) = X :=
  (View.readAt_full m.view _ inb_S1x128x256_S1x128x256_0_0_0).trans (h.read_unread X)

/-- Loading a whole buffer of shape `S1x1024` reads what it holds. -/
theorem load_S1x1024 {e : EltTy} {m : Memref sig .tc .vmem S1x1024 e} (h : m.IsWhole) (X : Vec F S1x1024 e) :
    View.readAt (Elt F) m.view (Rect.unit (s := S1x1024) ![0, 0] ![1, 1024] inb_S1x1024_S1x1024_0_0).toLoadRect (h.unread X) = X :=
  (View.readAt_full m.view _ inb_S1x1024_S1x1024_0_0).trans (h.read_unread X)

/-- Loading a whole buffer of shape `S1x1024x1408` reads what it holds. -/
theorem load_S1x1024x1408 {e : EltTy} {m : Memref sig .tc .vmem S1x1024x1408 e} (h : m.IsWhole) (X : Vec F S1x1024x1408 e) :
    View.readAt (Elt F) m.view (Rect.unit (s := S1x1024x1408) ![0, 0, 0] ![1, 1024, 1408] inb_S1x1024x1408_S1x1024x1408_0_0_0).toLoadRect (h.unread X) = X :=
  (View.readAt_full m.view _ inb_S1x1024x1408_S1x1024x1408_0_0_0).trans (h.read_unread X)

/-- Loading a whole buffer of shape `S1x1x1408` reads what it holds. -/
theorem load_S1x1x1408 {e : EltTy} {m : Memref sig .tc .vmem S1x1x1408 e} (h : m.IsWhole) (X : Vec F S1x1x1408 e) :
    View.readAt (Elt F) m.view (Rect.unit (s := S1x1x1408) ![0, 0, 0] ![1, 1, 1408] inb_S1x1x1408_S1x1x1408_0_0_0).toLoadRect (h.unread X) = X :=
  (View.readAt_full m.view _ inb_S1x1x1408_S1x1x1408_0_0_0).trans (h.read_unread X)

/-- Loading a whole buffer of shape `S1x1408x1024` reads what it holds. -/
theorem load_S1x1408x1024 {e : EltTy} {m : Memref sig .tc .vmem S1x1408x1024 e} (h : m.IsWhole) (X : Vec F S1x1408x1024 e) :
    View.readAt (Elt F) m.view (Rect.unit (s := S1x1408x1024) ![0, 0, 0] ![1, 1408, 1024] inb_S1x1408x1024_S1x1408x1024_0_0_0).toLoadRect (h.unread X) = X :=
  (View.readAt_full m.view _ inb_S1x1408x1024_S1x1408x1024_0_0_0).trans (h.read_unread X)

/-- Loading a whole buffer of shape `S1x1024x1024` reads what it holds. -/
theorem load_S1x1024x1024 {e : EltTy} {m : Memref sig .tc .vmem S1x1024x1024 e} (h : m.IsWhole) (X : Vec F S1x1024x1024 e) :
    View.readAt (Elt F) m.view (Rect.unit (s := S1x1024x1024) ![0, 0, 0] ![1, 1024, 1024] inb_S1x1024x1024_S1x1024x1024_0_0_0).toLoadRect (h.unread X) = X :=
  (View.readAt_full m.view _ inb_S1x1024x1024_S1x1024x1024_0_0_0).trans (h.read_unread X)

/-- Loading a whole buffer of shape `S1x256x1024` reads what it holds. -/
theorem load_S1x256x1024 {e : EltTy} {m : Memref sig .tc .vmem S1x256x1024 e} (h : m.IsWhole) (X : Vec F S1x256x1024 e) :
    View.readAt (Elt F) m.view (Rect.unit (s := S1x256x1024) ![0, 0, 0] ![1, 256, 1024] inb_S1x256x1024_S1x256x1024_0_0_0).toLoadRect (h.unread X) = X :=
  (View.readAt_full m.view _ inb_S1x256x1024_S1x256x1024_0_0_0).trans (h.read_unread X)

/-- Loading a whole buffer of shape `S128x1408` reads what it holds. -/
theorem load_S128x1408 {e : EltTy} {m : Memref sig .tc .vmem S128x1408 e} (h : m.IsWhole) (X : Vec F S128x1408 e) :
    View.readAt (Elt F) m.view (Rect.unit (s := S128x1408) ![0, 0] ![128, 1408] inb_S128x1408_S128x1408_0_0).toLoadRect (h.unread X) = X :=
  (View.readAt_full m.view _ inb_S128x1408_S128x1408_0_0).trans (h.read_unread X)

/-- A store over a whole buffer of shape `S128x1024` leaves what was stored. -/
theorem stored_S128x1024 {e : EltTy} (m : Memref sig .tc .vmem S128x1024 e) (f : m.view.ty.Contents (Elt F)) (w : Vec F S128x1024 e) (L : List (View.Piece (Elt F) S128x1024 e)) :
    m.view.read (Elt F) (m.view.writes (Elt F) f (⟨Rect.unit (s := S128x1024) ![0, 0] ![128, 1024] inb_S128x1024_S128x1024_0_0, w⟩ :: L)) = w :=
  View.read_writes_full m.view f inb_S128x1024_S128x1024_0_0 w L

/-- A load of a whole buffer of shape `S128x1024` after a store over it reads what was stored. -/
theorem reload_S128x1024 {e : EltTy} (m : Memref sig .tc .vmem S128x1024 e) (w : Vec F S128x1024 e) (L : List (View.Piece (Elt F) S128x1024 e)) :
    m.view.readCov (⟨Rect.unit (s := S128x1024) ![0, 0] ![128, 1024] inb_S128x1024_S128x1024_0_0, w⟩ :: L) (Rect.unit (s := S128x1024) ![0, 0] ![128, 1024] inb_S128x1024_S128x1024_0_0).toLoadRect = w :=
  View.readCov_full m.view inb_S128x1024_S128x1024_0_0 inb_S128x1024_S128x1024_0_0 w L

/-- A store over a whole buffer of shape `S128x1408` leaves what was stored. -/
theorem stored_S128x1408 {e : EltTy} (m : Memref sig .tc .vmem S128x1408 e) (f : m.view.ty.Contents (Elt F)) (w : Vec F S128x1408 e) (L : List (View.Piece (Elt F) S128x1408 e)) :
    m.view.read (Elt F) (m.view.writes (Elt F) f (⟨Rect.unit (s := S128x1408) ![0, 0] ![128, 1408] inb_S128x1408_S128x1408_0_0, w⟩ :: L)) = w :=
  View.read_writes_full m.view f inb_S128x1408_S128x1408_0_0 w L

/-- A load of a whole buffer of shape `S128x1408` after a store over it reads what was stored. -/
theorem reload_S128x1408 {e : EltTy} (m : Memref sig .tc .vmem S128x1408 e) (w : Vec F S128x1408 e) (L : List (View.Piece (Elt F) S128x1408 e)) :
    m.view.readCov (⟨Rect.unit (s := S128x1408) ![0, 0] ![128, 1408] inb_S128x1408_S128x1408_0_0, w⟩ :: L) (Rect.unit (s := S128x1408) ![0, 0] ![128, 1408] inb_S128x1408_S128x1408_0_0).toLoadRect = w :=
  View.readCov_full m.view inb_S128x1408_S128x1408_0_0 inb_S128x1408_S128x1408_0_0 w L

/-- A load through a rectangle reads the window of what the buffer holds there. -/
theorem load_window {s : Shape} {e : EltTy} {m : Memref sig .tc .vmem s e} (h : m.IsWhole) (X : s.Idx → Elt F e) (off size : Fin s.rank → ℕ) (inb : ∀ a, off a + size a ≤ s.size a) :
    View.readAt (Elt F) m.view (Rect.unit off size inb).toLoadRect (h.unread X) = VecWindow.window X off size inb :=
  (View.readAt_unit m.view _ inb rfl inb).trans (by rw [h.read_unread])

/-! ## What one grid point computes -/

/-- Row `0` of the convolution's weights. -/
def tap0 (x7 : Vec F S1x3x1408 .f32) : Vec F S1x1x1408 .f32 := VecWindow.window x7 ![0, 0, 0] ![1, 1, 1408] inb_S1x3x1408_S1x1x1408_0_0_0
/-- Row `1` of the convolution's weights. -/
def tap1 (x7 : Vec F S1x3x1408 .f32) : Vec F S1x1x1408 .f32 := VecWindow.window x7 ![0, 1, 0] ![1, 1, 1408] inb_S1x3x1408_S1x1x1408_0_1_0
/-- Row `2` of the convolution's weights. -/
def tap2 (x7 : Vec F S1x3x1408 .f32) : Vec F S1x1x1408 .f32 := VecWindow.window x7 ![0, 2, 0] ![1, 1, 1408] inb_S1x3x1408_S1x1x1408_0_2_0

/-- The accumulator after a grid point, from the normalized rows `H`, the two rows kept of the gate and the accumulator `A`. -/
def accNext (x5 x6 : Vec F S1x1024x1408 .bf16) (x7 : Vec F S1x3x1408 .f32) (x8 : Vec F S1x1x1408 .f32) (x9 : Vec F S1x1408x1024 .bf16) (x12 x13 : Vec F S128x1408 .f32) (H : Vec F S128x1024 .bf16) (A : Vec F S128x1024 .f32) : Vec F S128x1024 .f32 :=
  k0_pay1 (k0_pay7 H x5) (k0_pay8 H x6) (k0_pay9 x12 x13 x8 (tap0 x7) (tap1 x7)) (tap2 x7) A x9

/-- The rows of the result, from the finished accumulator `A`. -/
def outTile (x0 : Vec F S128x1024 .f32) (x1 : Vec F S1x128x256 .f32) (x3 x4 : Vec F S1x1024 .f32) (x10 : Vec F S1x1024x1024 .bf16) (x11 : Vec F S1x256x1024 .bf16) (A : Vec F S128x1024 .f32) : Vec F S128x1024 .f32 :=
  k0_pay2 (k0_pay3 x0 A x3) (k0_pay4 x1 x11 x0 A x3 x10) x4

/-! ## What the runs leave -/

set_option maxHeartbeats 1000000

/-- The first point leaves the first half of the gate's columns. -/
theorem out0_A_15_eq (c : Dev nD) (i : grid0.Coords) (arg2 : Memref sig .tc .vmem S128x1024 .f32) (harg2 : arg2.IsWhole) (arg3 : Memref sig .tc .vmem S1x128x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S128x1408 .f32) (harg14 : arg14.IsWhole) (arg15 : Memref sig .tc .vmem S128x1408 .f32) (harg15 : arg15.IsWhole) (arg16 : Memref sig .tc .vmem S128x1024 .f32) (harg16 : arg16.IsWhole) (arg17 : Memref sig .tc .vmem S128x1408 .f32) (harg17 : arg17.IsWhole) (arg18 : Memref sig .tc .vmem S128x1024 .bf16) (harg18 : arg18.IsWhole) (arg19 : Memref sig .tc .vmem S128x1024 .f32) (harg19 : arg19.IsWhole) (hc0 : cond0_0 i) (hc1 : ¬cond0_1 i)
    (x0 : Vec F S128x1024 .f32) (x1 : Vec F S1x128x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S128x1408 .f32) (x13 : Vec F S128x1408 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 = k0_pay7 (k0_pay5 x0 x2) x5 := by
  unfold out0_A_15
  dsimp only [kernelRun0_A]
  try simp only [kernelRun0_A.sl.HS0_1, kernelRun0_A.sl.HS1_1, kernelRun0_A.sl.r, kernelRun0_A.sl.r_1, kernelRun0_A.sl.r_2, kernelRun0_A.sl.v0, kernelRun0_A.sl.v1, kernelRun0_A.sl.v2, kernelRun0_A.sl.v3, kernelRun0_A.sl.v48]
  simp only [load_S128x1024, load_S1x128x256, load_S1x1024, load_S1x1024x1408, load_S1x1x1408, load_S1x1408x1024, load_S1x1024x1024, load_S1x256x1024, load_S128x1408, stored_S128x1024, reload_S128x1024, stored_S128x1408, reload_S128x1408]
  try simp only [load_window]
  try rfl

/-- The first point keeps the normalized rows. -/
theorem sout0_A_0_eq (c : Dev nD) (i : grid0.Coords) (arg2 : Memref sig .tc .vmem S128x1024 .f32) (harg2 : arg2.IsWhole) (arg3 : Memref sig .tc .vmem S1x128x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S128x1408 .f32) (harg14 : arg14.IsWhole) (arg15 : Memref sig .tc .vmem S128x1408 .f32) (harg15 : arg15.IsWhole) (arg16 : Memref sig .tc .vmem S128x1024 .f32) (harg16 : arg16.IsWhole) (arg17 : Memref sig .tc .vmem S128x1408 .f32) (harg17 : arg17.IsWhole) (arg18 : Memref sig .tc .vmem S128x1024 .bf16) (harg18 : arg18.IsWhole) (arg19 : Memref sig .tc .vmem S128x1024 .f32) (harg19 : arg19.IsWhole) (hc0 : cond0_0 i) (hc1 : ¬cond0_1 i)
    (x0 : Vec F S128x1024 .f32) (x1 : Vec F S1x128x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S128x1408 .f32) (x13 : Vec F S128x1408 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 = k0_pay5 x0 x2 := by
  unfold sout0_A_0
  dsimp only [kernelRun0_A]
  try simp only [kernelRun0_A.sl.HS0_1, kernelRun0_A.sl.HS1_1, kernelRun0_A.sl.r, kernelRun0_A.sl.r_1, kernelRun0_A.sl.r_2, kernelRun0_A.sl.v0, kernelRun0_A.sl.v1, kernelRun0_A.sl.v2, kernelRun0_A.sl.v3, kernelRun0_A.sl.v48]
  simp only [load_S128x1024, load_S1x128x256, load_S1x1024, load_S1x1024x1408, load_S1x1x1408, load_S1x1408x1024, load_S1x1024x1024, load_S1x256x1024, load_S128x1408, stored_S128x1024, reload_S128x1024, stored_S128x1408, reload_S128x1408]
  try simp only [load_window]
  try rfl

/-- The first point keeps the first half's share of the rows brought back. -/
theorem sout0_A_1_eq (c : Dev nD) (i : grid0.Coords) (arg2 : Memref sig .tc .vmem S128x1024 .f32) (harg2 : arg2.IsWhole) (arg3 : Memref sig .tc .vmem S1x128x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S128x1408 .f32) (harg14 : arg14.IsWhole) (arg15 : Memref sig .tc .vmem S128x1408 .f32) (harg15 : arg15.IsWhole) (arg16 : Memref sig .tc .vmem S128x1024 .f32) (harg16 : arg16.IsWhole) (arg17 : Memref sig .tc .vmem S128x1408 .f32) (harg17 : arg17.IsWhole) (arg18 : Memref sig .tc .vmem S128x1024 .bf16) (harg18 : arg18.IsWhole) (arg19 : Memref sig .tc .vmem S128x1024 .f32) (harg19 : arg19.IsWhole) (hc0 : cond0_0 i) (hc1 : ¬cond0_1 i)
    (x0 : Vec F S128x1024 .f32) (x1 : Vec F S1x128x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S128x1408 .f32) (x13 : Vec F S128x1408 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 = accNext x5 x6 x7 x8 x9 x12 x13 (k0_pay5 x0 x2) k0_pay6 := by
  unfold sout0_A_1
  dsimp only [kernelRun0_A]
  try simp only [kernelRun0_A.sl.HS0_1, kernelRun0_A.sl.HS1_1, kernelRun0_A.sl.r, kernelRun0_A.sl.r_1, kernelRun0_A.sl.r_2, kernelRun0_A.sl.v0, kernelRun0_A.sl.v1, kernelRun0_A.sl.v2, kernelRun0_A.sl.v3, kernelRun0_A.sl.v48]
  simp only [load_S128x1024, load_S1x128x256, load_S1x1024, load_S1x1024x1408, load_S1x1x1408, load_S1x1408x1024, load_S1x1024x1024, load_S1x256x1024, load_S128x1408, stored_S128x1024, reload_S128x1024, stored_S128x1408, reload_S128x1408]
  try simp only [load_window]
  try rfl

/-- The second point leaves the second half of the gate's columns. -/
theorem out0_B_15_eq (c : Dev nD) (i : grid0.Coords) (arg2 : Memref sig .tc .vmem S128x1024 .f32) (harg2 : arg2.IsWhole) (arg3 : Memref sig .tc .vmem S1x128x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S128x1408 .f32) (harg14 : arg14.IsWhole) (arg15 : Memref sig .tc .vmem S128x1408 .f32) (harg15 : arg15.IsWhole) (arg16 : Memref sig .tc .vmem S128x1024 .f32) (harg16 : arg16.IsWhole) (arg17 : Memref sig .tc .vmem S128x1408 .f32) (harg17 : arg17.IsWhole) (arg18 : Memref sig .tc .vmem S128x1024 .bf16) (harg18 : arg18.IsWhole) (arg19 : Memref sig .tc .vmem S128x1024 .f32) (harg19 : arg19.IsWhole) (hc0 : ¬cond0_0 i) (hc1 : cond0_1 i)
    (x0 : Vec F S128x1024 .f32) (x1 : Vec F S1x128x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S128x1408 .f32) (x13 : Vec F S128x1408 .f32) (xs0 : Vec F S128x1024 .bf16) (xs1 : Vec F S128x1024 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = k0_pay7 xs0 x5 := by
  unfold out0_B_15
  dsimp only [kernelRun0_B]
  try simp only [kernelRun0_B.sl.HS1_1, kernelRun0_B.sl.r, kernelRun0_B.sl.r_1, kernelRun0_B.sl.r_2, kernelRun0_B.sl.r_3, kernelRun0_B.sl.r_4, kernelRun0_B.sl.v0, kernelRun0_B.sl.v1, kernelRun0_B.sl.v2, kernelRun0_B.sl.v67]
  simp only [load_S128x1024, load_S1x128x256, load_S1x1024, load_S1x1024x1408, load_S1x1x1408, load_S1x1408x1024, load_S1x1024x1024, load_S1x256x1024, load_S128x1408, stored_S128x1024, reload_S128x1024, stored_S128x1408, reload_S128x1408]
  try simp only [load_window]
  try rfl

/-- The second point leaves the rows of the result. -/
theorem out0_B_14_eq (c : Dev nD) (i : grid0.Coords) (arg2 : Memref sig .tc .vmem S128x1024 .f32) (harg2 : arg2.IsWhole) (arg3 : Memref sig .tc .vmem S1x128x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1x3x1408 .f32) (harg9 : arg9.IsWhole) (arg10 : Memref sig .tc .vmem S1x1x1408 .f32) (harg10 : arg10.IsWhole) (arg11 : Memref sig .tc .vmem S1x1408x1024 .bf16) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S128x1408 .f32) (harg14 : arg14.IsWhole) (arg15 : Memref sig .tc .vmem S128x1408 .f32) (harg15 : arg15.IsWhole) (arg16 : Memref sig .tc .vmem S128x1024 .f32) (harg16 : arg16.IsWhole) (arg17 : Memref sig .tc .vmem S128x1408 .f32) (harg17 : arg17.IsWhole) (arg18 : Memref sig .tc .vmem S128x1024 .bf16) (harg18 : arg18.IsWhole) (arg19 : Memref sig .tc .vmem S128x1024 .f32) (harg19 : arg19.IsWhole) (hc0 : ¬cond0_0 i) (hc1 : cond0_1 i)
    (x0 : Vec F S128x1024 .f32) (x1 : Vec F S1x128x256 .f32) (x2 : Vec F S1x1024 .f32) (x3 : Vec F S1x1024 .f32) (x4 : Vec F S1x1024 .f32) (x5 : Vec F S1x1024x1408 .bf16) (x6 : Vec F S1x1024x1408 .bf16) (x7 : Vec F S1x3x1408 .f32) (x8 : Vec F S1x1x1408 .f32) (x9 : Vec F S1x1408x1024 .bf16) (x10 : Vec F S1x1024x1024 .bf16) (x11 : Vec F S1x256x1024 .bf16) (x12 : Vec F S128x1408 .f32) (x13 : Vec F S128x1408 .f32) (xs0 : Vec F S128x1024 .bf16) (xs1 : Vec F S128x1024 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = outTile x0 x1 x3 x4 x10 x11 (accNext x5 x6 x7 x8 x9 x12 x13 xs0 xs1) := by
  unfold out0_B_14
  dsimp only [kernelRun0_B]
  try simp only [kernelRun0_B.sl.HS1_1, kernelRun0_B.sl.r, kernelRun0_B.sl.r_1, kernelRun0_B.sl.r_2, kernelRun0_B.sl.r_3, kernelRun0_B.sl.r_4, kernelRun0_B.sl.v0, kernelRun0_B.sl.v1, kernelRun0_B.sl.v2, kernelRun0_B.sl.v67]
  simp only [load_S128x1024, load_S1x128x256, load_S1x1024, load_S1x1024x1408, load_S1x1x1408, load_S1x1408x1024, load_S1x1024x1024, load_S1x256x1024, load_S128x1408, stored_S128x1024, reload_S128x1024, stored_S128x1408, reload_S128x1408]
  try simp only [load_window]
  try rfl

end Cert.Ffn6
-- ==== Proof.Ffn6Math.lean ====
/- What the feed-forward layer computes of the sample, entry by entry, in plain mathematics. -/
module

public import proofs.«01_k».proof.Proof.FfnMath

@[expose] public section

noncomputable section

namespace Cert.Ffn6

open Idealize.ShloMosaic
open Cert.Ffn (nrm rinv gelu sigm)

/-- The arrays the layer is given: the rows, the per-layer inputs, the three norms' scales, the weights and the
    convolution, all of one layer. -/
structure Given where
  /-- The rows. -/
  x : Fin 128 → Fin 1024 → EReal
  /-- The two rows of the gate before. -/
  s : Fin 128 → Fin 2 → Fin 2816 → EReal
  /-- The per-layer inputs. -/
  p : Fin 128 → Fin 256 → EReal
  /-- The scale of the norm before. -/
  npre : Fin 1024 → EReal
  /-- The scale of the norm after. -/
  npost : Fin 1024 → EReal
  /-- The scale of the norm of the per-layer inputs. -/
  nple : Fin 1024 → EReal
  /-- The gate's weights. -/
  wg : Fin 1024 → Fin 2816 → EReal
  /-- The other factor's weights. -/
  wu : Fin 1024 → Fin 2816 → EReal
  /-- The three taps of the convolution. -/
  cw : Fin 3 → Fin 2816 → EReal
  /-- The bias of the convolution. -/
  cb : Fin 2816 → EReal
  /-- The weights back to the rows. -/
  wd : Fin 2816 → Fin 1024 → EReal
  /-- The weights of the per-layer gate. -/
  wpg : Fin 1024 → Fin 1024 → EReal
  /-- The weights of the per-layer inputs. -/
  wpe : Fin 256 → Fin 1024 → EReal

namespace Given

variable (G : Given) (b : Fin 128)

/-- The normalized row. -/
def h (j : Fin 1024) : EReal := nrm (G.x b) G.npre j
/-- The gate's row. -/
def g (l : Fin 2816) : EReal := ∑ d, G.h b d * G.wg d l
/-- The other factor's row. -/
def u (l : Fin 2816) : EReal := ∑ d, G.h b d * G.wu d l
/-- The convolution along the sequence. -/
def conv (l : Fin 2816) : EReal := G.cb l + G.cw 0 l * G.s b 0 l + G.cw 1 l * G.s b 1 l + G.cw 2 l * G.g b l
/-- The product of the activation and the other factor. -/
def act (l : Fin 2816) : EReal := gelu (G.conv b l) * G.u b l
/-- The row brought back. -/
def f (j : Fin 1024) : EReal := ∑ l, G.act b l * G.wd l j
/-- The row after the first addition. -/
def x1 (j : Fin 1024) : EReal := G.x b j + nrm (G.f b) G.npost j
/-- The gated per-layer inputs. -/
def e (j : Fin 1024) : EReal := sigm (∑ d, G.x1 b d * G.wpg d j) * ∑ d, G.p b d * G.wpe d j
/-- The row of the result. -/
def out (j : Fin 1024) : EReal := G.x1 b j + nrm (G.e b) G.nple j

end Given

/-- The fourth layer of the arrays that both programs are given. -/
def given (x : (⟨3, ![128, 1, 1024]⟩ : Shape).Idx → EReal) (s : (⟨4, ![128, 4, 2, 2816]⟩ : Shape).Idx → EReal) (p : (⟨4, ![4, 128, 1, 256]⟩ : Shape).Idx → EReal)
    (npre npost : (⟨2, ![4, 1024]⟩ : Shape).Idx → EReal) (wg wu : (⟨3, ![4, 1024, 2816]⟩ : Shape).Idx → EReal)
    (cw : (⟨3, ![4, 3, 2816]⟩ : Shape).Idx → EReal) (cb : (⟨2, ![4, 2816]⟩ : Shape).Idx → EReal)
    (wd : (⟨3, ![4, 2816, 1024]⟩ : Shape).Idx → EReal) (wpg : (⟨3, ![4, 1024, 1024]⟩ : Shape).Idx → EReal)
    (wpe : (⟨3, ![4, 256, 1024]⟩ : Shape).Idx → EReal) (nple : (⟨2, ![4, 1024]⟩ : Shape).Idx → EReal) : Given where
  x b j := x (ix3 b 0 j)
  s b k l := s (ix4 b 3 k l)
  p b d := p (ix4 3 b 0 d)
  npre j := npre (ix2 3 j)
  npost j := npost (ix2 3 j)
  nple j := nple (ix2 3 j)
  wg d l := wg (ix3 3 d l)
  wu d l := wu (ix3 3 d l)
  cw k l := cw (ix3 3 k l)
  cb l := cb (ix2 3 l)
  wd l j := wd (ix3 3 l j)
  wpg d j := wpg (ix3 3 d j)
  wpe d j := wpe (ix3 3 d j)

/-- The rows of the result, as an array. -/
def outArr (G : Given) : (⟨3, ![128, 1, 1024]⟩ : Shape).Idx → EReal := fun i => G.out (i 0) (i 2)
/-- The gate's last two rows of every sequence, as an array: the second of those before, and the one computed. -/
def tailArr (G : Given) : (⟨3, ![128, 2, 2816]⟩ : Shape).Idx → EReal := fun i => if (i 1).val = 0 then G.s (i 0) 1 (i 2) else G.g (i 0) (i 2)

end Cert.Ffn6
-- ==== Proof.Ffn6Blocks.lean ====
/- The blocks of the windows of the feed-forward kernel over the sample, at their places in the arrays. -/
module

public import proofs.«01_k».proof.Proof.Ffn6Point
public import proofs.«01_k».proof.Proof.Ffn6Math
public import Idealize.ShloMosaic.Lib.Pipeline.ValueKit.Point
public import Idealize.ShloMosaic.Lib.Pipeline.ValueKit.Geometry
public import Idealize.ShloMosaic.Lib.Pipeline.ValueKit.Tiles

@[expose] public section

noncomputable section

namespace Cert.Ffn6

open Cert.Kernel6Ideal Cert.Kernel6Ideal.Gen
open Idealize.ShloMosaic Idealize.ShloMosaic.TcCoe

variable (m : (ℓ : Loc nD τ sig) → Buf (Elt Ideal) ℓ) (c : Dev nD)

theorem e0 : ∀ t : Fin cfg0.N, win0_0.index t = ![0, 0] := (by decide +kernel : ∀ t : Fin grid0.N, _)
theorem e1 : ∀ t : Fin cfg0.N, win0_1.index t = ![3, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![3, 0, t.val] := (by decide +kernel : ∀ t : Fin grid0.N, _)
theorem e6 : ∀ t : Fin cfg0.N, win0_6.index t = ![3, 0, t.val] := (by decide +kernel : ∀ t : Fin grid0.N, _)
theorem e7 : ∀ t : Fin cfg0.N, win0_7.index t = ![3, 0, t.val] := (by decide +kernel : ∀ t : Fin grid0.N, _)
theorem e8 : ∀ t : Fin cfg0.N, win0_8.index t = ![3, 0, t.val] := (by decide +kernel : ∀ t : Fin grid0.N, _)
theorem e9 : ∀ t : Fin cfg0.N, win0_9.index t = ![3, t.val, 0] := (by decide +kernel : ∀ t : Fin grid0.N, _)
theorem e10 : ∀ t : Fin cfg0.N, win0_10.index t = ![3, 0, 0] := (by decide +kernel : ∀ t : Fin grid0.N, _)
theorem e11 : ∀ t : Fin cfg0.N, win0_11.index t = ![3, 0, 0] := (by decide +kernel : ∀ t : Fin grid0.N, _)
theorem e12 : ∀ t : Fin cfg0.N, win0_12.index t = ![0, t.val] := (by decide +kernel : ∀ t : Fin grid0.N, _)
theorem e13 : ∀ t : Fin cfg0.N, win0_13.index t = ![0, t.val] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![0, t.val] := (by decide +kernel : ∀ t : Fin grid0.N, _)

/-- The arrays that the program is given. -/
def giv : Given := given (m ((c : Thread nD τ).loc main_arg0))
  (m ((c : Thread nD τ).loc main_arg1))
  (m ((c : Thread nD τ).loc main_arg2))
  (m ((c : Thread nD τ).loc main_arg3))
  (m ((c : Thread nD τ).loc main_arg4))
  (m ((c : Thread nD τ).loc main_arg5))
  (m ((c : Thread nD τ).loc main_arg6))
  (m ((c : Thread nD τ).loc main_arg7))
  (m ((c : Thread nD τ).loc main_arg8))
  (m ((c : Thread nD τ).loc main_arg9))
  (m ((c : Thread nD τ).loc main_arg10))
  (m ((c : Thread nD τ).loc main_arg11))
  (m ((c : Thread nD τ).loc main_arg12))

/-- What the region finds in an array that the host prepares. -/
theorem V_v17 : V m c main_v17 = shapeCast S128x1024 (m ((c : Thread nD τ).loc main_arg0)) shapeCasts_S128x1x1024_S128x1024 := by
  show StableHlo.after (List.flatten [hostOps0]) (fun b => m (c, b)) (Proc.tc.devRef main_v17) = _
  rw [show List.flatten [hostOps0 (F := Ideal)] = hostOps0 from by simp only [List.flatten_cons, List.flatten_nil, List.append_nil]]
  unfold hostOps0
  after_results_simp
  rfl

/-- What the region finds in an array that the host prepares. -/
theorem V_v18 : V m c main_v18 = shapeCast S4x128x256 (m ((c : Thread nD τ).loc main_arg2)) shapeCasts_S4x128x1x256_S4x128x256 := by
  show StableHlo.after (List.flatten [hostOps0]) (fun b => m (c, b)) (Proc.tc.devRef main_v18) = _
  rw [show List.flatten [hostOps0 (F := Ideal)] = hostOps0 from by simp only [List.flatten_cons, List.flatten_nil, List.append_nil]]
  unfold hostOps0
  after_results_simp
  rfl

/-- What the region finds in an array that the host prepares. -/
theorem V_v2 : V m c main_v2 = shapeCast S4x1x2816 (m ((c : Thread nD τ).loc main_arg8)) shapeCasts_S4x2816_S4x1x2816 := by
  show StableHlo.after (List.flatten [hostOps0]) (fun b => m (c, b)) (Proc.tc.devRef main_v2) = _
  rw [show List.flatten [hostOps0 (F := Ideal)] = hostOps0 from by simp only [List.flatten_cons, List.flatten_nil, List.append_nil]]
  unfold hostOps0
  after_results_simp
  rfl

/-- What the region finds in an array that the host prepares. -/
theorem V_v8 : V m c main_v8 = shapeCast S1x1024 (shapeCast S1024 (extractStridedSlice S1x1024 ![3, 0] (m ((c : Thread nD τ).loc main_arg3)) slices_S4x1024_S1x1024_3_0) shapeCasts_S1x1024_S1024) shapeCasts_S1024_S1x1024 := by
  show StableHlo.after (List.flatten [hostOps0]) (fun b => m (c, b)) (Proc.tc.devRef main_v8) = _
  rw [show List.flatten [hostOps0 (F := Ideal)] = hostOps0 from by simp only [List.flatten_cons, List.flatten_nil, List.append_nil]]
  unfold hostOps0
  after_results_simp
  rfl

/-- What the region finds in an array that the host prepares. -/
theorem V_v11 : V m c main_v11 = shapeCast S1x1024 (shapeCast S1024 (extractStridedSlice S1x1024 ![3, 0] (m ((c : Thread nD τ).loc main_arg4)) slices_S4x1024_S1x1024_3_0) shapeCasts_S1x1024_S1024) shapeCasts_S1024_S1x1024 := by
  show StableHlo.after (List.flatten [hostOps0]) (fun b => m (c, b)) (Proc.tc.devRef main_v11) = _
  rw [show List.flatten [hostOps0 (F := Ideal)] = hostOps0 from by simp only [List.flatten_cons, List.flatten_nil, List.append_nil]]
  unfold hostOps0
  after_results_simp
  rfl

/-- What the region finds in an array that the host prepares. -/
theorem V_v14 : V m c main_v14 = shapeCast S1x1024 (shapeCast S1024 (extractStridedSlice S1x1024 ![3, 0] (m ((c : Thread nD τ).loc main_arg12)) slices_S4x1024_S1x1024_3_0) shapeCasts_S1x1024_S1024) shapeCasts_S1024_S1x1024 := by
  show StableHlo.after (List.flatten [hostOps0]) (fun b => m (c, b)) (Proc.tc.devRef main_v14) = _
  rw [show List.flatten [hostOps0 (F := Ideal)] = hostOps0 from by simp only [List.flatten_cons, List.flatten_nil, List.append_nil]]
  unfold hostOps0
  after_results_simp
  rfl

/-- What the region finds in an array that the host prepares. -/
theorem V_v16 : V m c main_v16 = shapeCast S128x2x2816 (extractStridedSlice S128x1x2x2816 ![0, 3, 0, 0] (m ((c : Thread nD τ).loc main_arg1)) slices_S128x4x2x2816_S128x1x2x2816_0_3_0_0) shapeCasts_S128x1x2x2816_S128x2x2816 := by
  show StableHlo.after (List.flatten [hostOps0]) (fun b => m (c, b)) (Proc.tc.devRef main_v16) = _
  rw [show List.flatten [hostOps0 (F := Ideal)] = hostOps0 from by simp only [List.flatten_cons, List.flatten_nil, List.append_nil]]
  unfold hostOps0
  after_results_simp
  rfl

/-- What the region finds in an array that the host prepares. -/
theorem V_v20 : V m c main_v20 = shapeCast S128x2816 (extractStridedSlice S128x1x2816 ![0, 0, 0] (shapeCast S128x2x2816 (extractStridedSlice S128x1x2x2816 ![0, 3, 0, 0] (m ((c : Thread nD τ).loc main_arg1)) slices_S128x4x2x2816_S128x1x2x2816_0_3_0_0) shapeCasts_S128x1x2x2816_S128x2x2816) slices_S128x2x2816_S128x1x2816_0_0_0) shapeCasts_S128x1x2816_S128x2816 := by
  show StableHlo.after (List.flatten [hostOps0]) (fun b => m (c, b)) (Proc.tc.devRef main_v20) = _
  rw [show List.flatten [hostOps0 (F := Ideal)] = hostOps0 from by simp only [List.flatten_cons, List.flatten_nil, List.append_nil]]
  unfold hostOps0
  after_results_simp
  rfl

/-- What the region finds in an array that the host prepares. -/
theorem V_v22 : V m c main_v22 = shapeCast S128x2816 (extractStridedSlice S128x1x2816 ![0, 1, 0] (shapeCast S128x2x2816 (extractStridedSlice S128x1x2x2816 ![0, 3, 0, 0] (m ((c : Thread nD τ).loc main_arg1)) slices_S128x4x2x2816_S128x1x2x2816_0_3_0_0) shapeCasts_S128x1x2x2816_S128x2x2816) slices_S128x2x2816_S128x1x2816_0_1_0) shapeCasts_S128x1x2816_S128x2816 := by
  show StableHlo.after (List.flatten [hostOps0]) (fun b => m (c, b)) (Proc.tc.devRef main_v22) = _
  rw [show List.flatten [hostOps0 (F := Ideal)] = hostOps0 from by simp only [List.flatten_cons, List.flatten_nil, List.append_nil]]
  unfold hostOps0
  after_results_simp
  rfl

/-- The column of a point's column half. -/
def colOf (t : Fin cfg0.N) (l : Fin 1408) : Fin 2816 := ⟨1408 * t.val + l.val, by have := l.isLt; have := t.isLt; change t.val < 2 at this; omega⟩

/-- One row a sequence, without the axis of one position. -/
theorem cast_row {b d : ℕ} (X : (⟨3, ![b, 1, d]⟩ : Shape).Idx → EReal) (h) (r : Fin b) (j : Fin d) : shapeCast (⟨2, ![b, d]⟩ : Shape) X h (ix2 r j) = X (ix3 r 0 j) := by
  refine shapeCast_apply _ _ _ _ ?_
  rw [Shape.rowMajor_val_three, Shape.rowMajor_val_two]
  show (r.val * 1 + 0) * d + j.val = r.val * d + j.val
  rw [Nat.mul_one, Nat.add_zero]

/-- The last layer's rows of the state. -/
theorem state_apply (r : Fin 128) (k : Fin 2) (l : Fin 2816) : (V m c main_v16 (ix3 r k l) : EReal) = (giv m c).s r k l := by
  unfold giv given
  dsimp only
  rw [V_v16]
  refine (shapeCast_apply _ _ _ (ix4 r 0 k l : (⟨4, ![128, 1, 2, 2816]⟩ : Shape).Idx) ?_).trans ?_
  · rw [Shape.rowMajor_val_four, Shape.rowMajor_val_three]
    show ((r.val * 1 + 0) * 2 + k.val) * 2816 + l.val = (r.val * 2 + k.val) * 2816 + l.val
    omega
  refine extractStridedSlice_apply _ _ _ _ _ fun a => ?_
  match a with
  | ⟨0, _⟩ => exact (Nat.zero_add _).symm
  | ⟨1, _⟩ => rfl
  | ⟨2, _⟩ => exact (Nat.zero_add _).symm
  | ⟨3, _⟩ => exact (Nat.zero_add _).symm

/-- The rows' block. -/
theorem blk0 (t : Fin cfg0.N) (r : Fin 128) (j : Fin 1024) : (iblk m c 0 t (ix2 r j) : EReal) = (giv m c).x r j := by
  unfold giv given
  dsimp only
  show V m c main_v17 (((View.whole main_v17).slice (win0_0.rect t)).emb (ix2 r j)) = _
  rw [V_v17]
  have h0 : ((((View.whole main_v17).slice (win0_0.rect t)).emb (ix2 r j)) 0).val = r.val := by blk_simp [e0 t] <;> first | rfl | omega
  have h1 : ((((View.whole main_v17).slice (win0_0.rect t)).emb (ix2 r j)) 1).val = j.val := by blk_simp [e0 t] <;> first | rfl | omega
  refine shapeCast_apply _ _ _ (ix3 r 0 j) ?_
  rw [Shape.rowMajor_val_three, Shape.rowMajor_val_two, h0, h1]
  show (r.val * 1 + 0) * 1024 + j.val = r.val * 1024 + j.val
  omega

/-- The per-layer inputs' block. -/
theorem blk1 (t : Fin cfg0.N) (r : Fin 128) (d : Fin 256) : (iblk m c 1 t (ix3 0 r d) : EReal) = (giv m c).p r d := by
  unfold giv given
  dsimp only
  show V m c main_v18 (((View.whole main_v18).slice (win0_1.rect t)).emb (ix3 0 r d)) = _
  rw [V_v18]
  have h0 : ((((View.whole main_v18).slice (win0_1.rect t)).emb (ix3 0 r d)) 0).val = 3 := by blk_simp [e1 t] <;> first | rfl | omega
  have h1 : ((((View.whole main_v18).slice (win0_1.rect t)).emb (ix3 0 r d)) 1).val = r.val := by blk_simp [e1 t] <;> first | rfl | omega
  have h2 : ((((View.whole main_v18).slice (win0_1.rect t)).emb (ix3 0 r d)) 2).val = d.val := by blk_simp [e1 t] <;> first | rfl | omega
  refine shapeCast_apply _ _ _ (ix4 3 r 0 d) ?_
  rw [Shape.rowMajor_val_four, Shape.rowMajor_val_three, h0, h1, h2]
  show ((3 * 128 + r.val) * 1 + 0) * 256 + d.val = (3 * 128 + r.val) * 256 + d.val
  omega

/-- The scale of the norm before. -/
theorem blk2 (t : Fin cfg0.N) (j : Fin 1024) : (iblk m c 2 t (ix2 0 j) : EReal) = (giv m c).npre j := by
  unfold giv given
  dsimp only
  show V m c main_v8 (((View.whole main_v8).slice (win0_2.rect t)).emb (ix2 0 j)) = _
  rw [V_v8]
  pointwise
  refine congrArg (fun z => m ((c : Thread nD τ).loc main_arg3) (ix2 3 z)) (Fin.ext ?_)
  blk_simp [e2 t]

/-- The scale of the norm after. -/
theorem blk3 (t : Fin cfg0.N) (j : Fin 1024) : (iblk m c 3 t (ix2 0 j) : EReal) = (giv m c).npost j := by
  unfold giv given
  dsimp only
  show V m c main_v11 (((View.whole main_v11).slice (win0_3.rect t)).emb (ix2 0 j)) = _
  rw [V_v11]
  pointwise
  refine congrArg (fun z => m ((c : Thread nD τ).loc main_arg4) (ix2 3 z)) (Fin.ext ?_)
  blk_simp [e3 t]

/-- The scale of the norm of the per-layer inputs. -/
theorem blk4 (t : Fin cfg0.N) (j : Fin 1024) : (iblk m c 4 t (ix2 0 j) : EReal) = (giv m c).nple j := by
  unfold giv given
  dsimp only
  show V m c main_v14 (((View.whole main_v14).slice (win0_4.rect t)).emb (ix2 0 j)) = _
  rw [V_v14]
  pointwise
  refine congrArg (fun z => m ((c : Thread nD τ).loc main_arg12) (ix2 3 z)) (Fin.ext ?_)
  blk_simp [e4 t]

/-- The gate's weights' block. -/
theorem blk5 (t : Fin cfg0.N) (d : Fin 1024) (l : Fin 1408) : (iblk m c 5 t (ix3 0 d l) : EReal) = (giv m c).wg d (colOf t l) := by
  unfold giv given colOf
  dsimp only
  blk_ext! [iblk, e5 t]

/-- The other factor's weights' block. -/
theorem blk6 (t : Fin cfg0.N) (d : Fin 1024) (l : Fin 1408) : (iblk m c 6 t (ix3 0 d l) : EReal) = (giv m c).wu d (colOf t l) := by
  unfold giv given colOf
  dsimp only
  blk_ext! [iblk, e6 t]

/-- The taps' block. -/
theorem blk7 (t : Fin cfg0.N) (k : Fin 3) (l : Fin 1408) : (iblk m c 7 t (ix3 0 k l) : EReal) = (giv m c).cw k (colOf t l) := by
  unfold giv given colOf
  dsimp only
  blk_ext! [iblk, e7 t]

/-- The bias's block. -/
theorem blk8 (t : Fin cfg0.N) (l : Fin 1408) : (iblk m c 8 t (ix3 0 0 l) : EReal) = (giv m c).cb (colOf t l) := by
  unfold giv given colOf
  dsimp only
  show V m c main_v2 (((View.whole main_v2).slice (win0_8.rect t)).emb (ix3 0 0 l)) = _
  rw [V_v2]
  have h0 : ((((View.whole main_v2).slice (win0_8.rect t)).emb (ix3 0 0 l)) 0).val = 3 := by blk_simp [e8 t] <;> first | rfl | omega
  have h1 : ((((View.whole main_v2).slice (win0_8.rect t)).emb (ix3 0 0 l)) 1).val = 0 := by blk_simp [e8 t] <;> first | rfl | omega
  have h2 : ((((View.whole main_v2).slice (win0_8.rect t)).emb (ix3 0 0 l)) 2).val = 1408 * t.val + l.val := by blk_simp [e8 t] <;> first | rfl | omega
  refine shapeCast_apply _ _ _ (ix2 3 (colOf t l)) ?_
  rw [Shape.rowMajor_val_two, Shape.rowMajor_val_three, h0, h1, h2]
  show 3 * 2816 + (1408 * t.val + l.val) = (3 * 1 + 0) * 2816 + (1408 * t.val + l.val)
  omega

/-- The block of the weights back. -/
theorem blk9 (t : Fin cfg0.N) (l : Fin 1408) (j : Fin 1024) : (iblk m c 9 t (ix3 0 l j) : EReal) = (giv m c).wd (colOf t l) j := by
  unfold giv given colOf
  dsimp only
  blk_ext! [iblk, e9 t]

/-- The weights of the per-layer gate. -/
theorem blk10 (t : Fin cfg0.N) (d : Fin 1024) (j : Fin 1024) : (iblk m c 10 t (ix3 0 d j) : EReal) = (giv m c).wpg d j := by
  unfold giv given
  dsimp only
  blk_ext! [iblk, e10 t]

/-- The weights of the per-layer inputs. -/
theorem blk11 (t : Fin cfg0.N) (d : Fin 256) (j : Fin 1024) : (iblk m c 11 t (ix3 0 d j) : EReal) = (giv m c).wpe d j := by
  unfold giv given
  dsimp only
  blk_ext! [iblk, e11 t]

/-- The block of the state's row `0`. -/
theorem blk12 (t : Fin cfg0.N) (r : Fin 128) (l : Fin 1408) : (iblk m c 12 t (ix2 r l) : EReal) = (giv m c).s r 0 (colOf t l) := by
  show V m c main_v20 (((View.whole main_v20).slice (win0_12.rect t)).emb (ix2 r l)) = _
  have he : ((View.whole main_v20).slice (win0_12.rect t)).emb (ix2 r l) = (ix2 r (colOf t l) : (⟨2, ![128, 2816]⟩ : Shape).Idx) := by
    funext a
    refine Fin.ext ?_
    match a with
    | ⟨0, _⟩ => show ((((View.whole main_v20).slice (win0_12.rect t)).emb (ix2 r l)) 0).val = r.val; blk_simp [e12 t] <;> first | rfl | omega
    | ⟨1, _⟩ => show ((((View.whole main_v20).slice (win0_12.rect t)).emb (ix2 r l)) 1).val = 1408 * t.val + l.val; blk_simp [e12 t] <;> first | rfl | omega
  rw [he, V_v20, ← V_v16 m c]
  refine (cast_row _ _ r (colOf t l)).trans ?_
  refine (extractStridedSlice_apply _ _ _ _ (ix3 r 0 (colOf t l) : (⟨3, ![128, 2, 2816]⟩ : Shape).Idx) fun a => ?_).trans (state_apply m c r 0 (colOf t l))
  match a with
  | ⟨0, _⟩ => exact (Nat.zero_add _).symm
  | ⟨1, _⟩ => rfl
  | ⟨2, _⟩ => exact (Nat.zero_add _).symm

/-- The block of the state's row `1`. -/
theorem blk13 (t : Fin cfg0.N) (r : Fin 128) (l : Fin 1408) : (iblk m c 13 t (ix2 r l) : EReal) = (giv m c).s r 1 (colOf t l) := by
  show V m c main_v22 (((View.whole main_v22).slice (win0_13.rect t)).emb (ix2 r l)) = _
  have he : ((View.whole main_v22).slice (win0_13.rect t)).emb (ix2 r l) = (ix2 r (colOf t l) : (⟨2, ![128, 2816]⟩ : Shape).Idx) := by
    funext a
    refine Fin.ext ?_
    match a with
    | ⟨0, _⟩ => show ((((View.whole main_v22).slice (win0_13.rect t)).emb (ix2 r l)) 0).val = r.val; blk_simp [e13 t] <;> first | rfl | omega
    | ⟨1, _⟩ => show ((((View.whole main_v22).slice (win0_13.rect t)).emb (ix2 r l)) 1).val = 1408 * t.val + l.val; blk_simp [e13 t] <;> first | rfl | omega
  rw [he, V_v22, ← V_v16 m c]
  refine (cast_row _ _ r (colOf t l)).trans ?_
  refine (extractStridedSlice_apply _ _ _ _ (ix3 r 1 (colOf t l) : (⟨3, ![128, 2, 2816]⟩ : Shape).Idx) fun a => ?_).trans (state_apply m c r 1 (colOf t l))
  match a with
  | ⟨0, _⟩ => exact (Nat.zero_add _).symm
  | ⟨1, _⟩ => rfl
  | ⟨2, _⟩ => exact (Nat.zero_add _).symm

end Cert.Ffn6
-- ==== Proof.Ffn6Tiles.lean ====
/- What the tiles of the feed-forward kernel over the sample hold. -/
module

public import proofs.«01_k».proof.Proof.Ffn6Blocks
public import Idealize.ShloMosaic.Lib.Pointwise

@[expose] public section

noncomputable section

namespace Cert.Ffn6

open Cert.Kernel6Ideal Cert.Kernel6Ideal.Gen
open Idealize.ShloMosaic Idealize.ShloMosaic.TcCoe
open Cert.Ffn (nrm rinv gelu sigm)

/-- The normalized rows at an entry. -/
theorem pay5_apply (x : Vec Ideal S128x1024 .f32) (g : Vec Ideal S1x1024 .f32) (r : Fin 128) (j : Fin 1024) :
    (k0_pay5 x g (ix2 r j) : EReal) = nrm (fun k => x (ix2 r k)) (fun k => g (ix2 0 k)) j := by
  unfold k0_pay5 nrm rinv
  pointwise

/-- The accumulator starts from zeros. -/
theorem pay6_apply (i : S128x1024.Idx) : (k0_pay6 (F := Ideal) i : EReal) = 0 := by
  unfold k0_pay6
  pointwise

/-- The first product at an entry. -/
theorem pay7_apply (h : Vec Ideal S128x1024 .bf16) (w : Vec Ideal S1x1024x1408 .bf16) (r : Fin 128) (l : Fin 1408) :
    (k0_pay7 h w (ix2 r l) : EReal) = ∑ d : Fin 1024, (h (ix2 r d) : EReal) * w (ix3 0 d l) := by
  unfold k0_pay7
  pointwise

/-- The second product at an entry. -/
theorem pay8_apply (h : Vec Ideal S128x1024 .bf16) (w : Vec Ideal S1x1024x1408 .bf16) (r : Fin 128) (l : Fin 1408) :
    (k0_pay8 h w (ix2 r l) : EReal) = ∑ d : Fin 1024, (h (ix2 r d) : EReal) * w (ix3 0 d l) := by
  unfold k0_pay8
  pointwise

/-- The row after the first normalization and addition. -/
theorem pay3_apply (x a : Vec Ideal S128x1024 .f32) (g : Vec Ideal S1x1024 .f32) (r : Fin 128) (j : Fin 1024) :
    (k0_pay3 x a g (ix2 r j) : EReal) = x (ix2 r j) + nrm (fun k => a (ix2 r k)) (fun k => g (ix2 0 k)) j := by
  unfold k0_pay3 nrm rinv
  pointwise

/-- The gated row. -/
theorem pay4_apply (p : Vec Ideal S1x128x256 .f32) (wpe : Vec Ideal S1x256x1024 .bf16) (x a : Vec Ideal S128x1024 .f32) (g : Vec Ideal S1x1024 .f32)
    (wpg : Vec Ideal S1x1024x1024 .bf16) (r : Fin 128) (j : Fin 1024) :
    (k0_pay4 p wpe x a g wpg (ix2 r j) : EReal) =
      sigm (∑ d : Fin 1024, (k0_pay3 x a g (ix2 r d) : EReal) * wpg (ix3 0 d j)) * ∑ d : Fin 256, (p (ix3 0 r d) : EReal) * wpe (ix3 0 d j) := by
  unfold k0_pay4 sigm
  pointwise
  rw [zero_sub]

/-- The finished row. -/
theorem pay2_apply (x e : FVec Ideal S128x1024 .f32) (g : Vec Ideal S1x1024 .f32) (r : Fin 128) (j : Fin 1024) :
    (k0_pay2 x e g (ix2 r j) : EReal) = x (ix2 r j) + nrm (fun k => e (ix2 r k)) (fun k => g (ix2 0 k)) j := by
  unfold k0_pay2 nrm rinv
  pointwise

/-- The convolution's part from the state, at an entry. -/
theorem pay9_apply (a b : Vec Ideal S128x1408 .f32) (c w0 w1 : Vec Ideal S1x1x1408 .f32) (r : Fin 128) (l : Fin 1408) :
    (k0_pay9 a b c w0 w1 (ix2 r l) : EReal) = (c (ix3 0 0 l) : EReal) + w0 (ix3 0 0 l) * a (ix2 r l) + w1 (ix3 0 0 l) * b (ix2 r l) := by
  unfold k0_pay9
  pointwise

/-- The accumulator after a column half. -/
theorem pay1_apply (g u v : FVec Ideal S128x1408 .f32) (w2 : Vec Ideal S1x1x1408 .f32) (a : Vec Ideal S128x1024 .f32) (w : Vec Ideal S1x1408x1024 .bf16) (r : Fin 128) (j : Fin 1024) :
    (k0_pay1 g u v w2 a w (ix2 r j) : EReal) =
      a (ix2 r j) + ∑ l : Fin 1408, gelu ((v (ix2 r l) : EReal) + w2 (ix3 0 0 l) * g (ix2 r l)) * (u (ix2 r l) : EReal) * w (ix3 0 l j) := by
  unfold k0_pay1 gelu
  pointwise

/-- A tap of the convolution. -/
theorem tap0_apply (x : Vec Ideal S1x3x1408 .f32) (l : Fin 1408) : tap0 x (ix3 0 0 l) = x (ix3 0 0 l) := by
  unfold tap0 VecWindow.window
  refine congrArg x (funext fun a => Fin.ext ?_)
  match a with
  | ⟨0, _⟩ => rfl
  | ⟨1, _⟩ => rfl
  | ⟨2, _⟩ => show 0 + 1 * l.val = l.val; omega
@[inherit_doc tap0_apply]
theorem tap1_apply (x : Vec Ideal S1x3x1408 .f32) (l : Fin 1408) : tap1 x (ix3 0 0 l) = x (ix3 0 1 l) := by
  unfold tap1 VecWindow.window
  refine congrArg x (funext fun a => Fin.ext ?_)
  match a with
  | ⟨0, _⟩ => rfl
  | ⟨1, _⟩ => rfl
  | ⟨2, _⟩ => show 0 + 1 * l.val = l.val; omega
@[inherit_doc tap0_apply]
theorem tap2_apply (x : Vec Ideal S1x3x1408 .f32) (l : Fin 1408) : tap2 x (ix3 0 0 l) = x (ix3 0 2 l) := by
  unfold tap2 VecWindow.window
  refine congrArg x (funext fun a => Fin.ext ?_)
  match a with
  | ⟨0, _⟩ => rfl
  | ⟨1, _⟩ => rfl
  | ⟨2, _⟩ => show 0 + 1 * l.val = l.val; omega

/-- The accumulator after a column half, from its pieces. -/
theorem accNext_apply (x5 x6 : Vec Ideal S1x1024x1408 .bf16) (x7 : Vec Ideal S1x3x1408 .f32) (x8 : Vec Ideal S1x1x1408 .f32) (x9 : Vec Ideal S1x1408x1024 .bf16)
    (x12 x13 : Vec Ideal S128x1408 .f32) (H : Vec Ideal S128x1024 .bf16) (A : Vec Ideal S128x1024 .f32) (r : Fin 128) (j : Fin 1024) :
    (accNext x5 x6 x7 x8 x9 x12 x13 H A (ix2 r j) : EReal) = A (ix2 r j) + ∑ l : Fin 1408,
      gelu ((x8 (ix3 0 0 l) : EReal) + x7 (ix3 0 0 l) * x12 (ix2 r l) + x7 (ix3 0 1 l) * x13 (ix2 r l)
        + x7 (ix3 0 2 l) * k0_pay7 H x5 (ix2 r l)) * (k0_pay8 H x6 (ix2 r l) : EReal) * x9 (ix3 0 l j) := by
  unfold accNext
  refine (pay1_apply _ _ _ _ _ _ _ _).trans ?_
  refine congrArg₂ (· + ·) rfl (Finset.sum_congr rfl fun l _ => ?_)
  rw [pay9_apply, tap0_apply, tap1_apply, tap2_apply]

variable (m : (ℓ : Loc nD τ sig) → Buf (Elt Ideal) ℓ) (c : Dev nD)

/-- The first point. -/
def p0 : Fin cfg0.N := ⟨0, by decide⟩
/-- The second point. -/
def p1 : Fin cfg0.N := ⟨1, by decide⟩

/-- The normalized rows, as the first point leaves them. -/
def hb : Vec Ideal S128x1024 .bf16 := k0_pay5 (iblk m c 0 p0) (iblk m c 2 p0)
/-- The accumulator after the first point. -/
def accFirst : Vec Ideal S128x1024 .f32 :=
  accNext (iblk m c 5 p0) (iblk m c 6 p0) (iblk m c 7 p0) (iblk m c 8 p0) (iblk m c 9 p0) (iblk m c 12 p0) (iblk m c 13 p0) (hb m c) (k0_pay6 (F := Ideal))
/-- The accumulator after the second point. -/
def accSecond : Vec Ideal S128x1024 .f32 :=
  accNext (iblk m c 5 p1) (iblk m c 6 p1) (iblk m c 7 p1) (iblk m c 8 p1) (iblk m c 9 p1) (iblk m c 12 p1) (iblk m c 13 p1) (hb m c) (accFirst m c)
/-- The rows of the result. -/
def outAt : Vec Ideal S128x1024 .f32 :=
  outTile (iblk m c 0 p1) (iblk m c 1 p1) (iblk m c 3 p1) (iblk m c 4 p1) (iblk m c 10 p1) (iblk m c 11 p1) (accSecond m c)

/-- What a first point leaves of the gate. -/
theorem outsA_gate (t : Fin cfg0.N) (h0 : t.val % 2 = 0) (h1 : ¬t.val % 2 = 1) : (outsAt0 m c t.val t.isLt).2.1 = k0_pay7 (k0_pay5 (iblk m c 0 t) (iblk m c 2 t)) (iblk m c 5 t) := by
  rw [outsAt0_A m c t h0 h1]
  dsimp only
  rw [out0_A_15_eq]

/-- The normalized rows after a first point. -/
theorem outsA_rows (t : Fin cfg0.N) (h0 : t.val % 2 = 0) (h1 : ¬t.val % 2 = 1) : (outsAt0 m c t.val t.isLt).2.2.1 = k0_pay5 (iblk m c 0 t) (iblk m c 2 t) := by
  rw [outsAt0_A m c t h0 h1]
  dsimp only
  rw [sout0_A_0_eq]

/-- The accumulator after a first point. -/
theorem outsA_acc (t : Fin cfg0.N) (h0 : t.val % 2 = 0) (h1 : ¬t.val % 2 = 1) : (outsAt0 m c t.val t.isLt).2.2.2 = accNext (iblk m c 5 t) (iblk m c 6 t) (iblk m c 7 t) (iblk m c 8 t) (iblk m c 9 t) (iblk m c 12 t) (iblk m c 13 t) (k0_pay5 (iblk m c 0 t) (iblk m c 2 t)) (k0_pay6 (F := Ideal)) := by
  rw [outsAt0_A m c t h0 h1]
  dsimp only
  rw [sout0_A_1_eq]

/-- What a second point leaves of the gate. -/
theorem outsB_gate (t : Fin cfg0.N) (h0 : ¬t.val % 2 = 0) (h1 : t.val % 2 = 1) (hl : t.val - 1 < cfg0.N) (xs0 : Vec Ideal S128x1024 .bf16) (xs1 : Vec Ideal S128x1024 .f32)
    (q0 : (outsAt0 m c (t.val - 1) hl).2.2.1 = xs0) (q1 : (outsAt0 m c (t.val - 1) hl).2.2.2 = xs1) : (outsAt0 m c t.val t.isLt).2.1 = k0_pay7 xs0 (iblk m c 5 t) := by
  subst q0; subst q1
  rw [outsAt0_B m c t h0 h1]
  dsimp only
  rw [out0_B_15_eq]

/-- What a second point leaves of the rows. -/
theorem outsB_out (t : Fin cfg0.N) (h0 : ¬t.val % 2 = 0) (h1 : t.val % 2 = 1) (hl : t.val - 1 < cfg0.N) (xs0 : Vec Ideal S128x1024 .bf16) (xs1 : Vec Ideal S128x1024 .f32)
    (q0 : (outsAt0 m c (t.val - 1) hl).2.2.1 = xs0) (q1 : (outsAt0 m c (t.val - 1) hl).2.2.2 = xs1) : (outsAt0 m c t.val t.isLt).1 = outTile (iblk m c 0 t) (iblk m c 1 t) (iblk m c 3 t) (iblk m c 4 t) (iblk m c 10 t) (iblk m c 11 t) (accNext (iblk m c 5 t) (iblk m c 6 t) (iblk m c 7 t) (iblk m c 8 t) (iblk m c 9 t) (iblk m c 12 t) (iblk m c 13 t) xs0 xs1) := by
  subst q0; subst q1
  rw [outsAt0_B m c t h0 h1]
  dsimp only
  rw [out0_B_14_eq]

/-- What a point leaves of the gate. -/
theorem outs_gate (t : Fin cfg0.N) : (outsAt0 m c t.val t.isLt).2.1 = k0_pay7 (hb m c) (iblk m c 5 t) := by
  have ht := t.isLt
  change t.val < 2 at ht
  by_cases h : t.val % 2 = 0
  · have e : t = p0 := Fin.ext (by show t.val = 0; omega)
    subst e
    exact outsA_gate m c p0 h (by omega)
  · have e : t = p1 := Fin.ext (by show t.val = 1; omega)
    subst e
    exact outsB_gate m c p1 h (by omega) p0.isLt (hb m c) (accFirst m c) (outsA_rows m c p0 rfl (by decide)) (outsA_acc m c p0 rfl (by decide))

/-- What the second point leaves of the rows. -/
theorem outs_out : (outsAt0 m c p1.val p1.isLt).1 = outAt m c :=
  outsB_out m c p1 (by decide) rfl p0.isLt (hb m c) (accFirst m c) (outsA_rows m c p0 rfl (by decide)) (outsA_acc m c p0 rfl (by decide))

/-- The normalized rows at an entry. -/
theorem hb_apply (r : Fin 128) (j : Fin 1024) : (hb m c (ix2 r j) : EReal) = (giv m c).h r j := by
  unfold hb Given.h
  exact (pay5_apply _ _ _ _).trans (congrArg₂ (fun v g => nrm v g j) (funext fun k => blk0 m c _ _ _) (funext fun k => blk2 m c _ _))

/-- The gate's rows, at a point's columns. -/
theorem gate_apply (t : Fin cfg0.N) (r : Fin 128) (l : Fin 1408) :
    (k0_pay7 (hb m c) (iblk m c 5 t) (ix2 r l) : EReal) = (giv m c).g r (colOf t l) := by
  unfold Given.g
  exact (pay7_apply _ _ _ _).trans (Finset.sum_congr rfl fun d _ => congrArg₂ (· * ·) (hb_apply m c r d) (blk5 m c t d l))

/-- The other factor's rows, at a point's columns. -/
theorem fac_apply (t : Fin cfg0.N) (r : Fin 128) (l : Fin 1408) :
    (k0_pay8 (hb m c) (iblk m c 6 t) (ix2 r l) : EReal) = (giv m c).u r (colOf t l) := by
  unfold Given.u
  exact (pay8_apply _ _ _ _).trans (Finset.sum_congr rfl fun d _ => congrArg₂ (· * ·) (hb_apply m c r d) (blk6 m c t d l))

/-- What a point adds to the accumulator. -/
theorem acc_apply (t : Fin cfg0.N) (A : Vec Ideal S128x1024 .f32) (r : Fin 128) (j : Fin 1024) :
    (accNext (iblk m c 5 t) (iblk m c 6 t) (iblk m c 7 t) (iblk m c 8 t) (iblk m c 9 t) (iblk m c 12 t) (iblk m c 13 t) (hb m c) A (ix2 r j) : EReal)
      = A (ix2 r j) + ∑ l : Fin 1408, (giv m c).act r (colOf t l) * (giv m c).wd (colOf t l) j := by
  refine (accNext_apply _ _ _ _ _ _ _ _ _ _ _).trans (congrArg₂ (· + ·) rfl (Finset.sum_congr rfl fun l _ => ?_))
  unfold Given.act Given.conv
  rw [gate_apply m c t r l, fac_apply m c t r l]
  refine congrArg₂ (· * ·) (congrArg₂ (· * ·) (congrArg gelu ?_) rfl) (blk9 m c t l j)
  refine congrArg₂ (· + ·) (congrArg₂ (· + ·) (congrArg₂ (· + ·) (blk8 m c t l) ?_) ?_) ?_
  · exact congrArg₂ (· * ·) (blk7 m c t 0 l) (blk12 m c t r l)
  · exact congrArg₂ (· * ·) (blk7 m c t 1 l) (blk13 m c t r l)
  · exact congrArg (· * _) (blk7 m c t 2 l)

/-- The finished accumulator: the rows brought back. -/
theorem accSecond_apply (r : Fin 128) (j : Fin 1024) : (accSecond m c (ix2 r j) : EReal) = (giv m c).f r j := by
  have c0 : ∀ l : Fin 1408, colOf p0 l = Fin.castAdd 1408 l := fun l => Fin.ext (by show 1408 * 0 + l.val = l.val; omega)
  have c1 : ∀ l : Fin 1408, colOf p1 l = Fin.natAdd 1408 l := fun l => Fin.ext (by show 1408 * 1 + l.val = 1408 + l.val; omega)
  unfold accSecond
  refine (acc_apply m c p1 _ r j).trans ?_
  have ef : (accFirst m c (ix2 r j) : EReal)
      = ∑ l : Fin 1408, (giv m c).act r (Fin.castAdd 1408 l) * (giv m c).wd (Fin.castAdd 1408 l) j := by
    unfold accFirst
    refine (acc_apply m c p0 _ r j).trans ?_
    rw [pay6_apply, zero_add]
    exact Finset.sum_congr rfl fun l _ => by rw [c0 l]
  rw [ef]
  unfold Given.f
  refine Eq.trans ?_ (Fin.sum_univ_add (a := 1408) (b := 1408) fun l => (giv m c).act r l * (giv m c).wd l j).symm
  exact congrArg₂ (· + ·) rfl (Finset.sum_congr rfl fun l _ => by rw [c1 l])

/-- The finished tile: rows of the result. -/
theorem outAt_apply (r : Fin 128) (j : Fin 1024) :
    (outAt m c (ix2 r j) : EReal) = (giv m c).out r j := by
  have h1 : ∀ k, (k0_pay3 (iblk m c 0 p1) (accSecond m c) (iblk m c 3 p1) (ix2 r k) : EReal) = (giv m c).x1 r k := by
    intro k
    refine (pay3_apply _ _ _ _ _).trans ?_
    unfold Given.x1
    refine congrArg₂ (· + ·) (blk0 m c p1 r k) (congrArg₂ (fun v g => nrm v g k) (funext fun d => ?_) (funext fun d => ?_))
    · exact accSecond_apply m c r d
    · exact blk3 m c p1 d
  have h2 : ∀ k, (k0_pay4 (iblk m c 1 p1) (iblk m c 11 p1) (iblk m c 0 p1) (accSecond m c) (iblk m c 3 p1) (iblk m c 10 p1) (ix2 r k) : EReal)
      = (giv m c).e r k := by
    intro k
    refine (pay4_apply _ _ _ _ _ _ _ _).trans ?_
    unfold Given.e
    refine congrArg₂ (· * ·) (congrArg sigm (Finset.sum_congr rfl fun d _ => congrArg₂ (· * ·) (h1 d) (blk10 m c p1 d k)))
      (Finset.sum_congr rfl fun d _ => congrArg₂ (· * ·) (blk1 m c p1 r d) (blk11 m c p1 d k))
  unfold outAt outTile
  refine (pay2_apply _ _ _ _ _).trans ?_
  unfold Given.out
  refine congrArg₂ (· + ·) (h1 j) (congrArg₂ (fun v g => nrm v g j) (funext fun d => h2 d) (funext fun d => ?_))
  exact blk4 m c p1 d

end Cert.Ffn6
-- ==== Proof.Ffn6Result.lean ====
/- What the program of the feed-forward kernel over the sample leaves in its two results. -/
module

public import proofs.«01_k».proof.Proof.Ffn6Tiles

@[expose] public section

noncomputable section

namespace Cert.Ffn6

open Cert.Kernel6Ideal Cert.Kernel6Ideal.Gen
open Idealize.ShloMosaic Idealize.ShloMosaic.TcCoe Idealize.SL.Sem

/-- The rows of the result, one a sequence. -/
def outFlat (G : Given) : (⟨2, ![128, 1024]⟩ : Shape).Idx → EReal := fun i => G.out (i 0) (i 1)
/-- The gate's rows, one a sequence. -/
def gateFlat (G : Given) : (⟨2, ![128, 2816]⟩ : Shape).Idx → EReal := fun i => G.g (i 0) (i 1)

variable (m : (ℓ : Loc nD τ sig) → Buf (Elt Ideal) ℓ) (ρ : Dev nD → PrngReg) (c : Dev nD)

/-- The result's array after the region. -/
theorem arr14 : (dats m 0 c).arrAt 14 cfg0.N = outFlat (giv m c) := by
  refine (dats m 0 c).arrAt_eq_of_covers 14 _ (by decide +kernel) fun t hf y => ?_
  have h1 : t.val % 2 = 1 := (flush0_14 t).mp hf
  have ht := t.isLt
  change t.val < 2 at ht
  have et : t = p1 := Fin.ext (by show t.val = 1; omega)
  blk_simp [e14 t]
  have hy : y = (ix2 (y 0) (y 1) : (⟨2, ![128, 1024]⟩ : Shape).Idx) := by
    funext a
    match a with
    | ⟨0, _⟩ => rfl
    | ⟨1, _⟩ => rfl
  have he0 : ((win0_14.blk t).view.emb y 0).val = (y 0).val := by blk_simp [e14 t]
  have he1 : ((win0_14.blk t).view.emb y 1).val = (y 1).val := by blk_simp [e14 t]
  refine Eq.trans (congrArg ((dats m 0 c).after 14 t) hy) ?_
  have ea : (dats m 0 c).after 14 t = outAt m c := by rw [after0_14, et]; exact outs_out m c
  rw [ea]
  refine (outAt_apply m c (y 0) (y 1)).trans ?_
  unfold outFlat
  exact congrArg₂ (giv m c).out (Fin.ext he0.symm : (y 0 : Fin 128) = (win0_14.blk t).view.emb y 0) (Fin.ext he1.symm : (y 1 : Fin 1024) = (win0_14.blk t).view.emb y 1)

/-- The gate's array after the region. -/
theorem arr15 : (dats m 0 c).arrAt 15 cfg0.N = gateFlat (giv m c) := by
  refine (dats m 0 c).arrAt_eq_of_covers 15 _ (by decide +kernel) fun t hf y => ?_
  have ht := t.isLt
  change t.val < 2 at ht
  blk_simp [e15 t]
  have hy : y = (ix2 (y 0) (y 1) : (⟨2, ![128, 1408]⟩ : Shape).Idx) := by
    funext a
    match a with
    | ⟨0, _⟩ => rfl
    | ⟨1, _⟩ => rfl
  have he0 : ((win0_15.blk t).view.emb y 0).val = (y 0).val := by blk_simp [e15 t]
  have he1 : ((win0_15.blk t).view.emb y 1).val = 1408 * t.val + (y 1).val := by blk_simp [e15 t] <;> first | rfl | omega
  refine Eq.trans (congrArg ((dats m 0 c).after 15 t) hy) ?_
  rw [after0_15, outs_gate]
  refine (gate_apply m c t (y 0) (y 1)).trans ?_
  unfold gateFlat
  exact congrArg₂ (giv m c).g (Fin.ext he0.symm : (y 0 : Fin 128) = (win0_15.blk t).view.emb y 0) (Fin.ext he1.symm : colOf t (y 1) = (win0_15.blk t).view.emb y 1)

/-- What the host leaves in the first result. -/
theorem tail24 : Pipeline.afterTail₀ cfgs (dats m) 0 (V0 m) [hostOps1] c main_v24
    = shapeCast S128x1x1024 ((dats m 0 c).arrAt 14 cfg0.N) shapeCasts_S128x1024_S128x1x1024 := by
  unfold Pipeline.afterTail₀
  rw [show List.flatten [hostOps1 (F := Ideal)] = hostOps1 from by simp only [List.flatten_cons, List.flatten_nil, List.append_nil]]
  unfold hostOps1
  after_results_simp
  exact congrArg (fun X : S128x1024.Idx → EReal => shapeCast S128x1x1024 X shapeCasts_S128x1024_S128x1x1024)
    (Pipeline.withArrays_arr (cfgs 0).spec (by decide) c (V0 m c) (fun w => (dats m 0 c).arrAt w (cfgs 0).N) 14)

/-- The state's second row and the gate's row, side by side. -/
def sideBySide (X : S128x2x2816.Idx → EReal) (Y : S128x2816.Idx → EReal) : S128x2x2816.Idx → EReal :=
  concatenate S128x2x2816 1
    [⟨S128x1x2816, broadcastInDim S128x1x2816 ![0, 2] bcast_S128x2816_S128x1x2816_0_2
        (shapeCast S128x2816 (extractStridedSlice S128x1x2816 ![0, 1, 0] X slices_S128x2x2816_S128x1x2816_0_1_0) shapeCasts_S128x1x2816_S128x2816)⟩,
     ⟨S128x1x2816, broadcastInDim S128x1x2816 ![0, 2] bcast_S128x2816_S128x1x2816_0_2 Y⟩] concatenates_S128x1x2816_S128x1x2816_S128x2x2816_d1

/-- What the host leaves in the second result. -/
theorem tail29 : Pipeline.afterTail₀ cfgs (dats m) 0 (V0 m) [hostOps1] c main_v29 = sideBySide (V m c main_v16) ((dats m 0 c).arrAt 15 cfg0.N) := by
  unfold Pipeline.afterTail₀
  rw [show List.flatten [hostOps1 (F := Ideal)] = hostOps1 from by simp only [List.flatten_cons, List.flatten_nil, List.append_nil]]
  unfold hostOps1
  after_results_simp
  exact congrArg₂ sideBySide
    (Pipeline.withArrays_of_ne (cfgs 0).spec c (V0 m c) (fun w => (dats m 0 c).arrAt w (cfgs 0).N) main_v16 (by exact (by decide : ∀ w, Pipeline.arrRef spec0 w ≠ main_v16)))
    (Pipeline.withArrays_arr (cfgs 0).spec (by decide) c (V0 m c) (fun w => (dats m 0 c).arrAt w (cfgs 0).N) 15)

/-- A row a sequence with an axis of one position. -/
theorem spread_apply (p : S128x2816.Idx → EReal) (b : Fin 128) (k : Fin 1) (l : Fin 2816) :
    broadcastInDim S128x1x2816 ![0, 2] bcast_S128x2816_S128x1x2816_0_2 p (ix3 b k l) = p (ix2 b l) := by
  refine broadcastInDim_apply _ _ _ _ (ix2 b l : S128x2816.Idx) fun a => ?_
  match a with
  | ⟨0, _⟩ => show b.val = if (128 : Nat) = 1 then 0 else b.val; rw [if_neg (by decide)]
  | ⟨1, _⟩ => show l.val = if (2816 : Nat) = 1 then 0 else l.val; rw [if_neg (by decide)]

/-- The first result holds the rows. -/
theorem result24 : Pipeline.afterTail₀ cfgs (dats m) 0 (V0 m) [hostOps1] c main_v24 = outArr (giv m c) := by
  rw [tail24, arr14]
  funext i
  have h1 : (i 1).val < 1 := (i 1).isLt
  refine (shapeCast_apply _ _ i (ix2 (i 0) (i 2)) ?_).trans rfl
  rw [Shape.rowMajor_val_two, Shape.rowMajor_val_three]
  show (i 0).val * 1024 + (i 2).val = ((i 0).val * 1 + (i 1).val) * 1024 + (i 2).val
  omega

/-- The second result holds the gate's last two rows. -/
theorem result29 : Pipeline.afterTail₀ cfgs (dats m) 0 (V0 m) [hostOps1] c main_v29 = tailArr (giv m c) := by
  rw [tail29, arr15]
  funext i
  have hlt : (i 1).val < 2 := (i 1).isLt
  unfold sideBySide tailArr
  by_cases h : (i 1).val = 0
  · rw [if_pos h]
    refine (concatenate_pair_apply_left (s₁ := S128x1x2816) (s₂ := S128x1x2816) _ _ _ _ i rfl (ix3 (i 0) 0 (i 2) : S128x1x2816.Idx) ?_).trans ?_
    · intro b
      match b with
      | ⟨0, _⟩ => rfl
      | ⟨1, _⟩ => exact h.symm
      | ⟨2, _⟩ => rfl
    refine (spread_apply _ (i 0) 0 (i 2)).trans ((cast_row _ _ (i 0) (i 2)).trans ?_)
    refine (extractStridedSlice_apply _ _ _ _ (ix3 (i 0) 1 (i 2) : (⟨3, ![128, 2, 2816]⟩ : Shape).Idx) fun a => ?_).trans (state_apply m c (i 0) 1 (i 2))
    match a with
    | ⟨0, _⟩ => exact (Nat.zero_add _).symm
    | ⟨1, _⟩ => rfl
    | ⟨2, _⟩ => exact (Nat.zero_add _).symm
  · rw [if_neg h]
    have h1 : (i 1).val = 1 := by omega
    refine (concatenate_pair_apply_right (s₁ := S128x1x2816) (s₂ := S128x1x2816) _ _ _ _ i rfl rfl (ix3 (i 0) 0 (i 2) : S128x1x2816.Idx) ?_ ?_).trans ?_
    · intro b hb
      match b with
      | ⟨0, _⟩ => rfl
      | ⟨1, _⟩ => exact absurd rfl hb
      | ⟨2, _⟩ => rfl
    · exact h1.symm
    exact spread_apply _ (i 0) 0 (i 2)

/-- After a run the two results hold the rows and the gate's last two rows. -/
theorem run_results : θ_run defs (onTc (τ := τ) (main (F := Ideal))) ⟨m, fun _ => 0, ρ⟩ (fun r => ∀ c : Dev nD,
    r.2.mem ((c.tc : Thread nD τ).loc main_v24) = outArr (giv m c) ∧ r.2.mem ((c.tc : Thread nD τ).loc main_v29) = tailArr (giv m c)) :=
  (θ_run defs _ _).mono (fun r h c =>
    ⟨((h c).2 main_v24 (Pipeline.mem_restRefs_of main_v24 (by decide) (by decide))).trans (result24 m c),
     ((h c).2 main_v29 (Pipeline.mem_restRefs_of main_v29 (by decide) (by decide))).trans (result29 m c)⟩) (run_main m ρ)

end Cert.Ffn6
-- ==== Proof.Ffn6Reference.lean ====
/- What the reference of the feed-forward layer over the sample computes, entry by entry. -/
module

public import proofs.«01_k».proof.Proof.Ffn6Math
public import proofs.«01_k».proof.Proof.Gen.Reference6Ideal.Read

@[expose] public section

noncomputable section

namespace Cert.Ffn6.Ref

open Cert.Reference6Ideal Cert.Reference6Ideal.Gen Cert.Reference6Ideal.Read Idealize.ShloMosaic
open Cert.Ffn (nrm rinv gelu sigm)

/-- Two indices of three axes agree when their coordinates do. -/
theorem ext3 {a b c : ℕ} {i j : (⟨3, ![a, b, c]⟩ : Shape).Idx} (h0 : (i 0).val = (j 0).val) (h1 : (i 1).val = (j 1).val) (h2 : (i 2).val = (j 2).val) : i = j := by
  funext k
  match k with
  | ⟨0, _⟩ => exact Fin.ext h0
  | ⟨1, _⟩ => exact Fin.ext h1
  | ⟨2, _⟩ => exact Fin.ext h2

/-- Two indices of two axes agree when their coordinates do. -/
theorem ext2 {a b : ℕ} {i j : (⟨2, ![a, b]⟩ : Shape).Idx} (h0 : (i 0).val = (j 0).val) (h1 : (i 1).val = (j 1).val) : i = j := by
  funext k
  match k with
  | ⟨0, _⟩ => exact Fin.ext h0
  | ⟨1, _⟩ => exact Fin.ext h1

/-- A row's norm as the reference spells it. -/
theorem norm_eq (X : S128x1x1024.Idx → EReal) (v w : Fin 1024 → EReal) (j : Fin 1024) (i : S128x1x1024.Idx) (s : Fin 1024 → S128x1x1024.Idx)
    (hi : X i = v j) (hs : ∀ k, X (s k) = v k) :
    X i * Ideal.rsqrt (Ideal.div (Ideal.ofBits .f32 0x00000000#32 + ∑ k, X (s k) * X (s k)) (Ideal.ofBits .f32 0x44800000#32) + Ideal.ofBits .f32 0x358637BD#32) * w j
      = nrm v w j := by
  unfold nrm rinv
  rw [hi, Ideal.ofBits_zero_f32, zero_add]
  simp only [hs]

variable (x0 : S128x1x1024.Idx → EReal) (x1 : S128x4x2x2816.Idx → EReal) (x2 : S4x128x1x256.Idx → EReal) (x3 x4 : S4x1024.Idx → EReal) (x5 x6 : S4x1024x2816.Idx → EReal)
    (x7 : S4x3x2816.Idx → EReal) (x8 : S4x2816.Idx → EReal) (x9 : S4x2816x1024.Idx → EReal) (x10 : S4x1024x1024.Idx → EReal)
    (x11 : S4x256x1024.Idx → EReal) (x12 : S4x1024.Idx → EReal)

/-! ## The last layer's slices -/

/-- The gate's weights of the last layer. -/
theorem v1_eq (i : S1024x2816.Idx) : val_main_v1 (F := Ideal) x5 i = x5 (ix3 3 (i 0) (i 1)) := by
  rw [val_main_v1_apply, val_main_v0_apply]
  have h0 : (i 0).val < 1024 := (i 0).isLt
  have h1 : (i 1).val < 2816 := (i 1).isLt
  exact congrArg x5 (ext3 rfl (by show ((i 0).val * 2816 + (i 1).val) / 2816 % 1024 = (i 0).val; omega)
    (by show ((i 0).val * 2816 + (i 1).val) % 2816 = (i 1).val; omega))

/-- The other factor's weights of the last layer. -/
theorem v3_eq (i : S1024x2816.Idx) : val_main_v3 (F := Ideal) x6 i = x6 (ix3 3 (i 0) (i 1)) := by
  rw [val_main_v3_apply, val_main_v2_apply]
  have h0 : (i 0).val < 1024 := (i 0).isLt
  have h1 : (i 1).val < 2816 := (i 1).isLt
  exact congrArg x6 (ext3 rfl (by show ((i 0).val * 2816 + (i 1).val) / 2816 % 1024 = (i 0).val; omega)
    (by show ((i 0).val * 2816 + (i 1).val) % 2816 = (i 1).val; omega))

/-- The convolution's taps of the last layer. -/
theorem v5_eq (i : S3x2816.Idx) : val_main_v5 (F := Ideal) x7 i = x7 (ix3 3 (i 0) (i 1)) := by
  rw [val_main_v5_apply, val_main_v4_apply]
  have h0 : (i 0).val < 3 := (i 0).isLt
  have h1 : (i 1).val < 2816 := (i 1).isLt
  exact congrArg x7 (ext3 rfl (by show ((i 0).val * 2816 + (i 1).val) / 2816 % 3 = (i 0).val; omega)
    (by show ((i 0).val * 2816 + (i 1).val) % 2816 = (i 1).val; omega))

/-- The convolution's bias of the last layer. -/
theorem v7_eq (i : S2816.Idx) : val_main_v7 (F := Ideal) x8 i = x8 (ix2 3 (i 0)) := by
  rw [val_main_v7_apply, val_main_v6_apply]
  have h0 : (i 0).val < 2816 := (i 0).isLt
  exact congrArg x8 (ext2 rfl (by show (i 0).val % 2816 = (i 0).val; omega))

/-- The weights back of the last layer. -/
theorem v9_eq (i : S2816x1024.Idx) : val_main_v9 (F := Ideal) x9 i = x9 (ix3 3 (i 0) (i 1)) := by
  rw [val_main_v9_apply, val_main_v8_apply]
  have h0 : (i 0).val < 2816 := (i 0).isLt
  have h1 : (i 1).val < 1024 := (i 1).isLt
  exact congrArg x9 (ext3 rfl (by show ((i 0).val * 1024 + (i 1).val) / 1024 % 2816 = (i 0).val; omega)
    (by show ((i 0).val * 1024 + (i 1).val) % 1024 = (i 1).val; omega))

/-- The scale of the norm before. -/
theorem v11_eq (i : S1024.Idx) : val_main_v11 (F := Ideal) x3 i = x3 (ix2 3 (i 0)) := by
  rw [val_main_v11_apply, val_main_v10_apply]
  have h0 : (i 0).val < 1024 := (i 0).isLt
  exact congrArg x3 (ext2 rfl (by show (i 0).val % 1024 = (i 0).val; omega))

/-- The scale of the norm after. -/
theorem v69_eq (i : S1024.Idx) : val_main_v69 (F := Ideal) x4 i = x4 (ix2 3 (i 0)) := by
  rw [val_main_v69_apply, val_main_v68_apply]
  have h0 : (i 0).val < 1024 := (i 0).isLt
  exact congrArg x4 (ext2 rfl (by show (i 0).val % 1024 = (i 0).val; omega))

/-- The scale of the norm of the per-layer inputs. -/
theorem v100_eq (i : S1024.Idx) : val_main_v100 (F := Ideal) x12 i = x12 (ix2 3 (i 0)) := by
  rw [val_main_v100_apply, val_main_v99_apply]
  have h0 : (i 0).val < 1024 := (i 0).isLt
  exact congrArg x12 (ext2 rfl (by show (i 0).val % 1024 = (i 0).val; omega))

/-- The weights of the per-layer gate. -/
theorem v90_eq (i : S1024x1024.Idx) : val_main_v90 (F := Ideal) x10 i = x10 (ix3 3 (i 0) (i 1)) := by
  rw [val_main_v90_apply, val_main_v89_apply]
  have h0 : (i 0).val < 1024 := (i 0).isLt
  have h1 : (i 1).val < 1024 := (i 1).isLt
  exact congrArg x10 (ext3 rfl (by show ((i 0).val * 1024 + (i 1).val) / 1024 % 1024 = (i 0).val; omega)
    (by show ((i 0).val * 1024 + (i 1).val) % 1024 = (i 1).val; omega))

/-- The weights of the per-layer inputs. -/
theorem v87_eq (i : S256x1024.Idx) : val_main_v87 (F := Ideal) x11 i = x11 (ix3 3 (i 0) (i 1)) := by
  rw [val_main_v87_apply, val_main_v86_apply]
  have h0 : (i 0).val < 256 := (i 0).isLt
  have h1 : (i 1).val < 1024 := (i 1).isLt
  exact congrArg x11 (ext3 rfl (by show ((i 0).val * 1024 + (i 1).val) / 1024 % 256 = (i 0).val; omega)
    (by show ((i 0).val * 1024 + (i 1).val) % 1024 = (i 1).val; omega))

/-- The per-layer inputs of the last layer. -/
theorem v85_eq (i : S128x1x256.Idx) : val_main_v85 (F := Ideal) x2 i = x2 (ix4 3 (i 0) 0 (i 2)) := by
  rw [val_main_v85_apply, val_main_v84_apply]
  have h0 : (i 0).val < 128 := (i 0).isLt
  have h1 : (i 1).val < 1 := (i 1).isLt
  have h2 : (i 2).val < 256 := (i 2).isLt
  refine congrArg x2 (funext fun a => Fin.ext ?_)
  match a with
  | ⟨0, _⟩ => rfl
  | ⟨1, _⟩ => show (((i 0).val * 1 + (i 1).val) * 256 + (i 2).val) / 256 % 128 = (i 0).val; omega
  | ⟨2, _⟩ => first | rfl | (show (((i 0).val * 1 + (i 1).val) * 256 + (i 2).val) / 256 % 1 = 0; omega) | (show (i 1).val = 0; omega)
  | ⟨3, _⟩ => show (((i 0).val * 1 + (i 1).val) * 256 + (i 2).val) % 256 = (i 2).val; omega

/-- The layer that the arrays give. -/
abbrev lay : Given := given x0 x1 x2 x3 x4 x5 x6 x7 x8 x9 x10 x11 x12

/-! ## The gate -/

/-- The normalized rows. -/
theorem v24_eq (i : S128x1x1024.Idx) :
    val_main_v24 (F := Ideal) x0 x3 i = (lay x0 x1 x2 x3 x4 x5 x6 x7 x8 x9 x10 x11 x12).h (i 0) (i 2) := by
  rw [val_main_v24_apply, val_main_v23_apply, val_main_v22_apply, v11_eq, val_main_v21_apply, val_main_v20_apply, val_main_v19_apply,
    val_main_v18_apply, val_main_v17_apply, val_main_cst_1_apply, val_main_v16_apply, val_main_v15_apply, val_main_cst_0_apply,
    val_main_v14_apply, val_main_v13_apply, val_main_cst_apply]
  have h1 : (i 1).val < 1 := (i 1).isLt
  exact norm_eq x0 (fun k => x0 (ix3 (i 0) 0 k)) (fun k => x3 (ix2 3 k)) (i 2) i _ (congrArg x0 (ext3 rfl (by first | rfl | (show (i 1).val = 0; omega)) rfl)) fun k => congrArg x0 (ext3 rfl (by first | rfl | (show (i 1).val = 0; omega)) rfl)

/-- The gate. -/
theorem v25_eq (i : S128x1x2816.Idx) :
    val_main_v25 (F := Ideal) x0 x3 x5 i = (lay x0 x1 x2 x3 x4 x5 x6 x7 x8 x9 x10 x11 x12).g (i 0) (i 2) := by
  rw [val_main_v25_apply]
  refine Finset.sum_congr rfl fun d _ => ?_
  rw [v24_eq x0 x1 x2 x3 x4 x5 x6 x7 x8 x9 x10 x11 x12, v1_eq]
  rfl

/-- The other factor. -/
theorem v26_eq (i : S128x1x2816.Idx) :
    val_main_v26 (F := Ideal) x0 x3 x6 i = (lay x0 x1 x2 x3 x4 x5 x6 x7 x8 x9 x10 x11 x12).u (i 0) (i 2) := by
  rw [val_main_v26_apply]
  refine Finset.sum_congr rfl fun d _ => ?_
  rw [v24_eq x0 x1 x2 x3 x4 x5 x6 x7 x8 x9 x10 x11 x12, v3_eq]
  rfl

/-- The last layer's state. -/
theorem v28_eq (i : S128x2x2816.Idx) : val_main_v28 (F := Ideal) x1 i = (lay x0 x1 x2 x3 x4 x5 x6 x7 x8 x9 x10 x11 x12).s (i 0) (i 1) (i 2) := by
  have h0 : (i 0).val < 128 := (i 0).isLt
  have h1 : (i 1).val < 2 := (i 1).isLt
  have h2 : (i 2).val < 2816 := (i 2).isLt
  rw [val_main_v28_apply, val_main_v27_apply]
  refine congrArg x1 (funext fun a => Fin.ext ?_)
  match a with
  | ⟨0, _⟩ => show (((i 0).val * 2 + (i 1).val) * 2816 + (i 2).val) / 5632 = (i 0).val; omega
  | ⟨1, _⟩ => rfl
  | ⟨2, _⟩ => show (((i 0).val * 2 + (i 1).val) * 2816 + (i 2).val) / 2816 % 2 = (i 1).val; omega
  | ⟨3, _⟩ => show (((i 0).val * 2 + (i 1).val) * 2816 + (i 2).val) % 2816 = (i 2).val; omega

/-- The rows the convolution sees: the state's two first. -/
theorem v29_state (b : Fin 128) (k : Fin 2) (l : Fin 2816) (i : S128x3x2816.Idx) (h0 : (i 0).val = b.val) (h1 : (i 1).val = k.val) (h2 : (i 2).val = l.val) :
    val_main_v29 (F := Ideal) x0 x1 x3 x5 i = (lay x0 x1 x2 x3 x4 x5 x6 x7 x8 x9 x10 x11 x12).s b k l := by
  unfold val_main_v29
  refine (concatenate_pair_apply_left (s₁ := S128x2x2816) (s₂ := S128x1x2816) _ _ _ _ i rfl (ix3 b k l : S128x2x2816.Idx) ?_).trans ?_
  · intro a
    match a with
    | ⟨0, _⟩ => exact h0.symm
    | ⟨1, _⟩ => exact h1.symm
    | ⟨2, _⟩ => exact h2.symm
  · exact v28_eq x0 x1 x2 x3 x4 x5 x6 x7 x8 x9 x10 x11 x12 _

/-- The rows the convolution sees: the gate's last. -/
theorem v29_gate (b : Fin 128) (l : Fin 2816) (i : S128x3x2816.Idx) (h0 : (i 0).val = b.val) (h1 : (i 1).val = 2) (h2 : (i 2).val = l.val) :
    val_main_v29 (F := Ideal) x0 x1 x3 x5 i = (lay x0 x1 x2 x3 x4 x5 x6 x7 x8 x9 x10 x11 x12).g b l := by
  unfold val_main_v29
  refine (concatenate_pair_apply_right (s₁ := S128x2x2816) (s₂ := S128x1x2816) _ _ _ _ i rfl rfl (ix3 b 0 l : S128x1x2816.Idx) ?_ ?_).trans ?_
  · intro a ha
    match a with
    | ⟨0, _⟩ => exact h0.symm
    | ⟨1, _⟩ => exact absurd rfl ha
    | ⟨2, _⟩ => exact h2.symm
  · exact h1.symm
  · exact v25_eq x0 x1 x2 x3 x4 x5 x6 x7 x8 x9 x10 x11 x12 _

/-- The convolution. -/
theorem v52_eq (i : S128x1x2816.Idx) :
    val_main_v52 (F := Ideal) x0 x1 x3 x5 x7 x8 i = (lay x0 x1 x2 x3 x4 x5 x6 x7 x8 x9 x10 x11 x12).conv (i 0) (i 2) := by
  have h2 : (i 2).val < 2816 := (i 2).isLt
  rw [val_main_v52_apply, val_main_v45_apply, val_main_v38_apply, val_main_v37_apply, val_main_v36_apply, v7_eq,
    val_main_v35_apply, val_main_v34_apply, val_main_v33_apply, val_main_v31_apply, val_main_v30_apply, v5_eq, val_main_v32_apply,
    val_main_v44_apply, val_main_v43_apply, val_main_v42_apply, val_main_v40_apply, val_main_v39_apply, v5_eq, val_main_v41_apply,
    val_main_v51_apply, val_main_v50_apply, val_main_v49_apply, val_main_v47_apply, val_main_v46_apply, v5_eq, val_main_v48_apply]
  have h1 : (i 1).val < 1 := (i 1).isLt
  rw [v29_state x0 x1 x2 x3 x4 x5 x6 x7 x8 x9 x10 x11 x12 (i 0) 0 (i 2) _ rfl (by show (i 1).val = 0; omega) rfl,
    v29_state x0 x1 x2 x3 x4 x5 x6 x7 x8 x9 x10 x11 x12 (i 0) 1 (i 2) _ rfl (by show 1 + (i 1).val = 1; omega) rfl,
    v29_gate x0 x1 x2 x3 x4 x5 x6 x7 x8 x9 x10 x11 x12 (i 0) (i 2) _ rfl (by show 2 + (i 1).val = 2; omega) rfl]
  unfold Given.conv
  refine congrArg₂ (· + ·) (congrArg₂ (· + ·) (congrArg₂ (· + ·) rfl (congrArg₂ (· * ·) (congrArg x7 (ext3 rfl ?_ ?_)) rfl))
    (congrArg₂ (· * ·) (congrArg x7 (ext3 rfl ?_ ?_)) rfl)) (congrArg₂ (· * ·) (congrArg x7 (ext3 rfl ?_ ?_)) rfl)
  all_goals first
    | rfl
    | (show (i 2).val % 2816 = (i 2).val; omega)

/-- The activation. -/
theorem v65_eq (i : S128x1x2816.Idx) :
    val_main_v65 (F := Ideal) x0 x1 x3 x5 x7 x8 i = gelu ((lay x0 x1 x2 x3 x4 x5 x6 x7 x8 x9 x10 x11 x12).conv (i 0) (i 2)) := by
  rw [val_main_v65_apply, val_main_v64_apply, val_main_v63_apply, val_main_cst_5_apply, val_main_v62_apply, val_main_v61_apply, val_main_cst_4_apply,
    val_main_v60_apply, val_main_v59_apply, val_main_v58_apply, val_main_cst_3_apply, val_main_v57_apply, val_main_v56_apply, val_main_v55_apply, val_main_cst_2_apply,
    val_main_v54_apply, val_main_v53_apply, v52_eq x0 x1 x2 x3 x4 x5 x6 x7 x8 x9 x10 x11 x12]
  unfold gelu
  generalize (lay x0 x1 x2 x3 x4 x5 x6 x7 x8 x9 x10 x11 x12).conv (i 0) (i 2) = c
  show c * (Ideal.ofBits .f32 0x3F000000#32 * _) = Ideal.ofBits .f32 0x3F000000#32 * c * _
  rw [← mul_assoc, mul_comm c]
  rfl

/-- The product of the activation and the other factor. -/
theorem v66_eq (i : S128x1x2816.Idx) :
    val_main_v66 (F := Ideal) x0 x1 x3 x5 x6 x7 x8 i = (lay x0 x1 x2 x3 x4 x5 x6 x7 x8 x9 x10 x11 x12).act (i 0) (i 2) := by
  rw [val_main_v66_apply, v65_eq x0 x1 x2 x3 x4 x5 x6 x7 x8 x9 x10 x11 x12, v26_eq x0 x1 x2 x3 x4 x5 x6 x7 x8 x9 x10 x11 x12]
  rfl

/-- The rows brought back. -/
theorem v67_eq (i : S128x1x1024.Idx) :
    val_main_v67 (F := Ideal) x0 x1 x3 x5 x6 x7 x8 x9 i = (lay x0 x1 x2 x3 x4 x5 x6 x7 x8 x9 x10 x11 x12).f (i 0) (i 2) := by
  rw [val_main_v67_apply]
  refine Finset.sum_congr rfl fun d _ => ?_
  rw [v66_eq x0 x1 x2 x3 x4 x5 x6 x7 x8 x9 x10 x11 x12, v9_eq]
  rfl

/-- The rows after the first addition. -/
theorem v83_eq (i : S128x1x1024.Idx) :
    val_main_v83 (F := Ideal) x0 x1 x3 x4 x5 x6 x7 x8 x9 i = (lay x0 x1 x2 x3 x4 x5 x6 x7 x8 x9 x10 x11 x12).x1 (i 0) (i 2) := by
  rw [val_main_v83_apply, val_main_v82_apply, val_main_v81_apply, val_main_v80_apply, v69_eq, val_main_v79_apply, val_main_v78_apply, val_main_v77_apply,
    val_main_v76_apply, val_main_v75_apply, val_main_cst_8_apply, val_main_v74_apply, val_main_v73_apply, val_main_cst_7_apply,
    val_main_v72_apply, val_main_v71_apply, val_main_cst_6_apply]
  have h1 : (i 1).val < 1 := (i 1).isLt
  unfold Given.x1
  refine congrArg₂ (· + ·) (congrArg x0 (ext3 rfl (by first | rfl | (show (i 1).val = 0; omega)) rfl)) ?_
  exact norm_eq (val_main_v67 (F := Ideal) x0 x1 x3 x5 x6 x7 x8 x9) ((lay x0 x1 x2 x3 x4 x5 x6 x7 x8 x9 x10 x11 x12).f (i 0)) (fun k => x4 (ix2 3 k)) (i 2) i _
    (v67_eq x0 x1 x2 x3 x4 x5 x6 x7 x8 x9 x10 x11 x12 i) fun k => v67_eq x0 x1 x2 x3 x4 x5 x6 x7 x8 x9 x10 x11 x12 _

/-- The per-layer inputs brought to the rows. -/
theorem v88_eq (i : S128x1x1024.Idx) :
    val_main_v88 (F := Ideal) x2 x11 i = ∑ d, (lay x0 x1 x2 x3 x4 x5 x6 x7 x8 x9 x10 x11 x12).p (i 0) d * (lay x0 x1 x2 x3 x4 x5 x6 x7 x8 x9 x10 x11 x12).wpe d (i 2) := by
  rw [val_main_v88_apply]
  refine Finset.sum_congr rfl fun d _ => ?_
  rw [v85_eq, v87_eq]
  rfl

/-- The per-layer gate before the sigmoid. -/
theorem v91_eq (i : S128x1x1024.Idx) :
    val_main_v91 (F := Ideal) x0 x1 x3 x4 x5 x6 x7 x8 x9 x10 i = ∑ d, (lay x0 x1 x2 x3 x4 x5 x6 x7 x8 x9 x10 x11 x12).x1 (i 0) d * (lay x0 x1 x2 x3 x4 x5 x6 x7 x8 x9 x10 x11 x12).wpg d (i 2) := by
  rw [val_main_v91_apply]
  refine Finset.sum_congr rfl fun d _ => ?_
  rw [v83_eq x0 x1 x2 x3 x4 x5 x6 x7 x8 x9 x10 x11 x12, v90_eq]
  rfl

/-- The gated per-layer inputs. -/
theorem v98_eq (i : S128x1x1024.Idx) :
    val_main_v98 (F := Ideal) x0 x1 x2 x3 x4 x5 x6 x7 x8 x9 x10 x11 i = (lay x0 x1 x2 x3 x4 x5 x6 x7 x8 x9 x10 x11 x12).e (i 0) (i 2) := by
  rw [val_main_v98_apply, val_main_v97_apply, val_main_v96_apply, val_main_cst_10_apply, val_main_v95_apply, val_main_v94_apply, val_main_cst_9_apply,
    val_main_v93_apply, val_main_v92_apply, v91_eq x0 x1 x2 x3 x4 x5 x6 x7 x8 x9 x10 x11 x12, v88_eq x0 x1 x2 x3 x4 x5 x6 x7 x8 x9 x10 x11 x12]
  rfl

/-- The rows of the result. -/
theorem v114_eq (i : S128x1x1024.Idx) :
    val_main_v114 (F := Ideal) x0 x1 x2 x3 x4 x5 x6 x7 x8 x9 x10 x11 x12 i = (lay x0 x1 x2 x3 x4 x5 x6 x7 x8 x9 x10 x11 x12).out (i 0) (i 2) := by
  rw [val_main_v114_apply, v83_eq x0 x1 x2 x3 x4 x5 x6 x7 x8 x9 x10 x11 x12, val_main_v113_apply, val_main_v112_apply, val_main_v111_apply, v100_eq, val_main_v110_apply, val_main_v109_apply, val_main_v108_apply,
    val_main_v107_apply, val_main_v106_apply, val_main_cst_13_apply, val_main_v105_apply, val_main_v104_apply, val_main_cst_12_apply,
    val_main_v103_apply, val_main_v102_apply, val_main_cst_11_apply]
  unfold Given.out
  refine congrArg₂ (· + ·) rfl ?_
  exact norm_eq (val_main_v98 (F := Ideal) x0 x1 x2 x3 x4 x5 x6 x7 x8 x9 x10 x11) ((lay x0 x1 x2 x3 x4 x5 x6 x7 x8 x9 x10 x11 x12).e (i 0)) (fun k => x12 (ix2 3 k)) (i 2) i _
    (v98_eq x0 x1 x2 x3 x4 x5 x6 x7 x8 x9 x10 x11 x12 i) fun k => v98_eq x0 x1 x2 x3 x4 x5 x6 x7 x8 x9 x10 x11 x12 _

/-- The gate's last two rows. -/
theorem v115_eq : val_main_v115 (F := Ideal) x0 x1 x3 x5 = tailArr (lay x0 x1 x2 x3 x4 x5 x6 x7 x8 x9 x10 x11 x12) := by
  funext i
  have h1 : (i 1).val < 2 := (i 1).isLt
  rw [val_main_v115_apply]
  unfold tailArr
  by_cases h : (i 1).val = 0
  · rw [if_pos h]
    exact v29_state x0 x1 x2 x3 x4 x5 x6 x7 x8 x9 x10 x11 x12 (i 0) 1 (i 2) _ rfl (by show 1 + (i 1).val = 1; omega) rfl
  · rw [if_neg h]
    exact v29_gate x0 x1 x2 x3 x4 x5 x6 x7 x8 x9 x10 x11 x12 (i 0) (i 2) _ rfl (by show 1 + (i 1).val = 2; omega) rfl

end Cert.Ffn6.Ref
-- ==== Proof.Ffn6Algebraic.lean ====
/- The two programs of the feed-forward layer over the sample give the same rows and the same last rows of the gate. -/
module

public import proofs.«01_k».proof.Defs
public import proofs.«01_k».proof.Proof.Ffn6Result
public import proofs.«01_k».proof.Proof.Ffn6Reference

@[expose] public section

noncomputable section

namespace Cert.Ffn6

open Idealize.ShloMosaic Idealize.SL.Sem

/-- The reference's first result is the rows, as an array. -/
theorem reference_out (x0 x1 x2 x3 x4 x5 x6 x7 x8 x9 x10 x11 x12) :
    Cert.Reference6Ideal.Read.val_main_v114 (F := Ideal) x0 x1 x2 x3 x4 x5 x6 x7 x8 x9 x10 x11 x12 = outArr (given x0 x1 x2 x3 x4 x5 x6 x7 x8 x9 x10 x11 x12) :=
  funext fun i => Ref.v114_eq x0 x1 x2 x3 x4 x5 x6 x7 x8 x9 x10 x11 x12 i

/-- Both programs run and leave the same two results of the same arguments. -/
theorem algebraic : Cert.algebraic_Kernel6Ideal_Reference6Ideal (hKernel6Ideal := Cert.Kernel6Ideal.Gen.facts) (hReference6Ideal := Cert.Reference6Ideal.Gen.facts) := by
  intro m g m' g' _ hm
  refine ⟨fun c => outArr (giv m c), fun c => tailArr (giv m c), ?_, ?_⟩
  · refine (θ_run _ _ _).mono (fun r h c => ?_) (θ_run_and (run_results m g) (Cert.Kernel6Ideal.Gen.frame m g))
    exact ⟨(h.1 c).1, (h.1 c).2, h.2.1 c⟩
  · refine (θ_run _ _ _).mono (fun r h c => ?_) (Cert.Reference6Ideal.Value.run m' g')
    obtain ⟨e0, e1, e2, e3, e4, e5, e6, e7, e8, e9, e10, e11, e12⟩ := hm c
    have q0 : StableHlo.launchContents m' c (Proc.devRef .tc Cert.Reference6Ideal.main_arg0) = m ((c.tc : Thread Cert.Kernel6Ideal.nD Cert.Kernel6Ideal.τ).loc Cert.Kernel6Ideal.main_arg0) := e0
    have q1 : StableHlo.launchContents m' c (Proc.devRef .tc Cert.Reference6Ideal.main_arg1) = m ((c.tc : Thread Cert.Kernel6Ideal.nD Cert.Kernel6Ideal.τ).loc Cert.Kernel6Ideal.main_arg1) := e1
    have q2 : StableHlo.launchContents m' c (Proc.devRef .tc Cert.Reference6Ideal.main_arg2) = m ((c.tc : Thread Cert.Kernel6Ideal.nD Cert.Kernel6Ideal.τ).loc Cert.Kernel6Ideal.main_arg2) := e2
    have q3 : StableHlo.launchContents m' c (Proc.devRef .tc Cert.Reference6Ideal.main_arg3) = m ((c.tc : Thread Cert.Kernel6Ideal.nD Cert.Kernel6Ideal.τ).loc Cert.Kernel6Ideal.main_arg3) := e3
    have q4 : StableHlo.launchContents m' c (Proc.devRef .tc Cert.Reference6Ideal.main_arg4) = m ((c.tc : Thread Cert.Kernel6Ideal.nD Cert.Kernel6Ideal.τ).loc Cert.Kernel6Ideal.main_arg4) := e4
    have q5 : StableHlo.launchContents m' c (Proc.devRef .tc Cert.Reference6Ideal.main_arg5) = m ((c.tc : Thread Cert.Kernel6Ideal.nD Cert.Kernel6Ideal.τ).loc Cert.Kernel6Ideal.main_arg5) := e5
    have q6 : StableHlo.launchContents m' c (Proc.devRef .tc Cert.Reference6Ideal.main_arg6) = m ((c.tc : Thread Cert.Kernel6Ideal.nD Cert.Kernel6Ideal.τ).loc Cert.Kernel6Ideal.main_arg6) := e6
    have q7 : StableHlo.launchContents m' c (Proc.devRef .tc Cert.Reference6Ideal.main_arg7) = m ((c.tc : Thread Cert.Kernel6Ideal.nD Cert.Kernel6Ideal.τ).loc Cert.Kernel6Ideal.main_arg7) := e7
    have q8 : StableHlo.launchContents m' c (Proc.devRef .tc Cert.Reference6Ideal.main_arg8) = m ((c.tc : Thread Cert.Kernel6Ideal.nD Cert.Kernel6Ideal.τ).loc Cert.Kernel6Ideal.main_arg8) := e8
    have q9 : StableHlo.launchContents m' c (Proc.devRef .tc Cert.Reference6Ideal.main_arg9) = m ((c.tc : Thread Cert.Kernel6Ideal.nD Cert.Kernel6Ideal.τ).loc Cert.Kernel6Ideal.main_arg9) := e9
    have q10 : StableHlo.launchContents m' c (Proc.devRef .tc Cert.Reference6Ideal.main_arg10) = m ((c.tc : Thread Cert.Kernel6Ideal.nD Cert.Kernel6Ideal.τ).loc Cert.Kernel6Ideal.main_arg10) := e10
    have q11 : StableHlo.launchContents m' c (Proc.devRef .tc Cert.Reference6Ideal.main_arg11) = m ((c.tc : Thread Cert.Kernel6Ideal.nD Cert.Kernel6Ideal.τ).loc Cert.Kernel6Ideal.main_arg11) := e11
    have q12 : StableHlo.launchContents m' c (Proc.devRef .tc Cert.Reference6Ideal.main_arg12) = m ((c.tc : Thread Cert.Kernel6Ideal.nD Cert.Kernel6Ideal.τ).loc Cert.Kernel6Ideal.main_arg12) := e12
    refine ⟨(h c).1.trans ?_, (h c).2.1.trans ?_, (h c).2.2⟩
    · rw [Cert.Reference6Ideal.Read.val_main_v114_eq, q0, q1, q2, q3, q4, q5, q6, q7, q8, q9, q10, q11, q12]
      exact reference_out _ _ _ _ _ _ _ _ _ _ _ _ _
    · rw [Cert.Reference6Ideal.Read.val_main_v115_eq, q0, q1, q3, q5]
      exact Ref.v115_eq _ _ _ _ _ _ _ _ _ _ _ _ _

end Cert.Ffn6

end
-- ==== Proof.PoolMath.lean ====
/- The pooling layers' states: the last fifteen normalized rows before each pooling layer. -/
module

public import proofs.«01_k».proof.Proof.QkvMath

@[expose] public section

noncomputable section

namespace Cert.Pool

open Idealize.ShloMosaic Cert.Ffn Cert.Flat Cert.Qkv

/-- The norm of a pooling layer among the four layers' norms. -/
def even (l : Fin 2) : Fin 4 := ⟨2 * l.val, by have := l.isLt; omega⟩

/-- An entry of a pooling layer's normalized row. -/
def row (g : (⟨2, ![4, 1024]⟩ : Shape).Idx → EReal) (l : Fin 2) (v : Fin 1024 → EReal) (j : Fin 1024) : EReal :=
  nrm v (fun k => g (ix2 (even l) k)) j

/-- A position's successor among the fifteen kept rows, when it is not the last. -/
def succ (k : Fin 15) (h : ¬k.val = 14) : Fin 15 := ⟨k.val + 1, by have := k.isLt; omega⟩

/-- One layer's rows after one more row: the kept rows moved up by one, and the new row last. -/
def pushArr (st : (⟨4, ![128, 2, 15, 1024]⟩ : Shape).Idx → EReal) (x : (⟨3, ![128, 1, 1024]⟩ : Shape).Idx → EReal) (g : (⟨2, ![4, 1024]⟩ : Shape).Idx → EReal)
    (l : Fin 2) : (⟨3, ![128, 15, 1024]⟩ : Shape).Idx → EReal := fun i =>
  if h : (i 1).val = 14 then row g l (fun d => x (ix3 (i 0) 0 d)) (i 2) else st (ix4 (i 0) l (succ (i 1) h) (i 2))

/-- Both pooling layers' rows after one more row each. -/
def stepArr (st : (⟨4, ![128, 2, 15, 1024]⟩ : Shape).Idx → EReal) (x y : (⟨3, ![128, 1, 1024]⟩ : Shape).Idx → EReal) (g : (⟨2, ![4, 1024]⟩ : Shape).Idx → EReal) :
    (⟨4, ![128, 2, 15, 1024]⟩ : Shape).Idx → EReal := fun i =>
  pushArr st (if (i 1).val = 0 then x else y) g (i 1) (ix3 (i 0) (i 2) (i 3))

/-- The position in the prompt of one of the last fifteen rows. -/
def late (k : Fin 15) : Fin 2048 := ⟨2033 + k.val, by have := k.isLt; omega⟩

/-- One layer's last fifteen normalized rows of the prompt. -/
def lateArr (x : (⟨3, ![8, 2048, 1024]⟩ : Shape).Idx → EReal) (g : (⟨2, ![4, 1024]⟩ : Shape).Idx → EReal) (l : Fin 2) :
    (⟨3, ![8, 15, 1024]⟩ : Shape).Idx → EReal := fun i =>
  row g l (fun d => x (ix3 (i 0) (late (i 1)) d)) (i 2)

/-- Both pooling layers' last fifteen normalized rows of the prompt. -/
def keptArr (x y : (⟨3, ![8, 2048, 1024]⟩ : Shape).Idx → EReal) (g : (⟨2, ![4, 1024]⟩ : Shape).Idx → EReal) :
    (⟨4, ![8, 2, 15, 1024]⟩ : Shape).Idx → EReal := fun i =>
  lateArr (if (i 1).val = 0 then x else y) g (i 1) (ix3 (i 0) (i 2) (i 3))

end Cert.Pool

end
-- ==== Proof.Pool7Run.lean ====
/- The run of the pooling kernel of the step of the sample: the arrays it leaves, as the program's boundaries hold them. -/
module

public import proofs.«01_k».proof.Proof.PoolMath
public import proofs.«01_k».proof.Proof.Gen.Kernel7Ideal.Frame

@[expose] public section

noncomputable section

namespace Cert.Pool7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- After a run every array the host holds is as the program's boundaries leave it, the last one after the host's last operations. -/
theorem run_all : θ_run defs (onTc (τ := τ) (main (F := Ideal))) ⟨m, fun _ => 0, ρ⟩ (fun r => ∀ c : Dev nD, ∀ b ∈ Pipeline.ucRefs τ sig,
      r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Pool7

end
-- ==== Proof.Pool7Point.lean ====
/- What a grid point of the pooling kernel of the step of the sample leaves of the normalized rows. -/
module

public import proofs.«01_k».proof.Proof.Gen.Kernel7Ideal.Frame
public import proofs.«01_k».proof.Proof.Gen.Kernel7Ideal.Skeleton
public import Idealize.ShloMosaic.Lib.VecWindow

@[expose] public section

set_option maxRecDepth 16384
set_option maxHeartbeats 1000000

noncomputable section

namespace Cert.Pool7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Loading a whole buffer of shape `S32x1024` reads what it holds. -/
theorem load_S32x1024 {e : EltTy} {m : Memref sig .tc .vmem S32x1024 e} (h : m.IsWhole) (X : Vec F S32x1024 e) :
    View.readAt (Elt F) m.view (Rect.unit (s := S32x1024) ![0, 0] ![32, 1024] inb_S32x1024_S32x1024_0_0).toLoadRect (h.unread X) = X :=
  (View.readAt_full m.view _ inb_S32x1024_S32x1024_0_0).trans (h.read_unread X)

/-- A store over a whole buffer of shape `S32x1024` leaves what was stored. -/
theorem stored_S32x1024 {e : EltTy} (m : Memref sig .tc .vmem S32x1024 e) (f : m.view.ty.Contents (Elt F)) (w : Vec F S32x1024 e) (L : List (View.Piece (Elt F) S32x1024 e)) :
    m.view.read (Elt F) (m.view.writes (Elt F) f (⟨Rect.unit (s := S32x1024) ![0, 0] ![32, 1024] inb_S32x1024_S32x1024_0_0, w⟩ :: L)) = w :=
  View.read_writes_full m.view f inb_S32x1024_S32x1024_0_0 w L

/-- Loading a whole buffer of shape `S1x1024` reads what it holds. -/
theorem load_S1x1024 {e : EltTy} {m : Memref sig .tc .vmem S1x1024 e} (h : m.IsWhole) (X : Vec F S1x1024 e) :
    View.readAt (Elt F) m.view (Rect.unit (s := S1x1024) ![0, 0] ![1, 1024] inb_S1x1024_S1x1024_0_0).toLoadRect (h.unread X) = X :=
  (View.readAt_full m.view _ inb_S1x1024_S1x1024_0_0).trans (h.read_unread X)

/-- A store over a whole buffer of shape `S1x1024` leaves what was stored. -/
theorem stored_S1x1024 {e : EltTy} (m : Memref sig .tc .vmem S1x1024 e) (f : m.view.ty.Contents (Elt F)) (w : Vec F S1x1024 e) (L : List (View.Piece (Elt F) S1x1024 e)) :
    m.view.read (Elt F) (m.view.writes (Elt F) f (⟨Rect.unit (s := S1x1024) ![0, 0] ![1, 1024] inb_S1x1024_S1x1024_0_0, w⟩ :: L)) = w :=
  View.read_writes_full m.view f inb_S1x1024_S1x1024_0_0 w L

/-- A load through a rectangle reads the window of what the buffer holds there. -/
theorem load_window {s : Shape} {e : EltTy} {m : Memref sig .tc .vmem s e} (h : m.IsWhole) (X : s.Idx → Elt F e) (off size : Fin s.rank → ℕ) (inb : ∀ a, off a + size a ≤ s.size a) :
    View.readAt (Elt F) m.view (Rect.unit off size inb).toLoadRect (h.unread X) = VecWindow.window X off size inb :=
  (View.readAt_unit m.view _ inb rfl inb).trans (by rw [h.read_unread])

/-- The first layer's point leaves the normalized rows. -/
theorem out0_A_7_eq (c : Dev nD) (i : grid0.Coords) (arg1 : Memref sig .tc .vmem S32x1024 .f32) (harg1 : arg1.IsWhole) (arg2 : Memref sig .tc .vmem S32x15x1024 .f32) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole)
    (x0 : Vec F S32x1024 .f32) (x1 : Vec F S32x15x1024 .f32) (x2 : Vec F S4x256x256 .bf16) (x3 : Vec F S1x1024 .f32) (x4 : Vec F S1x1024 .f32) (x5 : Vec F S1x1024 .f32) :
    out0_A_7 c i arg1 harg1 arg2 harg2 arg3 harg3 arg4 harg4 arg5 harg5 arg6 harg6 arg7 harg7 arg8 harg8 arg9 harg9 x0 x1 x2 x3 x4 x5 = k0_pay3 x0 x4 := by
  unfold out0_A_7
  dsimp only [kernelRun0_A]
  try simp only [kernelRun0_A.sl.r_1]
  simp only [load_S32x1024, load_S1x1024, stored_S32x1024, stored_S1x1024]
  try simp only [load_window]
  try rfl

/-- The last layer's point leaves the normalized rows. -/
theorem out1_A_7_eq (c : Dev nD) (i : grid1.Coords) (arg1 : Memref sig .tc .vmem S32x1024 .f32) (harg1 : arg1.IsWhole) (arg2 : Memref sig .tc .vmem S32x15x1024 .f32) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole)
    (x0 : Vec F S32x1024 .f32) (x1 : Vec F S32x15x1024 .f32) (x2 : Vec F S4x256x256 .bf16) (x3 : Vec F S1x1024 .f32) (x4 : Vec F S1x1024 .f32) (x5 : Vec F S1x1024 .f32) :
    out1_A_7 c i arg1 harg1 arg2 harg2 arg3 harg3 arg4 harg4 arg5 harg5 arg6 harg6 arg7 harg7 arg8 harg8 arg9 harg9 x0 x1 x2 x3 x4 x5 = k1_pay3 x0 x4 := by
  unfold out1_A_7
  dsimp only [kernelRun1_A]
  try simp only [kernelRun1_A.sl.r_1]
  simp only [load_S32x1024, load_S1x1024, stored_S32x1024, stored_S1x1024]
  try simp only [load_window]
  try rfl

end Cert.Pool7

end
-- ==== Proof.Pool7Region.lean ====
/- The arrays of normalized rows the pooling kernel of the step of the sample leaves. -/
module

public import proofs.«01_k».proof.Proof.Pool7Run
public import proofs.«01_k».proof.Proof.Pool7Point
public import Idealize.ShloMosaic.Lib.Pointwise
public import Idealize.ShloMosaic.Lib.Pipeline.ValueKit.Point
public import Idealize.ShloMosaic.Lib.Pipeline.ValueKit.Geometry
public import Idealize.ShloMosaic.Lib.Pipeline.ValueKit.Tiles

@[expose] public section

noncomputable section

namespace Cert.Pool7

open Cert.Kernel7Ideal Cert.Kernel7Ideal.Gen Cert.Ffn Cert.Flat Cert.Qkv Cert.Pool
open Idealize.ShloMosaic Idealize.ShloMosaic.TcCoe Idealize.SL.Sem

/-- A layer's normalized rows, one row a sequence. -/
def rowsArr (x : (⟨3, ![128, 1, 1024]⟩ : Shape).Idx → EReal) (g : (⟨2, ![4, 1024]⟩ : Shape).Idx → EReal) (l : Fin 2) : (⟨2, ![128, 1024]⟩ : Shape).Idx → EReal := fun i =>
  row g l (fun d => x (ix3 (i 0) 0 d)) (i 1)

/-- The first layer's normalized rows of a block. -/
theorem pay0_rows (x : Vec Ideal S32x1024 .f32) (g : Vec Ideal S1x1024 .f32) (a : Fin 32) (j : Fin 1024) :
    (k0_pay3 x g (ix2 a j) : EReal) = nrm (fun k => x (ix2 a k)) (fun k => g (ix2 0 k)) j := by
  unfold k0_pay3 k0_pay2 nrm rinv
  pointwise

/-- The last layer's normalized rows of a block. -/
theorem pay1_rows (x : Vec Ideal S32x1024 .f32) (g : Vec Ideal S1x1024 .f32) (a : Fin 32) (j : Fin 1024) :
    (k1_pay3 x g (ix2 a j) : EReal) = nrm (fun k => x (ix2 a k)) (fun k => g (ix2 0 k)) j := by
  unfold k1_pay3 k1_pay2 nrm rinv
  pointwise

theorem e00 : ∀ t : Fin cfg0.N, win0_0.index t = ![t.val, 0] := (by decide +kernel : ∀ t : Fin grid0.N, _)
theorem e04 : ∀ t : Fin cfg0.N, win0_4.index t = ![0, 0] := (by decide +kernel : ∀ t : Fin grid0.N, _)
theorem e07 : ∀ t : Fin cfg0.N, win0_7.index t = ![t.val, 0] := (by decide +kernel : ∀ t : Fin grid0.N, _)
theorem e10 : ∀ t : Fin cfg1.N, win1_0.index t = ![t.val, 0] := (by decide +kernel : ∀ t : Fin grid1.N, _)
theorem e14 : ∀ t : Fin cfg1.N, win1_4.index t = ![0, 0] := (by decide +kernel : ∀ t : Fin grid1.N, _)
theorem e17 : ∀ t : Fin cfg1.N, win1_7.index t = ![t.val, 0] := (by decide +kernel : ∀ t : Fin grid1.N, _)

variable (V : (c : Dev nD) → (b : Ref sig .tc) → Buf (Elt Ideal) ((c : Thread nD τ).loc b)) (c : Dev nD)
variable (X : (⟨3, ![128, 1, 1024]⟩ : Shape).Idx → EReal) (g : (⟨2, ![4, 1024]⟩ : Shape).Idx → EReal)

section First

variable (t : Fin cfg0.N)
  (hx : ∀ (b : Fin 128) (j : Fin 1024), (V c main_v14 (ix2 b j) : EReal) = X (ix3 b 0 j)) (hg : ∀ k : Fin 1024, (V c main_v2 (ix2 0 k) : EReal) = g (ix2 0 k))

include hx in
/-- The first layer's block of rows. -/
theorem blk00 (a : Fin 32) (j : Fin 1024) (b : Fin 128) (hb : b.val = 32 * t.val + a.val) : (iblk0 V c 0 t (ix2 a j) : EReal) = X (ix3 b 0 j) := by
  rw [← hx]
  show V c main_v14 (((View.whole main_v14).slice (win0_0.rect t)).emb (ix2 a j)) = _
  have h0 : ((((View.whole main_v14).slice (win0_0.rect t)).emb (ix2 a j)) 0).val = b.val := by blk_simp [e00 t] <;> first | rfl | omega
  have h1 : ((((View.whole main_v14).slice (win0_0.rect t)).emb (ix2 a j)) 1).val = j.val := by blk_simp [e00 t] <;> first | rfl | omega
  exact congrArg (V c main_v14) (ext2 h0 h1)

include hg in
/-- The first layer's block of norm factors. -/
theorem blk04 (j : Fin 1024) : (iblk0 V c 4 t (ix2 0 j) : EReal) = g (ix2 0 j) := by
  rw [← hg]
  show V c main_v2 (((View.whole main_v2).slice (win0_4.rect t)).emb (ix2 0 j)) = _
  have h0 : ((((View.whole main_v2).slice (win0_4.rect t)).emb (ix2 0 j)) 0).val = 0 := by blk_simp [e04 t] <;> first | rfl | omega
  have h1 : ((((View.whole main_v2).slice (win0_4.rect t)).emb (ix2 0 j)) 1).val = j.val := by blk_simp [e04 t] <;> first | rfl | omega
  exact congrArg (V c main_v2) (ext2 h0 h1)

/-- What a point of the first layer leaves. -/
theorem outs0 : (outsAt0 V c t).2 = k0_pay3 (iblk0 V c 0 t) (iblk0 V c 4 t) := by
  unfold outsAt0
  dsimp only
  rw [out0_A_7_eq]

include hx hg in
/-- What a point of the first layer leaves, at an entry. -/
theorem point0 (a : Fin 32) (j : Fin 1024) (b : Fin 128) (hb : b.val = 32 * t.val + a.val) :
    ((dat0 V c).after 7 t (ix2 a j) : EReal) = rowsArr X g 0 (ix2 b j) := by
  rw [after0_7, outs0]
  refine (pay0_rows _ _ a j).trans ?_
  unfold rowsArr row
  exact congrArg₂ (fun u v => nrm u v j) (funext fun k => blk00 V c X t hx a k b hb) (funext fun k => blk04 V c g t hg k)

include hx hg in
/-- The array of normalized rows after the first layer. -/
theorem arr0 : (dat0 V c).arrAt 7 cfg0.N = rowsArr X g 0 := by
  refine (dat0 V c).arrAt_eq_of_covers 7 _ (by decide +kernel) fun t hf y => ?_
  blk_simp [e07 t]
  have ht : t.val < 4 := lt_of_lt_of_eq t.isLt (by decide +kernel : cfg0.N = 4)
  have y0 : (y 0).val < 32 := (y 0).isLt
  have hy : y = (ix2 (y 0) (y 1) : (⟨2, ![32, 1024]⟩ : Shape).Idx) := ext2 rfl rfl
  have h0 : ((win0_7.blk t).view.emb y 0).val = 32 * t.val + (y 0).val := by blk_simp [e07 t] <;> first | rfl | omega
  have h1 : ((win0_7.blk t).view.emb y 1).val = (y 1).val := by blk_simp [e07 t] <;> first | rfl | omega
  refine Eq.trans (congrArg ((dat0 V c).after 7 t) hy) ?_
  refine (point0 V c X g t hx hg (y 0) (y 1) ⟨32 * t.val + (y 0).val, by omega⟩ rfl).trans ?_
  exact congrArg (rowsArr X g 0) (ext2 h0.symm h1.symm)

end First

section Last

variable (t : Fin cfg1.N)
  (hx : ∀ (b : Fin 128) (j : Fin 1024), (V c main_v33 (ix2 b j) : EReal) = X (ix3 b 0 j)) (hg : ∀ k : Fin 1024, (V c main_v21 (ix2 0 k) : EReal) = g (ix2 2 k))

include hx in
/-- The last layer's block of rows. -/
theorem blk10 (a : Fin 32) (j : Fin 1024) (b : Fin 128) (hb : b.val = 32 * t.val + a.val) : (iblk1 V c 0 t (ix2 a j) : EReal) = X (ix3 b 0 j) := by
  rw [← hx]
  show V c main_v33 (((View.whole main_v33).slice (win1_0.rect t)).emb (ix2 a j)) = _
  have h0 : ((((View.whole main_v33).slice (win1_0.rect t)).emb (ix2 a j)) 0).val = b.val := by blk_simp [e10 t] <;> first | rfl | omega
  have h1 : ((((View.whole main_v33).slice (win1_0.rect t)).emb (ix2 a j)) 1).val = j.val := by blk_simp [e10 t] <;> first | rfl | omega
  exact congrArg (V c main_v33) (ext2 h0 h1)

include hg in
/-- The last layer's block of norm factors. -/
theorem blk14 (j : Fin 1024) : (iblk1 V c 4 t (ix2 0 j) : EReal) = g (ix2 2 j) := by
  rw [← hg]
  show V c main_v21 (((View.whole main_v21).slice (win1_4.rect t)).emb (ix2 0 j)) = _
  have h0 : ((((View.whole main_v21).slice (win1_4.rect t)).emb (ix2 0 j)) 0).val = 0 := by blk_simp [e14 t] <;> first | rfl | omega
  have h1 : ((((View.whole main_v21).slice (win1_4.rect t)).emb (ix2 0 j)) 1).val = j.val := by blk_simp [e14 t] <;> first | rfl | omega
  exact congrArg (V c main_v21) (ext2 h0 h1)

/-- What a point of the last layer leaves. -/
theorem outs1 : (outsAt1 V c t).2 = k1_pay3 (iblk1 V c 0 t) (iblk1 V c 4 t) := by
  unfold outsAt1
  dsimp only
  rw [out1_A_7_eq]

include hx hg in
/-- What a point of the last layer leaves, at an entry. -/
theorem point1 (a : Fin 32) (j : Fin 1024) (b : Fin 128) (hb : b.val = 32 * t.val + a.val) :
    ((dat1 V c).after 7 t (ix2 a j) : EReal) = rowsArr X g 1 (ix2 b j) := by
  rw [after1_7, outs1]
  refine (pay1_rows _ _ a j).trans ?_
  unfold rowsArr row
  exact congrArg₂ (fun u v => nrm u v j) (funext fun k => blk10 V c X t hx a k b hb) (funext fun k => blk14 V c g t hg k)

include hx hg in
/-- The array of normalized rows after the last layer. -/
theorem arr1 : (dat1 V c).arrAt 7 cfg1.N = rowsArr X g 1 := by
  refine (dat1 V c).arrAt_eq_of_covers 7 _ (by decide +kernel) fun t hf y => ?_
  blk_simp [e17 t]
  have ht : t.val < 4 := lt_of_lt_of_eq t.isLt (by decide +kernel : cfg1.N = 4)
  have y0 : (y 0).val < 32 := (y 0).isLt
  have hy : y = (ix2 (y 0) (y 1) : (⟨2, ![32, 1024]⟩ : Shape).Idx) := ext2 rfl rfl
  have h0 : ((win1_7.blk t).view.emb y 0).val = 32 * t.val + (y 0).val := by blk_simp [e17 t] <;> first | rfl | omega
  have h1 : ((win1_7.blk t).view.emb y 1).val = (y 1).val := by blk_simp [e17 t] <;> first | rfl | omega
  refine Eq.trans (congrArg ((dat1 V c).after 7 t) hy) ?_
  refine (point1 V c X g t hx hg (y 0) (y 1) ⟨32 * t.val + (y 0).val, by omega⟩ rfl).trans ?_
  exact congrArg (rowsArr X g 1) (ext2 h0.symm h1.symm)

end Last

end Cert.Pool7

end
-- ==== Proof.Pool7Result.lean ====
/- The pooling states the kernel of the step of the sample leaves. -/
module

public import proofs.«01_k».proof.Proof.Pool7Region

@[expose] public section

noncomputable section

namespace Cert.Pool7

open Cert.Kernel7Ideal Cert.Kernel7Ideal.Gen Cert.Ffn Cert.Flat Cert.Qkv Cert.Pool
open Idealize.ShloMosaic Idealize.ShloMosaic.TcCoe Idealize.SL.Sem

/-- A layer's rows with an axis for the layer. -/
theorem layer_apply (p : (⟨3, ![128, 15, 1024]⟩ : Shape).Idx → EReal) (i : S128x1x15x1024.Idx) :
    broadcastInDim S128x1x15x1024 ![0, 2, 3] bcast_S128x15x1024_S128x1x15x1024_0_2_3 p i = p (ix3 (i 0) (i 2) (i 3)) := by
  refine broadcastInDim_apply _ _ _ i (ix3 (i 0) (i 2) (i 3) : S128x15x1024.Idx) fun a => ?_
  match a with
  | ⟨0, _⟩ => show (i 0).val = if (128 : Nat) = 1 then 0 else (i 0).val; rw [if_neg (by decide)]
  | ⟨1, _⟩ => show (i 2).val = if (15 : Nat) = 1 then 0 else (i 2).val; rw [if_neg (by decide)]
  | ⟨2, _⟩ => show (i 3).val = if (1024 : Nat) = 1 then 0 else (i 3).val; rw [if_neg (by decide)]

/-- One row a sequence, without the axis of one position. -/
theorem flat_apply (X : (⟨3, ![128, 1, 1024]⟩ : Shape).Idx → EReal) (h) (r : Fin 128) (j : Fin 1024) : shapeCast (⟨2, ![128, 1024]⟩ : Shape) X h (ix2 r j) = X (ix3 r 0 j) := by
  refine shapeCast_apply _ _ _ _ ?_
  rw [Shape.rowMajor_val_three, Shape.rowMajor_val_two]
  show (r.val * 1 + 0) * 1024 + j.val = r.val * 1024 + j.val
  omega

/-- One row a sequence, with the axis of one position. -/
theorem new_apply (p : (⟨2, ![128, 1024]⟩ : Shape).Idx → EReal) (i : S128x1x1024.Idx) :
    broadcastInDim S128x1x1024 ![0, 2] bcast_S128x1024_S128x1x1024_0_2 p i = p (ix2 (i 0) (i 2)) := by
  refine broadcastInDim_apply _ _ _ i (ix2 (i 0) (i 2) : S128x1024.Idx) fun a => ?_
  match a with
  | ⟨0, _⟩ => show (i 0).val = if (128 : Nat) = 1 then 0 else (i 0).val; rw [if_neg (by decide)]
  | ⟨1, _⟩ => show (i 2).val = if (1024 : Nat) = 1 then 0 else (i 2).val; rw [if_neg (by decide)]

/-- A layer's kept rows. -/
def layerState (st : (⟨4, ![128, 2, 15, 1024]⟩ : Shape).Idx → EReal) (l : Fin 2) : (⟨3, ![128, 15, 1024]⟩ : Shape).Idx → EReal := fun i => st (ix4 (i 0) l (i 1) (i 2))

/-- The first layer's kept rows, cut from both layers'. -/
theorem state0_eq (st : (⟨4, ![128, 2, 15, 1024]⟩ : Shape).Idx → EReal) :
    shapeCast S128x15x1024 (extractStridedSlice S128x1x15x1024 ![0, 0, 0, 0] st slices_S128x2x15x1024_S128x1x15x1024_0_0_0_0) shapeCasts_S128x1x15x1024_S128x15x1024 = layerState st 0 := by
  funext i
  refine (shapeCast_apply _ _ _ (ix4 (i 0) 0 (i 1) (i 2) : S128x1x15x1024.Idx) ?_).trans ?_
  · rw [Shape.rowMajor_val_four, Shape.rowMajor_val_three]
    show (((i 0).val * 1 + 0) * 15 + (i 1).val) * 1024 + (i 2).val = ((i 0).val * 15 + (i 1).val) * 1024 + (i 2).val
    omega
  refine (extractStridedSlice_apply ![0, 0, 0, 0] st _ _ (ix4 (i 0) 0 (i 1) (i 2) : S128x2x15x1024.Idx) fun a => ?_).trans rfl
  match a with
  | ⟨0, _⟩ => show (i 0).val = 0 + (i 0).val; omega
  | ⟨1, _⟩ => rfl
  | ⟨2, _⟩ => show (i 1).val = 0 + (i 1).val; omega
  | ⟨3, _⟩ => show (i 2).val = 0 + (i 2).val; omega

/-- The last layer's kept rows, cut from both layers'. -/
theorem state1_eq (st : (⟨4, ![128, 2, 15, 1024]⟩ : Shape).Idx → EReal) :
    shapeCast S128x15x1024 (extractStridedSlice S128x1x15x1024 ![0, 1, 0, 0] st slices_S128x2x15x1024_S128x1x15x1024_0_1_0_0) shapeCasts_S128x1x15x1024_S128x15x1024 = layerState st 1 := by
  funext i
  refine (shapeCast_apply _ _ _ (ix4 (i 0) 0 (i 1) (i 2) : S128x1x15x1024.Idx) ?_).trans ?_
  · rw [Shape.rowMajor_val_four, Shape.rowMajor_val_three]
    show (((i 0).val * 1 + 0) * 15 + (i 1).val) * 1024 + (i 2).val = ((i 0).val * 15 + (i 1).val) * 1024 + (i 2).val
    omega
  refine (extractStridedSlice_apply ![0, 1, 0, 0] st _ _ (ix4 (i 0) 1 (i 1) (i 2) : S128x2x15x1024.Idx) fun a => ?_).trans rfl
  match a with
  | ⟨0, _⟩ => show (i 0).val = 0 + (i 0).val; omega
  | ⟨1, _⟩ => rfl
  | ⟨2, _⟩ => show (i 1).val = 0 + (i 1).val; omega
  | ⟨3, _⟩ => show (i 2).val = 0 + (i 2).val; omega

/-- The kept rows moved up by one with the new row behind them. -/
theorem pushed (st : (⟨4, ![128, 2, 15, 1024]⟩ : Shape).Idx → EReal) (x : (⟨3, ![128, 1, 1024]⟩ : Shape).Idx → EReal) (g : (⟨2, ![4, 1024]⟩ : Shape).Idx → EReal) (l : Fin 2) :
    concatenate S128x15x1024 1
      [⟨S128x14x1024, extractStridedSlice S128x14x1024 ![0, 1, 0] (layerState st l) slices_S128x15x1024_S128x14x1024_0_1_0⟩,
       ⟨S128x1x1024, broadcastInDim S128x1x1024 ![0, 2] bcast_S128x1024_S128x1x1024_0_2 (rowsArr x g l)⟩]
      concatenates_S128x14x1024_S128x1x1024_S128x15x1024_d1 = pushArr st x g l := by
  funext i
  unfold pushArr
  have hlt : (i 1).val < 15 := (i 1).isLt
  by_cases h : (i 1).val = 14
  · rw [dif_pos h]
    refine (concatenate_pair_apply_right (s₁ := S128x14x1024) (s₂ := S128x1x1024) _ _ _ _ i rfl rfl (ix3 (i 0) 0 (i 2) : S128x1x1024.Idx) ?_ ?_).trans ?_
    · intro b hb
      match b with
      | ⟨0, _⟩ => rfl
      | ⟨1, _⟩ => exact absurd rfl hb
      | ⟨2, _⟩ => rfl
    · show (0 : ℕ) + 14 = (i 1).val
      omega
    exact (new_apply _ _).trans rfl
  · rw [dif_neg h]
    refine (concatenate_pair_apply_left (s₁ := S128x14x1024) (s₂ := S128x1x1024) _ _ _ _ i rfl (ix3 (i 0) ⟨(i 1).val, by omega⟩ (i 2) : S128x14x1024.Idx) ?_).trans ?_
    · intro b
      match b with
      | ⟨0, _⟩ => rfl
      | ⟨1, _⟩ => rfl
      | ⟨2, _⟩ => rfl
    refine (extractStridedSlice_apply ![0, 1, 0] _ _ _ (ix3 (i 0) (succ (i 1) h) (i 2) : S128x15x1024.Idx) fun a => ?_).trans rfl
    match a with
    | ⟨0, _⟩ => show (i 0).val = 0 + (i 0).val; omega
    | ⟨1, _⟩ => show (i 1).val + 1 = 1 + (i 1).val; omega
    | ⟨2, _⟩ => show (i 2).val = 0 + (i 2).val; omega

/-- Both layers' rows side by side. -/
theorem stacked (st : (⟨4, ![128, 2, 15, 1024]⟩ : Shape).Idx → EReal) (x y : (⟨3, ![128, 1, 1024]⟩ : Shape).Idx → EReal) (g : (⟨2, ![4, 1024]⟩ : Shape).Idx → EReal) :
    concatenate S128x2x15x1024 1
      [⟨S128x1x15x1024, broadcastInDim S128x1x15x1024 ![0, 2, 3] bcast_S128x15x1024_S128x1x15x1024_0_2_3 (pushArr st x g 0)⟩,
       ⟨S128x1x15x1024, broadcastInDim S128x1x15x1024 ![0, 2, 3] bcast_S128x15x1024_S128x1x15x1024_0_2_3 (pushArr st y g 1)⟩]
      concatenates_S128x1x15x1024_S128x1x15x1024_S128x2x15x1024_d1 = stepArr st x y g := by
  funext i
  unfold stepArr
  have hlt : (i 1).val < 2 := (i 1).isLt
  by_cases h : (i 1).val = 0
  · refine (concatenate_pair_apply_left (s₁ := S128x1x15x1024) (s₂ := S128x1x15x1024) _ _ _ _ i rfl (ix4 (i 0) 0 (i 2) (i 3) : S128x1x15x1024.Idx) ?_).trans ?_
    · intro b
      match b with
      | ⟨0, _⟩ => rfl
      | ⟨1, _⟩ => exact h.symm
      | ⟨2, _⟩ => rfl
      | ⟨3, _⟩ => rfl
    refine (layer_apply _ _).trans ?_
    have hl : i 1 = (0 : Fin 2) := Fin.ext h
    rw [hl]
    rfl
  · have h1 : (i 1).val = 1 := by omega
    refine (concatenate_pair_apply_right (s₁ := S128x1x15x1024) (s₂ := S128x1x15x1024) _ _ _ _ i rfl rfl (ix4 (i 0) 0 (i 2) (i 3) : S128x1x15x1024.Idx) ?_ ?_).trans ?_
    · intro b hb
      match b with
      | ⟨0, _⟩ => rfl
      | ⟨1, _⟩ => exact absurd rfl hb
      | ⟨2, _⟩ => rfl
      | ⟨3, _⟩ => rfl
    · exact h1.symm
    refine (layer_apply _ _).trans ?_
    have hl : i 1 = (1 : Fin 2) := Fin.ext h1
    rw [hl]
    rfl

variable (m : (ℓ : Loc nD τ sig) → Buf (Elt Ideal) ℓ) (ρ : Dev nD → PrngReg) (c : Dev nD)

/-- The rows before the first pooling layer. -/
theorem V1_x (r : Fin 128) (j : Fin 1024) : (V1 m ρ c main_v14 (ix2 r j) : EReal) = m ((c : Thread nD τ).loc main_arg0) (ix3 r 0 j) := by
  have h : V1 m ρ c main_v14 = shapeCast S128x1024 (m ((c : Thread nD τ).loc main_arg0)) shapeCasts_S128x1x1024_S128x1024 := by
    show StableHlo.after hostOps0 (fun b => m (c, b)) (Proc.tc.devRef main_v14) = _
    unfold hostOps0
    after_results_simp
    rfl
  rw [h]
  exact flat_apply _ _ r j

/-- The first layer's norm. -/
theorem V1_g (k : Fin 1024) : (V1 m ρ c main_v2 (ix2 0 k) : EReal) = m ((c : Thread nD τ).loc main_arg5) (ix2 0 k) := by
  have h : V1 m ρ c main_v2 = shapeCast S1x1024 (shapeCast S1024 (extractStridedSlice S1x1024 ![0, 0] (m ((c : Thread nD τ).loc main_arg5)) slices_S4x1024_S1x1024_0_0) shapeCasts_S1x1024_S1024) shapeCasts_S1024_S1x1024 := by
    show StableHlo.after hostOps0 (fun b => m (c, b)) (Proc.tc.devRef main_v2) = _
    unfold hostOps0
    after_results_simp
    rfl
  rw [h]
  pointwise

/-- The first layer's kept rows. -/
theorem V1_state : V1 m ρ c main_v13 = layerState (m ((c : Thread nD τ).loc main_arg2)) 0 := by
  refine Eq.trans ?_ (state0_eq _)
  show StableHlo.after hostOps0 (fun b => m (c, b)) (Proc.tc.devRef main_v13) = _
  unfold hostOps0
  after_results_simp
  rfl

/-- The rows before the last pooling layer. -/
theorem V3_x (r : Fin 128) (j : Fin 1024) : (V3 m ρ c main_v33 (ix2 r j) : EReal) = m ((c : Thread nD τ).loc main_arg1) (ix3 r 0 j) := by
  have h : V3 m ρ c main_v33 = shapeCast S128x1024 (m ((c : Thread nD τ).loc main_arg1)) shapeCasts_S128x1x1024_S128x1024 := by
    rw [← W2_args m ρ c main_arg1 (by decide)]
    show StableHlo.after hostOps1 (W2 m ρ c) (Proc.tc.devRef main_v33) = _
    unfold hostOps1
    after_results_simp
    rfl
  rw [h]
  exact flat_apply _ _ r j

/-- The last layer's norm. -/
theorem V3_g (k : Fin 1024) : (V3 m ρ c main_v21 (ix2 0 k) : EReal) = m ((c : Thread nD τ).loc main_arg5) (ix2 2 k) := by
  have h : V3 m ρ c main_v21 = shapeCast S1x1024 (shapeCast S1024 (extractStridedSlice S1x1024 ![2, 0] (m ((c : Thread nD τ).loc main_arg5)) slices_S4x1024_S1x1024_2_0) shapeCasts_S1x1024_S1024) shapeCasts_S1024_S1x1024 := by
    rw [← W2_args m ρ c main_arg5 (by decide)]
    show StableHlo.after hostOps1 (W2 m ρ c) (Proc.tc.devRef main_v21) = _
    unfold hostOps1
    after_results_simp
    rfl
  rw [h]
  pointwise

/-- The last layer's kept rows. -/
theorem W4_state : W4 m ρ c main_v32 = layerState (m ((c : Thread nD τ).loc main_arg2)) 1 := by
  refine (W4_of m ρ c main_v32 (by decide)).trans (Eq.trans ?_ (state1_eq _))
  rw [← W2_args m ρ c main_arg2 (by decide)]
  show StableHlo.after hostOps1 (W2 m ρ c) (Proc.tc.devRef main_v32) = _
  unfold hostOps1
  after_results_simp
  rfl

/-- The first layer's kept rows stay over the first layer. -/
theorem W2_state : W2 m ρ c main_v13 = layerState (m ((c : Thread nD τ).loc main_arg2)) 0 := (W2_of m ρ c main_v13 (by decide)).trans (V1_state m ρ c)

/-- The first layer's rows. -/
theorem W2_rows : W2 m ρ c main_v15_1 = rowsArr (m ((c : Thread nD τ).loc main_arg0)) (m ((c : Thread nD τ).loc main_arg5)) 0 := by
  rw [← arr0 (V1 m ρ) c _ _ (V1_x m ρ c) (V1_g m ρ c), ← W2_arr m ρ c 7]

/-- The last layer's rows. -/
theorem W4_rows : W4 m ρ c main_v34_1 = rowsArr (m ((c : Thread nD τ).loc main_arg1)) (m ((c : Thread nD τ).loc main_arg5)) 1 := by
  rw [← arr1 (V3 m ρ) c _ _ (V3_x m ρ c) (V3_g m ρ c), ← W4_arr m ρ c 7]

/-- The first layer's state, as the host's last operations find it. -/
theorem W4_first : W4 m ρ c main_v18 = pushArr (m ((c : Thread nD τ).loc main_arg2)) (m ((c : Thread nD τ).loc main_arg0)) (m ((c : Thread nD τ).loc main_arg5)) 0 := by
  refine (W4_of_ne m ρ c main_v18 (by decide)).trans (Eq.trans ?_ (pushed _ _ _ 0))
  rw [← W2_state m ρ c, ← W2_rows m ρ c]
  show StableHlo.after hostOps1 (W2 m ρ c) (Proc.tc.devRef main_v18) = _
  unfold hostOps1
  after_results_simp
  rfl

/-- Both layers' states. -/
theorem W5_state : W5 m ρ c main_v40 = stepArr (m ((c : Thread nD τ).loc main_arg2)) (m ((c : Thread nD τ).loc main_arg0)) (m ((c : Thread nD τ).loc main_arg1)) (m ((c : Thread nD τ).loc main_arg5)) := by
  refine Eq.trans ?_ (stacked _ _ _ _)
  rw [← pushed _ _ _ 1, ← W4_first m ρ c, ← W4_state m ρ c, ← W4_rows m ρ c]
  show StableHlo.after hostOps2 (W4 m ρ c) (Proc.tc.devRef main_v40) = _
  unfold hostOps2
  after_results_simp
  rfl

/-- After a run the result holds both pooling layers' states. -/
theorem run_result : θ_run defs (onTc (τ := τ) (main (F := Ideal))) ⟨m, fun _ => 0, ρ⟩ (fun r => ∀ c : Dev nD,
    r.2.mem ((c.tc : Thread nD τ).loc main_v40) = stepArr (m ((c : Thread nD τ).loc main_arg2)) (m ((c : Thread nD τ).loc main_arg0)) (m ((c : Thread nD τ).loc main_arg1)) (m ((c : Thread nD τ).loc main_arg5))) :=
  (θ_run defs _ _).mono (fun r h c => (h c _ (mem_uc main_v40 (by decide))).trans (W5_state m ρ c)) (run_all m ρ)

end Cert.Pool7

end
-- ==== Proof.Pool7Ref.lean ====
/- What the reference of the pooling states of the step of the sample returns. -/
module

public import proofs.«01_k».proof.Proof.PoolMath
public import proofs.«01_k».proof.Proof.Gen.Reference7Ideal.Read
public import proofs.«01_k».proof.Proof.Gen.Reference7Ideal.Run

@[expose] public section

noncomputable section

namespace Cert.Pool7.Ref

open Cert.Reference7Ideal Cert.Reference7Ideal.Gen Cert.Reference7Ideal.Read Cert.Ffn Cert.Flat Cert.Qkv Cert.Pool Idealize.ShloMosaic

variable (x y : S128x1x1024.Idx → EReal) (st : S128x2x15x1024.Idx → EReal) (g : S4x1024.Idx → EReal)

/-- The first layer's norm factors. -/
theorem g0_eq (i : S1024.Idx) : val_main_v1 (F := Ideal) g i = g (ix2 0 (i 0)) := by
  rw [val_main_v1_apply, val_main_v0_apply]
  have h0 : (i 0).val < 1024 := (i 0).isLt
  exact congrArg g (ext2 rfl (by show (i 0).val % 1024 = (i 0).val; omega))

/-- The first layer's normalized rows. -/
theorem n0_eq (i : S128x1x1024.Idx) : val_main_v14 (F := Ideal) x g i = row g 0 (fun d => x (ix3 (i 0) (i 1) d)) (i 2) := by
  unfold row
  rw [val_main_v14_apply, val_main_v13_apply, val_main_v12_apply, g0_eq, val_main_v11_apply, val_main_v10_apply, val_main_v9_apply, val_main_v8_apply, val_main_v7_apply, val_main_cst_1_apply, val_main_v6_apply, val_main_v5_apply, val_main_cst_0_apply,
    val_main_v4_apply, val_main_v3_apply, val_main_cst_apply]
  exact norm_eq x (fun d => x (ix3 (i 0) (i 1) d)) (fun k => g (ix2 0 k)) (i 2) i _ _ (congrArg x (ext3 rfl rfl rfl))
    (fun k => congrArg x (ext3 rfl (by have h1 : (i 1).val < 1 := (i 1).isLt; show (0 : ℕ) = (i 1).val; omega) rfl)) rfl

/-- The last layer's norm factors. -/
theorem g1_eq (i : S1024.Idx) : val_main_v20 (F := Ideal) g i = g (ix2 2 (i 0)) := by
  rw [val_main_v20_apply, val_main_v19_apply]
  have h0 : (i 0).val < 1024 := (i 0).isLt
  exact congrArg g (ext2 rfl (by show (i 0).val % 1024 = (i 0).val; omega))

/-- The last layer's normalized rows. -/
theorem n1_eq (i : S128x1x1024.Idx) : val_main_v33 (F := Ideal) y g i = row g 1 (fun d => y (ix3 (i 0) (i 1) d)) (i 2) := by
  unfold row
  rw [val_main_v33_apply, val_main_v32_apply, val_main_v31_apply, g1_eq, val_main_v30_apply, val_main_v29_apply, val_main_v28_apply, val_main_v27_apply, val_main_v26_apply, val_main_cst_4_apply, val_main_v25_apply, val_main_v24_apply, val_main_cst_3_apply,
    val_main_v23_apply, val_main_v22_apply, val_main_cst_2_apply]
  exact norm_eq y (fun d => y (ix3 (i 0) (i 1) d)) (fun k => g (ix2 2 k)) (i 2) i _ _ (congrArg y (ext3 rfl rfl rfl))
    (fun k => congrArg y (ext3 rfl (by have h1 : (i 1).val < 1 := (i 1).isLt; show (0 : ℕ) = (i 1).val; omega) rfl)) rfl

/-- The first layer's kept rows. -/
theorem kept0_eq (i : S128x15x1024.Idx) : val_main_v16 (F := Ideal) st i = st (ix4 (i 0) 0 (i 1) (i 2)) := by
  rw [val_main_v16_apply, val_main_v15_apply]
  have h0 : (i 0).val < 128 := (i 0).isLt
  have h1 : (i 1).val < 15 := (i 1).isLt
  have h2 : (i 2).val < 1024 := (i 2).isLt
  exact congrArg st (ext4 (by show (((i 0).val * 15 + (i 1).val) * 1024 + (i 2).val) / 15360 = (i 0).val; omega) rfl
    (by show (((i 0).val * 15 + (i 1).val) * 1024 + (i 2).val) / 1024 % 15 = (i 1).val; omega)
    (by show (((i 0).val * 15 + (i 1).val) * 1024 + (i 2).val) % 1024 = (i 2).val; omega))

/-- The first layer's rows after the new one. -/
theorem push0_eq (i : S128x15x1024.Idx) : val_main_v18 (F := Ideal) x st g i = pushArr st x g 0 i := by
  rw [val_main_v18_apply]
  unfold val_main_v17 pushArr
  have hlt : (i 1).val < 15 := (i 1).isLt
  by_cases h : (i 1).val = 14
  · rw [dif_pos h]
    refine (concatenate_pair_apply_right (s₁ := S128x15x1024) (s₂ := S128x1x1024) _ _ _ _ (idx_main_v18 i) rfl rfl (ix3 (i 0) 0 (i 2) : S128x1x1024.Idx) ?_ ?_).trans ?_
    · intro b hb
      match b with
      | ⟨0, _⟩ => rfl
      | ⟨1, _⟩ => exact absurd rfl hb
      | ⟨2, _⟩ => rfl
    · show (0 : ℕ) + 15 = 1 + (i 1).val
      omega
    exact n0_eq _ _ _
  · rw [dif_neg h]
    refine (concatenate_pair_apply_left (s₁ := S128x15x1024) (s₂ := S128x1x1024) _ _ _ _ (idx_main_v18 i) rfl (ix3 (i 0) (succ (i 1) h) (i 2) : S128x15x1024.Idx) ?_).trans ?_
    · intro b
      match b with
      | ⟨0, _⟩ => rfl
      | ⟨1, _⟩ => show (i 1).val + 1 = 1 + (i 1).val; omega
      | ⟨2, _⟩ => rfl
    exact kept0_eq _ _

/-- The last layer's kept rows. -/
theorem kept1_eq (i : S128x15x1024.Idx) : val_main_v35 (F := Ideal) st i = st (ix4 (i 0) 1 (i 1) (i 2)) := by
  rw [val_main_v35_apply, val_main_v34_apply]
  have h0 : (i 0).val < 128 := (i 0).isLt
  have h1 : (i 1).val < 15 := (i 1).isLt
  have h2 : (i 2).val < 1024 := (i 2).isLt
  exact congrArg st (ext4 (by show (((i 0).val * 15 + (i 1).val) * 1024 + (i 2).val) / 15360 = (i 0).val; omega) rfl
    (by show (((i 0).val * 15 + (i 1).val) * 1024 + (i 2).val) / 1024 % 15 = (i 1).val; omega)
    (by show (((i 0).val * 15 + (i 1).val) * 1024 + (i 2).val) % 1024 = (i 2).val; omega))

/-- The last layer's rows after the new one. -/
theorem push1_eq (i : S128x15x1024.Idx) : val_main_v37 (F := Ideal) y st g i = pushArr st y g 1 i := by
  rw [val_main_v37_apply]
  unfold val_main_v36 pushArr
  have hlt : (i 1).val < 15 := (i 1).isLt
  by_cases h : (i 1).val = 14
  · rw [dif_pos h]
    refine (concatenate_pair_apply_right (s₁ := S128x15x1024) (s₂ := S128x1x1024) _ _ _ _ (idx_main_v37 i) rfl rfl (ix3 (i 0) 0 (i 2) : S128x1x1024.Idx) ?_ ?_).trans ?_
    · intro b hb
      match b with
      | ⟨0, _⟩ => rfl
      | ⟨1, _⟩ => exact absurd rfl hb
      | ⟨2, _⟩ => rfl
    · show (0 : ℕ) + 15 = 1 + (i 1).val
      omega
    exact n1_eq _ _ _
  · rw [dif_neg h]
    refine (concatenate_pair_apply_left (s₁ := S128x15x1024) (s₂ := S128x1x1024) _ _ _ _ (idx_main_v37 i) rfl (ix3 (i 0) (succ (i 1) h) (i 2) : S128x15x1024.Idx) ?_).trans ?_
    · intro b
      match b with
      | ⟨0, _⟩ => rfl
      | ⟨1, _⟩ => show (i 1).val + 1 = 1 + (i 1).val; omega
      | ⟨2, _⟩ => rfl
    exact kept1_eq _ _

/-- Both layers' states. -/
theorem state_eq : val_main_v40 (F := Ideal) x y st g = stepArr st x y g := by
  funext i
  unfold val_main_v40 stepArr
  have hlt : (i 1).val < 2 := (i 1).isLt
  by_cases h : (i 1).val = 0
  · refine (concatenate_pair_apply_left (s₁ := S128x1x15x1024) (s₂ := S128x1x15x1024) _ _ _ _ i rfl (ix4 (i 0) 0 (i 2) (i 3) : S128x1x15x1024.Idx) ?_).trans ?_
    · intro b
      match b with
      | ⟨0, _⟩ => rfl
      | ⟨1, _⟩ => exact h.symm
      | ⟨2, _⟩ => rfl
      | ⟨3, _⟩ => rfl
    refine ((val_main_v38_apply _ _ _ _).trans (push0_eq _ _ _ _)).trans ?_
    have hl : i 1 = (0 : Fin 2) := Fin.ext h
    rw [hl]
    exact congrArg (pushArr st x g 0) (ext3 rfl rfl rfl)
  · have h1 : (i 1).val = 1 := by omega
    refine (concatenate_pair_apply_right (s₁ := S128x1x15x1024) (s₂ := S128x1x15x1024) _ _ _ _ i rfl rfl (ix4 (i 0) 0 (i 2) (i 3) : S128x1x15x1024.Idx) ?_ ?_).trans ?_
    · intro b hb
      match b with
      | ⟨0, _⟩ => rfl
      | ⟨1, _⟩ => exact absurd rfl hb
      | ⟨2, _⟩ => rfl
      | ⟨3, _⟩ => rfl
    · exact h1.symm
    refine ((val_main_v39_apply _ _ _ _).trans (push1_eq _ _ _ _)).trans ?_
    have hl : i 1 = (1 : Fin 2) := Fin.ext h1
    rw [hl]
    exact congrArg (pushArr st y g 1) (ext3 rfl rfl rfl)

end Cert.Pool7.Ref

end
-- ==== Proof.Pool7.lean ====
/- The pooling kernel of the step of the sample and the reference leave the same states. -/
module

public import proofs.«01_k».proof.Proof.Pool7Result
public import proofs.«01_k».proof.Proof.Pool7Ref
public import proofs.«01_k».proof.Defs

@[expose] public section

noncomputable section

namespace Cert.Pool7

open Cert.Pool Idealize.ShloMosaic Idealize.SL.Sem

/-- Both programs run and leave the same states of the same arguments. -/
theorem algebraic : Cert.algebraic_Kernel7Ideal_Reference7Ideal (hKernel7Ideal := Cert.Kernel7Ideal.Gen.facts) (hReference7Ideal := Cert.Reference7Ideal.Gen.facts) := by
  intro m g m' g' _ hm
  refine ⟨fun c => stepArr (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg5)), ?_, ?_⟩
  · refine (θ_run _ _ _).mono (fun r h c => ?_) (θ_run_and (run_result m g) (Cert.Kernel7Ideal.Gen.frame m g))
    exact ⟨h.1 c, h.2.1 c⟩
  · refine (θ_run _ _ _).mono (fun r h c => ?_) (Cert.Reference7Ideal.Value.run m' g')
    obtain ⟨e0, e1, e2, -, -, e5, -⟩ := hm c
    refine ⟨(h c).1.trans ?_, (h c).2⟩
    rw [Cert.Reference7Ideal.Read.val_main_v40_eq, e0, e1, e2, e5]
    exact Ref.state_eq _ _ _ _

end Cert.Pool7

end
-- ==== Proof.Pool8Run.lean ====
/- The run of the pooling kernel of the prompt: the arrays it leaves, as the program's boundaries hold them. -/
module

public import proofs.«01_k».proof.Proof.PoolMath
public import proofs.«01_k».proof.Proof.Gen.Kernel8Ideal.Frame

@[expose] public section

noncomputable section

namespace Cert.Pool8

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- After a run every array the host holds is as the program's boundaries leave it, the last one after the host's last operations. -/
theorem run_all : θ_run defs (onTc (τ := τ) (main (F := Ideal))) ⟨m, fun _ => 0, ρ⟩ (fun r => ∀ c : Dev nD, ∀ b ∈ Pipeline.ucRefs τ sig,
      r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Pool8

end
-- ==== Proof.Pool8Point.lean ====
/- What a grid point of the pooling kernel of the prompt leaves of the normalized rows. -/
module

public import proofs.«01_k».proof.Proof.Gen.Kernel8Ideal.Frame
public import proofs.«01_k».proof.Proof.Gen.Kernel8Ideal.Skeleton
public import Idealize.ShloMosaic.Lib.VecWindow

@[expose] public section

set_option maxRecDepth 16384
set_option maxHeartbeats 1000000

noncomputable section

namespace Cert.Pool8

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Loading a whole buffer of shape `S1x1024` reads what it holds. -/
theorem load_S1x1024 {e : EltTy} {m : Memref sig .tc .vmem S1x1024 e} (h : m.IsWhole) (X : Vec F S1x1024 e) :
    View.readAt (Elt F) m.view (Rect.unit (s := S1x1024) ![0, 0] ![1, 1024] inb_S1x1024_S1x1024_0_0).toLoadRect (h.unread X) = X :=
  (View.readAt_full m.view _ inb_S1x1024_S1x1024_0_0).trans (h.read_unread X)

/-- A store over a whole buffer of shape `S1x1024` leaves what was stored. -/
theorem stored_S1x1024 {e : EltTy} (m : Memref sig .tc .vmem S1x1024 e) (f : m.view.ty.Contents (Elt F)) (w : Vec F S1x1024 e) (L : List (View.Piece (Elt F) S1x1024 e)) :
    m.view.read (Elt F) (m.view.writes (Elt F) f (⟨Rect.unit (s := S1x1024) ![0, 0] ![1, 1024] inb_S1x1024_S1x1024_0_0, w⟩ :: L)) = w :=
  View.read_writes_full m.view f inb_S1x1024_S1x1024_0_0 w L

/-- Loading a whole buffer of shape `S1x16x1024` reads what it holds. -/
theorem load_S1x16x1024 {e : EltTy} {m : Memref sig .tc .vmem S1x16x1024 e} (h : m.IsWhole) (X : Vec F S1x16x1024 e) :
    View.readAt (Elt F) m.view (Rect.unit (s := S1x16x1024) ![0, 0, 0] ![1, 16, 1024] inb_S1x16x1024_S1x16x1024_0_0_0).toLoadRect (h.unread X) = X :=
  (View.readAt_full m.view _ inb_S1x16x1024_S1x16x1024_0_0_0).trans (h.read_unread X)

/-- A store over a whole buffer of shape `S1x16x1024` leaves what was stored. -/
theorem stored_S1x16x1024 {e : EltTy} (m : Memref sig .tc .vmem S1x16x1024 e) (f : m.view.ty.Contents (Elt F)) (w : Vec F S1x16x1024 e) (L : List (View.Piece (Elt F) S1x16x1024 e)) :
    m.view.read (Elt F) (m.view.writes (Elt F) f (⟨Rect.unit (s := S1x16x1024) ![0, 0, 0] ![1, 16, 1024] inb_S1x16x1024_S1x16x1024_0_0_0, w⟩ :: L)) = w :=
  View.read_writes_full m.view f inb_S1x16x1024_S1x16x1024_0_0_0 w L

/-- A load through a rectangle reads the window of what the buffer holds there. -/
theorem load_window {s : Shape} {e : EltTy} {m : Memref sig .tc .vmem s e} (h : m.IsWhole) (X : s.Idx → Elt F e) (off size : Fin s.rank → ℕ) (inb : ∀ a, off a + size a ≤ s.size a) :
    View.readAt (Elt F) m.view (Rect.unit off size inb).toLoadRect (h.unread X) = VecWindow.window X off size inb :=
  (View.readAt_unit m.view _ inb rfl inb).trans (by rw [h.read_unread])

/-- The first layer's point leaves the normalized rows. -/
theorem out0_A_8_eq (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S4x256x384 .bf16) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x16x1024 .f32) (harg10 : arg10.IsWhole) (arg11 : Memref sig .tc .vmem S512x1024 .f32) (harg11 : arg11.IsWhole)
    (x0 : Vec F S1x512x1024 .f32) (x1 : Vec F S1x128x1024 .f32) (x2 : Vec F S4x256x384 .bf16) (x3 : Vec F S4x256x256 .bf16) (x4 : Vec F S1x1024 .f32) (x5 : Vec F S1x1024 .f32) (x6 : Vec F S1x1024 .f32) :
    out0_A_8 c i arg2 harg2 arg3 harg3 arg4 harg4 arg5 harg5 arg6 harg6 arg7 harg7 arg8 harg8 arg9 harg9 arg10 harg10 arg11 harg11 x0 x1 x2 x3 x4 x5 x6 = k0_pay1 (k0_pay35 (k0_pay19 (VecWindow.window x0 ![0, 256, 0] ![1, 256, 1024] inb_S1x512x1024_S1x256x1024_0_256_0) x5)) := by
  unfold out0_A_8
  dsimp only [kernelRun0_A]
  try simp only [kernelRun0_A.sl.r_19, kernelRun0_A.sl.r_10]
  simp only [load_S1x1024, load_S1x16x1024, stored_S1x1024, stored_S1x16x1024]
  try simp only [load_window]
  try rfl

/-- The last layer's point leaves the normalized rows. -/
theorem out1_A_8_eq (c : Dev nD) (i : grid1.Coords) (arg2 : Memref sig .tc .vmem S1x512x1024 .f32) (harg2 : arg2.IsWhole) (arg3 : Memref sig .tc .vmem S1x128x1024 .f32) (harg3 : arg3.IsWhole) (arg4 : Memref sig .tc .vmem S4x256x384 .bf16) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x16x1024 .f32) (harg10 : arg10.IsWhole) (arg11 : Memref sig .tc .vmem S512x1024 .f32) (harg11 : arg11.IsWhole)
    (x0 : Vec F S1x512x1024 .f32) (x1 : Vec F S1x128x1024 .f32) (x2 : Vec F S4x256x384 .bf16) (x3 : Vec F S4x256x256 .bf16) (x4 : Vec F S1x1024 .f32) (x5 : Vec F S1x1024 .f32) (x6 : Vec F S1x1024 .f32) :
    out1_A_8 c i arg2 harg2 arg3 harg3 arg4 harg4 arg5 harg5 arg6 harg6 arg7 harg7 arg8 harg8 arg9 harg9 arg10 harg10 arg11 harg11 x0 x1 x2 x3 x4 x5 x6 = k1_pay1 (k1_pay35 (k1_pay19 (VecWindow.window x0 ![0, 256, 0] ![1, 256, 1024] inb_S1x512x1024_S1x256x1024_0_256_0) x5)) := by
  unfold out1_A_8
  dsimp only [kernelRun1_A]
  try simp only [kernelRun1_A.sl.r_19, kernelRun1_A.sl.r_10]
  simp only [load_S1x1024, load_S1x16x1024, stored_S1x1024, stored_S1x16x1024]
  try simp only [load_window]
  try rfl

end Cert.Pool8

end
-- ==== Proof.Pool8Region.lean ====
/- The arrays of normalized rows the pooling kernel of the prompt leaves. -/
module

public import proofs.«01_k».proof.Proof.Pool8Run
public import proofs.«01_k».proof.Proof.Pool8Point
public import Idealize.ShloMosaic.Lib.Pointwise
public import Idealize.ShloMosaic.Lib.Pipeline.ValueKit.Point
public import Idealize.ShloMosaic.Lib.Pipeline.ValueKit.Geometry
public import Idealize.ShloMosaic.Lib.Pipeline.ValueKit.Tiles

@[expose] public section

noncomputable section

namespace Cert.Pool8

open Cert.Kernel8Ideal Cert.Kernel8Ideal.Gen Cert.Ffn Cert.Flat Cert.Qkv Cert.Pool
open Idealize.ShloMosaic Idealize.ShloMosaic.TcCoe Idealize.SL.Sem

/-- The place in the prompt of a kept row: the last sixteen rows of each block of 512. -/
def place (q : Fin 64) : Fin 2048 := ⟨512 * (q.val / 16) + 496 + q.val % 16, by have := q.isLt; omega⟩

/-- The kept rows of all blocks of a layer. -/
def tailArr (x : (⟨3, ![8, 2048, 1024]⟩ : Shape).Idx → EReal) (g : (⟨2, ![4, 1024]⟩ : Shape).Idx → EReal) (l : Fin 2) : (⟨3, ![8, 64, 1024]⟩ : Shape).Idx → EReal := fun i =>
  row g l (fun d => x (ix3 (i 0) (place (i 1)) d)) (i 2)

/-- The first layer's normalized rows of half a block. -/
theorem pay0_rows (x : Vec Ideal S1x256x1024 .f32) (g : Vec Ideal S1x1024 .f32) (a : Fin 256) (j : Fin 1024) :
    (k0_pay19 x g (ix2 a j) : EReal) = nrm (fun k => x (ix3 0 a k)) (fun k => g (ix2 0 k)) j := by
  unfold k0_pay19 k0_pay18 nrm rinv
  pointwise

/-- The first layer's last sixteen rows of a half block. -/
theorem pay0_tail (v : FVec Ideal S256x1024 .f32) (a : Fin 16) (j : Fin 1024) :
    (k0_pay1 (k0_pay35 v) (ix3 0 a j) : EReal) = v (ix2 ⟨240 + a.val, by have := a.isLt; omega⟩ j) := by
  unfold k0_pay1 k0_pay35
  pointwise

/-- The last layer's normalized rows of half a block. -/
theorem pay1_rows (x : Vec Ideal S1x256x1024 .f32) (g : Vec Ideal S1x1024 .f32) (a : Fin 256) (j : Fin 1024) :
    (k1_pay19 x g (ix2 a j) : EReal) = nrm (fun k => x (ix3 0 a k)) (fun k => g (ix2 0 k)) j := by
  unfold k1_pay19 k1_pay18 nrm rinv
  pointwise

/-- The last layer's last sixteen rows of a half block. -/
theorem pay1_tail (v : FVec Ideal S256x1024 .f32) (a : Fin 16) (j : Fin 1024) :
    (k1_pay1 (k1_pay35 v) (ix3 0 a j) : EReal) = v (ix2 ⟨240 + a.val, by have := a.isLt; omega⟩ j) := by
  unfold k1_pay1 k1_pay35
  pointwise

/-- The second half of a block. -/
theorem half_apply (x : Vec Ideal S1x512x1024 .f32) (a : Fin 256) (j : Fin 1024) :
    (VecWindow.window x ![0, 256, 0] ![1, 256, 1024] inb_S1x512x1024_S1x256x1024_0_256_0 (ix3 0 a j : (⟨3, ![1, 256, 1024]⟩ : Shape).Idx) : EReal) = x (ix3 0 ⟨256 + a.val, by have := a.isLt; omega⟩ j) := by
  unfold VecWindow.window
  refine congrArg x (funext fun b => Fin.ext ?_)
  match b with
  | ⟨0, _⟩ => rfl
  | ⟨1, _⟩ => show 256 + 1 * a.val = 256 + a.val; omega
  | ⟨2, _⟩ => show 0 + 1 * j.val = j.val; omega

theorem e00 : ∀ t : Fin cfg0.N, win0_0.index t = ![t.val / 4, t.val % 4, 0] := (by decide +kernel : ∀ t : Fin grid0.N, _)
theorem e05 : ∀ t : Fin cfg0.N, win0_5.index t = ![0, 0] := (by decide +kernel : ∀ t : Fin grid0.N, _)
theorem e08 : ∀ t : Fin cfg0.N, win0_8.index t = ![t.val / 4, t.val % 4, 0] := (by decide +kernel : ∀ t : Fin grid0.N, _)
theorem e10 : ∀ t : Fin cfg1.N, win1_0.index t = ![t.val / 4, t.val % 4, 0] := (by decide +kernel : ∀ t : Fin grid1.N, _)
theorem e15 : ∀ t : Fin cfg1.N, win1_5.index t = ![0, 0] := (by decide +kernel : ∀ t : Fin grid1.N, _)
theorem e18 : ∀ t : Fin cfg1.N, win1_8.index t = ![t.val / 4, t.val % 4, 0] := (by decide +kernel : ∀ t : Fin grid1.N, _)

variable (V : (c : Dev nD) → (b : Ref sig .tc) → Buf (Elt Ideal) ((c : Thread nD τ).loc b)) (c : Dev nD)
variable (X : (⟨3, ![8, 2048, 1024]⟩ : Shape).Idx → EReal) (g : (⟨2, ![4, 1024]⟩ : Shape).Idx → EReal)

section First

variable (t : Fin cfg0.N)
  (hx : ∀ (b : Fin 8) (a : Fin 2048) (j : Fin 1024), (V c main_arg0 (ix3 b a j) : EReal) = X (ix3 b a j)) (hg : ∀ k : Fin 1024, (V c main_v53 (ix2 0 k) : EReal) = g (ix2 0 k))

include hx in
/-- The first layer's block of rows. -/
theorem blk00 (a : Fin 512) (j : Fin 1024) (b : Fin 8) (q : Fin 2048) (hb : b.val = t.val / 4) (hq : q.val = 512 * (t.val % 4) + a.val) : (iblk0 V c 0 t (ix3 0 a j) : EReal) = X (ix3 b q j) := by
  rw [← hx]
  show V c main_arg0 (((View.whole main_arg0).slice (win0_0.rect t)).emb (ix3 0 a j)) = _
  have h0 : ((((View.whole main_arg0).slice (win0_0.rect t)).emb (ix3 0 a j)) 0).val = b.val := by blk_simp [e00 t] <;> first | rfl | omega
  have h1 : ((((View.whole main_arg0).slice (win0_0.rect t)).emb (ix3 0 a j)) 1).val = q.val := by blk_simp [e00 t] <;> first | rfl | omega
  have h2 : ((((View.whole main_arg0).slice (win0_0.rect t)).emb (ix3 0 a j)) 2).val = j.val := by blk_simp [e00 t] <;> first | rfl | omega
  exact congrArg (V c main_arg0) (ext3 h0 h1 h2)

include hg in
/-- The first layer's block of norm factors. -/
theorem blk05 (j : Fin 1024) : (iblk0 V c 5 t (ix2 0 j) : EReal) = g (ix2 0 j) := by
  rw [← hg]
  show V c main_v53 (((View.whole main_v53).slice (win0_5.rect t)).emb (ix2 0 j)) = _
  have h0 : ((((View.whole main_v53).slice (win0_5.rect t)).emb (ix2 0 j)) 0).val = 0 := by blk_simp [e05 t] <;> first | rfl | omega
  have h1 : ((((View.whole main_v53).slice (win0_5.rect t)).emb (ix2 0 j)) 1).val = j.val := by blk_simp [e05 t] <;> first | rfl | omega
  exact congrArg (V c main_v53) (ext2 h0 h1)

/-- What a point of the first layer leaves. -/
theorem outs0 : (outsAt0 V c t).2 = k0_pay1 (k0_pay35 (k0_pay19 (VecWindow.window (iblk0 V c 0 t) ![0, 256, 0] ![1, 256, 1024] inb_S1x512x1024_S1x256x1024_0_256_0) (iblk0 V c 5 t))) := by
  unfold outsAt0
  dsimp only
  rw [out0_A_8_eq]

include hx hg in
/-- What a point of the first layer leaves, at an entry. -/
theorem point0 (a : Fin 16) (j : Fin 1024) (b : Fin 8) (q : Fin 64) (hb : b.val = t.val / 4) (hq : q.val = 16 * (t.val % 4) + a.val) :
    ((dat0 V c).after 8 t (ix3 0 a j) : EReal) = tailArr X g 0 (ix3 b q j) := by
  rw [after0_8, outs0]
  have ha : a.val < 16 := a.isLt
  refine (pay0_tail _ a j).trans ((pay0_rows _ _ _ j).trans ?_)
  unfold tailArr row
  refine congrArg₂ (fun u v => nrm u v j) (funext fun k => (half_apply _ _ k).trans ?_) (funext fun k => blk05 V c g t hg k)
  refine blk00 V c X t hx _ k b (place q) hb ?_
  show 512 * (q.val / 16) + 496 + q.val % 16 = 512 * (t.val % 4) + (256 + (240 + a.val))
  omega

include hx hg in
/-- The array of kept rows after the first layer. -/
theorem arr0 : (dat0 V c).arrAt 8 cfg0.N = tailArr X g 0 := by
  refine (dat0 V c).arrAt_eq_of_covers 8 _ (by decide +kernel) fun t hf y => ?_
  blk_simp [e08 t]
  have ht : t.val < 32 := lt_of_lt_of_eq t.isLt (by decide +kernel : cfg0.N = 32)
  have y0 : (y 0).val < 1 := (y 0).isLt
  have y1 : (y 1).val < 16 := (y 1).isLt
  have hy : y = (ix3 0 (y 1) (y 2) : (⟨3, ![1, 16, 1024]⟩ : Shape).Idx) := ext3 (by show (y 0).val = 0; omega) rfl rfl
  have h0 : ((win0_8.blk t).view.emb y 0).val = t.val / 4 := by blk_simp [e08 t] <;> first | rfl | omega
  have h1 : ((win0_8.blk t).view.emb y 1).val = 16 * (t.val % 4) + (y 1).val := by blk_simp [e08 t] <;> first | rfl | omega
  have h2 : ((win0_8.blk t).view.emb y 2).val = (y 2).val := by blk_simp [e08 t] <;> first | rfl | omega
  refine Eq.trans (congrArg ((dat0 V c).after 8 t) hy) ?_
  refine (point0 V c X g t hx hg (y 1) (y 2) ⟨t.val / 4, by omega⟩ ⟨16 * (t.val % 4) + (y 1).val, by omega⟩ rfl rfl).trans ?_
  exact congrArg (tailArr X g 0) (ext3 h0.symm h1.symm h2.symm)

end First

section Last

variable (t : Fin cfg1.N)
  (hx : ∀ (b : Fin 8) (a : Fin 2048) (j : Fin 1024), (V c main_arg1 (ix3 b a j) : EReal) = X (ix3 b a j)) (hg : ∀ k : Fin 1024, (V c main_v67 (ix2 0 k) : EReal) = g (ix2 2 k))

include hx in
/-- The last layer's block of rows. -/
theorem blk10 (a : Fin 512) (j : Fin 1024) (b : Fin 8) (q : Fin 2048) (hb : b.val = t.val / 4) (hq : q.val = 512 * (t.val % 4) + a.val) : (iblk1 V c 0 t (ix3 0 a j) : EReal) = X (ix3 b q j) := by
  rw [← hx]
  show V c main_arg1 (((View.whole main_arg1).slice (win1_0.rect t)).emb (ix3 0 a j)) = _
  have h0 : ((((View.whole main_arg1).slice (win1_0.rect t)).emb (ix3 0 a j)) 0).val = b.val := by blk_simp [e10 t] <;> first | rfl | omega
  have h1 : ((((View.whole main_arg1).slice (win1_0.rect t)).emb (ix3 0 a j)) 1).val = q.val := by blk_simp [e10 t] <;> first | rfl | omega
  have h2 : ((((View.whole main_arg1).slice (win1_0.rect t)).emb (ix3 0 a j)) 2).val = j.val := by blk_simp [e10 t] <;> first | rfl | omega
  exact congrArg (V c main_arg1) (ext3 h0 h1 h2)

include hg in
/-- The last layer's block of norm factors. -/
theorem blk15 (j : Fin 1024) : (iblk1 V c 5 t (ix2 0 j) : EReal) = g (ix2 2 j) := by
  rw [← hg]
  show V c main_v67 (((View.whole main_v67).slice (win1_5.rect t)).emb (ix2 0 j)) = _
  have h0 : ((((View.whole main_v67).slice (win1_5.rect t)).emb (ix2 0 j)) 0).val = 0 := by blk_simp [e15 t] <;> first | rfl | omega
  have h1 : ((((View.whole main_v67).slice (win1_5.rect t)).emb (ix2 0 j)) 1).val = j.val := by blk_simp [e15 t] <;> first | rfl | omega
  exact congrArg (V c main_v67) (ext2 h0 h1)

/-- What a point of the last layer leaves. -/
theorem outs1 : (outsAt1 V c t).2 = k1_pay1 (k1_pay35 (k1_pay19 (VecWindow.window (iblk1 V c 0 t) ![0, 256, 0] ![1, 256, 1024] inb_S1x512x1024_S1x256x1024_0_256_0) (iblk1 V c 5 t))) := by
  unfold outsAt1
  dsimp only
  rw [out1_A_8_eq]

include hx hg in
/-- What a point of the last layer leaves, at an entry. -/
theorem point1 (a : Fin 16) (j : Fin 1024) (b : Fin 8) (q : Fin 64) (hb : b.val = t.val / 4) (hq : q.val = 16 * (t.val % 4) + a.val) :
    ((dat1 V c).after 8 t (ix3 0 a j) : EReal) = tailArr X g 1 (ix3 b q j) := by
  rw [after1_8, outs1]
  have ha : a.val < 16 := a.isLt
  refine (pay1_tail _ a j).trans ((pay1_rows _ _ _ j).trans ?_)
  unfold tailArr row
  refine congrArg₂ (fun u v => nrm u v j) (funext fun k => (half_apply _ _ k).trans ?_) (funext fun k => blk15 V c g t hg k)
  refine blk10 V c X t hx _ k b (place q) hb ?_
  show 512 * (q.val / 16) + 496 + q.val % 16 = 512 * (t.val % 4) + (256 + (240 + a.val))
  omega

include hx hg in
/-- The array of kept rows after the last layer. -/
theorem arr1 : (dat1 V c).arrAt 8 cfg1.N = tailArr X g 1 := by
  refine (dat1 V c).arrAt_eq_of_covers 8 _ (by decide +kernel) fun t hf y => ?_
  blk_simp [e18 t]
  have ht : t.val < 32 := lt_of_lt_of_eq t.isLt (by decide +kernel : cfg1.N = 32)
  have y0 : (y 0).val < 1 := (y 0).isLt
  have y1 : (y 1).val < 16 := (y 1).isLt
  have hy : y = (ix3 0 (y 1) (y 2) : (⟨3, ![1, 16, 1024]⟩ : Shape).Idx) := ext3 (by show (y 0).val = 0; omega) rfl rfl
  have h0 : ((win1_8.blk t).view.emb y 0).val = t.val / 4 := by blk_simp [e18 t] <;> first | rfl | omega
  have h1 : ((win1_8.blk t).view.emb y 1).val = 16 * (t.val % 4) + (y 1).val := by blk_simp [e18 t] <;> first | rfl | omega
  have h2 : ((win1_8.blk t).view.emb y 2).val = (y 2).val := by blk_simp [e18 t] <;> first | rfl | omega
  refine Eq.trans (congrArg ((dat1 V c).after 8 t) hy) ?_
  refine (point1 V c X g t hx hg (y 1) (y 2) ⟨t.val / 4, by omega⟩ ⟨16 * (t.val % 4) + (y 1).val, by omega⟩ rfl rfl).trans ?_
  exact congrArg (tailArr X g 1) (ext3 h0.symm h1.symm h2.symm)

end Last

end Cert.Pool8

end
-- ==== Proof.Pool8Result.lean ====
/- The pooling states the kernel of the prompt leaves. -/
module

public import proofs.«01_k».proof.Proof.Pool8Region

@[expose] public section

noncomputable section

namespace Cert.Pool8

open Cert.Kernel8Ideal Cert.Kernel8Ideal.Gen Cert.Ffn Cert.Flat Cert.Qkv Cert.Pool
open Idealize.ShloMosaic Idealize.ShloMosaic.TcCoe Idealize.SL.Sem

/-- A layer's rows with an axis for the layer. -/
theorem layer_apply (p : (⟨3, ![8, 15, 1024]⟩ : Shape).Idx → EReal) (i : S8x1x15x1024.Idx) :
    broadcastInDim S8x1x15x1024 ![0, 2, 3] bcast_S8x15x1024_S8x1x15x1024_0_2_3 p i = p (ix3 (i 0) (i 2) (i 3)) := by
  refine broadcastInDim_apply _ _ _ i (ix3 (i 0) (i 2) (i 3) : S8x15x1024.Idx) fun a => ?_
  match a with
  | ⟨0, _⟩ => show (i 0).val = if (8 : Nat) = 1 then 0 else (i 0).val; rw [if_neg (by decide)]
  | ⟨1, _⟩ => show (i 2).val = if (15 : Nat) = 1 then 0 else (i 2).val; rw [if_neg (by decide)]
  | ⟨2, _⟩ => show (i 3).val = if (1024 : Nat) = 1 then 0 else (i 3).val; rw [if_neg (by decide)]

/-- The last fifteen of a layer's kept rows are the prompt's last fifteen. -/
theorem tail_slice (x : (⟨3, ![8, 2048, 1024]⟩ : Shape).Idx → EReal) (g : (⟨2, ![4, 1024]⟩ : Shape).Idx → EReal) (l : Fin 2) :
    extractStridedSlice S8x15x1024 ![0, 49, 0] (tailArr x g l) slices_S8x64x1024_S8x15x1024_0_49_0 = lateArr x g l := by
  funext i
  have h1 : (i 1).val < 15 := (i 1).isLt
  refine (extractStridedSlice_apply ![0, 49, 0] _ _ i (ix3 (i 0) ⟨49 + (i 1).val, by omega⟩ (i 2) : S8x64x1024.Idx) fun a => ?_).trans ?_
  · match a with
    | ⟨0, _⟩ => show (i 0).val = 0 + (i 0).val; omega
    | ⟨1, _⟩ => rfl
    | ⟨2, _⟩ => show (i 2).val = 0 + (i 2).val; omega
  unfold tailArr lateArr
  refine congrArg (fun f => row g l f (i 2)) (funext fun d => congrArg x (ext3 rfl ?_ rfl))
  show 512 * ((49 + (i 1).val) / 16) + 496 + (49 + (i 1).val) % 16 = 2033 + (i 1).val
  omega

/-- Both layers' rows side by side. -/
theorem stacked (x y : (⟨3, ![8, 2048, 1024]⟩ : Shape).Idx → EReal) (g : (⟨2, ![4, 1024]⟩ : Shape).Idx → EReal) :
    concatenate S8x2x15x1024 1
      [⟨S8x1x15x1024, broadcastInDim S8x1x15x1024 ![0, 2, 3] bcast_S8x15x1024_S8x1x15x1024_0_2_3 (lateArr x g 0)⟩,
       ⟨S8x1x15x1024, broadcastInDim S8x1x15x1024 ![0, 2, 3] bcast_S8x15x1024_S8x1x15x1024_0_2_3 (lateArr y g 1)⟩]
      concatenates_S8x1x15x1024_S8x1x15x1024_S8x2x15x1024_d1 = keptArr x y g := by
  funext i
  unfold keptArr
  have hlt : (i 1).val < 2 := (i 1).isLt
  by_cases h : (i 1).val = 0
  · refine (concatenate_pair_apply_left (s₁ := S8x1x15x1024) (s₂ := S8x1x15x1024) _ _ _ _ i rfl (ix4 (i 0) 0 (i 2) (i 3) : S8x1x15x1024.Idx) ?_).trans ?_
    · intro b
      match b with
      | ⟨0, _⟩ => rfl
      | ⟨1, _⟩ => exact h.symm
      | ⟨2, _⟩ => rfl
      | ⟨3, _⟩ => rfl
    refine (layer_apply _ _).trans ?_
    have hl : i 1 = (0 : Fin 2) := Fin.ext h
    rw [hl]
    rfl
  · have h1 : (i 1).val = 1 := by omega
    refine (concatenate_pair_apply_right (s₁ := S8x1x15x1024) (s₂ := S8x1x15x1024) _ _ _ _ i rfl rfl (ix4 (i 0) 0 (i 2) (i 3) : S8x1x15x1024.Idx) ?_ ?_).trans ?_
    · intro b hb
      match b with
      | ⟨0, _⟩ => rfl
      | ⟨1, _⟩ => exact absurd rfl hb
      | ⟨2, _⟩ => rfl
      | ⟨3, _⟩ => rfl
    · exact h1.symm
    refine (layer_apply _ _).trans ?_
    have hl : i 1 = (1 : Fin 2) := Fin.ext h1
    rw [hl]
    rfl

variable (m : (ℓ : Loc nD τ sig) → Buf (Elt Ideal) ℓ) (ρ : Dev nD → PrngReg) (c : Dev nD)

/-- The rows before the first pooling layer. -/
theorem V1_x (b : Fin 8) (a : Fin 2048) (j : Fin 1024) : (V1 m ρ c main_arg0 (ix3 b a j) : EReal) = m ((c : Thread nD τ).loc main_arg0) (ix3 b a j) := by
  have h : V1 m ρ c main_arg0 = m ((c : Thread nD τ).loc main_arg0) := by
    show StableHlo.after hostOps0 (fun b => m (c, b)) (Proc.tc.devRef main_arg0) = _
    unfold hostOps0
    after_results_simp
  rw [h]

/-- The first layer's norm. -/
theorem V1_g (k : Fin 1024) : (V1 m ρ c main_v53 (ix2 0 k) : EReal) = m ((c : Thread nD τ).loc main_arg4) (ix2 0 k) := by
  have h : V1 m ρ c main_v53 = shapeCast S1x1024 (shapeCast S1024 (extractStridedSlice S1x1024 ![0, 0] (m ((c : Thread nD τ).loc main_arg4)) slices_S4x1024_S1x1024_0_0) shapeCasts_S1x1024_S1024) shapeCasts_S1024_S1x1024 := by
    show StableHlo.after hostOps0 (fun b => m (c, b)) (Proc.tc.devRef main_v53) = _
    unfold hostOps0
    after_results_simp
    rfl
  rw [h]
  pointwise

/-- The rows before the last pooling layer. -/
theorem V3_x (b : Fin 8) (a : Fin 2048) (j : Fin 1024) : (V3 m ρ c main_arg1 (ix3 b a j) : EReal) = m ((c : Thread nD τ).loc main_arg1) (ix3 b a j) := by
  have h : V3 m ρ c main_arg1 = m ((c : Thread nD τ).loc main_arg1) := by
    rw [← W2_args m ρ c main_arg1 (by decide)]
    show StableHlo.after hostOps1 (W2 m ρ c) (Proc.tc.devRef main_arg1) = _
    unfold hostOps1
    after_results_simp
  rw [h]

/-- The last layer's norm. -/
theorem V3_g (k : Fin 1024) : (V3 m ρ c main_v67 (ix2 0 k) : EReal) = m ((c : Thread nD τ).loc main_arg4) (ix2 2 k) := by
  have h : V3 m ρ c main_v67 = shapeCast S1x1024 (shapeCast S1024 (extractStridedSlice S1x1024 ![2, 0] (m ((c : Thread nD τ).loc main_arg4)) slices_S4x1024_S1x1024_2_0) shapeCasts_S1x1024_S1024) shapeCasts_S1024_S1x1024 := by
    rw [← W2_args m ρ c main_arg4 (by decide)]
    show StableHlo.after hostOps1 (W2 m ρ c) (Proc.tc.devRef main_v67) = _
    unfold hostOps1
    after_results_simp
    rfl
  rw [h]
  pointwise

/-- The first layer's last fifteen rows, as the host's last operations find them. -/
theorem W4_rows : W4 m ρ c main_v64 = lateArr (m ((c : Thread nD τ).loc main_arg0)) (m ((c : Thread nD τ).loc main_arg4)) 0 := by
  refine (W4_of_ne m ρ c main_v64 (by decide)).trans (Eq.trans ?_ (tail_slice _ _ 0))
  rw [← arr0 (V1 m ρ) c _ _ (V1_x m ρ c) (V1_g m ρ c), ← W2_arr m ρ c 8]
  show StableHlo.after hostOps1 (W2 m ρ c) (Proc.tc.devRef main_v64) = _
  unfold hostOps1
  after_results_simp

/-- The last layer's kept rows, as the host's last operations find them. -/
theorem W4_tail : W4 m ρ c main_v77_1 = tailArr (m ((c : Thread nD τ).loc main_arg1)) (m ((c : Thread nD τ).loc main_arg4)) 1 := by
  rw [← arr1 (V3 m ρ) c _ _ (V3_x m ρ c) (V3_g m ρ c), ← W4_arr m ρ c 8]

/-- Both layers' states. -/
theorem W5_state : W5 m ρ c main_v81 = keptArr (m ((c : Thread nD τ).loc main_arg0)) (m ((c : Thread nD τ).loc main_arg1)) (m ((c : Thread nD τ).loc main_arg4)) := by
  refine Eq.trans ?_ (stacked _ _ _)
  rw [← tail_slice _ _ 1, ← W4_tail m ρ c, ← W4_rows m ρ c]
  show StableHlo.after hostOps2 (W4 m ρ c) (Proc.tc.devRef main_v81) = _
  unfold hostOps2
  after_results_simp
  rfl

/-- After a run the result holds both pooling layers' states. -/
theorem run_result : θ_run defs (onTc (τ := τ) (main (F := Ideal))) ⟨m, fun _ => 0, ρ⟩ (fun r => ∀ c : Dev nD,
    r.2.mem ((c.tc : Thread nD τ).loc main_v81) = keptArr (m ((c : Thread nD τ).loc main_arg0)) (m ((c : Thread nD τ).loc main_arg1)) (m ((c : Thread nD τ).loc main_arg4))) :=
  (θ_run defs _ _).mono (fun r h c => (h c _ (mem_uc main_v81 (by decide))).trans (W5_state m ρ c)) (run_all m ρ)

end Cert.Pool8

end
-- ==== Proof.Pool8Ref.lean ====
/- What the reference of the pooling states of the prompt returns. -/
module

public import proofs.«01_k».proof.Proof.PoolMath
public import proofs.«01_k».proof.Proof.Gen.Reference8Ideal.Read
public import proofs.«01_k».proof.Proof.Gen.Reference8Ideal.Run

@[expose] public section

noncomputable section

namespace Cert.Pool8.Ref

open Cert.Reference8Ideal Cert.Reference8Ideal.Gen Cert.Reference8Ideal.Read Cert.Ffn Cert.Flat Cert.Qkv Cert.Pool Idealize.ShloMosaic

variable (x y : S8x2048x1024.Idx → EReal) (g : S4x1024.Idx → EReal)

/-- The first layer's norm factors. -/
theorem g0_eq (i : S1024.Idx) : val_main_v1 (F := Ideal) g i = g (ix2 0 (i 0)) := by
  rw [val_main_v1_apply, val_main_v0_apply]
  have h0 : (i 0).val < 1024 := (i 0).isLt
  exact congrArg g (ext2 rfl (by show (i 0).val % 1024 = (i 0).val; omega))

/-- The first layer's normalized rows. -/
theorem n0_eq (i : S8x2048x1024.Idx) : val_main_v14 (F := Ideal) x g i = row g 0 (fun d => x (ix3 (i 0) (i 1) d)) (i 2) := by
  unfold row
  rw [val_main_v14_apply, val_main_v13_apply, val_main_v12_apply, g0_eq, val_main_v11_apply, val_main_v10_apply, val_main_v9_apply, val_main_v8_apply, val_main_v7_apply, val_main_cst_1_apply, val_main_v6_apply, val_main_v5_apply, val_main_cst_0_apply,
    val_main_v4_apply, val_main_v3_apply, val_main_cst_apply]
  exact norm_eq x (fun d => x (ix3 (i 0) (i 1) d)) (fun k => g (ix2 0 k)) (i 2) i _ _ (congrArg x (ext3 rfl rfl rfl))
    (fun k => congrArg x (ext3 rfl (rfl) rfl)) rfl

/-- The last layer's norm factors. -/
theorem g1_eq (i : S1024.Idx) : val_main_v19 (F := Ideal) g i = g (ix2 2 (i 0)) := by
  rw [val_main_v19_apply, val_main_v18_apply]
  have h0 : (i 0).val < 1024 := (i 0).isLt
  exact congrArg g (ext2 rfl (by show (i 0).val % 1024 = (i 0).val; omega))

/-- The last layer's normalized rows. -/
theorem n1_eq (i : S8x2048x1024.Idx) : val_main_v32 (F := Ideal) y g i = row g 1 (fun d => y (ix3 (i 0) (i 1) d)) (i 2) := by
  unfold row
  rw [val_main_v32_apply, val_main_v31_apply, val_main_v30_apply, g1_eq, val_main_v29_apply, val_main_v28_apply, val_main_v27_apply, val_main_v26_apply, val_main_v25_apply, val_main_cst_5_apply, val_main_v24_apply, val_main_v23_apply, val_main_cst_4_apply,
    val_main_v22_apply, val_main_v21_apply, val_main_cst_3_apply]
  exact norm_eq y (fun d => y (ix3 (i 0) (i 1) d)) (fun k => g (ix2 2 k)) (i 2) i _ _ (congrArg y (ext3 rfl rfl rfl))
    (fun k => congrArg y (ext3 rfl (rfl) rfl)) rfl

/-- The first layer's last fifteen rows. -/
theorem late0_eq (i : S8x15x1024.Idx) : val_main_v17 (F := Ideal) x g i = lateArr x g 0 i := by
  rw [val_main_v17_apply]
  unfold val_main_v16 lateArr
  have h1 : (i 1).val < 15 := (i 1).isLt
  refine (concatenate_pair_apply_right (s₁ := S8x15x1024) (s₂ := S8x2048x1024) _ _ _ _ (idx_main_v17 i) rfl rfl (ix3 (i 0) (late (i 1)) (i 2) : S8x2048x1024.Idx) ?_ ?_).trans ?_
  · intro b hb
    match b with
    | ⟨0, _⟩ => rfl
    | ⟨1, _⟩ => exact absurd rfl hb
    | ⟨2, _⟩ => rfl
  · show (2033 + (i 1).val) + 15 = 2048 + (i 1).val
    omega
  exact n0_eq _ _ _

/-- The last layer's last fifteen rows. -/
theorem late1_eq (i : S8x15x1024.Idx) : val_main_v35 (F := Ideal) y g i = lateArr y g 1 i := by
  rw [val_main_v35_apply]
  unfold val_main_v34 lateArr
  have h1 : (i 1).val < 15 := (i 1).isLt
  refine (concatenate_pair_apply_right (s₁ := S8x15x1024) (s₂ := S8x2048x1024) _ _ _ _ (idx_main_v35 i) rfl rfl (ix3 (i 0) (late (i 1)) (i 2) : S8x2048x1024.Idx) ?_ ?_).trans ?_
  · intro b hb
    match b with
    | ⟨0, _⟩ => rfl
    | ⟨1, _⟩ => exact absurd rfl hb
    | ⟨2, _⟩ => rfl
  · show (2033 + (i 1).val) + 15 = 2048 + (i 1).val
    omega
  exact n1_eq _ _ _

/-- Both layers' last fifteen rows. -/
theorem state_eq : val_main_v38 (F := Ideal) x y g = keptArr x y g := by
  funext i
  unfold val_main_v38 keptArr
  have hlt : (i 1).val < 2 := (i 1).isLt
  by_cases h : (i 1).val = 0
  · refine (concatenate_pair_apply_left (s₁ := S8x1x15x1024) (s₂ := S8x1x15x1024) _ _ _ _ i rfl (ix4 (i 0) 0 (i 2) (i 3) : S8x1x15x1024.Idx) ?_).trans ?_
    · intro b
      match b with
      | ⟨0, _⟩ => rfl
      | ⟨1, _⟩ => exact h.symm
      | ⟨2, _⟩ => rfl
      | ⟨3, _⟩ => rfl
    refine ((val_main_v36_apply _ _ _).trans (late0_eq _ _ _)).trans ?_
    have hl : i 1 = (0 : Fin 2) := Fin.ext h
    rw [hl]
    exact congrArg (lateArr x g 0) (ext3 rfl rfl rfl)
  · have h1 : (i 1).val = 1 := by omega
    refine (concatenate_pair_apply_right (s₁ := S8x1x15x1024) (s₂ := S8x1x15x1024) _ _ _ _ i rfl rfl (ix4 (i 0) 0 (i 2) (i 3) : S8x1x15x1024.Idx) ?_ ?_).trans ?_
    · intro b hb
      match b with
      | ⟨0, _⟩ => rfl
      | ⟨1, _⟩ => exact absurd rfl hb
      | ⟨2, _⟩ => rfl
      | ⟨3, _⟩ => rfl
    · exact h1.symm
    refine ((val_main_v37_apply _ _ _).trans (late1_eq _ _ _)).trans ?_
    have hl : i 1 = (1 : Fin 2) := Fin.ext h1
    rw [hl]
    exact congrArg (lateArr y g 1) (ext3 rfl rfl rfl)

end Cert.Pool8.Ref

end
-- ==== Proof.Pool8.lean ====
/- The pooling kernel of the prompt and the reference leave the same states. -/
module

public import proofs.«01_k».proof.Proof.Pool8Result
public import proofs.«01_k».proof.Proof.Pool8Ref
public import proofs.«01_k».proof.Defs

@[expose] public section

noncomputable section

namespace Cert.Pool8

open Cert.Pool Idealize.ShloMosaic Idealize.SL.Sem

/-- Both programs run and leave the same states of the same arguments. -/
theorem algebraic : Cert.algebraic_Kernel8Ideal_Reference8Ideal (hKernel8Ideal := Cert.Kernel8Ideal.Gen.facts) (hReference8Ideal := Cert.Reference8Ideal.Gen.facts) := by
  intro m g m' g' _ hm
  refine ⟨fun c => keptArr (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg4)), ?_, ?_⟩
  · refine (θ_run _ _ _).mono (fun r h c => ?_) (θ_run_and (run_result m g) (Cert.Kernel8Ideal.Gen.frame m g))
    exact ⟨h.1 c, h.2.1 c⟩
  · refine (θ_run _ _ _).mono (fun r h c => ?_) (Cert.Reference8Ideal.Value.run m' g')
    obtain ⟨e0, e1, -, -, e4, -⟩ := hm c
    refine ⟨(h c).1.trans ?_, (h c).2⟩
    rw [Cert.Reference8Ideal.Read.val_main_v38_eq, e0, e1, e4]
    exact Ref.state_eq _ _ _

end Cert.Pool8

end
-- ==== Proof.lean ====
/- The certificate: each program's run with its arguments unchanged and every counter at zero, the idealization, and
   the equality of what the two idealized programs compute. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Reference8Ideal.Run
public import proofs.«01_k».proof.Proof.Algebraic
public import proofs.«01_k».proof.Proof.FfnKernelFrame
public import proofs.«01_k».proof.Proof.FfnFrame
public import proofs.«01_k».proof.Proof.FfnAlgebraic
public import proofs.«01_k».proof.Proof.Qkv3
public import proofs.«01_k».proof.Proof.Qkv4
public import proofs.«01_k».proof.Proof.Proj
public import proofs.«01_k».proof.Proof.Ffn6Algebraic
public import proofs.«01_k».proof.Proof.Pool7
public import proofs.«01_k».proof.Proof.Pool8
public import Idealize.ShloMosaic.Adequacy
public import Idealize.ShloMosaic.Init

@[expose] public section

noncomputable section

namespace Cert.Proof

open Idealize.ShloMosaic Idealize.SL.Sem Cert.Kernel

/-- The reference terminates, leaves its arguments as they were, and has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The same of the feed-forward layer's reference. -/
theorem frame_reference2 : Cert.quiescent_Reference2Ideal (hReference2Ideal := Cert.Reference2Ideal.Gen.facts) := fun m g _ =>
  (θ_run Cert.Reference2Ideal.defs _ _).mono (fun r h => ⟨fun c => (h c).2.2, Idealize.ShloMosaic.sem_eq_zero_of_no_sems (by decide) r.2⟩)
    (Cert.Reference2Ideal.Value.run (F := Ideal) m g)

/-- The same of the reference of the projections over the prompt. -/
theorem frame_reference3 : Cert.quiescent_Reference3Ideal (hReference3Ideal := Cert.Reference3Ideal.Gen.facts) := fun m g _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m g)

/-- The same of the reference of the projections over the sample. -/
theorem frame_reference4 : Cert.quiescent_Reference4Ideal (hReference4Ideal := Cert.Reference4Ideal.Gen.facts) := fun m g _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m g)

/-- The same of the output projection's reference. -/
theorem frame_reference5 : Cert.quiescent_Reference5Ideal (hReference5Ideal := Cert.Reference5Ideal.Gen.facts) := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

/-- The same of the reference of the feed-forward layer over the sample. -/
theorem frame_reference6 : Cert.quiescent_Reference6Ideal (hReference6Ideal := Cert.Reference6Ideal.Gen.facts) := fun m g _ =>
  (θ_run Cert.Reference6Ideal.defs _ _).mono (fun r h => ⟨fun c => (h c).2.2, Idealize.ShloMosaic.sem_eq_zero_of_no_sems (by decide) r.2⟩)
    (Cert.Reference6Ideal.Value.run (F := Ideal) m g)

/-- The same of the reference of the pooling states of the sample. -/
theorem frame_reference7 : Cert.quiescent_Reference7Ideal (hReference7Ideal := Cert.Reference7Ideal.Gen.facts) := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

/-- The same of the reference of the pooling states of the prompt. -/
theorem frame_reference8 : Cert.quiescent_Reference8Ideal (hReference8Ideal := Cert.Reference8Ideal.Gen.facts) := fun m g _ =>
  (θ_run Cert.Reference8Ideal.defs _ _).mono (fun r h => ⟨fun c => (h c).2, Idealize.ShloMosaic.sem_eq_zero_of_no_sems (by decide) r.2⟩)
    (Cert.Reference8Ideal.Value.run (F := Ideal) m g)

/-- Everything that is claimed of the programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m g _ => Cert.Kernel.Gen.frame m g, fun m g _ => Cert.KernelIdeal.Gen.frame m g, frame_reference,
  Cert.Ffn.frame_kernel, fun m g _ => Cert.Ffn.frame (F := Ideal) m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  trivial, Cert.Attention.algebraic, trivial, Cert.Ffn.algebraic, trivial, Cert.Qkv3.algebraic, trivial, Cert.Qkv4.algebraic,
  trivial, Cert.Proj.algebraic, trivial, Cert.Ffn6.algebraic, trivial, Cert.Pool7.algebraic, trivial, Cert.Pool8.algebraic⟩

end Cert.Proof

end
